-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_plan_tables : Cert.Pre_plan_tables.Facts] (m : (ℓ : Loc Cert.Experts.nD Cert.Experts.τ Cert.Experts.sig) → Buf (Elt Bits) ℓ) : Prop :=
  ∀ c : Dev Cert.Experts.nD,
    (Cert.Pre_plan_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_plan_tables : Cert.Pre_plan_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_plan_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_DenseIdeal (m : (ℓ : Loc Cert.DenseIdeal.nD Cert.DenseIdeal.τ Cert.DenseIdeal.sig) → Buf (Elt Ideal) ℓ) : Prop :=
  True

def Pre_DenseIdeal_plan_tables [hPre_plan_tables : Cert.Pre_plan_tables.Facts] (m : (ℓ : Loc Cert.DenseIdeal.nD Cert.DenseIdeal.τ Cert.DenseIdeal.sig) → Buf (Elt Ideal) ℓ) : Prop :=
  ∀ c : Dev Cert.DenseIdeal.nD,
    (Cert.Pre_plan_tables.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5)) (m ((c.tc : Thread Cert.DenseIdeal.nD Cert.DenseIdeal.τ).loc Cert.DenseIdeal.main_arg6)) (m ((c.tc : Thread Cert.DenseIdeal.nD Cert.DenseIdeal.τ).loc Cert.DenseIdeal.main_arg7))) = (fun _ => 1#1)

def Pre_ExpertsLast [hPre_plan_tables_last : Cert.Pre_plan_tables_last.Facts] (m : (ℓ : Loc Cert.ExpertsLast.nD Cert.ExpertsLast.τ Cert.ExpertsLast.sig) → Buf (Elt Bits) ℓ) : Prop :=
  ∀ c : Dev Cert.ExpertsLast.nD,
    (Cert.Pre_plan_tables_last.fn (F := Bits) (m ((c.tc : Thread Cert.ExpertsLast.nD Cert.ExpertsLast.τ).loc Cert.ExpertsLast.main_arg0)) (m ((c.tc : Thread Cert.ExpertsLast.nD Cert.ExpertsLast.τ).loc Cert.ExpertsLast.main_arg1)) (m ((c.tc : Thread Cert.ExpertsLast.nD Cert.ExpertsLast.τ).loc Cert.ExpertsLast.main_arg2)) (m ((c.tc : Thread Cert.ExpertsLast.nD Cert.ExpertsLast.τ).loc Cert.ExpertsLast.main_arg3)) (m ((c.tc : Thread Cert.ExpertsLast.nD Cert.ExpertsLast.τ).loc Cert.ExpertsLast.main_arg4)) (m ((c.tc : Thread Cert.ExpertsLast.nD Cert.ExpertsLast.τ).loc Cert.ExpertsLast.main_arg5)) (m ((c.tc : Thread Cert.ExpertsLast.nD Cert.ExpertsLast.τ).loc Cert.ExpertsLast.main_arg6)) (m ((c.tc : Thread Cert.ExpertsLast.nD Cert.ExpertsLast.τ).loc Cert.ExpertsLast.main_arg7))) = (fun _ => 1#1)

def Pre_ExpertsLastIdeal [hPre_plan_tables_last : Cert.Pre_plan_tables_last.Facts] (m : (ℓ : Loc Cert.ExpertsLastIdeal.nD Cert.ExpertsLastIdeal.τ Cert.ExpertsLastIdeal.sig) → Buf (Elt Ideal) ℓ) : Prop :=
  ∀ c : Dev Cert.ExpertsLastIdeal.nD,
    (Cert.Pre_plan_tables_last.fn (F := Ideal) (m ((c.tc : Thread Cert.ExpertsLastIdeal.nD Cert.ExpertsLastIdeal.τ).loc Cert.ExpertsLastIdeal.main_arg0)) (m ((c.tc : Thread Cert.ExpertsLastIdeal.nD Cert.ExpertsLastIdeal.τ).loc Cert.ExpertsLastIdeal.main_arg1)) (m ((c.tc : Thread Cert.ExpertsLastIdeal.nD Cert.ExpertsLastIdeal.τ).loc Cert.ExpertsLastIdeal.main_arg2)) (m ((c.tc : Thread Cert.ExpertsLastIdeal.nD Cert.ExpertsLastIdeal.τ).loc Cert.ExpertsLastIdeal.main_arg3)) (m ((c.tc : Thread Cert.ExpertsLastIdeal.nD Cert.ExpertsLastIdeal.τ).loc Cert.ExpertsLastIdeal.main_arg4)) (m ((c.tc : Thread Cert.ExpertsLastIdeal.nD Cert.ExpertsLastIdeal.τ).loc Cert.ExpertsLastIdeal.main_arg5)) (m ((c.tc : Thread Cert.ExpertsLastIdeal.nD Cert.ExpertsLastIdeal.τ).loc Cert.ExpertsLastIdeal.main_arg6)) (m ((c.tc : Thread Cert.ExpertsLastIdeal.nD Cert.ExpertsLastIdeal.τ).loc Cert.ExpertsLastIdeal.main_arg7))) = (fun _ => 1#1)

def Pre_DenseLastIdeal (m : (ℓ : Loc Cert.DenseLastIdeal.nD Cert.DenseLastIdeal.τ Cert.DenseLastIdeal.sig) → Buf (Elt Ideal) ℓ) : Prop :=
  True

def Pre_DenseLastIdeal_plan_tables_last [hPre_plan_tables_last : Cert.Pre_plan_tables_last.Facts] (m : (ℓ : Loc Cert.DenseLastIdeal.nD Cert.DenseLastIdeal.τ Cert.DenseLastIdeal.sig) → Buf (Elt Ideal) ℓ) : Prop :=
  ∀ c : Dev Cert.DenseLastIdeal.nD,
    (Cert.Pre_plan_tables_last.fn (F := Ideal) (m ((c.tc : Thread Cert.DenseLastIdeal.nD Cert.DenseLastIdeal.τ).loc Cert.DenseLastIdeal.main_arg0)) (m ((c.tc : Thread Cert.DenseLastIdeal.nD Cert.DenseLastIdeal.τ).loc Cert.DenseLastIdeal.main_arg1)) (m ((c.tc : Thread Cert.DenseLastIdeal.nD Cert.DenseLastIdeal.τ).loc Cert.DenseLastIdeal.main_arg2)) (m ((c.tc : Thread Cert.DenseLastIdeal.nD Cert.DenseLastIdeal.τ).loc Cert.DenseLastIdeal.main_arg3)) (m ((c.tc : Thread Cert.DenseLastIdeal.nD Cert.DenseLastIdeal.τ).loc Cert.DenseLastIdeal.main_arg4)) (m ((c.tc : Thread Cert.DenseLastIdeal.nD Cert.DenseLastIdeal.τ).loc Cert.DenseLastIdeal.main_arg5)) (m ((c.tc : Thread Cert.DenseLastIdeal.nD Cert.DenseLastIdeal.τ).loc Cert.DenseLastIdeal.main_arg6)) (m ((c.tc : Thread Cert.DenseLastIdeal.nD Cert.DenseLastIdeal.τ).loc Cert.DenseLastIdeal.main_arg7))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_gqa [hPre_finite_gqa : Cert.Pre_finite_gqa.Facts] (m : (ℓ : Loc Cert.GqaIdeal.nD Cert.GqaIdeal.τ Cert.GqaIdeal.sig) → Buf (Elt Ideal) ℓ) : Prop :=
  ∀ c : Dev Cert.GqaIdeal.nD,
    (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_gqa [hPre_finite_gqa : Cert.Pre_finite_gqa.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_plan_tables : Cert.Pre_plan_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_plan_tables : Cert.Pre_plan_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseIdeal_pre_plan_tables [hDenseIdeal : Cert.DenseIdeal.Facts] [hPre_plan_tables : Cert.Pre_plan_tables.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_plan_tables m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_ExpertsLast [hExpertsLast : Cert.ExpertsLast.Facts] [hPre_plan_tables_last : Cert.Pre_plan_tables_last.Facts] : Prop :=
  ∀ (m : (ℓ : Loc Cert.ExpertsLast.nD Cert.ExpertsLast.τ Cert.ExpertsLast.sig) → Buf (Elt Bits) ℓ) (g : Dev Cert.ExpertsLast.nD → PrngReg), Pre_ExpertsLast m →
    θ_run (Cert.ExpertsLast.defs (F := Bits)) (onTc (τ := Cert.ExpertsLast.τ) (Cert.ExpertsLast.main (F := Bits))) ⟨m, fun _ => 0, g⟩ (fun r => (∀ c : Dev Cert.ExpertsLast.nD,
      r.2.mem ((c.tc : Thread Cert.ExpertsLast.nD Cert.ExpertsLast.τ).loc Cert.ExpertsLast.main_arg0) = m ((c.tc : Thread Cert.ExpertsLast.nD Cert.ExpertsLast.τ).loc Cert.ExpertsLast.main_arg0)
      ∧ r.2.mem ((c.tc : Thread Cert.ExpertsLast.nD Cert.ExpertsLast.τ).loc Cert.ExpertsLast.main_arg1) = m ((c.tc : Thread Cert.ExpertsLast.nD Cert.ExpertsLast.τ).loc Cert.ExpertsLast.main_arg1)
      ∧ r.2.mem ((c.tc : Thread Cert.ExpertsLast.nD Cert.ExpertsLast.τ).loc Cert.ExpertsLast.main_arg2) = m ((c.tc : Thread Cert.ExpertsLast.nD Cert.ExpertsLast.τ).loc Cert.ExpertsLast.main_arg2)
      ∧ r.2.mem ((c.tc : Thread Cert.ExpertsLast.nD Cert.ExpertsLast.τ).loc Cert.ExpertsLast.main_arg3) = m ((c.tc : Thread Cert.ExpertsLast.nD Cert.ExpertsLast.τ).loc Cert.ExpertsLast.main_arg3)
      ∧ r.2.mem ((c.tc : Thread Cert.ExpertsLast.nD Cert.ExpertsLast.τ).loc Cert.ExpertsLast.main_arg4) = m ((c.tc : Thread Cert.ExpertsLast.nD Cert.ExpertsLast.τ).loc Cert.ExpertsLast.main_arg4)
      ∧ r.2.mem ((c.tc : Thread Cert.ExpertsLast.nD Cert.ExpertsLast.τ).loc Cert.ExpertsLast.main_arg5) = m ((c.tc : Thread Cert.ExpertsLast.nD Cert.ExpertsLast.τ).loc Cert.ExpertsLast.main_arg5)
      ∧ r.2.mem ((c.tc : Thread Cert.ExpertsLast.nD Cert.ExpertsLast.τ).loc Cert.ExpertsLast.main_arg6) = m ((c.tc : Thread Cert.ExpertsLast.nD Cert.ExpertsLast.τ).loc Cert.ExpertsLast.main_arg6)
      ∧ r.2.mem ((c.tc : Thread Cert.ExpertsLast.nD Cert.ExpertsLast.τ).loc Cert.ExpertsLast.main_arg7) = m ((c.tc : Thread Cert.ExpertsLast.nD Cert.ExpertsLast.τ).loc Cert.ExpertsLast.main_arg7))
      ∧ r.2.sem = fun _ => 0)

def quiescent_ExpertsLastIdeal [hExpertsLastIdeal : Cert.ExpertsLastIdeal.Facts] [hPre_plan_tables_last : Cert.Pre_plan_tables_last.Facts] : Prop :=
  ∀ (m : (ℓ : Loc Cert.ExpertsLastIdeal.nD Cert.ExpertsLastIdeal.τ Cert.ExpertsLastIdeal.sig) → Buf (Elt Ideal) ℓ) (g : Dev Cert.ExpertsLastIdeal.nD → PrngReg), Pre_ExpertsLastIdeal m →
    θ_run (Cert.ExpertsLastIdeal.defs (F := Ideal)) (onTc (τ := Cert.ExpertsLastIdeal.τ) (Cert.ExpertsLastIdeal.main (F := Ideal))) ⟨m, fun _ => 0, g⟩ (fun r => (∀ c : Dev Cert.ExpertsLastIdeal.nD,
      r.2.mem ((c.tc : Thread Cert.ExpertsLastIdeal.nD Cert.ExpertsLastIdeal.τ).loc Cert.ExpertsLastIdeal.main_arg0) = m ((c.tc : Thread Cert.ExpertsLastIdeal.nD Cert.ExpertsLastIdeal.τ).loc Cert.ExpertsLastIdeal.main_arg0)
      ∧ r.2.mem ((c.tc : Thread Cert.ExpertsLastIdeal.nD Cert.ExpertsLastIdeal.τ).loc Cert.ExpertsLastIdeal.main_arg1) = m ((c.tc : Thread Cert.ExpertsLastIdeal.nD Cert.ExpertsLastIdeal.τ).loc Cert.ExpertsLastIdeal.main_arg1)
      ∧ r.2.mem ((c.tc : Thread Cert.ExpertsLastIdeal.nD Cert.ExpertsLastIdeal.τ).loc Cert.ExpertsLastIdeal.main_arg2) = m ((c.tc : Thread Cert.ExpertsLastIdeal.nD Cert.ExpertsLastIdeal.τ).loc Cert.ExpertsLastIdeal.main_arg2)
      ∧ r.2.mem ((c.tc : Thread Cert.ExpertsLastIdeal.nD Cert.ExpertsLastIdeal.τ).loc Cert.ExpertsLastIdeal.main_arg3) = m ((c.tc : Thread Cert.ExpertsLastIdeal.nD Cert.ExpertsLastIdeal.τ).loc Cert.ExpertsLastIdeal.main_arg3)
      ∧ r.2.mem ((c.tc : Thread Cert.ExpertsLastIdeal.nD Cert.ExpertsLastIdeal.τ).loc Cert.ExpertsLastIdeal.main_arg4) = m ((c.tc : Thread Cert.ExpertsLastIdeal.nD Cert.ExpertsLastIdeal.τ).loc Cert.ExpertsLastIdeal.main_arg4)
      ∧ r.2.mem ((c.tc : Thread Cert.ExpertsLastIdeal.nD Cert.ExpertsLastIdeal.τ).loc Cert.ExpertsLastIdeal.main_arg5) = m ((c.tc : Thread Cert.ExpertsLastIdeal.nD Cert.ExpertsLastIdeal.τ).loc Cert.ExpertsLastIdeal.main_arg5)
      ∧ r.2.mem ((c.tc : Thread Cert.ExpertsLastIdeal.nD Cert.ExpertsLastIdeal.τ).loc Cert.ExpertsLastIdeal.main_arg6) = m ((c.tc : Thread Cert.ExpertsLastIdeal.nD Cert.ExpertsLastIdeal.τ).loc Cert.ExpertsLastIdeal.main_arg6)
      ∧ r.2.mem ((c.tc : Thread Cert.ExpertsLastIdeal.nD Cert.ExpertsLastIdeal.τ).loc Cert.ExpertsLastIdeal.main_arg7) = m ((c.tc : Thread Cert.ExpertsLastIdeal.nD Cert.ExpertsLastIdeal.τ).loc Cert.ExpertsLastIdeal.main_arg7))
      ∧ r.2.sem = fun _ => 0)

def quiescent_DenseLastIdeal [hDenseLastIdeal : Cert.DenseLastIdeal.Facts] : Prop :=
  ∀ (m : (ℓ : Loc Cert.DenseLastIdeal.nD Cert.DenseLastIdeal.τ Cert.DenseLastIdeal.sig) → Buf (Elt Ideal) ℓ) (g : Dev Cert.DenseLastIdeal.nD → PrngReg), Pre_DenseLastIdeal m →
    θ_run (Cert.DenseLastIdeal.defs (F := Ideal)) (onTc (τ := Cert.DenseLastIdeal.τ) (Cert.DenseLastIdeal.main (F := Ideal))) ⟨m, fun _ => 0, g⟩ (fun r => (∀ c : Dev Cert.DenseLastIdeal.nD,
      r.2.mem ((c.tc : Thread Cert.DenseLastIdeal.nD Cert.DenseLastIdeal.τ).loc Cert.DenseLastIdeal.main_arg0) = m ((c.tc : Thread Cert.DenseLastIdeal.nD Cert.DenseLastIdeal.τ).loc Cert.DenseLastIdeal.main_arg0)
      ∧ r.2.mem ((c.tc : Thread Cert.DenseLastIdeal.nD Cert.DenseLastIdeal.τ).loc Cert.DenseLastIdeal.main_arg1) = m ((c.tc : Thread Cert.DenseLastIdeal.nD Cert.DenseLastIdeal.τ).loc Cert.DenseLastIdeal.main_arg1)
      ∧ r.2.mem ((c.tc : Thread Cert.DenseLastIdeal.nD Cert.DenseLastIdeal.τ).loc Cert.DenseLastIdeal.main_arg2) = m ((c.tc : Thread Cert.DenseLastIdeal.nD Cert.DenseLastIdeal.τ).loc Cert.DenseLastIdeal.main_arg2)
      ∧ r.2.mem ((c.tc : Thread Cert.DenseLastIdeal.nD Cert.DenseLastIdeal.τ).loc Cert.DenseLastIdeal.main_arg3) = m ((c.tc : Thread Cert.DenseLastIdeal.nD Cert.DenseLastIdeal.τ).loc Cert.DenseLastIdeal.main_arg3)
      ∧ r.2.mem ((c.tc : Thread Cert.DenseLastIdeal.nD Cert.DenseLastIdeal.τ).loc Cert.DenseLastIdeal.main_arg4) = m ((c.tc : Thread Cert.DenseLastIdeal.nD Cert.DenseLastIdeal.τ).loc Cert.DenseLastIdeal.main_arg4)
      ∧ r.2.mem ((c.tc : Thread Cert.DenseLastIdeal.nD Cert.DenseLastIdeal.τ).loc Cert.DenseLastIdeal.main_arg5) = m ((c.tc : Thread Cert.DenseLastIdeal.nD Cert.DenseLastIdeal.τ).loc Cert.DenseLastIdeal.main_arg5)
      ∧ r.2.mem ((c.tc : Thread Cert.DenseLastIdeal.nD Cert.DenseLastIdeal.τ).loc Cert.DenseLastIdeal.main_arg6) = m ((c.tc : Thread Cert.DenseLastIdeal.nD Cert.DenseLastIdeal.τ).loc Cert.DenseLastIdeal.main_arg6)
      ∧ r.2.mem ((c.tc : Thread Cert.DenseLastIdeal.nD Cert.DenseLastIdeal.τ).loc Cert.DenseLastIdeal.main_arg7) = m ((c.tc : Thread Cert.DenseLastIdeal.nD Cert.DenseLastIdeal.τ).loc Cert.DenseLastIdeal.main_arg7))
      ∧ r.2.sem = fun _ => 0)

def quiescent_DenseLastIdeal_pre_plan_tables_last [hDenseLastIdeal : Cert.DenseLastIdeal.Facts] [hPre_plan_tables_last : Cert.Pre_plan_tables_last.Facts] : Prop :=
  ∀ (m : (ℓ : Loc Cert.DenseLastIdeal.nD Cert.DenseLastIdeal.τ Cert.DenseLastIdeal.sig) → Buf (Elt Ideal) ℓ) (g : Dev Cert.DenseLastIdeal.nD → PrngReg), Pre_DenseLastIdeal_plan_tables_last m →
    θ_run (Cert.DenseLastIdeal.defs (F := Ideal)) (onTc (τ := Cert.DenseLastIdeal.τ) (Cert.DenseLastIdeal.main (F := Ideal))) ⟨m, fun _ => 0, g⟩ (fun r => (∀ c : Dev Cert.DenseLastIdeal.nD,
      r.2.mem ((c.tc : Thread Cert.DenseLastIdeal.nD Cert.DenseLastIdeal.τ).loc Cert.DenseLastIdeal.main_arg0) = m ((c.tc : Thread Cert.DenseLastIdeal.nD Cert.DenseLastIdeal.τ).loc Cert.DenseLastIdeal.main_arg0)
      ∧ r.2.mem ((c.tc : Thread Cert.DenseLastIdeal.nD Cert.DenseLastIdeal.τ).loc Cert.DenseLastIdeal.main_arg1) = m ((c.tc : Thread Cert.DenseLastIdeal.nD Cert.DenseLastIdeal.τ).loc Cert.DenseLastIdeal.main_arg1)
      ∧ r.2.mem ((c.tc : Thread Cert.DenseLastIdeal.nD Cert.DenseLastIdeal.τ).loc Cert.DenseLastIdeal.main_arg2) = m ((c.tc : Thread Cert.DenseLastIdeal.nD Cert.DenseLastIdeal.τ).loc Cert.DenseLastIdeal.main_arg2)
      ∧ r.2.mem ((c.tc : Thread Cert.DenseLastIdeal.nD Cert.DenseLastIdeal.τ).loc Cert.DenseLastIdeal.main_arg3) = m ((c.tc : Thread Cert.DenseLastIdeal.nD Cert.DenseLastIdeal.τ).loc Cert.DenseLastIdeal.main_arg3)
      ∧ r.2.mem ((c.tc : Thread Cert.DenseLastIdeal.nD Cert.DenseLastIdeal.τ).loc Cert.DenseLastIdeal.main_arg4) = m ((c.tc : Thread Cert.DenseLastIdeal.nD Cert.DenseLastIdeal.τ).loc Cert.DenseLastIdeal.main_arg4)
      ∧ r.2.mem ((c.tc : Thread Cert.DenseLastIdeal.nD Cert.DenseLastIdeal.τ).loc Cert.DenseLastIdeal.main_arg5) = m ((c.tc : Thread Cert.DenseLastIdeal.nD Cert.DenseLastIdeal.τ).loc Cert.DenseLastIdeal.main_arg5)
      ∧ r.2.mem ((c.tc : Thread Cert.DenseLastIdeal.nD Cert.DenseLastIdeal.τ).loc Cert.DenseLastIdeal.main_arg6) = m ((c.tc : Thread Cert.DenseLastIdeal.nD Cert.DenseLastIdeal.τ).loc Cert.DenseLastIdeal.main_arg6)
      ∧ r.2.mem ((c.tc : Thread Cert.DenseLastIdeal.nD Cert.DenseLastIdeal.τ).loc Cert.DenseLastIdeal.main_arg7) = m ((c.tc : Thread Cert.DenseLastIdeal.nD Cert.DenseLastIdeal.τ).loc Cert.DenseLastIdeal.main_arg7))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_finite_gqa [hGqaIdeal : Cert.GqaIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_gqa m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_finite_gqa [hGqaRefIdeal : Cert.GqaRefIdeal.Facts] [hPre_finite_gqa : Cert.Pre_finite_gqa.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_gqa m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10)
      ∧ r.2.mem ((c.tc : Thread Cert.Pre.nD Cert.Pre.τ).loc Cert.Pre.main_arg11) = m ((c.tc : Thread Cert.Pre.nD Cert.Pre.τ).loc Cert.Pre.main_arg11)
      ∧ r.2.mem ((c.tc : Thread Cert.Pre.nD Cert.Pre.τ).loc Cert.Pre.main_arg12) = m ((c.tc : Thread Cert.Pre.nD Cert.Pre.τ).loc Cert.Pre.main_arg12))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
      ∧ r.2.mem ((c.tc : Thread Cert.PreIdeal.nD Cert.PreIdeal.τ).loc Cert.PreIdeal.main_arg11) = m ((c.tc : Thread Cert.PreIdeal.nD Cert.PreIdeal.τ).loc Cert.PreIdeal.main_arg11)
      ∧ r.2.mem ((c.tc : Thread Cert.PreIdeal.nD Cert.PreIdeal.τ).loc Cert.PreIdeal.main_arg12) = m ((c.tc : Thread Cert.PreIdeal.nD Cert.PreIdeal.τ).loc Cert.PreIdeal.main_arg12))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10)
      ∧ r.2.mem ((c.tc : Thread Cert.PreRefIdeal.nD Cert.PreRefIdeal.τ).loc Cert.PreRefIdeal.main_arg11) = m ((c.tc : Thread Cert.PreRefIdeal.nD Cert.PreRefIdeal.τ).loc Cert.PreRefIdeal.main_arg11)
      ∧ r.2.mem ((c.tc : Thread Cert.PreRefIdeal.nD Cert.PreRefIdeal.τ).loc Cert.PreRefIdeal.main_arg12) = m ((c.tc : Thread Cert.PreRefIdeal.nD Cert.PreRefIdeal.τ).loc Cert.PreRefIdeal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_DenseIdeal [hExpertsIdeal : Cert.ExpertsIdeal.Facts] [hDenseIdeal : Cert.DenseIdeal.Facts] [hPre_plan_tables : Cert.Pre_plan_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.DenseIdeal.nD Cert.DenseIdeal.τ Cert.DenseIdeal.sig) → Buf (Elt Ideal) ℓ) (g' : Dev Cert.DenseIdeal.nD → PrngReg), Pre_ExpertsIdeal m →
    (∀ c : Dev Cert.ExpertsIdeal.nD,
      m' ((c.tc : Thread Cert.DenseIdeal.nD Cert.DenseIdeal.τ).loc Cert.DenseIdeal.main_arg0) = m ((c.tc : Thread Cert.ExpertsIdeal.nD Cert.ExpertsIdeal.τ).loc Cert.ExpertsIdeal.main_arg0)
      ∧ m' ((c.tc : Thread Cert.DenseIdeal.nD Cert.DenseIdeal.τ).loc Cert.DenseIdeal.main_arg1) = m ((c.tc : Thread Cert.ExpertsIdeal.nD Cert.ExpertsIdeal.τ).loc Cert.ExpertsIdeal.main_arg1)
      ∧ m' ((c.tc : Thread Cert.DenseIdeal.nD Cert.DenseIdeal.τ).loc Cert.DenseIdeal.main_arg2) = m ((c.tc : Thread Cert.ExpertsIdeal.nD Cert.ExpertsIdeal.τ).loc Cert.ExpertsIdeal.main_arg2)
      ∧ m' ((c.tc : Thread Cert.DenseIdeal.nD Cert.DenseIdeal.τ).loc Cert.DenseIdeal.main_arg3) = m ((c.tc : Thread Cert.ExpertsIdeal.nD Cert.ExpertsIdeal.τ).loc Cert.ExpertsIdeal.main_arg3)
      ∧ m' ((c.tc : Thread Cert.DenseIdeal.nD Cert.DenseIdeal.τ).loc Cert.DenseIdeal.main_arg4) = m ((c.tc : Thread Cert.ExpertsIdeal.nD Cert.ExpertsIdeal.τ).loc Cert.ExpertsIdeal.main_arg4)
      ∧ m' ((c.tc : Thread Cert.DenseIdeal.nD Cert.DenseIdeal.τ).loc Cert.DenseIdeal.main_arg5) = m ((c.tc : Thread Cert.ExpertsIdeal.nD Cert.ExpertsIdeal.τ).loc Cert.ExpertsIdeal.main_arg5)
      ∧ m' ((c.tc : Thread Cert.DenseIdeal.nD Cert.DenseIdeal.τ).loc Cert.DenseIdeal.main_arg6) = m ((c.tc : Thread Cert.ExpertsIdeal.nD Cert.ExpertsIdeal.τ).loc Cert.ExpertsIdeal.main_arg6)
      ∧ m' ((c.tc : Thread Cert.DenseIdeal.nD Cert.DenseIdeal.τ).loc Cert.DenseIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.DenseIdeal.defs (F := Ideal)) (onTc (τ := Cert.DenseIdeal.τ) (Cert.DenseIdeal.main (F := Ideal))) ⟨m', fun _ => 0, g'⟩ (fun r => ∀ c : Dev Cert.DenseIdeal.nD,
          r.2.mem ((c.tc : Thread Cert.DenseIdeal.nD Cert.DenseIdeal.τ).loc Cert.DenseIdeal.main_v65) = v0 c
          ∧ r.2.mem ((c.tc : Thread Cert.DenseIdeal.nD Cert.DenseIdeal.τ).loc Cert.DenseIdeal.main_arg0) = m' ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m' ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m' ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m' ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m' ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m' ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m' ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m' ((c.tc : Thread Cert.DenseIdeal.nD Cert.DenseIdeal.τ).loc Cert.DenseIdeal.main_arg7))

def preserves_ExpertsLast_ExpertsLastIdeal : Prop :=
  True

def algebraic_ExpertsLastIdeal_DenseLastIdeal [hExpertsLastIdeal : Cert.ExpertsLastIdeal.Facts] [hDenseLastIdeal : Cert.DenseLastIdeal.Facts] [hPre_plan_tables_last : Cert.Pre_plan_tables_last.Facts] : Prop :=
  ∀ (m : (ℓ : Loc Cert.ExpertsLastIdeal.nD Cert.ExpertsLastIdeal.τ Cert.ExpertsLastIdeal.sig) → Buf (Elt Ideal) ℓ) (g : Dev Cert.ExpertsLastIdeal.nD → PrngReg)
    (m' : (ℓ : Loc Cert.DenseLastIdeal.nD Cert.DenseLastIdeal.τ Cert.DenseLastIdeal.sig) → Buf (Elt Ideal) ℓ) (g' : Dev Cert.DenseLastIdeal.nD → PrngReg), Pre_ExpertsLastIdeal m →
    (∀ c : Dev Cert.ExpertsLastIdeal.nD,
      m' ((c.tc : Thread Cert.DenseLastIdeal.nD Cert.DenseLastIdeal.τ).loc Cert.DenseLastIdeal.main_arg0) = m ((c.tc : Thread Cert.ExpertsLastIdeal.nD Cert.ExpertsLastIdeal.τ).loc Cert.ExpertsLastIdeal.main_arg0)
      ∧ m' ((c.tc : Thread Cert.DenseLastIdeal.nD Cert.DenseLastIdeal.τ).loc Cert.DenseLastIdeal.main_arg1) = m ((c.tc : Thread Cert.ExpertsLastIdeal.nD Cert.ExpertsLastIdeal.τ).loc Cert.ExpertsLastIdeal.main_arg1)
      ∧ m' ((c.tc : Thread Cert.DenseLastIdeal.nD Cert.DenseLastIdeal.τ).loc Cert.DenseLastIdeal.main_arg2) = m ((c.tc : Thread Cert.ExpertsLastIdeal.nD Cert.ExpertsLastIdeal.τ).loc Cert.ExpertsLastIdeal.main_arg2)
      ∧ m' ((c.tc : Thread Cert.DenseLastIdeal.nD Cert.DenseLastIdeal.τ).loc Cert.DenseLastIdeal.main_arg3) = m ((c.tc : Thread Cert.ExpertsLastIdeal.nD Cert.ExpertsLastIdeal.τ).loc Cert.ExpertsLastIdeal.main_arg3)
      ∧ m' ((c.tc : Thread Cert.DenseLastIdeal.nD Cert.DenseLastIdeal.τ).loc Cert.DenseLastIdeal.main_arg4) = m ((c.tc : Thread Cert.ExpertsLastIdeal.nD Cert.ExpertsLastIdeal.τ).loc Cert.ExpertsLastIdeal.main_arg4)
      ∧ m' ((c.tc : Thread Cert.DenseLastIdeal.nD Cert.DenseLastIdeal.τ).loc Cert.DenseLastIdeal.main_arg5) = m ((c.tc : Thread Cert.ExpertsLastIdeal.nD Cert.ExpertsLastIdeal.τ).loc Cert.ExpertsLastIdeal.main_arg5)
      ∧ m' ((c.tc : Thread Cert.DenseLastIdeal.nD Cert.DenseLastIdeal.τ).loc Cert.DenseLastIdeal.main_arg6) = m ((c.tc : Thread Cert.ExpertsLastIdeal.nD Cert.ExpertsLastIdeal.τ).loc Cert.ExpertsLastIdeal.main_arg6)
      ∧ m' ((c.tc : Thread Cert.DenseLastIdeal.nD Cert.DenseLastIdeal.τ).loc Cert.DenseLastIdeal.main_arg7) = m ((c.tc : Thread Cert.ExpertsLastIdeal.nD Cert.ExpertsLastIdeal.τ).loc Cert.ExpertsLastIdeal.main_arg7)) →
    ∃ (v0 : (c : Dev Cert.ExpertsLastIdeal.nD) → Buf (Elt Ideal) ((c.tc : Thread Cert.ExpertsLastIdeal.nD Cert.ExpertsLastIdeal.τ).loc Cert.ExpertsLastIdeal.main_v0)),
      θ_run (Cert.ExpertsLastIdeal.defs (F := Ideal)) (onTc (τ := Cert.ExpertsLastIdeal.τ) (Cert.ExpertsLastIdeal.main (F := Ideal))) ⟨m, fun _ => 0, g⟩ (fun r => ∀ c : Dev Cert.ExpertsLastIdeal.nD,
          r.2.mem ((c.tc : Thread Cert.ExpertsLastIdeal.nD Cert.ExpertsLastIdeal.τ).loc Cert.ExpertsLastIdeal.main_v0) = v0 c
          ∧ r.2.mem ((c.tc : Thread Cert.ExpertsLastIdeal.nD Cert.ExpertsLastIdeal.τ).loc Cert.ExpertsLastIdeal.main_arg0) = m ((c.tc : Thread Cert.ExpertsLastIdeal.nD Cert.ExpertsLastIdeal.τ).loc Cert.ExpertsLastIdeal.main_arg0)
          ∧ r.2.mem ((c.tc : Thread Cert.ExpertsLastIdeal.nD Cert.ExpertsLastIdeal.τ).loc Cert.ExpertsLastIdeal.main_arg1) = m ((c.tc : Thread Cert.ExpertsLastIdeal.nD Cert.ExpertsLastIdeal.τ).loc Cert.ExpertsLastIdeal.main_arg1)
          ∧ r.2.mem ((c.tc : Thread Cert.ExpertsLastIdeal.nD Cert.ExpertsLastIdeal.τ).loc Cert.ExpertsLastIdeal.main_arg2) = m ((c.tc : Thread Cert.ExpertsLastIdeal.nD Cert.ExpertsLastIdeal.τ).loc Cert.ExpertsLastIdeal.main_arg2)
          ∧ r.2.mem ((c.tc : Thread Cert.ExpertsLastIdeal.nD Cert.ExpertsLastIdeal.τ).loc Cert.ExpertsLastIdeal.main_arg3) = m ((c.tc : Thread Cert.ExpertsLastIdeal.nD Cert.ExpertsLastIdeal.τ).loc Cert.ExpertsLastIdeal.main_arg3)
          ∧ r.2.mem ((c.tc : Thread Cert.ExpertsLastIdeal.nD Cert.ExpertsLastIdeal.τ).loc Cert.ExpertsLastIdeal.main_arg4) = m ((c.tc : Thread Cert.ExpertsLastIdeal.nD Cert.ExpertsLastIdeal.τ).loc Cert.ExpertsLastIdeal.main_arg4)
          ∧ r.2.mem ((c.tc : Thread Cert.ExpertsLastIdeal.nD Cert.ExpertsLastIdeal.τ).loc Cert.ExpertsLastIdeal.main_arg5) = m ((c.tc : Thread Cert.ExpertsLastIdeal.nD Cert.ExpertsLastIdeal.τ).loc Cert.ExpertsLastIdeal.main_arg5)
          ∧ r.2.mem ((c.tc : Thread Cert.ExpertsLastIdeal.nD Cert.ExpertsLastIdeal.τ).loc Cert.ExpertsLastIdeal.main_arg6) = m ((c.tc : Thread Cert.ExpertsLastIdeal.nD Cert.ExpertsLastIdeal.τ).loc Cert.ExpertsLastIdeal.main_arg6)
          ∧ r.2.mem ((c.tc : Thread Cert.ExpertsLastIdeal.nD Cert.ExpertsLastIdeal.τ).loc Cert.ExpertsLastIdeal.main_arg7) = m ((c.tc : Thread Cert.ExpertsLastIdeal.nD Cert.ExpertsLastIdeal.τ).loc Cert.ExpertsLastIdeal.main_arg7))
      ∧ θ_run (Cert.DenseLastIdeal.defs (F := Ideal)) (onTc (τ := Cert.DenseLastIdeal.τ) (Cert.DenseLastIdeal.main (F := Ideal))) ⟨m', fun _ => 0, g'⟩ (fun r => ∀ c : Dev Cert.DenseLastIdeal.nD,
          r.2.mem ((c.tc : Thread Cert.DenseLastIdeal.nD Cert.DenseLastIdeal.τ).loc Cert.DenseLastIdeal.main_v65) = v0 c
          ∧ r.2.mem ((c.tc : Thread Cert.DenseLastIdeal.nD Cert.DenseLastIdeal.τ).loc Cert.DenseLastIdeal.main_arg0) = m' ((c.tc : Thread Cert.DenseLastIdeal.nD Cert.DenseLastIdeal.τ).loc Cert.DenseLastIdeal.main_arg0)
          ∧ r.2.mem ((c.tc : Thread Cert.DenseLastIdeal.nD Cert.DenseLastIdeal.τ).loc Cert.DenseLastIdeal.main_arg1) = m' ((c.tc : Thread Cert.DenseLastIdeal.nD Cert.DenseLastIdeal.τ).loc Cert.DenseLastIdeal.main_arg1)
          ∧ r.2.mem ((c.tc : Thread Cert.DenseLastIdeal.nD Cert.DenseLastIdeal.τ).loc Cert.DenseLastIdeal.main_arg2) = m' ((c.tc : Thread Cert.DenseLastIdeal.nD Cert.DenseLastIdeal.τ).loc Cert.DenseLastIdeal.main_arg2)
          ∧ r.2.mem ((c.tc : Thread Cert.DenseLastIdeal.nD Cert.DenseLastIdeal.τ).loc Cert.DenseLastIdeal.main_arg3) = m' ((c.tc : Thread Cert.DenseLastIdeal.nD Cert.DenseLastIdeal.τ).loc Cert.DenseLastIdeal.main_arg3)
          ∧ r.2.mem ((c.tc : Thread Cert.DenseLastIdeal.nD Cert.DenseLastIdeal.τ).loc Cert.DenseLastIdeal.main_arg4) = m' ((c.tc : Thread Cert.DenseLastIdeal.nD Cert.DenseLastIdeal.τ).loc Cert.DenseLastIdeal.main_arg4)
          ∧ r.2.mem ((c.tc : Thread Cert.DenseLastIdeal.nD Cert.DenseLastIdeal.τ).loc Cert.DenseLastIdeal.main_arg5) = m' ((c.tc : Thread Cert.DenseLastIdeal.nD Cert.DenseLastIdeal.τ).loc Cert.DenseLastIdeal.main_arg5)
          ∧ r.2.mem ((c.tc : Thread Cert.DenseLastIdeal.nD Cert.DenseLastIdeal.τ).loc Cert.DenseLastIdeal.main_arg6) = m' ((c.tc : Thread Cert.DenseLastIdeal.nD Cert.DenseLastIdeal.τ).loc Cert.DenseLastIdeal.main_arg6)
          ∧ r.2.mem ((c.tc : Thread Cert.DenseLastIdeal.nD Cert.DenseLastIdeal.τ).loc Cert.DenseLastIdeal.main_arg7) = m' ((c.tc : Thread Cert.DenseLastIdeal.nD Cert.DenseLastIdeal.τ).loc Cert.DenseLastIdeal.main_arg7))

def preserves_Gqa_GqaIdeal : Prop :=
  True

def algebraic_GqaIdeal_GqaRefIdeal_pre_finite_gqa [hGqaIdeal : Cert.GqaIdeal.Facts] [hGqaRefIdeal : Cert.GqaRefIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_gqa m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v33) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)
      ∧ m' ((c.tc : Thread Cert.PreRefIdeal.nD Cert.PreRefIdeal.τ).loc Cert.PreRefIdeal.main_arg10) = m ((c.tc : Thread Cert.PreIdeal.nD Cert.PreIdeal.τ).loc Cert.PreIdeal.main_arg10)
      ∧ m' ((c.tc : Thread Cert.PreRefIdeal.nD Cert.PreRefIdeal.τ).loc Cert.PreRefIdeal.main_arg11) = m ((c.tc : Thread Cert.PreIdeal.nD Cert.PreIdeal.τ).loc Cert.PreIdeal.main_arg11)
      ∧ m' ((c.tc : Thread Cert.PreRefIdeal.nD Cert.PreRefIdeal.τ).loc Cert.PreRefIdeal.main_arg12) = m ((c.tc : Thread Cert.PreIdeal.nD Cert.PreIdeal.τ).loc Cert.PreIdeal.main_arg12)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)) (v2 : (c : Dev Cert.PreIdeal.nD) → Buf (Elt Ideal) ((c.tc : Thread Cert.PreIdeal.nD Cert.PreIdeal.τ).loc Cert.PreIdeal.main_v0_2)) (v3 : (c : Dev Cert.PreIdeal.nD) → Buf (Elt Ideal) ((c.tc : Thread Cert.PreIdeal.nD Cert.PreIdeal.τ).loc Cert.PreIdeal.main_v0_3)) (v4 : (c : Dev Cert.PreIdeal.nD) → Buf (Elt Ideal) ((c.tc : Thread Cert.PreIdeal.nD Cert.PreIdeal.τ).loc Cert.PreIdeal.main_v0_4)) (v5 : (c : Dev Cert.PreIdeal.nD) → Buf (Elt Ideal) ((c.tc : Thread Cert.PreIdeal.nD Cert.PreIdeal.τ).loc Cert.PreIdeal.main_v0_5)) (v6 : (c : Dev Cert.PreIdeal.nD) → Buf (Elt Ideal) ((c.tc : Thread Cert.PreIdeal.nD Cert.PreIdeal.τ).loc Cert.PreIdeal.main_v0_6)) (v7 : (c : Dev Cert.PreIdeal.nD) → Buf (Elt Ideal) ((c.tc : Thread Cert.PreIdeal.nD Cert.PreIdeal.τ).loc Cert.PreIdeal.main_v0_7)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_v0_2) = v2 c
          ∧ r.2.mem ((c.tc : Thread Cert.PreIdeal.nD Cert.PreIdeal.τ).loc Cert.PreIdeal.main_v0_3) = v3 c
          ∧ r.2.mem ((c.tc : Thread Cert.PreIdeal.nD Cert.PreIdeal.τ).loc Cert.PreIdeal.main_v0_4) = v4 c
          ∧ r.2.mem ((c.tc : Thread Cert.PreIdeal.nD Cert.PreIdeal.τ).loc Cert.PreIdeal.main_v0_5) = v5 c
          ∧ r.2.mem ((c.tc : Thread Cert.PreIdeal.nD Cert.PreIdeal.τ).loc Cert.PreIdeal.main_v0_6) = v6 c
          ∧ r.2.mem ((c.tc : Thread Cert.PreIdeal.nD Cert.PreIdeal.τ).loc Cert.PreIdeal.main_v0_7) = v7 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
          ∧ r.2.mem ((c.tc : Thread Cert.PreIdeal.nD Cert.PreIdeal.τ).loc Cert.PreIdeal.main_arg11) = m ((c.tc : Thread Cert.PreIdeal.nD Cert.PreIdeal.τ).loc Cert.PreIdeal.main_arg11)
          ∧ r.2.mem ((c.tc : Thread Cert.PreIdeal.nD Cert.PreIdeal.τ).loc Cert.PreIdeal.main_arg12) = m ((c.tc : Thread Cert.PreIdeal.nD Cert.PreIdeal.τ).loc Cert.PreIdeal.main_arg12))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v259) = v0 c
          ∧ r.2.mem ((c.tc : Thread Cert.PreRefIdeal.nD Cert.PreRefIdeal.τ).loc Cert.PreRefIdeal.main_v261) = v1 c
          ∧ r.2.mem ((c.tc : Thread Cert.PreRefIdeal.nD Cert.PreRefIdeal.τ).loc Cert.PreRefIdeal.main_v263) = v2 c
          ∧ r.2.mem ((c.tc : Thread Cert.PreRefIdeal.nD Cert.PreRefIdeal.τ).loc Cert.PreRefIdeal.main_v265) = v3 c
          ∧ r.2.mem ((c.tc : Thread Cert.PreRefIdeal.nD Cert.PreRefIdeal.τ).loc Cert.PreRefIdeal.main_v266) = v4 c
          ∧ r.2.mem ((c.tc : Thread Cert.PreRefIdeal.nD Cert.PreRefIdeal.τ).loc Cert.PreRefIdeal.main_v267) = v5 c
          ∧ r.2.mem ((c.tc : Thread Cert.PreRefIdeal.nD Cert.PreRefIdeal.τ).loc Cert.PreRefIdeal.main_v250) = v6 c
          ∧ r.2.mem ((c.tc : Thread Cert.PreRefIdeal.nD Cert.PreRefIdeal.τ).loc Cert.PreRefIdeal.main_v268) = v7 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10)
          ∧ r.2.mem ((c.tc : Thread Cert.PreRefIdeal.nD Cert.PreRefIdeal.τ).loc Cert.PreRefIdeal.main_arg11) = m' ((c.tc : Thread Cert.PreRefIdeal.nD Cert.PreRefIdeal.τ).loc Cert.PreRefIdeal.main_arg11)
          ∧ r.2.mem ((c.tc : Thread Cert.PreRefIdeal.nD Cert.PreRefIdeal.τ).loc Cert.PreRefIdeal.main_arg12) = m' ((c.tc : Thread Cert.PreRefIdeal.nD Cert.PreRefIdeal.τ).loc Cert.PreRefIdeal.main_arg12))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hDenseIdeal : Cert.DenseIdeal.Facts) (hExpertsLast : Cert.ExpertsLast.Facts) (hExpertsLastIdeal : Cert.ExpertsLastIdeal.Facts) (hDenseLastIdeal : Cert.DenseLastIdeal.Facts) (hGqa : Cert.Gqa.Facts) (hGqaIdeal : Cert.GqaIdeal.Facts) (hGqaRefIdeal : Cert.GqaRefIdeal.Facts) (hMerge : Cert.Merge.Facts) (hMergeIdeal : Cert.MergeIdeal.Facts) (hMergeRefIdeal : Cert.MergeRefIdeal.Facts) (hPre : Cert.Pre.Facts) (hPreIdeal : Cert.PreIdeal.Facts) (hPreRefIdeal : Cert.PreRefIdeal.Facts) (hPre_finite_qk : Cert.Pre_finite_qk.Facts) (hPre_plan_tables : Cert.Pre_plan_tables.Facts) (hPre_plan_tables_last : Cert.Pre_plan_tables_last.Facts) (hPre_finite_gqa : Cert.Pre_finite_gqa.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Experts (hExperts := hExperts) (hPre_plan_tables := hPre_plan_tables)
    ∧ quiescent_ExpertsIdeal (hExpertsIdeal := hExpertsIdeal) (hPre_plan_tables := hPre_plan_tables)
    ∧ quiescent_DenseIdeal (hDenseIdeal := hDenseIdeal)
    ∧ quiescent_DenseIdeal_pre_plan_tables (hDenseIdeal := hDenseIdeal) (hPre_plan_tables := hPre_plan_tables)
    ∧ quiescent_ExpertsLast (hExpertsLast := hExpertsLast) (hPre_plan_tables_last := hPre_plan_tables_last)
    ∧ quiescent_ExpertsLastIdeal (hExpertsLastIdeal := hExpertsLastIdeal) (hPre_plan_tables_last := hPre_plan_tables_last)
    ∧ quiescent_DenseLastIdeal (hDenseLastIdeal := hDenseLastIdeal)
    ∧ quiescent_DenseLastIdeal_pre_plan_tables_last (hDenseLastIdeal := hDenseLastIdeal) (hPre_plan_tables_last := hPre_plan_tables_last)
    ∧ quiescent_Gqa (hGqa := hGqa)
    ∧ quiescent_GqaIdeal (hGqaIdeal := hGqaIdeal)
    ∧ quiescent_GqaIdeal_pre_finite_gqa (hGqaIdeal := hGqaIdeal) (hPre_finite_gqa := hPre_finite_gqa)
    ∧ quiescent_GqaRefIdeal (hGqaRefIdeal := hGqaRefIdeal)
    ∧ quiescent_GqaRefIdeal_pre_finite_gqa (hGqaRefIdeal := hGqaRefIdeal) (hPre_finite_gqa := hPre_finite_gqa)
    ∧ quiescent_Merge (hMerge := hMerge)
    ∧ quiescent_MergeIdeal (hMergeIdeal := hMergeIdeal)
    ∧ quiescent_MergeRefIdeal (hMergeRefIdeal := hMergeRefIdeal)
    ∧ quiescent_Pre (hPre := hPre)
    ∧ quiescent_PreIdeal (hPreIdeal := hPreIdeal)
    ∧ quiescent_PreRefIdeal (hPreRefIdeal := hPreRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Experts_ExpertsIdeal
    ∧ algebraic_ExpertsIdeal_DenseIdeal (hExpertsIdeal := hExpertsIdeal) (hDenseIdeal := hDenseIdeal) (hPre_plan_tables := hPre_plan_tables)
    ∧ preserves_ExpertsLast_ExpertsLastIdeal
    ∧ algebraic_ExpertsLastIdeal_DenseLastIdeal (hExpertsLastIdeal := hExpertsLastIdeal) (hDenseLastIdeal := hDenseLastIdeal) (hPre_plan_tables_last := hPre_plan_tables_last)
    ∧ preserves_Gqa_GqaIdeal
    ∧ algebraic_GqaIdeal_GqaRefIdeal_pre_finite_gqa (hGqaIdeal := hGqaIdeal) (hGqaRefIdeal := hGqaRefIdeal) (hPre_finite_gqa := hPre_finite_gqa)
    ∧ preserves_Merge_MergeIdeal
    ∧ algebraic_MergeIdeal_MergeRefIdeal (hMergeIdeal := hMergeIdeal) (hMergeRefIdeal := hMergeRefIdeal)
    ∧ preserves_Pre_PreIdeal
    ∧ algebraic_PreIdeal_PreRefIdeal (hPreIdeal := hPreIdeal) (hPreRefIdeal := hPreRefIdeal)
-- ==== Pre_finite_gqa.lean ====
abbrev S32x8x2048x128 : Shape := ⟨4, ![32, 8, 2048, 128]⟩
abbrev S32x1x2048x128 : Shape := ⟨4, ![32, 1, 2048, 128]⟩
abbrev S32x1x256x128 : Shape := ⟨4, ![32, 1, 256, 128]⟩
abbrev S_ : Shape := ⟨0, ![]⟩

class Facts : Prop where
  bitsLt_bf16_f32 : FTy.bits .bf16 < FTy.bits .f32
  bcast_S_S32x8x2048x128 : S_.BroadcastsInDim S32x8x2048x128 (![] : Fin 0 → Fin S32x8x2048x128.rank)
  reducesTo_S32x8x2048x128_S_d0_1_2_3 : S32x8x2048x128.ReducesTo [0, 1, 2, 3] S_
  h_S_ : 0 < S_.numel
  bcast_S_S32x1x2048x128 : S_.BroadcastsInDim S32x1x2048x128 (![] : Fin 0 → Fin S32x1x2048x128.rank)
  reducesTo_S32x1x2048x128_S_d0_1_2_3 : S32x1x2048x128.ReducesTo [0, 1, 2, 3] S_
  bcast_S_S32x1x256x128 : S_.BroadcastsInDim S32x1x256x128 (![] : Fin 0 → Fin S32x1x256x128.rank)
  reducesTo_S32x1x256x128_S_d0_1_2_3 : S32x1x256x128.ReducesTo [0, 1, 2, 3] S_

variable [Facts]

def fn {F : FTy → Type} [FloatOps F] (main_arg0 : FVec F S32x8x2048x128 .bf16) (main_arg1 : FVec F S32x1x2048x128 .bf16) (main_arg2 : FVec F S32x1x2048x128 .bf16) (main_arg3 : FVec F S32x1x256x128 .bf16) (main_arg4 : FVec F S32x1x256x128 .bf16) : IVec S_ 1 :=
  let main_v0 : FVec F S32x8x2048x128 .f32 := (extf .f32 · bitsLt_bf16_f32) main_arg0
  let main_v1 : FVec F S32x8x2048x128 .f32 := Host.absf main_v0
  let main_cst : FVec F S_ .f32 := constant S_ .f32 0x7F800000#32
  let main_v2 : FVec F S32x8x2048x128 .f32 := broadcastInDim S32x8x2048x128 ![] bcast_S_S32x8x2048x128 main_cst
  let main_v3 : IVec S32x8x2048x128 1 := cmpf .olt main_v1 main_v2
  let main_c : IVec S_ 1 := constantI S_ 1 1#1
  let main_v4 : IVec S_ 1 := (fun x v => Host.reduce IntOp.andi x v reducesTo_S32x8x2048x128_S_d0_1_2_3 h_S_) main_v3 main_c
  let main_v5 : FVec F S32x1x2048x128 .f32 := (extf .f32 · bitsLt_bf16_f32) main_arg1
  let main_v6 : FVec F S32x1x2048x128 .f32 := Host.absf main_v5
  let main_cst_0 : FVec F S_ .f32 := constant S_ .f32 0x7F800000#32
  let main_v7 : FVec F S32x1x2048x128 .f32 := broadcastInDim S32x1x2048x128 ![] bcast_S_S32x1x2048x128 main_cst_0
  let main_v8 : IVec S32x1x2048x128 1 := cmpf .olt main_v6 main_v7
  let main_c_1 : IVec S_ 1 := constantI S_ 1 1#1
  let main_v9 : IVec S_ 1 := (fun x v => Host.reduce IntOp.andi x v reducesTo_S32x1x2048x128_S_d0_1_2_3 h_S_) main_v8 main_c_1
  let main_v10 : IVec S_ 1 := andi main_v4 main_v9
  let main_v11 : FVec F S32x1x256x128 .f32 := (extf .f32 · bitsLt_bf16_f32) main_arg3
  let main_v12 : FVec F S32x1x256x128 .f32 := Host.absf main_v11
  let main_cst_2 : FVec F S_ .f32 := constant S_ .f32 0x7F800000#32
  let main_v13 : FVec F S32x1x256x128 .f32 := broadcastInDim S32x1x256x128 ![] bcast_S_S32x1x256x128 main_cst_2
  let main_v14 : IVec S32x1x256x128 1 := cmpf .olt main_v12 main_v13
  let main_c_3 : IVec S_ 1 := constantI S_ 1 1#1
  let main_v15 : IVec S_ 1 := (fun x v => Host.reduce IntOp.andi x v reducesTo_S32x1x256x128_S_d0_1_2_3 h_S_) main_v14 main_c_3
  let main_v16 : IVec S_ 1 := andi main_v10 main_v15
  main_v16
-- ==== Pre_finite_qk.lean ====
abbrev S32x8x2048x128 : Shape := ⟨4, ![32, 8, 2048, 128]⟩
abbrev S32x4x2048x128 : Shape := ⟨4, ![32, 4, 2048, 128]⟩
abbrev S32x8x256x128 : Shape := ⟨4, ![32, 8, 256, 128]⟩
abbrev S32x4x256x128 : Shape := ⟨4, ![32, 4, 256, 128]⟩
abbrev S_ : Shape := ⟨0, ![]⟩

class Facts : Prop where
  bitsLt_bf16_f32 : FTy.bits .bf16 < FTy.bits .f32
  bcast_S_S32x8x2048x128 : S_.BroadcastsInDim S32x8x2048x128 (![] : Fin 0 → Fin S32x8x2048x128.rank)
  reducesTo_S32x8x2048x128_S_d0_1_2_3 : S32x8x2048x128.ReducesTo [0, 1, 2, 3] S_
  h_S_ : 0 < S_.numel
  bcast_S_S32x8x256x128 : S_.BroadcastsInDim S32x8x256x128 (![] : Fin 0 → Fin S32x8x256x128.rank)
  reducesTo_S32x8x256x128_S_d0_1_2_3 : S32x8x256x128.ReducesTo [0, 1, 2, 3] S_

variable [Facts]

def fn {F : FTy → Type} [FloatOps F] (main_arg0 : FVec F S32x8x2048x128 .bf16) (main_arg1 : FVec F S32x8x2048x128 .bf16) (main_arg2 : FVec F S32x4x2048x128 .bf16) (main_arg3 : FVec F S32x8x256x128 .bf16) (main_arg4 : FVec F S32x4x256x128 .bf16) : IVec S_ 1 :=
  let main_v0 : FVec F S32x8x2048x128 .f32 := (extf .f32 · bitsLt_bf16_f32) main_arg0
  let main_v1 : FVec F S32x8x2048x128 .f32 := Host.absf main_v0
  let main_cst : FVec F S_ .f32 := constant S_ .f32 0x7F800000#32
  let main_v2 : FVec F S32x8x2048x128 .f32 := broadcastInDim S32x8x2048x128 ![] bcast_S_S32x8x2048x128 main_cst
  let main_v3 : IVec S32x8x2048x128 1 := cmpf .olt main_v1 main_v2
  let main_c : IVec S_ 1 := constantI S_ 1 1#1
  let main_v4 : IVec S_ 1 := (fun x v => Host.reduce IntOp.andi x v reducesTo_S32x8x2048x128_S_d0_1_2_3 h_S_) main_v3 main_c
  let main_v5 : FVec F S32x8x2048x128 .f32 := (extf .f32 · bitsLt_bf16_f32) main_arg1
  let main_v6 : FVec F S32x8x2048x128 .f32 := Host.absf main_v5
  let main_cst_0 : FVec F S_ .f32 := constant S_ .f32 0x7F800000#32
  let main_v7 : FVec F S32x8x2048x128 .f32 := broadcastInDim S32x8x2048x128 ![] bcast_S_S32x8x2048x128 main_cst_0
  let main_v8 : IVec S32x8x2048x128 1 := cmpf .olt main_v6 main_v7
  let main_c_1 : IVec S_ 1 := constantI S_ 1 1#1
  let main_v9 : IVec S_ 1 := (fun x v => Host.reduce IntOp.andi x v reducesTo_S32x8x2048x128_S_d0_1_2_3 h_S_) main_v8 main_c_1
  let main_v10 : IVec S_ 1 := andi main_v4 main_v9
  let main_v11 : FVec F S32x8x256x128 .f32 := (extf .f32 · bitsLt_bf16_f32) main_arg3
  let main_v12 : FVec F S32x8x256x128 .f32 := Host.absf main_v11
  let main_cst_2 : FVec F S_ .f32 := constant S_ .f32 0x7F800000#32
  let main_v13 : FVec F S32x8x256x128 .f32 := broadcastInDim S32x8x256x128 ![] bcast_S_S32x8x256x128 main_cst_2
  let main_v14 : IVec S32x8x256x128 1 := cmpf .olt main_v12 main_v13
  let main_c_3 : IVec S_ 1 := constantI S_ 1 1#1
  let main_v15 : IVec S_ 1 := (fun x v => Host.reduce IntOp.andi x v reducesTo_S32x8x256x128_S_d0_1_2_3 h_S_) main_v14 main_c_3
  let main_v16 : IVec S_ 1 := andi main_v10 main_v15
  main_v16
-- ==== Pre_plan_tables.lean ====
abbrev S168 : Shape := ⟨1, ![168]⟩
abbrev S86016x1152 : Shape := ⟨2, ![86016, 1152]⟩
abbrev S16x1024x512 : Shape := ⟨3, ![16, 1024, 512]⟩
abbrev S16x512x1024 : Shape := ⟨3, ![16, 512, 1024]⟩
abbrev S86016x2 : Shape := ⟨2, ![86016, 2]⟩
abbrev S_ : Shape := ⟨0, ![]⟩

class Facts : Prop where
  slices_S86016x1152_S86016x2_0_1024 : S86016x1152.Slices ![0, 1024] S86016x2
  bcast_S_S168 : S_.BroadcastsInDim S168 (![] : Fin 0 → Fin S168.rank)
  reducesTo_S168_S_d0 : S168.ReducesTo [0] S_
  h_S_ : 0 < S_.numel
  bcast_S_S86016x2 : S_.BroadcastsInDim S86016x2 (![] : Fin 0 → Fin S86016x2.rank)
  reducesTo_S86016x2_S_d0_1 : S86016x2.ReducesTo [0, 1] S_

variable [Facts]

def fn_part1 {F : FTy → Type} [FloatOps F] (main_arg2 : IVec S168 32) (main_v0 : FVec F S86016x2 .f32) (main_v13 : IVec S_ 1) (main_v15 : IVec S168 1) (main_c_6 : IVec S_ 32) : IVec S_ 1 :=
  let main_v16 : IVec S168 32 := broadcastInDim S168 ![] bcast_S_S168 main_c_6
  let main_v17 : IVec S168 1 := cmpi .slt main_arg2 main_v16
  let main_v18 : IVec S168 1 := andi main_v15 main_v17
  let main_c_7 : IVec S_ 1 := constantI S_ 1 1#1
  let main_v19 : IVec S_ 1 := (fun x v => Host.reduce IntOp.andi x v reducesTo_S168_S_d0 h_S_) main_v18 main_c_7
  let main_v20 : IVec S_ 1 := andi main_v13 main_v19
  let main_cst : FVec F S_ .f32 := constant S_ .f32 0x00000000#32
  let main_v21 : FVec F S86016x2 .f32 := broadcastInDim S86016x2 ![] bcast_S_S86016x2 main_cst
  let main_v22 : IVec S86016x2 1 := cmpf .oge main_v0 main_v21
  let main_cst_8 : FVec F S_ .f32 := constant S_ .f32 0x7F800000#32
  let main_v23 : FVec F S86016x2 .f32 := broadcastInDim S86016x2 ![] bcast_S_S86016x2 main_cst_8
  let main_v24 : IVec S86016x2 1 := cmpf .olt main_v0 main_v23
  let main_v25 : IVec S86016x2 1 := andi main_v22 main_v24
  let main_c_9 : IVec S_ 1 := constantI S_ 1 1#1
  let main_v26 : IVec S_ 1 := (fun x v => Host.reduce IntOp.andi x v reducesTo_S86016x2_S_d0_1 h_S_) main_v25 main_c_9
  let main_v27 : IVec S_ 1 := andi main_v20 main_v26
  main_v27

def fn {F : FTy → Type} [FloatOps F] (main_arg0 : IVec S168 32) (main_arg1 : IVec S168 32) (main_arg2 : IVec S168 32) (main_arg3 : IVec S168 32) (main_arg4 : FVec F S86016x1152 .f32) (main_arg5 : FVec F S16x1024x512 .bf16) (main_arg6 : FVec F S16x1024x512 .bf16) (main_arg7 : FVec F S16x512x1024 .bf16) : IVec S_ 1 :=
  let main_v0 : FVec F S86016x2 .f32 := (extractStridedSlice S86016x2 ![0, 1024] · slices_S86016x1152_S86016x2_0_1024) main_arg4
  let main_c : IVec S_ 32 := constantI S_ 32 0#32
  let main_v1 : IVec S168 32 := broadcastInDim S168 ![] bcast_S_S168 main_c
  let main_v2 : IVec S168 1 := cmpi .sge main_arg0 main_v1
  let main_c_0 : IVec S_ 32 := constantI S_ 32 16#32
  let main_v3 : IVec S168 32 := broadcastInDim S168 ![] bcast_S_S168 main_c_0
  let main_v4 : IVec S168 1 := cmpi .slt main_arg0 main_v3
  let main_v5 : IVec S168 1 := andi main_v2 main_v4
  let main_c_1 : IVec S_ 1 := constantI S_ 1 1#1
  let main_v6 : IVec S_ 1 := (fun x v => Host.reduce IntOp.andi x v reducesTo_S168_S_d0 h_S_) main_v5 main_c_1
  let main_c_2 : IVec S_ 32 := constantI S_ 32 0#32
  let main_v7 : IVec S168 32 := broadcastInDim S168 ![] bcast_S_S168 main_c_2
  let main_v8 : IVec S168 1 := cmpi .sge main_arg1 main_v7
  let main_c_3 : IVec S_ 32 := constantI S_ 32 16#32
  let main_v9 : IVec S168 32 := broadcastInDim S168 ![] bcast_S_S168 main_c_3
  let main_v10 : IVec S168 1 := cmpi .slt main_arg1 main_v9
  let main_v11 : IVec S168 1 := andi main_v8 main_v10
  let main_c_4 : IVec S_ 1 := constantI S_ 1 1#1
  let main_v12 : IVec S_ 1 := (fun x v => Host.reduce IntOp.andi x v reducesTo_S168_S_d0 h_S_) main_v11 main_c_4
  let main_v13 : IVec S_ 1 := andi main_v6 main_v12
  let main_c_5 : IVec S_ 32 := constantI S_ 32 0#32
  let main_v14 : IVec S168 32 := broadcastInDim S168 ![] bcast_S_S168 main_c_5
  let main_v15 : IVec S168 1 := cmpi .sge main_arg2 main_v14
  let main_c_6 : IVec S_ 32 := constantI S_ 32 168#32
  fn_part1 (F := F) main_arg2 main_v0 main_v13 main_v15 main_c_6
-- ==== Pre_plan_tables_last.lean ====
abbrev S152 : Shape := ⟨1, ![152]⟩
abbrev S77824x1152 : Shape := ⟨2, ![77824, 1152]⟩
abbrev S16x1024x512 : Shape := ⟨3, ![16, 1024, 512]⟩
abbrev S16x512x1024 : Shape := ⟨3, ![16, 512, 1024]⟩
abbrev S77824x2 : Shape := ⟨2, ![77824, 2]⟩
abbrev S_ : Shape := ⟨0, ![]⟩

class Facts : Prop where
  slices_S77824x1152_S77824x2_0_1024 : S77824x1152.Slices ![0, 1024] S77824x2
  bcast_S_S152 : S_.BroadcastsInDim S152 (![] : Fin 0 → Fin S152.rank)
  reducesTo_S152_S_d0 : S152.ReducesTo [0] S_
  h_S_ : 0 < S_.numel
  bcast_S_S77824x2 : S_.BroadcastsInDim S77824x2 (![] : Fin 0 → Fin S77824x2.rank)
  reducesTo_S77824x2_S_d0_1 : S77824x2.ReducesTo [0, 1] S_

variable [Facts]

def fn_part1 {F : FTy → Type} [FloatOps F] (main_arg2 : IVec S152 32) (main_v0 : FVec F S77824x2 .f32) (main_v13 : IVec S_ 1) (main_v15 : IVec S152 1) (main_c_6 : IVec S_ 32) : IVec S_ 1 :=
  let main_v16 : IVec S152 32 := broadcastInDim S152 ![] bcast_S_S152 main_c_6
  let main_v17 : IVec S152 1 := cmpi .slt main_arg2 main_v16
  let main_v18 : IVec S152 1 := andi main_v15 main_v17
  let main_c_7 : IVec S_ 1 := constantI S_ 1 1#1
  let main_v19 : IVec S_ 1 := (fun x v => Host.reduce IntOp.andi x v reducesTo_S152_S_d0 h_S_) main_v18 main_c_7
  let main_v20 : IVec S_ 1 := andi main_v13 main_v19
  let main_cst : FVec F S_ .f32 := constant S_ .f32 0x00000000#32
  let main_v21 : FVec F S77824x2 .f32 := broadcastInDim S77824x2 ![] bcast_S_S77824x2 main_cst
  let main_v22 : IVec S77824x2 1 := cmpf .oge main_v0 main_v21
  let main_cst_8 : FVec F S_ .f32 := constant S_ .f32 0x7F800000#32
  let main_v23 : FVec F S77824x2 .f32 := broadcastInDim S77824x2 ![] bcast_S_S77824x2 main_cst_8
  let main_v24 : IVec S77824x2 1 := cmpf .olt main_v0 main_v23
  let main_v25 : IVec S77824x2 1 := andi main_v22 main_v24
  let main_c_9 : IVec S_ 1 := constantI S_ 1 1#1
  let main_v26 : IVec S_ 1 := (fun x v => Host.reduce IntOp.andi x v reducesTo_S77824x2_S_d0_1 h_S_) main_v25 main_c_9
  let main_v27 : IVec S_ 1 := andi main_v20 main_v26
  main_v27

def fn {F : FTy → Type} [FloatOps F] (main_arg0 : IVec S152 32) (main_arg1 : IVec S152 32) (main_arg2 : IVec S152 32) (main_arg3 : IVec S152 32) (main_arg4 : FVec F S77824x1152 .f32) (main_arg5 : FVec F S16x1024x512 .bf16) (main_arg6 : FVec F S16x1024x512 .bf16) (main_arg7 : FVec F S16x512x1024 .bf16) : IVec S_ 1 :=
  let main_v0 : FVec F S77824x2 .f32 := (extractStridedSlice S77824x2 ![0, 1024] · slices_S77824x1152_S77824x2_0_1024) main_arg4
  let main_c : IVec S_ 32 := constantI S_ 32 0#32
  let main_v1 : IVec S152 32 := broadcastInDim S152 ![] bcast_S_S152 main_c
  let main_v2 : IVec S152 1 := cmpi .sge main_arg0 main_v1
  let main_c_0 : IVec S_ 32 := constantI S_ 32 16#32
  let main_v3 : IVec S152 32 := broadcastInDim S152 ![] bcast_S_S152 main_c_0
  let main_v4 : IVec S152 1 := cmpi .slt main_arg0 main_v3
  let main_v5 : IVec S152 1 := andi main_v2 main_v4
  let main_c_1 : IVec S_ 1 := constantI S_ 1 1#1
  let main_v6 : IVec S_ 1 := (fun x v => Host.reduce IntOp.andi x v reducesTo_S152_S_d0 h_S_) main_v5 main_c_1
  let main_c_2 : IVec S_ 32 := constantI S_ 32 0#32
  let main_v7 : IVec S152 32 := broadcastInDim S152 ![] bcast_S_S152 main_c_2
  let main_v8 : IVec S152 1 := cmpi .sge main_arg1 main_v7
  let main_c_3 : IVec S_ 32 := constantI S_ 32 16#32
  let main_v9 : IVec S152 32 := broadcastInDim S152 ![] bcast_S_S152 main_c_3
  let main_v10 : IVec S152 1 := cmpi .slt main_arg1 main_v9
  let main_v11 : IVec S152 1 := andi main_v8 main_v10
  let main_c_4 : IVec S_ 1 := constantI S_ 1 1#1
  let main_v12 : IVec S_ 1 := (fun x v => Host.reduce IntOp.andi x v reducesTo_S152_S_d0 h_S_) main_v11 main_c_4
  let main_v13 : IVec S_ 1 := andi main_v6 main_v12
  let main_c_5 : IVec S_ 32 := constantI S_ 32 0#32
  let main_v14 : IVec S152 32 := broadcastInDim S152 ![] bcast_S_S152 main_c_5
  let main_v15 : IVec S152 1 := cmpi .sge main_arg2 main_v14
  let main_c_6 : IVec S_ 32 := constantI S_ 32 152#32
  fn_part1 (F := F) main_arg2 main_v0 main_v13 main_v15 main_c_6
-- ==== Kernel.lean ====
abbrev S32x8x2048x128 : Shape := ⟨4, ![32, 8, 2048, 128]⟩
abbrev S32x4x2048x128 : Shape := ⟨4, ![32, 4, 2048, 128]⟩
abbrev S32x8x256x128 : Shape := ⟨4, ![32, 8, 256, 128]⟩
abbrev S32x4x256x128 : Shape := ⟨4, ![32, 4, 256, 128]⟩
abbrev S32x2048x512 : Shape := ⟨3, ![32, 2048, 512]⟩
abbrev S1x8x256x128 : Shape := ⟨4, ![1, 8, 256, 128]⟩
abbrev S1x8x2048x128 : Shape := ⟨4, ![1, 8, 2048, 128]⟩
abbrev S1x4x2048x128 : Shape := ⟨4, ![1, 4, 2048, 128]⟩
abbrev S1x4x256x128 : Shape := ⟨4, ![1, 4, 256, 128]⟩
abbrev S1x256x512 : Shape := ⟨3, ![1, 256, 512]⟩
abbrev S1x128 : Shape := ⟨2, ![1, 128]⟩
abbrev S1x1x256x128 : Shape := ⟨4, ![1, 1, 256, 128]⟩
abbrev S256x128 : Shape := ⟨2, ![256, 128]⟩
abbrev S1x1x2048x128 : Shape := ⟨4, ![1, 1, 2048, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 12
  | .smem => 0
  | _ => 0

abbrev bufTy : (tb : Table) → Fin (tcTables nBuf tb) → BufTy
  | .hbm, ⟨0, _⟩ => ⟨S32x8x2048x128, .bf16⟩
  | .hbm, ⟨1, _⟩ => ⟨S32x8x2048x128, .bf16⟩
  | .hbm, ⟨2, _⟩ => ⟨S32x4x2048x128, .bf16⟩
  | .hbm, ⟨3, _⟩ => ⟨S32x8x256x128, .bf16⟩
  | .hbm, ⟨4, _⟩ => ⟨S32x4x256x128, .bf16⟩
  | .hbm, ⟨5, _⟩ => ⟨S32x2048x512, .bf16⟩
  | .local _ .vmem, ⟨0, _⟩ => ⟨S1x8x256x128, .bf16⟩
  | .local _ .vmem, ⟨1, _⟩ => ⟨S1x8x256x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x8x256x128, .bf16⟩
  | .local _ .vmem, ⟨7, _⟩ => ⟨S1x8x256x128, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x256x512, .bf16⟩
  | .local _ .vmem, ⟨11, _⟩ => ⟨S1x256x512, .bf16⟩
  | _, _ => ⟨S32x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x8x2048x128 : Shape := ⟨4, ![32, 8, 2048, 128]⟩
abbrev S32x4x2048x128 : Shape := ⟨4, ![32, 4, 2048, 128]⟩
abbrev S32x8x256x128 : Shape := ⟨4, ![32, 8, 256, 128]⟩
abbrev S32x4x256x128 : Shape := ⟨4, ![32, 4, 256, 128]⟩
abbrev S32x8x2304x128 : Shape := ⟨4, ![32, 8, 2304, 128]⟩
abbrev S32x4x2304x128 : Shape := ⟨4, ![32, 4, 2304, 128]⟩
abbrev S32x4x2304x2x64 : Shape := ⟨5, ![32, 4, 2304, 2, 64]⟩
abbrev S32x4x2x2304x64 : Shape := ⟨5, ![32, 4, 2, 2304, 64]⟩
abbrev S32x8x2304x64 : Shape := ⟨4, ![32, 8, 2304, 64]⟩
abbrev S32x8x2048x2304 : Shape := ⟨4, ![32, 8, 2048, 2304]⟩
abbrev S_ : Shape := ⟨0, ![]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x8x64 : Shape := ⟨4, ![32, 2048, 8, 64]⟩
abbrev S32x2048x512 : Shape := ⟨3, ![32, 2048, 512]⟩

abbrev nBuf : Space → Nat
  | .hbm => 38
  | .vmem => 0
  | .smem => 0
  | _ => 0

abbrev bufTy : (tb : Table) → Fin (tcTables nBuf tb) → BufTy
  | .hbm, ⟨0, _⟩ => ⟨S32x8x2048x128, .bf16⟩
  | .hbm, ⟨1, _⟩ => ⟨S32x8x2048x128, .bf16⟩
  | .hbm, ⟨2, _⟩ => ⟨S32x4x2048x128, .bf16⟩
  | .hbm, ⟨3, _⟩ => ⟨S32x8x256x128, .bf16⟩
  | .hbm, ⟨4, _⟩ => ⟨S32x4x256x128, .bf16⟩
  | .hbm, ⟨5, _⟩ => ⟨S32x8x2048x128, .f32⟩
  | .hbm, ⟨6, _⟩ => ⟨S32x8x2048x128, .f32⟩
  | .hbm, ⟨7, _⟩ => ⟨S32x4x2048x128, .f32⟩
  | .hbm, ⟨8, _⟩ => ⟨S32x8x256x128, .f32⟩
  | .hbm, ⟨9, _⟩ => ⟨S32x4x256x128, .f32⟩
  | .hbm, ⟨10, _⟩ => ⟨S32x8x2304x128, .f32⟩
  | .hbm, ⟨11, _⟩ => ⟨S32x4x2304x128, .f32⟩
  | .hbm, ⟨12, _⟩ => ⟨S32x4x2304x2x64, .f32⟩
  | .hbm, ⟨13, _⟩ => ⟨S32x4x2x2304x64, .f32⟩
  | .hbm, ⟨14, _⟩ => ⟨S32x8x2304x64, .f32⟩
  | .hbm, ⟨15, _⟩ => ⟨S32x8x2048x2304, .f32⟩
  | .hbm, ⟨16, _⟩ => ⟨S_, .f32⟩
  | .hbm, ⟨17, _⟩ => ⟨S_, .f32⟩
  | .hbm, ⟨18, _⟩ => ⟨S32x8x2048x2304, .f32⟩
  | .hbm, ⟨19, _⟩ => ⟨S32x8x2048x2304, .f32⟩
  | .hbm, ⟨20, _⟩ => ⟨S_, .f32⟩
  | .hbm, ⟨21, _⟩ => ⟨S32x8x2048, .f32⟩
  | .hbm, ⟨22, _⟩ => ⟨S_, .f32⟩
  | .hbm, ⟨23, _⟩ => ⟨S32x8x2048, .f32⟩
  | .hbm, ⟨24, _⟩ => ⟨S32x8x2048, .f32⟩
  | .hbm, ⟨25, _⟩ => ⟨S32x8x2048x1, .f32⟩
  | .hbm, ⟨26, _⟩ => ⟨S32x8x2048x2304, .f32⟩
  | .hbm, ⟨27, _⟩ => ⟨S32x8x2048x2304, .f32⟩
  | .hbm, ⟨28, _⟩ => ⟨S32x8x2048x2304, .f32⟩
  | .hbm, ⟨29, _⟩ => ⟨S_, .f32⟩
  | .hbm, ⟨30, _⟩ => ⟨S32x8x2048, .f32⟩
  | .hbm, ⟨31, _⟩ => ⟨S32x8x2048x1, .f32⟩
  | .hbm, ⟨32, _⟩ => ⟨S32x8x2048x2304, .f32⟩
  | .hbm, ⟨33, _⟩ => ⟨S32x8x2048x2304, .f32⟩
  | .hbm, ⟨34, _⟩ => ⟨S32x8x64x2048, .f32⟩
  | .hbm, ⟨35, _⟩ => ⟨S32x2048x8x64, .f32⟩
  | .hbm, ⟨36, _⟩ => ⟨S32x2048x512, .f32⟩
  | .hbm, ⟨37, _⟩ => ⟨S32x2048x512, .bf16⟩
  | _, _ => ⟨S32x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Experts.lean ====
abbrev S168 : Shape := ⟨1, ![168]⟩
abbrev S86016x1152 : Shape := ⟨2, ![86016, 1152]⟩
abbrev S16x1024x512 : Shape := ⟨3, ![16, 1024, 512]⟩
abbrev S16x512x1024 : Shape := ⟨3, ![16, 512, 1024]⟩
abbrev S86016x1024 : Shape := ⟨2, ![86016, 1024]⟩
abbrev S512x1152 : Shape := ⟨2, ![512, 1152]⟩
abbrev S1 : Shape := ⟨1, ![1]⟩
abbrev S1x1024x512 : Shape := ⟨3, ![1, 1024, 512]⟩
abbrev S1x512x1024 : Shape := ⟨3, ![1, 512, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 16
  | .smem => 4
  | _ => 0

abbrev bufTy : (tb : Table) → Fin (tcTables nBuf tb) → BufTy
  | .hbm, ⟨0, _⟩ => ⟨S86016x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S86016x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S168, .i32⟩
  | .local _ .smem, ⟨1, _⟩ => ⟨S168, .i32⟩
  | .local _ .smem, ⟨2, _⟩ => ⟨S168, .i32⟩
  | .local _ .smem, ⟨3, _⟩ => ⟨S168, .i32⟩
  | _, _ => ⟨S86016x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![168], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v_true : BitVec 1 := 1#1
  let v3 : BitVec 1 := Scalar.xori v2 v_true
  let v4 : BitVec 32 := Scalar.extui v3
  let c0_i32_0 : BitVec 32 := 0#32
  let v5 : BitVec 1 := Scalar.cmpi .ne v4 c0_i32_0
  v5

def k0_cond2 (v1 : BitVec 32) : BitVec 1 :=
  let c0_i32 : BitVec 32 := 0#32
  let v2 : BitVec 1 := Scalar.cmpi .sgt v1 c0_i32
  let v6 : BitVec 32 := Scalar.extui v2
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S168.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S168) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsIdeal.lean ====
abbrev S168 : Shape := ⟨1, ![168]⟩
abbrev S86016x1152 : Shape := ⟨2, ![86016, 1152]⟩
abbrev S16x1024x512 : Shape := ⟨3, ![16, 1024, 512]⟩
abbrev S16x512x1024 : Shape := ⟨3, ![16, 512, 1024]⟩
abbrev S86016x1024 : Shape := ⟨2, ![86016, 1024]⟩
abbrev S512x1152 : Shape := ⟨2, ![512, 1152]⟩
abbrev S1 : Shape := ⟨1, ![1]⟩
abbrev S1x1024x512 : Shape := ⟨3, ![1, 1024, 512]⟩
abbrev S1x512x1024 : Shape := ⟨3, ![1, 512, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 16
  | .smem => 4
  | _ => 0

abbrev bufTy : (tb : Table) → Fin (tcTables nBuf tb) → BufTy
  | .hbm, ⟨0, _⟩ => ⟨S86016x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S86016x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S168, .i32⟩
  | .local _ .smem, ⟨1, _⟩ => ⟨S168, .i32⟩
  | .local _ .smem, ⟨2, _⟩ => ⟨S168, .i32⟩
  | .local _ .smem, ⟨3, _⟩ => ⟨S168, .i32⟩
  | _, _ => ⟨S86016x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![168], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v_true : BitVec 1 := 1#1
  let v3 : BitVec 1 := Scalar.xori v2 v_true
  let v4 : BitVec 32 := Scalar.extui v3
  let c0_i32_0 : BitVec 32 := 0#32
  let v5 : BitVec 1 := Scalar.cmpi .ne v4 c0_i32_0
  v5

def k0_cond2 (v1 : BitVec 32) : BitVec 1 :=
  let c0_i32 : BitVec 32 := 0#32
  let v2 : BitVec 1 := Scalar.cmpi .sgt v1 c0_i32
  let v6 : BitVec 32 := Scalar.extui v2
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S168.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S168) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DenseIdeal.lean ====
abbrev S168 : Shape := ⟨1, ![168]⟩
abbrev S86016x1152 : Shape := ⟨2, ![86016, 1152]⟩
abbrev S16x1024x512 : Shape := ⟨3, ![16, 1024, 512]⟩
abbrev S16x512x1024 : Shape := ⟨3, ![16, 512, 1024]⟩
abbrev S168x1 : Shape := ⟨2, ![168, 1]⟩
abbrev S_ : Shape := ⟨0, ![]⟩
abbrev S512 : Shape := ⟨1, ![512]⟩
abbrev S1x512 : Shape := ⟨2, ![1, 512]⟩
abbrev S168x512 : Shape := ⟨2, ![168, 512]⟩
abbrev S86016 : Shape := ⟨1, ![86016]⟩
abbrev S86016x1 : Shape := ⟨2, ![86016, 1]⟩
abbrev S86016x1024 : Shape := ⟨2, ![86016, 1024]⟩
abbrev S16 : Shape := ⟨1, ![16]⟩
abbrev S1x16 : Shape := ⟨2, ![1, 16]⟩
abbrev S86016x16 : Shape := ⟨2, ![86016, 16]⟩
abbrev S16x512x86016 : Shape := ⟨3, ![16, 512, 86016]⟩
abbrev S16x86016x512 : Shape := ⟨3, ![16, 86016, 512]⟩
abbrev S16x86016 : Shape := ⟨2, ![16, 86016]⟩
abbrev S16x86016x1 : Shape := ⟨3, ![16, 86016, 1]⟩
abbrev S16x86016x1024 : Shape := ⟨3, ![16, 86016, 1024]⟩

abbrev nBuf : Space → Nat
  | .hbm => 91
  | .vmem => 0
  | .smem => 0
  | _ => 0

abbrev bufTy : (tb : Table) → Fin (tcTables nBuf tb) → BufTy
  | .hbm, ⟨0, _⟩ => ⟨S168, .i32⟩
  | .hbm, ⟨1, _⟩ => ⟨S168, .i32⟩
  | .hbm, ⟨2, _⟩ => ⟨S168, .i32⟩
  | .hbm, ⟨3, _⟩ => ⟨S168, .i32⟩
  | .hbm, ⟨4, _⟩ => ⟨S86016x1152, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S168x1, .i32⟩
  | .hbm, ⟨9, _⟩ => ⟨S_, .i32⟩
  | .hbm, ⟨10, _⟩ => ⟨S168x1, .i32⟩
  | .hbm, ⟨11, _⟩ => ⟨S168x1, .i32⟩
  | .hbm, ⟨12, _⟩ => ⟨S512, .i32⟩
  | .hbm, ⟨13, _⟩ => ⟨S1x512, .i32⟩
  | .hbm, ⟨14, _⟩ => ⟨S168x512, .i32⟩
  | .hbm, ⟨15, _⟩ => ⟨S168x512, .i32⟩
  | .hbm, ⟨16, _⟩ => ⟨S168x512, .i32⟩
  | .hbm, ⟨17, _⟩ => ⟨S86016, .i32⟩
  | .hbm, ⟨18, _⟩ => ⟨S_, .i32⟩
  | .hbm, ⟨19, _⟩ => ⟨S86016, .i32⟩
  | .hbm, ⟨20, _⟩ => ⟨S86016, .i1⟩
  | .hbm, ⟨21, _⟩ => ⟨S_, .i32⟩
  | .hbm, ⟨22, _⟩ => ⟨S86016, .i32⟩
  | .hbm, ⟨23, _⟩ => ⟨S86016, .i32⟩
  | .hbm, ⟨24, _⟩ => ⟨S86016, .i32⟩
  | .hbm, ⟨25, _⟩ => ⟨S86016x1, .i32⟩
  | .hbm, ⟨26, _⟩ => ⟨S86016x1152, .f32⟩
  | .hbm, ⟨27, _⟩ => ⟨S86016x1024, .f32⟩
  | .hbm, ⟨28, _⟩ => ⟨S168x1, .i32⟩
  | .hbm, ⟨29, _⟩ => ⟨S168x512, .i32⟩
  | .hbm, ⟨30, _⟩ => ⟨S86016, .i32⟩
  | .hbm, ⟨31, _⟩ => ⟨S86016x1, .i32⟩
  | .hbm, ⟨32, _⟩ => ⟨S16, .i32⟩
  | .hbm, ⟨33, _⟩ => ⟨S1x16, .i32⟩
  | .hbm, ⟨34, _⟩ => ⟨S86016x16, .i32⟩
  | .hbm, ⟨35, _⟩ => ⟨S86016x16, .i32⟩
  | .hbm, ⟨36, _⟩ => ⟨S86016x16, .i1⟩
  | .hbm, ⟨37, _⟩ => ⟨S86016x16, .f32⟩
  | .hbm, ⟨38, _⟩ => ⟨S86016x1, .f32⟩
  | .hbm, ⟨39, _⟩ => ⟨S86016x16, .f32⟩
  | .hbm, ⟨40, _⟩ => ⟨S86016x16, .f32⟩
  | .hbm, ⟨41, _⟩ => ⟨S168x1, .i32⟩
  | .hbm, ⟨42, _⟩ => ⟨S168x512, .i32⟩
  | .hbm, ⟨43, _⟩ => ⟨S86016, .i32⟩
  | .hbm, ⟨44, _⟩ => ⟨S86016x1, .i32⟩
  | .hbm, ⟨45, _⟩ => ⟨S16, .i32⟩
  | .hbm, ⟨46, _⟩ => ⟨S1x16, .i32⟩
  | .hbm, ⟨47, _⟩ => ⟨S86016x16, .i32⟩
  | .hbm, ⟨48, _⟩ => ⟨S86016x16, .i32⟩
  | .hbm, ⟨49, _⟩ => ⟨S86016x16, .i1⟩
  | .hbm, ⟨50, _⟩ => ⟨S86016x16, .f32⟩
  | .hbm, ⟨51, _⟩ => ⟨S86016x1, .f32⟩
  | .hbm, ⟨52, _⟩ => ⟨S86016x16, .f32⟩
  | .hbm, ⟨53, _⟩ => ⟨S86016x16, .f32⟩
  | .hbm, ⟨54, _⟩ => ⟨S86016x16, .f32⟩
  | .hbm, ⟨55, _⟩ => ⟨S16x1024x512, .f32⟩
  | .hbm, ⟨56, _⟩ => ⟨S16x1024x512, .f32⟩
  | .hbm, ⟨57, _⟩ => ⟨S16x512x1024, .f32⟩
  | .hbm, ⟨58, _⟩ => ⟨S16x512x86016, .f32⟩
  | .hbm, ⟨59, _⟩ => ⟨S16x86016x512, .f32⟩
  | .hbm, ⟨60, _⟩ => ⟨S16x86016x512, .f32⟩
  | .hbm, ⟨61, _⟩ => ⟨S16x86016x512, .f32⟩
  | .hbm, ⟨62, _⟩ => ⟨S_, .f32⟩
  | .hbm, ⟨63, _⟩ => ⟨S16x86016x512, .f32⟩
  | .hbm, ⟨64, _⟩ => ⟨S16x86016x512, .f32⟩
  | .hbm, ⟨65, _⟩ => ⟨S_, .f32⟩
  | .hbm, ⟨66, _⟩ => ⟨S16x86016x512, .f32⟩
  | .hbm, ⟨67, _⟩ => ⟨S16x86016x512, .f32⟩
  | .hbm, ⟨68, _⟩ => ⟨S16x86016x512, .f32⟩
  | .hbm, ⟨69, _⟩ => ⟨S16x512x86016, .f32⟩
  | .hbm, ⟨70, _⟩ => ⟨S16x86016x512, .f32⟩
  | .hbm, ⟨71, _⟩ => ⟨S16x86016x512, .f32⟩
  | .hbm, ⟨72, _⟩ => ⟨S16x86016, .f32⟩
  | .hbm, ⟨73, _⟩ => ⟨S16x86016x1, .f32⟩
  | .hbm, ⟨74, _⟩ => ⟨S16x86016x1024, .f32⟩
  | .hbm, ⟨75, _⟩ => ⟨S16x86016x1024, .f32⟩
  | .hbm, ⟨76, _⟩ => ⟨S16x86016x1024, .f32⟩
  | .hbm, ⟨77, _⟩ => ⟨S_, .f32⟩
  | .hbm, ⟨78, _⟩ => ⟨S86016x1024, .f32⟩
  | .hbm, ⟨79, _⟩ => ⟨S168x1, .i32⟩
  | .hbm, ⟨80, _⟩ => ⟨S168x512, .i32⟩
  | .hbm, ⟨81, _⟩ => ⟨S86016, .i32⟩
  | .hbm, ⟨82, _⟩ => ⟨S86016x1, .i32⟩
  | .hbm, ⟨83, _⟩ => ⟨S_, .i32⟩
  | .hbm, ⟨84, _⟩ => ⟨S86016x1, .i32⟩
  | .hbm, ⟨85, _⟩ => ⟨S86016x1, .i1⟩
  | .hbm, ⟨86, _⟩ => ⟨S_, .f32⟩
  | .hbm, ⟨87, _⟩ => ⟨S_, .f32⟩
  | .hbm, ⟨88, _⟩ => ⟨S86016x1024, .i1⟩
  | .hbm, ⟨89, _⟩ => ⟨S86016x1024, .f32⟩
  | .hbm, ⟨90, _⟩ => ⟨S86016x1024, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_2 : Ref sig .tc := ⟨.hbm, 83, rfl⟩
abbrev main_v63 : Ref sig .tc := ⟨.hbm, 84, rfl⟩
abbrev main_v64 : Ref sig .tc := ⟨.hbm, 85, rfl⟩
abbrev main_cst_3 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== ExpertsLast.lean ====
abbrev S152 : Shape := ⟨1, ![152]⟩
abbrev S77824x1152 : Shape := ⟨2, ![77824, 1152]⟩
abbrev S16x1024x512 : Shape := ⟨3, ![16, 1024, 512]⟩
abbrev S16x512x1024 : Shape := ⟨3, ![16, 512, 1024]⟩
abbrev S77824x1024 : Shape := ⟨2, ![77824, 1024]⟩
abbrev S512x1152 : Shape := ⟨2, ![512, 1152]⟩
abbrev S1 : Shape := ⟨1, ![1]⟩
abbrev S1x1024x512 : Shape := ⟨3, ![1, 1024, 512]⟩
abbrev S1x512x1024 : Shape := ⟨3, ![1, 512, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 5
  | .vmem => 16
  | .smem => 4
  | _ => 0

abbrev bufTy : (tb : Table) → Fin (tcTables nBuf tb) → BufTy
  | .hbm, ⟨0, _⟩ => ⟨S77824x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S77824x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S152, .i32⟩
  | .local _ .smem, ⟨1, _⟩ => ⟨S152, .i32⟩
  | .local _ .smem, ⟨2, _⟩ => ⟨S152, .i32⟩
  | .local _ .smem, ⟨3, _⟩ => ⟨S152, .i32⟩
  | _, _ => ⟨S77824x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![152], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v_true : BitVec 1 := 1#1
  let v3 : BitVec 1 := Scalar.xori v2 v_true
  let v4 : BitVec 32 := Scalar.extui v3
  let c0_i32_0 : BitVec 32 := 0#32
  let v5 : BitVec 1 := Scalar.cmpi .ne v4 c0_i32_0
  v5

def k0_cond2 (v1 : BitVec 32) : BitVec 1 :=
  let c0_i32 : BitVec 32 := 0#32
  let v2 : BitVec 1 := Scalar.cmpi .sgt v1 c0_i32
  let v6 : BitVec 32 := Scalar.extui v2
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S152.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S152) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DenseLastIdeal.lean ====
abbrev S152 : Shape := ⟨1, ![152]⟩
abbrev S77824x1152 : Shape := ⟨2, ![77824, 1152]⟩
abbrev S16x1024x512 : Shape := ⟨3, ![16, 1024, 512]⟩
abbrev S16x512x1024 : Shape := ⟨3, ![16, 512, 1024]⟩
abbrev S152x1 : Shape := ⟨2, ![152, 1]⟩
abbrev S_ : Shape := ⟨0, ![]⟩
abbrev S512 : Shape := ⟨1, ![512]⟩
abbrev S1x512 : Shape := ⟨2, ![1, 512]⟩
abbrev S152x512 : Shape := ⟨2, ![152, 512]⟩
abbrev S77824 : Shape := ⟨1, ![77824]⟩
abbrev S77824x1 : Shape := ⟨2, ![77824, 1]⟩
abbrev S77824x1024 : Shape := ⟨2, ![77824, 1024]⟩
abbrev S16 : Shape := ⟨1, ![16]⟩
abbrev S1x16 : Shape := ⟨2, ![1, 16]⟩
abbrev S77824x16 : Shape := ⟨2, ![77824, 16]⟩
abbrev S16x512x77824 : Shape := ⟨3, ![16, 512, 77824]⟩
abbrev S16x77824x512 : Shape := ⟨3, ![16, 77824, 512]⟩
abbrev S16x77824 : Shape := ⟨2, ![16, 77824]⟩
abbrev S16x77824x1 : Shape := ⟨3, ![16, 77824, 1]⟩
abbrev S16x77824x1024 : Shape := ⟨3, ![16, 77824, 1024]⟩

abbrev nBuf : Space → Nat
  | .hbm => 91
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S152, .i32⟩
  | .hbm, ⟨3, _⟩ => ⟨S152, .i32⟩
  | .hbm, ⟨4, _⟩ => ⟨S77824x1152, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S152x1, .i32⟩
  | .hbm, ⟨9, _⟩ => ⟨S_, .i32⟩
  | .hbm, ⟨10, _⟩ => ⟨S152x1, .i32⟩
  | .hbm, ⟨11, _⟩ => ⟨S152x1, .i32⟩
  | .hbm, ⟨12, _⟩ => ⟨S512, .i32⟩
  | .hbm, ⟨13, _⟩ => ⟨S1x512, .i32⟩
  | .hbm, ⟨14, _⟩ => ⟨S152x512, .i32⟩
  | .hbm, ⟨15, _⟩ => ⟨S152x512, .i32⟩
  | .hbm, ⟨16, _⟩ => ⟨S152x512, .i32⟩
  | .hbm, ⟨17, _⟩ => ⟨S77824, .i32⟩
  | .hbm, ⟨18, _⟩ => ⟨S_, .i32⟩
  | .hbm, ⟨19, _⟩ => ⟨S77824, .i32⟩
  | .hbm, ⟨20, _⟩ => ⟨S77824, .i1⟩
  | .hbm, ⟨21, _⟩ => ⟨S_, .i32⟩
  | .hbm, ⟨22, _⟩ => ⟨S77824, .i32⟩
  | .hbm, ⟨23, _⟩ => ⟨S77824, .i32⟩
  | .hbm, ⟨24, _⟩ => ⟨S77824, .i32⟩
  | .hbm, ⟨25, _⟩ => ⟨S77824x1, .i32⟩
  | .hbm, ⟨26, _⟩ => ⟨S77824x1152, .f32⟩
  | .hbm, ⟨27, _⟩ => ⟨S77824x1024, .f32⟩
  | .hbm, ⟨28, _⟩ => ⟨S152x1, .i32⟩
  | .hbm, ⟨29, _⟩ => ⟨S152x512, .i32⟩
  | .hbm, ⟨30, _⟩ => ⟨S77824, .i32⟩
  | .hbm, ⟨31, _⟩ => ⟨S77824x1, .i32⟩
  | .hbm, ⟨32, _⟩ => ⟨S16, .i32⟩
  | .hbm, ⟨33, _⟩ => ⟨S1x16, .i32⟩
  | .hbm, ⟨34, _⟩ => ⟨S77824x16, .i32⟩
  | .hbm, ⟨35, _⟩ => ⟨S77824x16, .i32⟩
  | .hbm, ⟨36, _⟩ => ⟨S77824x16, .i1⟩
  | .hbm, ⟨37, _⟩ => ⟨S77824x16, .f32⟩
  | .hbm, ⟨38, _⟩ => ⟨S77824x1, .f32⟩
  | .hbm, ⟨39, _⟩ => ⟨S77824x16, .f32⟩
  | .hbm, ⟨40, _⟩ => ⟨S77824x16, .f32⟩
  | .hbm, ⟨41, _⟩ => ⟨S152x1, .i32⟩
  | .hbm, ⟨42, _⟩ => ⟨S152x512, .i32⟩
  | .hbm, ⟨43, _⟩ => ⟨S77824, .i32⟩
  | .hbm, ⟨44, _⟩ => ⟨S77824x1, .i32⟩
  | .hbm, ⟨45, _⟩ => ⟨S16, .i32⟩
  | .hbm, ⟨46, _⟩ => ⟨S1x16, .i32⟩
  | .hbm, ⟨47, _⟩ => ⟨S77824x16, .i32⟩
  | .hbm, ⟨48, _⟩ => ⟨S77824x16, .i32⟩
  | .hbm, ⟨49, _⟩ => ⟨S77824x16, .i1⟩
  | .hbm, ⟨50, _⟩ => ⟨S77824x16, .f32⟩
  | .hbm, ⟨51, _⟩ => ⟨S77824x1, .f32⟩
  | .hbm, ⟨52, _⟩ => ⟨S77824x16, .f32⟩
  | .hbm, ⟨53, _⟩ => ⟨S77824x16, .f32⟩
  | .hbm, ⟨54, _⟩ => ⟨S77824x16, .f32⟩
  | .hbm, ⟨55, _⟩ => ⟨S16x1024x512, .f32⟩
  | .hbm, ⟨56, _⟩ => ⟨S16x1024x512, .f32⟩
  | .hbm, ⟨57, _⟩ => ⟨S16x512x1024, .f32⟩
  | .hbm, ⟨58, _⟩ => ⟨S16x512x77824, .f32⟩
  | .hbm, ⟨59, _⟩ => ⟨S16x77824x512, .f32⟩
  | .hbm, ⟨60, _⟩ => ⟨S16x77824x512, .f32⟩
  | .hbm, ⟨61, _⟩ => ⟨S16x77824x512, .f32⟩
  | .hbm, ⟨62, _⟩ => ⟨S_, .f32⟩
  | .hbm, ⟨63, _⟩ => ⟨S16x77824x512, .f32⟩
  | .hbm, ⟨64, _⟩ => ⟨S16x77824x512, .f32⟩
  | .hbm, ⟨65, _⟩ => ⟨S_, .f32⟩
  | .hbm, ⟨66, _⟩ => ⟨S16x77824x512, .f32⟩
  | .hbm, ⟨67, _⟩ => ⟨S16x77824x512, .f32⟩
  | .hbm, ⟨68, _⟩ => ⟨S16x77824x512, .f32⟩
  | .hbm, ⟨69, _⟩ => ⟨S16x512x77824, .f32⟩
  | .hbm, ⟨70, _⟩ => ⟨S16x77824x512, .f32⟩
  | .hbm, ⟨71, _⟩ => ⟨S16x77824x512, .f32⟩
  | .hbm, ⟨72, _⟩ => ⟨S16x77824, .f32⟩
  | .hbm, ⟨73, _⟩ => ⟨S16x77824x1, .f32⟩
  | .hbm, ⟨74, _⟩ => ⟨S16x77824x1024, .f32⟩
  | .hbm, ⟨75, _⟩ => ⟨S16x77824x1024, .f32⟩
  | .hbm, ⟨76, _⟩ => ⟨S16x77824x1024, .f32⟩
  | .hbm, ⟨77, _⟩ => ⟨S_, .f32⟩
  | .hbm, ⟨78, _⟩ => ⟨S77824x1024, .f32⟩
  | .hbm, ⟨79, _⟩ => ⟨S152x1, .i32⟩
  | .hbm, ⟨80, _⟩ => ⟨S152x512, .i32⟩
  | .hbm, ⟨81, _⟩ => ⟨S77824, .i32⟩
  | .hbm, ⟨82, _⟩ => ⟨S77824x1, .i32⟩
  | .hbm, ⟨83, _⟩ => ⟨S_, .i32⟩
  | .hbm, ⟨84, _⟩ => ⟨S77824x1, .i32⟩
  | .hbm, ⟨85, _⟩ => ⟨S77824x1, .i1⟩
  | .hbm, ⟨86, _⟩ => ⟨S_, .f32⟩
  | .hbm, ⟨87, _⟩ => ⟨S_, .f32⟩
  | .hbm, ⟨88, _⟩ => ⟨S77824x1024, .i1⟩
  | .hbm, ⟨89, _⟩ => ⟨S77824x1024, .f32⟩
  | .hbm, ⟨90, _⟩ => ⟨S77824x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_2 : Ref sig .tc := ⟨.hbm, 83, rfl⟩
abbrev main_v63 : Ref sig .tc := ⟨.hbm, 84, rfl⟩
abbrev main_v64 : Ref sig .tc := ⟨.hbm, 85, rfl⟩
abbrev main_cst_3 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Gqa.lean ====
abbrev S32x8x2048x128 : Shape := ⟨4, ![32, 8, 2048, 128]⟩
abbrev S32x1x2048x128 : Shape := ⟨4, ![32, 1, 2048, 128]⟩
abbrev S32x1x256x128 : Shape := ⟨4, ![32, 1, 256, 128]⟩
abbrev S32x2048x512 : Shape := ⟨3, ![32, 2048, 512]⟩
abbrev S1x8x256x128 : Shape := ⟨4, ![1, 8, 256, 128]⟩
abbrev S1x1x2048x128 : Shape := ⟨4, ![1, 1, 2048, 128]⟩
abbrev S1x1x256x128 : Shape := ⟨4, ![1, 1, 256, 128]⟩
abbrev S1x256x512 : Shape := ⟨3, ![1, 256, 512]⟩
abbrev S1x128 : Shape := ⟨2, ![1, 128]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 12
  | .smem => 0
  | _ => 0

abbrev bufTy : (tb : Table) → Fin (tcTables nBuf tb) → BufTy
  | .hbm, ⟨0, _⟩ => ⟨S32x8x2048x128, .bf16⟩
  | .hbm, ⟨1, _⟩ => ⟨S32x1x2048x128, .bf16⟩
  | .hbm, ⟨2, _⟩ => ⟨S32x1x2048x128, .bf16⟩
  | .hbm, ⟨3, _⟩ => ⟨S32x1x256x128, .bf16⟩
  | .hbm, ⟨4, _⟩ => ⟨S32x1x256x128, .bf16⟩
  | .hbm, ⟨5, _⟩ => ⟨S32x2048x512, .bf16⟩
  | .local _ .vmem, ⟨0, _⟩ => ⟨S1x8x256x128, .bf16⟩
  | .local _ .vmem, ⟨1, _⟩ => ⟨S1x8x256x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x256x512, .bf16⟩
  | .local _ .vmem, ⟨11, _⟩ => ⟨S1x256x512, .bf16⟩
  | _, _ => ⟨S32x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaRefIdeal.lean ====
abbrev S32x8x2048x128 : Shape := ⟨4, ![32, 8, 2048, 128]⟩
abbrev S32x1x2048x128 : Shape := ⟨4, ![32, 1, 2048, 128]⟩
abbrev S32x1x256x128 : Shape := ⟨4, ![32, 1, 256, 128]⟩
abbrev S32x1x2304x128 : Shape := ⟨4, ![32, 1, 2304, 128]⟩
abbrev S32x8x2304x128 : Shape := ⟨4, ![32, 8, 2304, 128]⟩
abbrev S32x2304x2x64 : Shape := ⟨4, ![32, 2304, 2, 64]⟩
abbrev S32x2x2304x64 : Shape := ⟨4, ![32, 2, 2304, 64]⟩
abbrev S32x2x1x2304x64 : Shape := ⟨5, ![32, 2, 1, 2304, 64]⟩
abbrev S32x2x4x2304x64 : Shape := ⟨5, ![32, 2, 4, 2304, 64]⟩
abbrev S32x8x2304x64 : Shape := ⟨4, ![32, 8, 2304, 64]⟩
abbrev S32x8x2048x2304 : Shape := ⟨4, ![32, 8, 2048, 2304]⟩
abbrev S_ : Shape := ⟨0, ![]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x8x64 : Shape := ⟨4, ![32, 2048, 8, 64]⟩
abbrev S32x2048x2x4x64 : Shape := ⟨5, ![32, 2048, 2, 4, 64]⟩
abbrev S32x2048x4x2x64 : Shape := ⟨5, ![32, 2048, 4, 2, 64]⟩
abbrev S32x2048x512 : Shape := ⟨3, ![32, 2048, 512]⟩

abbrev nBuf : Space → Nat
  | .hbm => 43
  | .vmem => 0
  | .smem => 0
  | _ => 0

abbrev bufTy : (tb : Table) → Fin (tcTables nBuf tb) → BufTy
  | .hbm, ⟨0, _⟩ => ⟨S32x8x2048x128, .bf16⟩
  | .hbm, ⟨1, _⟩ => ⟨S32x1x2048x128, .bf16⟩
  | .hbm, ⟨2, _⟩ => ⟨S32x1x2048x128, .bf16⟩
  | .hbm, ⟨3, _⟩ => ⟨S32x1x256x128, .bf16⟩
  | .hbm, ⟨4, _⟩ => ⟨S32x1x256x128, .bf16⟩
  | .hbm, ⟨5, _⟩ => ⟨S32x8x2048x128, .f32⟩
  | .hbm, ⟨6, _⟩ => ⟨S32x1x2048x128, .f32⟩
  | .hbm, ⟨7, _⟩ => ⟨S32x1x2048x128, .f32⟩
  | .hbm, ⟨8, _⟩ => ⟨S32x1x256x128, .f32⟩
  | .hbm, ⟨9, _⟩ => ⟨S32x1x256x128, .f32⟩
  | .hbm, ⟨10, _⟩ => ⟨S32x1x2304x128, .f32⟩
  | .hbm, ⟨11, _⟩ => ⟨S32x1x2304x128, .f32⟩
  | .hbm, ⟨12, _⟩ => ⟨S32x8x2304x128, .f32⟩
  | .hbm, ⟨13, _⟩ => ⟨S32x2304x2x64, .f32⟩
  | .hbm, ⟨14, _⟩ => ⟨S32x2x2304x64, .f32⟩
  | .hbm, ⟨15, _⟩ => ⟨S32x2x1x2304x64, .f32⟩
  | .hbm, ⟨16, _⟩ => ⟨S32x2x4x2304x64, .f32⟩
  | .hbm, ⟨17, _⟩ => ⟨S32x8x2304x64, .f32⟩
  | .hbm, ⟨18, _⟩ => ⟨S32x8x2048x2304, .f32⟩
  | .hbm, ⟨19, _⟩ => ⟨S_, .f32⟩
  | .hbm, ⟨20, _⟩ => ⟨S_, .f32⟩
  | .hbm, ⟨21, _⟩ => ⟨S32x8x2048x2304, .f32⟩
  | .hbm, ⟨22, _⟩ => ⟨S32x8x2048x2304, .f32⟩
  | .hbm, ⟨23, _⟩ => ⟨S_, .f32⟩
  | .hbm, ⟨24, _⟩ => ⟨S32x8x2048, .f32⟩
  | .hbm, ⟨25, _⟩ => ⟨S_, .f32⟩
  | .hbm, ⟨26, _⟩ => ⟨S32x8x2048, .f32⟩
  | .hbm, ⟨27, _⟩ => ⟨S32x8x2048, .f32⟩
  | .hbm, ⟨28, _⟩ => ⟨S32x8x2048x1, .f32⟩
  | .hbm, ⟨29, _⟩ => ⟨S32x8x2048x2304, .f32⟩
  | .hbm, ⟨30, _⟩ => ⟨S32x8x2048x2304, .f32⟩
  | .hbm, ⟨31, _⟩ => ⟨S32x8x2048x2304, .f32⟩
  | .hbm, ⟨32, _⟩ => ⟨S_, .f32⟩
  | .hbm, ⟨33, _⟩ => ⟨S32x8x2048, .f32⟩
  | .hbm, ⟨34, _⟩ => ⟨S32x8x2048x1, .f32⟩
  | .hbm, ⟨35, _⟩ => ⟨S32x8x2048x2304, .f32⟩
  | .hbm, ⟨36, _⟩ => ⟨S32x8x2048x2304, .f32⟩
  | .hbm, ⟨37, _⟩ => ⟨S32x8x64x2048, .f32⟩
  | .hbm, ⟨38, _⟩ => ⟨S32x2048x8x64, .f32⟩
  | .hbm, ⟨39, _⟩ => ⟨S32x2048x2x4x64, .f32⟩
  | .hbm, ⟨40, _⟩ => ⟨S32x2048x4x2x64, .f32⟩
  | .hbm, ⟨41, _⟩ => ⟨S32x2048x512, .f32⟩
  | .hbm, ⟨42, _⟩ => ⟨S32x2048x512, .bf16⟩
  | _, _ => ⟨S32x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Merge.lean ====
abbrev S32x2048x1024 : Shape := ⟨3, ![32, 2048, 1024]⟩
abbrev S32x1x1024 : Shape := ⟨3, ![32, 1, 1024]⟩
abbrev S32x2048x512 : Shape := ⟨3, ![32, 2048, 512]⟩
abbrev S32x2048x3072 : Shape := ⟨3, ![32, 2048, 3072]⟩
abbrev S512x1024 : Shape := ⟨2, ![512, 1024]⟩
abbrev S1024x1024 : Shape := ⟨2, ![1024, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x3072 : Shape := ⟨3, ![1, 512, 3072]⟩
abbrev S512x512 : Shape := ⟨2, ![512, 512]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x2048x512, .bf16⟩
  | .hbm, ⟨3, _⟩ => ⟨S32x2048x512, .bf16⟩
  | .hbm, ⟨4, _⟩ => ⟨S32x2048x512, .bf16⟩
  | .hbm, ⟨5, _⟩ => ⟨S32x2048x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x3072, .bf16⟩
  | .local _ .vmem, ⟨11, _⟩ => ⟨S1x512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S32x2048x1024 : Shape := ⟨3, ![32, 2048, 1024]⟩
abbrev S32x1x1024 : Shape := ⟨3, ![32, 1, 1024]⟩
abbrev S32x2048x512 : Shape := ⟨3, ![32, 2048, 512]⟩
abbrev S32x2048x3072 : Shape := ⟨3, ![32, 2048, 3072]⟩
abbrev S512x1024 : Shape := ⟨2, ![512, 1024]⟩
abbrev S1024x1024 : Shape := ⟨2, ![1024, 1024]⟩
abbrev S32x2048x3x1024 : Shape := ⟨4, ![32, 2048, 3, 1024]⟩
abbrev S32x2048x1x1024 : Shape := ⟨4, ![32, 2048, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x2048x512, .bf16⟩
  | .hbm, ⟨3, _⟩ => ⟨S32x2048x512, .bf16⟩
  | .hbm, ⟨4, _⟩ => ⟨S32x2048x512, .bf16⟩
  | .hbm, ⟨5, _⟩ => ⟨S32x2048x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32x2048x512, .f32⟩
  | .hbm, ⟨11, _⟩ => ⟨S32x2048x512, .f32⟩
  | .hbm, ⟨12, _⟩ => ⟨S32x2048x512, .f32⟩
  | .hbm, ⟨13, _⟩ => ⟨S32x2048x3072, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S32x2048x3x1024, .f32⟩
  | .hbm, ⟨19, _⟩ => ⟨S32x2048x1x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Pre.lean ====
abbrev S32x2048x1024 : Shape := ⟨3, ![32, 2048, 1024]⟩
abbrev S32x1x1024 : Shape := ⟨3, ![32, 1, 1024]⟩
abbrev S2x1024 : Shape := ⟨2, ![2, 1024]⟩
abbrev S1024x5888 : Shape := ⟨2, ![1024, 5888]⟩
abbrev S256x1024 : Shape := ⟨2, ![256, 1024]⟩
abbrev S128x1536 : Shape := ⟨2, ![128, 1536]⟩
abbrev S2048x128 : Shape := ⟨2, ![2048, 128]⟩
abbrev S32x8x2048x128 : Shape := ⟨4, ![32, 8, 2048, 128]⟩
abbrev S32x4x2048x128 : Shape := ⟨4, ![32, 4, 2048, 128]⟩
abbrev S32x2048x128 : Shape := ⟨3, ![32, 2048, 128]⟩
abbrev S32x2048x512 : Shape := ⟨3, ![32, 2048, 512]⟩
abbrev S32x2048x3072 : Shape := ⟨3, ![32, 2048, 3072]⟩
abbrev S1x512x1024 : Shape := ⟨3, ![1, 512, 1024]⟩
abbrev S1x1x1024 : Shape := ⟨3, ![1, 1, 1024]⟩
abbrev S512x128 : Shape := ⟨2, ![512, 128]⟩
abbrev S1x8x512x128 : Shape := ⟨4, ![1, 8, 512, 128]⟩
abbrev S1x4x512x128 : Shape := ⟨4, ![1, 4, 512, 128]⟩
abbrev S1x512x128 : Shape := ⟨3, ![1, 512, 128]⟩
abbrev S1x512x512 : Shape := ⟨3, ![1, 512, 512]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x128 : Shape := ⟨2, ![1, 128]⟩
abbrev S1024x256 : Shape := ⟨2, ![1024, 256]⟩
abbrev S512x256 : Shape := ⟨2, ![512, 256]⟩
abbrev S1x256 : Shape := ⟨2, ![1, 256]⟩
abbrev S1x1x512x128 : Shape := ⟨4, ![1, 1, 512, 128]⟩
abbrev S1024x128 : Shape := ⟨2, ![1024, 128]⟩
abbrev S512x1536 : Shape := ⟨2, ![512, 1536]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 21
  | .vmem => 38
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S2x1024, .f32⟩
  | .hbm, ⟨4, _⟩ => ⟨S1024x5888, .bf16⟩
  | .hbm, ⟨5, _⟩ => ⟨S256x1024, .bf16⟩
  | .hbm, ⟨6, _⟩ => ⟨S128x1536, .bf16⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S32x8x2048x128, .bf16⟩
  | .hbm, ⟨14, _⟩ => ⟨S32x8x2048x128, .bf16⟩
  | .hbm, ⟨15, _⟩ => ⟨S32x4x2048x128, .bf16⟩
  | .hbm, ⟨16, _⟩ => ⟨S32x8x2048x128, .bf16⟩
  | .hbm, ⟨17, _⟩ => ⟨S32x2048x128, .bf16⟩
  | .hbm, ⟨18, _⟩ => ⟨S32x2048x128, .bf16⟩
  | .hbm, ⟨19, _⟩ => ⟨S32x2048x512, .f32⟩
  | .hbm, ⟨20, _⟩ => ⟨S32x2048x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S2x1024, .f32⟩
  | .local _ .vmem, ⟨7, _⟩ => ⟨S1024x5888, .bf16⟩
  | .local _ .vmem, ⟨8, _⟩ => ⟨S256x1024, .bf16⟩
  | .local _ .vmem, ⟨9, _⟩ => ⟨S128x1536, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x8x512x128, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x8x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S1x8x512x128, .bf16⟩
  | .local _ .vmem, ⟨29, _⟩ => ⟨S1x8x512x128, .bf16⟩
  | .local _ .vmem, ⟨30, _⟩ => ⟨S1x512x128, .bf16⟩
  | .local _ .vmem, ⟨31, _⟩ => ⟨S1x512x128, .bf16⟩
  | .local _ .vmem, ⟨32, _⟩ => ⟨S1x512x128, .bf16⟩
  | .local _ .vmem, ⟨33, _⟩ => ⟨S1x512x128, .bf16⟩
  | .local _ .vmem, ⟨34, _⟩ => ⟨S1x512x512, .f32⟩
  | .local _ .vmem, ⟨35, _⟩ => ⟨S1x512x512, .f32⟩
  | .local _ .vmem, ⟨36, _⟩ => ⟨S1x512x3072, .bf16⟩
  | .local _ .vmem, ⟨37, _⟩ => ⟨S1x512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5888 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== PreRefIdeal.lean ====
abbrev S32x2048x1024 : Shape := ⟨3, ![32, 2048, 1024]⟩
abbrev S32x1x1024 : Shape := ⟨3, ![32, 1, 1024]⟩
abbrev S2x1024 : Shape := ⟨2, ![2, 1024]⟩
abbrev S1024x5888 : Shape := ⟨2, ![1024, 5888]⟩
abbrev S256x1024 : Shape := ⟨2, ![256, 1024]⟩
abbrev S128x1536 : Shape := ⟨2, ![128, 1536]⟩
abbrev S2048x128 : Shape := ⟨2, ![2048, 128]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5888 : Shape := ⟨3, ![32, 2048, 5888]⟩
abbrev S32x2048x256 : Shape := ⟨3, ![32, 2048, 256]⟩
abbrev S32x2048x128 : Shape := ⟨3, ![32, 2048, 128]⟩
abbrev S256 : Shape := ⟨1, ![256]⟩
abbrev S1x1x256 : Shape := ⟨3, ![1, 1, 256]⟩
abbrev S32x2048x8x128 : Shape := ⟨4, ![32, 2048, 8, 128]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S128 : Shape := ⟨1, ![128]⟩
abbrev S1x1x1x128 : Shape := ⟨4, ![1, 1, 1, 128]⟩
abbrev S2048x1x128 : Shape := ⟨3, ![2048, 1, 128]⟩
abbrev S32x2048x8x120 : Shape := ⟨4, ![32, 2048, 8, 120]⟩
abbrev S32x2048x8x8 : Shape := ⟨4, ![32, 2048, 8, 8]⟩
abbrev S1x2048x1x128 : Shape := ⟨4, ![1, 2048, 1, 128]⟩
abbrev S1x1x128 : Shape := ⟨3, ![1, 1, 128]⟩
abbrev S32x2048x1536 : Shape := ⟨3, ![32, 2048, 1536]⟩
abbrev S32x2048x1x128 : Shape := ⟨4, ![32, 2048, 1, 128]⟩
abbrev S32x2048x1x1 : Shape := ⟨4, ![32, 2048, 1, 1]⟩
abbrev S32x2048x1x120 : Shape := ⟨4, ![32, 2048, 1, 120]⟩
abbrev S32x2048x1x8 : Shape := ⟨4, ![32, 2048, 1, 8]⟩
abbrev S32x2048x512 : Shape := ⟨3, ![32, 2048, 512]⟩
abbrev S32x2048x4x128 : Shape := ⟨4, ![32, 2048, 4, 128]⟩
abbrev S32x2048x8x112 : Shape := ⟨4, ![32, 2048, 8, 112]⟩
abbrev S32x2048x8x16 : Shape := ⟨4, ![32, 2048, 8, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x1x112 : Shape := ⟨4, ![32, 2048, 1, 112]⟩
abbrev S32x2048x1x16 : Shape := ⟨4, ![32, 2048, 1, 16]⟩
abbrev S32x2048x3072 : Shape := ⟨3, ![32, 2048, 3072]⟩
abbrev S32x8x2048x128 : Shape := ⟨4, ![32, 8, 2048, 128]⟩
abbrev S32x4x2048x128 : Shape := ⟨4, ![32, 4, 2048, 128]⟩

abbrev nBuf : Space → Nat
  | .hbm => 316
  | .vmem => 0
  | .smem => 0
  | _ => 0

abbrev hbmTy0_0 (i : Nat) : BufTy := match i % 128 with
  | 0 => ⟨S32x2048x1024, .f32⟩
  | 1 => ⟨S32x1x1024, .f32⟩
  | 2 => ⟨S32x1x1024, .f32⟩
  | 3 => ⟨S2x1024, .f32⟩
  | 4 => ⟨S1024x5888, .bf16⟩
  | 5 => ⟨S256x1024, .bf16⟩
  | 6 => ⟨S128x1536, .bf16⟩
  | 7 => ⟨S2048x128, .f32⟩
  | 8 => ⟨S2048x128, .f32⟩
  | 9 => ⟨S2048x128, .f32⟩
  | 10 => ⟨S2048x128, .f32⟩
  | 11 => ⟨S2048x128, .f32⟩
  | 12 => ⟨S2048x128, .f32⟩
  | 13 => ⟨S1024x5888, .f32⟩
  | 14 => ⟨S256x1024, .f32⟩
  | 15 => ⟨S128x1536, .f32⟩
  | 16 => ⟨S1x1024, .f32⟩
  | 17 => ⟨S1024, .f32⟩
  | 18 => ⟨S1x1024, .f32⟩
  | 19 => ⟨S1024, .f32⟩
  | 20 => ⟨S32x2048x1024, .f32⟩
  | 21 => ⟨S_, .f32⟩
  | 22 => ⟨S32x2048, .f32⟩
  | 23 => ⟨S32x2048x1, .f32⟩
  | 24 => ⟨S_, .f32⟩
  | 25 => ⟨S32x2048x1, .f32⟩
  | 26 => ⟨S32x2048x1, .f32⟩
  | 27 => ⟨S_, .f32⟩
  | 28 => ⟨S32x2048x1, .f32⟩
  | 29 => ⟨S32x2048x1, .f32⟩
  | 30 => ⟨S32x2048x1, .f32⟩
  | 31 => ⟨S32x2048x1024, .f32⟩
  | 32 => ⟨S32x2048x1024, .f32⟩
  | 33 => ⟨S1x1x1024, .f32⟩
  | 34 => ⟨S32x2048x1024, .f32⟩
  | 35 => ⟨S32x2048x1024, .f32⟩
  | 36 => ⟨S_, .f32⟩
  | 37 => ⟨S32x1x1024, .f32⟩
  | 38 => ⟨S32x1x1024, .f32⟩
  | 39 => ⟨S32x2048x1024, .f32⟩
  | 40 => ⟨S32x2048x1024, .f32⟩
  | 41 => ⟨S32x2048x1024, .f32⟩
  | 42 => ⟨S32x2048x1024, .f32⟩
  | 43 => ⟨S32x2048x5888, .f32⟩
  | 44 => ⟨S32x2048x256, .f32⟩
  | 45 => ⟨S32x2048x128, .f32⟩
  | 46 => ⟨S32x2048x128, .f32⟩
  | 47 => ⟨S32x2048x128, .f32⟩
  | 48 => ⟨S32x2048x128, .f32⟩
  | 49 => ⟨S32x2048x1024, .f32⟩
  | 50 => ⟨S32x2048x256, .f32⟩
  | 51 => ⟨S_, .f32⟩
  | 52 => ⟨S32x2048, .f32⟩
  | 53 => ⟨S32x2048x1, .f32⟩
  | 54 => ⟨S_, .f32⟩
  | 55 => ⟨S32x2048x1, .f32⟩
  | 56 => ⟨S32x2048x1, .f32⟩
  | 57 => ⟨S_, .f32⟩
  | 58 => ⟨S32x2048x1, .f32⟩
  | 59 => ⟨S32x2048x1, .f32⟩
  | 60 => ⟨S32x2048x1, .f32⟩
  | 61 => ⟨S32x2048x256, .f32⟩
  | 62 => ⟨S32x2048x256, .f32⟩
  | 63 => ⟨S256, .f32⟩
  | 64 => ⟨S1x1x256, .f32⟩
  | 65 => ⟨S32x2048x256, .f32⟩
  | 66 => ⟨S32x2048x256, .f32⟩
  | 67 => ⟨S32x2048x1024, .f32⟩
  | 68 => ⟨S32x2048x8x128, .f32⟩
  | 69 => ⟨S32x2048x8x64, .f32⟩
  | 70 => ⟨S32x2048x8x64, .f32⟩
  | 71 => ⟨S_, .f32⟩
  | 72 => ⟨S32x2048x8, .f32⟩
  | 73 => ⟨S32x2048x8x1, .f32⟩
  | 74 => ⟨S_, .f32⟩
  | 75 => ⟨S32x2048x8x1, .f32⟩
  | 76 => ⟨S32x2048x8x1, .f32⟩
  | 77 => ⟨S_, .f32⟩
  | 78 => ⟨S32x2048x8x1, .f32⟩
  | 79 => ⟨S32x2048x8x1, .f32⟩
  | 80 => ⟨S32x2048x8x1, .f32⟩
  | 81 => ⟨S32x2048x8x64, .f32⟩
  | 82 => ⟨S32x2048x8x64, .f32⟩
  | 83 => ⟨S32x2048x8x64, .f32⟩
  | 84 => ⟨S32x2048x8x64, .f32⟩
  | 85 => ⟨S_, .f32⟩
  | 86 => ⟨S32x2048x8, .f32⟩
  | 87 => ⟨S32x2048x8x1, .f32⟩
  | 88 => ⟨S_, .f32⟩
  | 89 => ⟨S32x2048x8x1, .f32⟩
  | 90 => ⟨S32x2048x8x1, .f32⟩
  | 91 => ⟨S_, .f32⟩
  | 92 => ⟨S32x2048x8x1, .f32⟩
  | 93 => ⟨S32x2048x8x1, .f32⟩
  | 94 => ⟨S32x2048x8x1, .f32⟩
  | 95 => ⟨S32x2048x8x64, .f32⟩
  | 96 => ⟨S32x2048x8x64, .f32⟩
  | 97 => ⟨S32x2048x8x128, .f32⟩
  | 98 => ⟨S128, .f32⟩
  | 99 => ⟨S1x1x1x128, .f32⟩
  | 100 => ⟨S32x2048x8x128, .f32⟩
  | 101 => ⟨S32x2048x8x128, .f32⟩
  | 102 => ⟨S2048x1x128, .f32⟩
  | 103 => ⟨S2048x1x128, .f32⟩
  | 104 => ⟨S2048x1x128, .f32⟩
  | 105 => ⟨S32x2048x8x120, .f32⟩
  | 106 => ⟨S32x2048x8x8, .f32⟩
  | 107 => ⟨S32x2048x8x128, .f32⟩
  | 108 => ⟨S32x2048x8x8, .f32⟩
  | 109 => ⟨S32x2048x8x120, .f32⟩
  | 110 => ⟨S32x2048x8x128, .f32⟩
  | 111 => ⟨S1x2048x1x128, .f32⟩
  | 112 => ⟨S32x2048x8x128, .f32⟩
  | 113 => ⟨S32x2048x8x128, .f32⟩
  | 114 => ⟨S1x2048x1x128, .f32⟩
  | 115 => ⟨S32x2048x8x128, .f32⟩
  | 116 => ⟨S32x2048x8x128, .f32⟩
  | 117 => ⟨S32x2048x8x128, .f32⟩
  | 118 => ⟨S1x2048x1x128, .f32⟩
  | 119 => ⟨S32x2048x8x128, .f32⟩
  | 120 => ⟨S32x2048x8x128, .f32⟩
  | 121 => ⟨S32x2048x8x128, .f32⟩
  | 122 => ⟨S_, .f32⟩
  | 123 => ⟨S32x2048x8x128, .f32⟩
  | 124 => ⟨S32x2048x8x128, .f32⟩
  | 125 => ⟨S32x2048x128, .f32⟩
  | 126 => ⟨S_, .f32⟩
  | 127 => ⟨S32x2048, .f32⟩
  | _ => ⟨S32x2048x1024, .f32⟩

abbrev hbmTy0_1 (i : Nat) : BufTy := match i % 128 with
  | 0 => ⟨S32x2048x1, .f32⟩
  | 1 => ⟨S_, .f32⟩
  | 2 => ⟨S32x2048x1, .f32⟩
  | 3 => ⟨S32x2048x1, .f32⟩
  | 4 => ⟨S_, .f32⟩
  | 5 => ⟨S32x2048x1, .f32⟩
  | 6 => ⟨S32x2048x1, .f32⟩
  | 7 => ⟨S32x2048x1, .f32⟩
  | 8 => ⟨S32x2048x128, .f32⟩
  | 9 => ⟨S32x2048x128, .f32⟩
  | 10 => ⟨S128, .f32⟩
  | 11 => ⟨S1x1x128, .f32⟩
  | 12 => ⟨S32x2048x128, .f32⟩
  | 13 => ⟨S32x2048x128, .f32⟩
  | 14 => ⟨S32x2048x1536, .f32⟩
  | 15 => ⟨S32x2048x1024, .f32⟩
  | 16 => ⟨S32x2048x8x128, .f32⟩
  | 17 => ⟨S32x2048x8x128, .f32⟩
  | 18 => ⟨S_, .f32⟩
  | 19 => ⟨S32x2048x8, .f32⟩
  | 20 => ⟨S32x2048x8x1, .f32⟩
  | 21 => ⟨S_, .f32⟩
  | 22 => ⟨S32x2048x8x1, .f32⟩
  | 23 => ⟨S32x2048x8x1, .f32⟩
  | 24 => ⟨S_, .f32⟩
  | 25 => ⟨S32x2048x8x1, .f32⟩
  | 26 => ⟨S32x2048x8x1, .f32⟩
  | 27 => ⟨S32x2048x8x1, .f32⟩
  | 28 => ⟨S32x2048x8x128, .f32⟩
  | 29 => ⟨S32x2048x8x128, .f32⟩
  | 30 => ⟨S128, .f32⟩
  | 31 => ⟨S1x1x1x128, .f32⟩
  | 32 => ⟨S32x2048x8x128, .f32⟩
  | 33 => ⟨S32x2048x8x128, .f32⟩
  | 34 => ⟨S32x2048x1x128, .f32⟩
  | 35 => ⟨S32x2048x1x128, .f32⟩
  | 36 => ⟨S_, .f32⟩
  | 37 => ⟨S32x2048x1, .f32⟩
  | 38 => ⟨S32x2048x1x1, .f32⟩
  | 39 => ⟨S_, .f32⟩
  | 40 => ⟨S32x2048x1x1, .f32⟩
  | 41 => ⟨S32x2048x1x1, .f32⟩
  | 42 => ⟨S_, .f32⟩
  | 43 => ⟨S32x2048x1x1, .f32⟩
  | 44 => ⟨S32x2048x1x1, .f32⟩
  | 45 => ⟨S32x2048x1x1, .f32⟩
  | 46 => ⟨S32x2048x1x128, .f32⟩
  | 47 => ⟨S32x2048x1x128, .f32⟩
  | 48 => ⟨S128, .f32⟩
  | 49 => ⟨S1x1x1x128, .f32⟩
  | 50 => ⟨S32x2048x1x128, .f32⟩
  | 51 => ⟨S32x2048x1x128, .f32⟩
  | 52 => ⟨S2048x1x128, .f32⟩
  | 53 => ⟨S2048x1x128, .f32⟩
  | 54 => ⟨S2048x1x128, .f32⟩
  | 55 => ⟨S32x2048x1x120, .f32⟩
  | 56 => ⟨S32x2048x1x8, .f32⟩
  | 57 => ⟨S32x2048x1x128, .f32⟩
  | 58 => ⟨S32x2048x1x8, .f32⟩
  | 59 => ⟨S32x2048x1x120, .f32⟩
  | 60 => ⟨S32x2048x1x128, .f32⟩
  | 61 => ⟨S1x2048x1x128, .f32⟩
  | 62 => ⟨S32x2048x1x128, .f32⟩
  | 63 => ⟨S32x2048x1x128, .f32⟩
  | 64 => ⟨S1x2048x1x128, .f32⟩
  | 65 => ⟨S32x2048x1x128, .f32⟩
  | 66 => ⟨S32x2048x1x128, .f32⟩
  | 67 => ⟨S32x2048x1x128, .f32⟩
  | 68 => ⟨S1x2048x1x128, .f32⟩
  | 69 => ⟨S32x2048x1x128, .f32⟩
  | 70 => ⟨S32x2048x1x128, .f32⟩
  | 71 => ⟨S32x2048x1x128, .f32⟩
  | 72 => ⟨S32x2048x8x128, .f32⟩
  | 73 => ⟨S32x2048x8x128, .f32⟩
  | 74 => ⟨S32x2048x512, .f32⟩
  | 75 => ⟨S32x2048x4x128, .f32⟩
  | 76 => ⟨S32x2048x8x128, .f32⟩
  | 77 => ⟨S32x2048x8x128, .f32⟩
  | 78 => ⟨S_, .f32⟩
  | 79 => ⟨S32x2048x8, .f32⟩
  | 80 => ⟨S32x2048x8x1, .f32⟩
  | 81 => ⟨S_, .f32⟩
  | 82 => ⟨S32x2048x8x1, .f32⟩
  | 83 => ⟨S32x2048x8x1, .f32⟩
  | 84 => ⟨S_, .f32⟩
  | 85 => ⟨S32x2048x8x1, .f32⟩
  | 86 => ⟨S32x2048x8x1, .f32⟩
  | 87 => ⟨S32x2048x8x1, .f32⟩
  | 88 => ⟨S32x2048x8x128, .f32⟩
  | 89 => ⟨S32x2048x8x128, .f32⟩
  | 90 => ⟨S128, .f32⟩
  | 91 => ⟨S1x1x1x128, .f32⟩
  | 92 => ⟨S32x2048x8x128, .f32⟩
  | 93 => ⟨S32x2048x8x128, .f32⟩
  | 94 => ⟨S2048x1x128, .f32⟩
  | 95 => ⟨S2048x1x128, .f32⟩
  | 96 => ⟨S2048x1x128, .f32⟩
  | 97 => ⟨S32x2048x8x112, .f32⟩
  | 98 => ⟨S32x2048x8x16, .f32⟩
  | 99 => ⟨S32x2048x8x128, .f32⟩
  | 100 => ⟨S32x2048x8x16, .f32⟩
  | 101 => ⟨S32x2048x8x112, .f32⟩
  | 102 => ⟨S32x2048x8x128, .f32⟩
  | 103 => ⟨S1x2048x1x128, .f32⟩
  | 104 => ⟨S32x2048x8x128, .f32⟩
  | 105 => ⟨S32x2048x8x128, .f32⟩
  | 106 => ⟨S1x2048x1x128, .f32⟩
  | 107 => ⟨S32x2048x8x128, .f32⟩
  | 108 => ⟨S32x2048x8x128, .f32⟩
  | 109 => ⟨S32x2048x8x128, .f32⟩
  | 110 => ⟨S1x2048x1x128, .f32⟩
  | 111 => ⟨S32x2048x8x128, .f32⟩
  | 112 => ⟨S32x2048x8x128, .f32⟩
  | 113 => ⟨S32x2048x8x128, .f32⟩
  | 114 => ⟨S_, .f32⟩
  | 115 => ⟨S32x2048x8x128, .f32⟩
  | 116 => ⟨S32x2048x8x128, .f32⟩
  | 117 => ⟨S32x2048x2x64, .f32⟩
  | 118 => ⟨S32x2048x2x64, .f32⟩
  | 119 => ⟨S_, .f32⟩
  | 120 => ⟨S32x2048x2, .f32⟩
  | 121 => ⟨S32x2048x2x1, .f32⟩
  | 122 => ⟨S_, .f32⟩
  | 123 => ⟨S32x2048x2x1, .f32⟩
  | 124 => ⟨S32x2048x2x1, .f32⟩
  | 125 => ⟨S_, .f32⟩
  | 126 => ⟨S32x2048x2x1, .f32⟩
  | 127 => ⟨S32x2048x2x1, .f32⟩
  | _ => ⟨S32x2048x1024, .f32⟩

abbrev hbmTy0_2 (i : Nat) : BufTy := match i % 128 with
  | 0 => ⟨S32x2048x2x1, .f32⟩
  | 1 => ⟨S32x2048x2x64, .f32⟩
  | 2 => ⟨S32x2048x2x64, .f32⟩
  | 3 => ⟨S32x2048x1x128, .f32⟩
  | 4 => ⟨S128, .f32⟩
  | 5 => ⟨S1x1x1x128, .f32⟩
  | 6 => ⟨S32x2048x1x128, .f32⟩
  | 7 => ⟨S32x2048x1x128, .f32⟩
  | 8 => ⟨S2048x1x128, .f32⟩
  | 9 => ⟨S2048x1x128, .f32⟩
  | 10 => ⟨S2048x1x128, .f32⟩
  | 11 => ⟨S32x2048x1x112, .f32⟩
  | 12 => ⟨S32x2048x1x16, .f32⟩
  | 13 => ⟨S32x2048x1x128, .f32⟩
  | 14 => ⟨S32x2048x1x16, .f32⟩
  | 15 => ⟨S32x2048x1x112, .f32⟩
  | 16 => ⟨S32x2048x1x128, .f32⟩
  | 17 => ⟨S1x2048x1x128, .f32⟩
  | 18 => ⟨S32x2048x1x128, .f32⟩
  | 19 => ⟨S32x2048x1x128, .f32⟩
  | 20 => ⟨S1x2048x1x128, .f32⟩
  | 21 => ⟨S32x2048x1x128, .f32⟩
  | 22 => ⟨S32x2048x1x128, .f32⟩
  | 23 => ⟨S32x2048x1x128, .f32⟩
  | 24 => ⟨S1x2048x1x128, .f32⟩
  | 25 => ⟨S32x2048x1x128, .f32⟩
  | 26 => ⟨S32x2048x1x128, .f32⟩
  | 27 => ⟨S32x2048x1x128, .f32⟩
  | 28 => ⟨S32x2048x128, .f32⟩
  | 29 => ⟨S32x2048x512, .f32⟩
  | 30 => ⟨S32x2048x512, .f32⟩
  | 31 => ⟨S32x2048x512, .f32⟩
  | 32 => ⟨S32x2048x512, .f32⟩
  | 33 => ⟨S_, .f32⟩
  | 34 => ⟨S32x2048x512, .f32⟩
  | 35 => ⟨S32x2048x512, .f32⟩
  | 36 => ⟨S_, .f32⟩
  | 37 => ⟨S32x2048x512, .f32⟩
  | 38 => ⟨S32x2048x512, .f32⟩
  | 39 => ⟨S32x2048x512, .f32⟩
  | 40 => ⟨S32x2048x3072, .f32⟩
  | 41 => ⟨S32x2048x3072, .f32⟩
  | 42 => ⟨S32x2048x3072, .f32⟩
  | 43 => ⟨S_, .f32⟩
  | 44 => ⟨S32x2048x3072, .f32⟩
  | 45 => ⟨S32x2048x3072, .f32⟩
  | 46 => ⟨S_, .f32⟩
  | 47 => ⟨S32x2048x3072, .f32⟩
  | 48 => ⟨S32x2048x3072, .f32⟩
  | 49 => ⟨S32x8x2048x128, .f32⟩
  | 50 => ⟨S32x8x2048x128, .bf16⟩
  | 51 => ⟨S32x8x2048x128, .f32⟩
  | 52 => ⟨S32x8x2048x128, .bf16⟩
  | 53 => ⟨S32x4x2048x128, .f32⟩
  | 54 => ⟨S32x4x2048x128, .bf16⟩
  | 55 => ⟨S32x8x2048x128, .f32⟩
  | 56 => ⟨S32x8x2048x128, .bf16⟩
  | 57 => ⟨S32x2048x128, .bf16⟩
  | 58 => ⟨S32x2048x128, .bf16⟩
  | 59 => ⟨S32x2048x3072, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_12 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_13 : Ref sig .tc := ⟨.hbm, 126, rfl⟩
abbrev main_v99 : Ref sig .tc := ⟨.hbm, 127, rfl⟩
abbrev main_v100 : Ref sig .tc := ⟨.hbm, 128, rfl⟩
abbrev main_cst_14 : Ref sig .tc := ⟨.hbm, 129, rfl⟩
abbrev main_v101 : Ref sig .tc := ⟨.hbm, 130, rfl⟩
abbrev main_v102 : Ref sig .tc := ⟨.hbm, 131, rfl⟩
abbrev main_cst_15 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_16 : Ref sig .tc := ⟨.hbm, 146, rfl⟩
abbrev main_v116 : Ref sig .tc := ⟨.hbm, 147, rfl⟩
abbrev main_v117 : Ref sig .tc := ⟨.hbm, 148, rfl⟩
abbrev main_cst_17 : Ref sig .tc := ⟨.hbm, 149, rfl⟩
abbrev main_v118 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_19 : Ref sig .tc := ⟨.hbm, 164, rfl⟩
abbrev main_v131 : Ref sig .tc := ⟨.hbm, 165, rfl⟩
abbrev main_v132 : Ref sig .tc := ⟨.hbm, 166, rfl⟩
abbrev main_cst_20 : Ref sig .tc := ⟨.hbm, 167, rfl⟩
abbrev main_v133 : Ref sig .tc := ⟨.hbm, 168, rfl⟩
abbrev main_v134 : Ref sig .tc := ⟨.hbm, 169, rfl⟩
abbrev main_cst_21 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_cst_22 : Ref sig .tc := ⟨.hbm, 206, rfl⟩
abbrev main_v170 : Ref sig .tc := ⟨.hbm, 207, rfl⟩
abbrev main_v171 : Ref sig .tc := ⟨.hbm, 208, rfl⟩
abbrev main_cst_23 : Ref sig .tc := ⟨.hbm, 209, rfl⟩
abbrev main_v172 : Ref sig .tc := ⟨.hbm, 210, rfl⟩
abbrev main_v173 : Ref sig .tc := ⟨.hbm, 211, rfl⟩
abbrev main_cst_24 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_cst_25 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_cst_26 : Ref sig .tc := ⟨.hbm, 247, rfl⟩
abbrev main_v207 : Ref sig .tc := ⟨.hbm, 248, rfl⟩
abbrev main_v208 : Ref sig .tc := ⟨.hbm, 249, rfl⟩
abbrev main_cst_27 : Ref sig .tc := ⟨.hbm, 250, rfl⟩
abbrev main_v209 : Ref sig .tc := ⟨.hbm, 251, rfl⟩
abbrev main_v210 : Ref sig .tc := ⟨.hbm, 252, rfl⟩
abbrev main_cst_28 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_cst_29 : Ref sig .tc := ⟨.hbm, 289, rfl⟩
abbrev main_v246 : Ref sig .tc := ⟨.hbm, 290, rfl⟩
abbrev main_v247 : Ref sig .tc := ⟨.hbm, 291, rfl⟩
abbrev main_cst_30 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_cst_31 : Ref sig .tc := ⟨.hbm, 299, rfl⟩
abbrev main_v254 : Ref sig .tc := ⟨.hbm, 300, rfl⟩
abbrev main_v255 : Ref sig .tc := ⟨.hbm, 301, rfl⟩
abbrev main_cst_32 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩

abbrev nD : Nat := 1
abbrev τ : Topo := Topo.v7x

variable {F : FTy → Type} [FloatOps F]
-- ==== Proof.Softmax.lean ====
/- The softmax of one row of finite scores, computed two ways: with powers of two over two key segments and one
   division of the weighted sum at the end (the kernel), and with exponentials over the joined keys and every weight
   divided (the reference). Stated over the extended reals; the values may be infinite, the scores may not. -/
module

public import Idealize.ShloMosaic.PureOps.Ideal
public import Idealize.ShloMosaic.PureOps.Ideal.Laws

@[expose] public section

noncomputable section

namespace Cert.Softmax

open Idealize.ShloMosaic

/-- A real factor that is not negative multiplies through a finite sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of reals, taken among the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals (at least one) is a real. -/
theorem fold_max_real {ι : Type} [Fintype ι] [Nonempty ι] (f : ι → EReal) (hf : ∀ i, ∃ r : ℝ, f i = r) :
    ∃ μ : ℝ, (Finset.univ : Finset ι).fold max ⊥ f = μ := by
  obtain ⟨i, -, hi⟩ := Finset.exists_mem_eq_sup (Finset.univ : Finset ι) Finset.univ_nonempty f
  obtain ⟨r, hr⟩ := hf i
  exact ⟨r, by rw [← hr, ← hi]; rfl⟩

/-- Division by a positive real is multiplication by its inverse. -/
theorem div_pos (x : EReal) (l : ℝ) (hl : 0 < l) : Ideal.div x (l : EReal) = x * ((l⁻¹ : ℝ) : EReal) := by
  unfold Ideal.div
  rw [if_neg (by exact_mod_cast hl.ne'), EReal.coe_inv]

/-- What the kernel leaves for one row and one column: `a`, `b` the two segments' scores, `x`, `y` their values. -/
def twoSegments {n k : Nat} (a : Fin n → EReal) (b : Fin k → EReal) (x : Fin n → EReal) (y : Fin k → EReal) : EReal :=
  let m := max ((Finset.univ : Finset (Fin n)).fold max ⊥ a) ((Finset.univ : Finset (Fin k)).fold max ⊥ b)
  Ideal.div ((∑ i, Ideal.exp2 (a i - m) * x i) + ∑ i, Ideal.exp2 (b i - m) * y i)
    ((∑ i, Ideal.exp2 (a i - m)) + ∑ i, Ideal.exp2 (b i - m))

/-- What the reference leaves for one row and one column: `s` the scores in base two, `v` the values. -/
def joined {n : Nat} (s v : Fin n → EReal) : EReal :=
  let m := max ⊥ ((Finset.univ : Finset (Fin n)).fold max ⊥ fun j => s j * Ideal.log 2)
  ∑ j, v j * Ideal.div (Ideal.exp (s j * Ideal.log 2 - m)) (0 + ∑ j, Ideal.exp (s j * Ideal.log 2 - m))

/-- The natural logarithm of two among the extended reals. -/
theorem log_two : Ideal.log 2 = ((Real.log 2 : ℝ) : EReal) := by
  show Ideal.log ((2 : ℝ) : EReal) = _
  rw [Ideal.log_coe, if_neg (by norm_num)]

/-- THE SOFTMAX EQUATION: on finite scores the two computations agree, whatever the values. -/
theorem twoSegments_eq_joined {n k : Nat} (hn : 0 < n) (hk : 0 < k) (s v : Fin (n + k) → EReal) (hs : ∀ j, ∃ r : ℝ, s j = r) :
    twoSegments (fun i => s (Fin.castAdd k i)) (fun i => s (Fin.natAdd n i)) (fun i => v (Fin.castAdd k i))
      (fun i => v (Fin.natAdd n i)) = joined s v := by
  haveI : Nonempty (Fin n) := ⟨⟨0, hn⟩⟩
  haveI : Nonempty (Fin k) := ⟨⟨0, hk⟩⟩
  haveI : Nonempty (Fin (n + k)) := ⟨⟨0, by omega⟩⟩
  choose r hr using hs
  obtain ⟨μ₁, h₁⟩ := fold_max_real (fun i => s (Fin.castAdd k i)) (fun i => ⟨_, hr _⟩)
  obtain ⟨μ₂, h₂⟩ := fold_max_real (fun i => s (Fin.natAdd n i)) (fun i => ⟨_, hr _⟩)
  obtain ⟨M, hM⟩ := fold_max_real (fun j => s j * Ideal.log 2) (fun j => ⟨r j * Real.log 2, by rw [hr, log_two, EReal.coe_mul]⟩)
  unfold twoSegments joined
  simp only [h₁, h₂, hM]
  have hμ : max (μ₁ : EReal) (μ₂ : EReal) = ((max μ₁ μ₂ : ℝ) : EReal) := (EReal.coe_strictMono.monotone.map_max).symm
  rw [hμ, max_eq_right (bot_le : (⊥ : EReal) ≤ (M : EReal)), zero_add]
  generalize max μ₁ μ₂ = μ
  have hw : ∀ j, Ideal.exp2 (s j - (μ : EReal)) = ((Real.exp (Real.log 2 * (r j - μ)) : ℝ) : EReal) := fun j => by
    rw [hr, ← EReal.coe_sub, Ideal.exp2_coe]
    exact congrArg _ (Real.rpow_def_of_pos (by norm_num) _)
  have hp : ∀ j, Ideal.exp (s j * Ideal.log 2 - (M : EReal)) = ((Real.exp (r j * Real.log 2 - M) : ℝ) : EReal) := fun j => by
    rw [hr, log_two, ← EReal.coe_mul, ← EReal.coe_sub]; rfl
  simp only [hw, hp]
  rw [← Fin.sum_univ_add (fun j => ((Real.exp (Real.log 2 * (r j - μ)) : ℝ) : EReal) * v j),
    ← Fin.sum_univ_add (fun j => ((Real.exp (Real.log 2 * (r j - μ)) : ℝ) : EReal)), sum_coe, sum_coe]
  have hl : 0 < ∑ j, Real.exp (Real.log 2 * (r j - μ)) := Finset.sum_pos (fun j _ => Real.exp_pos _) Finset.univ_nonempty
  have hL : 0 < ∑ j, Real.exp (r j * Real.log 2 - M) := Finset.sum_pos (fun j _ => Real.exp_pos _) Finset.univ_nonempty
  rw [div_pos _ _ hl, sum_mul_coe _ _ _ (inv_nonneg.2 hl.le)]
  refine Finset.sum_congr rfl fun j _ => ?_
  rw [div_pos _ _ hL, mul_comm _ (v j), mul_assoc, ← EReal.coe_mul, ← EReal.coe_mul]
  refine congrArg (fun t : ℝ => v j * (t : EReal)) ?_
  have e : ∀ i, Real.exp (r i * Real.log 2 - M) = Real.exp (Real.log 2 * (r i - μ)) * Real.exp (Real.log 2 * μ - M) := fun i => by
    rw [← Real.exp_add]; congr 1; ring
  simp only [e]
  rw [← Finset.sum_mul, mul_inv]
  have := Real.exp_pos (Real.log 2 * μ - M)
  field_simp

end Cert.Softmax

end
-- ==== Proof.Head.lean ====
/- One head of the attention body, read at a row and a column: the two segments' softmax of Softmax.lean over the scores
   of the row, and the value columns. -/
module

public import proofs.«01_k».proof.Proof.Gen.KernelIdeal.Frame
public import proofs.«01_k».proof.Proof.Softmax
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.Pointwise

/-- One head's result rows, from its queries, its two segments of keys and its two segments of values. -/
def head {F : FTy → Type} [FloatOps F] (q : Vec F S1x1x256x128 .bf16) (k : Vec F S1x1x2048x128 .bf16) (ck : Vec F S1x1x256x128 .bf16)
    (v : Vec F S1x1x2048x128 .bf16) (cv : Vec F S1x1x256x128 .bf16) : FVec F S256x128 .f32 :=
  k0_pay12 (k0_pay9 q k ck) (k0_pay10 q k ck v) (k0_pay11 q k ck) cv

/-- Two heads side by side in 128 columns: the first where the mask is set, the second elsewhere. -/
def pair {F : FTy → Type} [FloatOps F] (b : IVec S1x128 1) (lo hi : FVec F S256x128 .f32) : FVec F S1x256x128 .bf16 :=
  shapeCast S1x256x128 (truncf .bf16 (select (broadcastTo S256x128 (shapeCast S1x128 b shapeCasts_S1x128_S1x128) broadcasts_S1x128_S256x128) lo hi)
    bitsLt_bf16_f32) shapeCasts_S256x128_S1x256x128

section Spell
variable {F : FTy → Type} [FloatOps F] (b : IVec S1x128 1) (lo : FVec F S256x128 .f32) (q ck cv : Vec F S1x1x256x128 .bf16) (k v : Vec F S1x1x2048x128 .bf16)

/-- The first pair's payload. -/
theorem pair0 : k0_pay21 b lo (k0_pay18 q k ck) (k0_pay19 q k ck) (k0_pay20 q k ck v) cv = pair b lo (head q k ck v cv) := rfl
/-- The second pair's payload, and its first head. -/
theorem pair1 : k0_pay36 b lo (k0_pay34 q k ck) (k0_pay35 q k ck) v cv = pair b lo (head q k ck v cv) := rfl
theorem head2 : k0_pay29 (k0_pay26 q k ck) (k0_pay27 q k ck) (k0_pay28 q k ck) v cv = head q k ck v cv := rfl
/-- The third pair's payload, and its first head. -/
theorem pair2 : k0_pay43 b lo (k0_pay41 q) (k0_pay42 q k) ck v cv = pair b lo (head q k ck v cv) := rfl
theorem head4 : k0_pay40 (k0_pay37 q) (k0_pay38 q k) (k0_pay39 ck) v cv = head q k ck v cv := rfl
/-- The fourth pair's payload, and its first head. -/
theorem pair3 : k0_pay1 b lo (k0_pay51 q k ck) (k0_pay52 q k ck v) (k0_pay53 q k ck cv) = pair b lo (head q k ck v cv) := rfl
theorem head6 : k0_pay44 q k ck v cv = head q k ck v cv := rfl
end Spell

section Read
variable (q ck cv : Vec Ideal S1x1x256x128 .bf16) (k v : Vec Ideal S1x1x2048x128 .bf16)

/-- A row's score against a key. -/
def sc1 (r : Fin 256) (i : Fin 2048) : EReal := ∑ d : Fin 128, q (ix4 0 0 r d) * k (ix4 0 0 i d)
def sc2 (r : Fin 256) (i : Fin 256) : EReal := ∑ d : Fin 128, q (ix4 0 0 r d) * ck (ix4 0 0 i d)

theorem pay4_apply (r : Fin 256) (i : Fin 2048) : k0_pay4 (F := Ideal) q k (ix2 r i) = sc1 q k r i := by
  pointwise [k0_pay4, k0_pay3, sc1]

theorem pay5_apply (r : Fin 256) (i : Fin 256) : k0_pay5 (F := Ideal) q ck (ix2 r i) = sc2 q ck r i := by
  pointwise [k0_pay5, k0_pay3, sc2]

/-- The pattern the maximum starts from is the bottom of the extended reals. -/
theorem negInf : Ideal.ofBits .f32 0xFF800000#32 = ⊥ := by simp [Ideal.ofBits, Ideal.ieee]

/-- The greatest of a row's scores over both segments. -/
def mx (r : Fin 256) : EReal :=
  max ((Finset.univ : Finset (Fin 2048)).fold max ⊥ (sc1 q k r)) ((Finset.univ : Finset (Fin 256)).fold max ⊥ (sc2 q ck r))

theorem pay6_apply (r : Fin 256) : k0_pay6 (F := Ideal) q k ck (ix2 r 0) = mx q ck k r := by
  pointwise [k0_pay6, pay4_apply, pay5_apply, mx]
  rw [negInf]

theorem pay7_apply (r : Fin 256) (i : Fin 2048) : k0_pay7 (F := Ideal) q k ck (ix2 r i) = Ideal.exp2 (sc1 q k r i - mx q ck k r) := by
  pointwise [k0_pay7, pay4_apply, pay6_apply]
  rfl

theorem pay8_apply (r : Fin 256) (i : Fin 256) : k0_pay8 (F := Ideal) q k ck (ix2 r i) = Ideal.exp2 (sc2 q ck r i - mx q ck k r) := by
  pointwise [k0_pay8, pay5_apply, pay6_apply]
  rfl

theorem pay9_apply (r : Fin 256) : k0_pay9 (F := Ideal) q k ck (ix2 r 0)
    = (∑ i, Ideal.exp2 (sc1 q k r i - mx q ck k r)) + ∑ i, Ideal.exp2 (sc2 q ck r i - mx q ck k r) := by
  pointwise [k0_pay9, pay7_apply, pay8_apply]

theorem pay10_apply (r : Fin 256) (j : Fin 128) : k0_pay10 (F := Ideal) q k ck v (ix2 r j)
    = ∑ i, Ideal.exp2 (sc1 q k r i - mx q ck k r) * v (ix4 0 0 i j) := by
  pointwise [k0_pay10, pay7_apply]

/-- One head at a row and a column. -/
theorem head_apply (r : Fin 256) (j : Fin 128) : head (F := Ideal) q k ck v cv (ix2 r j)
    = Cert.Softmax.twoSegments (sc1 q k r) (sc2 q ck r) (fun i => v (ix4 0 0 i j)) (fun i => cv (ix4 0 0 i j)) := by
  pointwise [head, k0_pay12, k0_pay11, pay9_apply, pay10_apply, pay8_apply]
  rfl

/-- The mask the body computes: the lanes below 64. -/
theorem mask_apply (c : Fin 128) : k0_pay2 (ix2 0 c) = if c.val < 64 then 1#1 else 0#1 := by
  revert c; decide +kernel

/-- A pair at a row and a column. -/
theorem pair_apply (lo hi : FVec Ideal S256x128 .f32) (r : Fin 256) (c : Fin 128) :
    pair (F := Ideal) k0_pay2 lo hi (ix3 0 r c) = if c.val < 64 then lo (ix2 r c) else hi (ix2 r c) := by
  pointwise [pair]
  rw [mask_apply]
  split <;> rfl
end Read

end Cert.KernelIdeal.Head

end
-- ==== Proof.Block.lean ====
/- What the attention body leaves in its output block, as one function of its five input blocks. -/
module

public import proofs.«01_k».proof.Proof.Head

@[expose] public section

set_option maxRecDepth 16384

noncomputable section

namespace Cert.KernelIdeal.Block

open Cert.KernelIdeal Cert.KernelIdeal.Facts Cert.KernelIdeal.Gen Idealize.ShloMosaic Idealize.ShloMosaic.Pointwise Cert.KernelIdeal.Head

/-- A load of one head's slab, at a row and a column. -/
theorem ld_slab {H K : Nat} (x : Vec Ideal ⟨4, ![1, H, K, 128]⟩ .bf16) (n : Nat) (hn : n < H)
    (inb : ∀ a, (![0, n, 0, 0] : Fin 4 → Nat) a + (⟨4, ![1, 1, K, 128]⟩ : Shape).size a ≤ (⟨4, ![1, H, K, 128]⟩ : Shape).size a)
    (i : Fin K) (d : Fin 128) :
    View.ld x (Rect.unit (s := ⟨4, ![1, H, K, 128]⟩) ![0, n, 0, 0] (⟨4, ![1, 1, K, 128]⟩ : Shape).size inb) (ix4 0 0 i d) = x (ix4 0 ⟨n, hn⟩ i d) := by
  rw [View.ld_unit]
  unfold extractStridedSlice
  refine congrArg x (funext fun a => Fin.ext ?_)
  match a with
  | ⟨0, _⟩ => rfl
  | ⟨1, _⟩ => rfl
  | ⟨2, _⟩ => show 0 + i.val = i.val; omega
  | ⟨3, _⟩ => show 0 + d.val = d.val; omega

variable (x0 : Vec Ideal S1x8x256x128 .bf16) (x1 : Vec Ideal S1x8x2048x128 .bf16) (x2 : Vec Ideal S1x4x2048x128 .bf16)
  (x3 : Vec Ideal S1x8x256x128 .bf16) (x4 : Vec Ideal S1x4x256x128 .bf16)

/-- One entry: head `h`, pair `p`, row `r`, value column `c`. -/
def entry (h : Fin 8) (p : Fin 4) (r : Fin 256) (c : Fin 128) : EReal :=
  Cert.Softmax.twoSegments (fun i : Fin 2048 => ∑ d : Fin 128, x0 (ix4 0 h r d) * x1 (ix4 0 h i d))
    (fun i : Fin 256 => ∑ d : Fin 128, x0 (ix4 0 h r d) * x3 (ix4 0 h i d))
    (fun i => x2 (ix4 0 p i c)) (fun i => x4 (ix4 0 p i c))

/-- The output block: column `C` belongs to head `C / 64`, whose values stand in pair `C / 128` at column `C % 128`. -/
def block (y : S1x256x512.Idx) : EReal :=
  entry x0 x1 x2 x3 x4 ⟨(y 2).val / 64, by have : (y 2).val < 512 := (y 2).isLt; omega⟩
    ⟨(y 2).val / 128, by have : (y 2).val < 512 := (y 2).isLt; omega⟩ (y 1) ⟨(y 2).val % 128, Nat.mod_lt _ (by omega)⟩

/-- One head of loaded slabs is `entry`. -/
theorem head_entry (h : Fin 8) (p : Fin 4) (q ck cv : Vec Ideal S1x1x256x128 .bf16) (k v : Vec Ideal S1x1x2048x128 .bf16)
    (hq : ∀ r d, q (ix4 0 0 r d) = x0 (ix4 0 h r d)) (hk : ∀ r d, k (ix4 0 0 r d) = x1 (ix4 0 h r d))
    (hck : ∀ r d, ck (ix4 0 0 r d) = x3 (ix4 0 h r d)) (hv : ∀ r d, v (ix4 0 0 r d) = x2 (ix4 0 p r d))
    (hcv : ∀ r d, cv (ix4 0 0 r d) = x4 (ix4 0 p r d)) (r : Fin 256) (c : Fin 128) :
    head (F := Ideal) q k ck v cv (ix2 r c) = entry x0 x1 x2 x3 x4 h p r c := by
  rw [head_apply]
  unfold entry
  congr 1
  · funext i; unfold sc1; simp only [hq, hk]
  · funext i; unfold sc2; simp only [hq, hck]
  · funext i; rw [hv]
  · funext i; rw [hcv]

/-- A pair's payload is its 128 columns of `block`. -/
theorem pair_block (p : Nat) (hp : p < 4) (lo hi : FVec Ideal S256x128 .f32)
    (hlo : ∀ r c, lo (ix2 r c) = entry x0 x1 x2 x3 x4 ⟨2 * p, by omega⟩ ⟨p, hp⟩ r c)
    (hhi : ∀ r c, hi (ix2 r c) = entry x0 x1 x2 x3 x4 ⟨2 * p + 1, by omega⟩ ⟨p, hp⟩ r c)
    (inb : ∀ a, (![0, 0, 128 * p] : Fin 3 → Nat) a + S1x256x128.size a ≤ S1x256x512.size a) (j : S1x256x128.Idx) :
    pair (F := Ideal) k0_pay2 lo hi j = block x0 x1 x2 x3 x4 ((Rect.unit (s := S1x256x512) ![0, 0, 128 * p] S1x256x128.size inb).emb j) := by
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  have hc : (j 2).val < 128 := (j 2).isLt
  have e1 : ((Rect.unit (s := S1x256x512) ![0, 0, 128 * p] S1x256x128.size inb).emb j 1) = (j 1 : Fin 256) :=
    Fin.ext (by show 0 + 1 * (j 1).val = (j 1).val; omega)
  have e2 : (((Rect.unit (s := S1x256x512) ![0, 0, 128 * p] S1x256x128.size inb).emb j) 2).val = 128 * p + (j 2).val := by
    show 128 * p + 1 * (j 2).val = _; omega
  refine (congrArg (pair (F := Ideal) k0_pay2 lo hi) hj).trans ((pair_apply lo hi (j 1) (j 2)).trans ?_)
  unfold block
  simp only [e1, e2]
  have a2 : (⟨(128 * p + (j 2).val) / 128, by omega⟩ : Fin 4) = ⟨p, hp⟩ := Fin.ext (by show _ / 128 = p; omega)
  have a3 : (⟨(128 * p + (j 2).val) % 128, Nat.mod_lt _ (by omega)⟩ : Fin 128) = j 2 := Fin.ext (by show _ % 128 = (j 2).val; omega)
  rw [a2, a3]
  split
  · next h =>
    have a1 : (⟨(128 * p + (j 2).val) / 64, by omega⟩ : Fin 8) = ⟨2 * p, by omega⟩ := Fin.ext (by show _ / 64 = 2 * p; omega)
    rw [a1]; exact hlo (j 1) (j 2)
  · next h =>
    have a1 : (⟨(128 * p + (j 2).val) / 64, by omega⟩ : Fin 8) = ⟨2 * p + 1, by omega⟩ := Fin.ext (by show _ / 64 = 2 * p + 1; omega)
    rw [a1]; exact hhi (j 1) (j 2)

/-- The body's output block. -/
theorem out_eq : out0_5 (F := Ideal) x0 x1 x2 x3 x4 = block x0 x1 x2 x3 x4 := by
  funext y
  unfold out0_5
  refine View.canon_apply_of_pieces (Val := Elt Ideal) (e := .bf16) (block x0 x1 x2 x3 x4) _ (fun p hp j => ?_) y (cover0_5 _ _ _ _ y)
  simp only [List.mem_cons, List.mem_nil_iff, or_false] at hp
  rcases hp with rfl | rfl | rfl | rfl
  · refine Eq.trans (congrFun (pair3 _ _ _ _ _ _ _) j) ?_
    refine pair_block x0 x1 x2 x3 x4 3 (by omega) _ _ (fun r c => ?_) (fun r c => ?_) inb_S1x256x512_S1x256x128_0_0_384 j
    · rw [head6]
      exact head_entry x0 x1 x2 x3 x4 _ _ _ _ _ _ _ (ld_slab x0 6 (by omega) _) (ld_slab x1 6 (by omega) _) (ld_slab x3 6 (by omega) _)
        (ld_slab x2 3 (by omega) _) (ld_slab x4 3 (by omega) _) r c
    · exact head_entry x0 x1 x2 x3 x4 _ _ _ _ _ _ _ (ld_slab x0 7 (by omega) _) (ld_slab x1 7 (by omega) _) (ld_slab x3 7 (by omega) _)
        (ld_slab x2 3 (by omega) _) (ld_slab x4 3 (by omega) _) r c
  · refine Eq.trans (congrFun (pair2 _ _ _ _ _ _ _) j) ?_
    refine pair_block x0 x1 x2 x3 x4 2 (by omega) _ _ (fun r c => ?_) (fun r c => ?_) inb_S1x256x512_S1x256x128_0_0_256 j
    · rw [head4]
      exact head_entry x0 x1 x2 x3 x4 _ _ _ _ _ _ _ (ld_slab x0 4 (by omega) _) (ld_slab x1 4 (by omega) _) (ld_slab x3 4 (by omega) _)
        (ld_slab x2 2 (by omega) _) (ld_slab x4 2 (by omega) _) r c
    · exact head_entry x0 x1 x2 x3 x4 _ _ _ _ _ _ _ (ld_slab x0 5 (by omega) _) (ld_slab x1 5 (by omega) _) (ld_slab x3 5 (by omega) _)
        (ld_slab x2 2 (by omega) _) (ld_slab x4 2 (by omega) _) r c
  · refine Eq.trans (congrFun (pair1 _ _ _ _ _ _ _) j) ?_
    refine pair_block x0 x1 x2 x3 x4 1 (by omega) _ _ (fun r c => ?_) (fun r c => ?_) inb_S1x256x512_S1x256x128_0_0_128 j
    · rw [head2]
      exact head_entry x0 x1 x2 x3 x4 _ _ _ _ _ _ _ (ld_slab x0 2 (by omega) _) (ld_slab x1 2 (by omega) _) (ld_slab x3 2 (by omega) _)
        (ld_slab x2 1 (by omega) _) (ld_slab x4 1 (by omega) _) r c
    · exact head_entry x0 x1 x2 x3 x4 _ _ _ _ _ _ _ (ld_slab x0 3 (by omega) _) (ld_slab x1 3 (by omega) _) (ld_slab x3 3 (by omega) _)
        (ld_slab x2 1 (by omega) _) (ld_slab x4 1 (by omega) _) r c
  · refine Eq.trans (congrFun (pair0 _ _ _ _ _ _ _) j) ?_
    refine pair_block x0 x1 x2 x3 x4 0 (by omega) _ _ (fun r c => ?_) (fun r c => ?_) inb_S1x256x512_S1x256x128_0_0_0 j
    · exact head_entry x0 x1 x2 x3 x4 _ _ _ _ _ _ _ (ld_slab x0 0 (by omega) _) (ld_slab x1 0 (by omega) _) (ld_slab x3 0 (by omega) _)
        (ld_slab x2 0 (by omega) _) (ld_slab x4 0 (by omega) _) r c
    · exact head_entry x0 x1 x2 x3 x4 _ _ _ _ _ _ _ (ld_slab x0 1 (by omega) _) (ld_slab x1 1 (by omega) _) (ld_slab x3 1 (by omega) _)
        (ld_slab x2 0 (by omega) _) (ld_slab x4 0 (by omega) _) r c

end Cert.KernelIdeal.Block

end
-- ==== Proof.Attn.lean ====
/- The attention call's result array as one function of its five argument arrays, and its run. -/
module

public import proofs.«01_k».proof.Proof.Block
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.Pointwise
open Idealize.ShloMosaic.Pipeline (Dat)

/-- One entry of the result: batch `b`, row `R`, column `C`. -/
def attnEntry (a0 a1 : S32x8x2048x128.Idx → EReal) (a2 : S32x4x2048x128.Idx → EReal) (a3 : S32x8x256x128.Idx → EReal)
    (a4 : S32x4x256x128.Idx → EReal) (b : Fin 32) (h : Fin 8) (p : Fin 4) (R : Fin 2048) (c : Fin 128) : EReal :=
  Cert.Softmax.twoSegments (fun i : Fin 2048 => ∑ d : Fin 128, a0 (ix4 b h R d) * a1 (ix4 b h i d))
    (fun i : Fin 256 => ∑ d : Fin 128, a0 (ix4 b h R d) * a3 (ix4 b h i d))
    (fun i => a2 (ix4 b p i c)) (fun i => a4 (ix4 b p i c))

/-- The result array: column `C` belongs to head `C / 64`. -/
def attn (a0 a1 : S32x8x2048x128.Idx → EReal) (a2 : S32x4x2048x128.Idx → EReal) (a3 : S32x8x256x128.Idx → EReal)
    (a4 : S32x4x256x128.Idx → EReal) (y : S32x2048x512.Idx) : EReal :=
  attnEntry a0 a1 a2 a3 a4 (y 0) ⟨(y 2).val / 64, by have : (y 2).val < 512 := (y 2).isLt; omega⟩
    ⟨(y 2).val / 128, by have : (y 2).val < 512 := (y 2).isLt; omega⟩ (y 1) ⟨(y 2).val % 128, Nat.mod_lt _ (by omega)⟩

variable (m : (ℓ : Loc nD τ sig) → Buf (Elt Ideal) ℓ) (ρ : Dev nD → PrngReg)

/-- The windows' blocks: batch `t / 8`, rows `256 * (t % 8)` on. -/
theorem idx_0 : ∀ t : Fin grid0.N, win0_0.index t 0 = t.val / 8 ∧ win0_0.index t 1 = 0 ∧ win0_0.index t 2 = t.val % 8 ∧ win0_0.index t 3 = 0 := by
  decide +kernel
theorem idx_1 : ∀ t : Fin grid0.N, win0_1.index t 0 = t.val / 8 ∧ win0_1.index t 1 = 0 ∧ win0_1.index t 2 = 0 ∧ win0_1.index t 3 = 0 := by
  decide +kernel
theorem idx_2 : ∀ t : Fin grid0.N, win0_2.index t 0 = t.val / 8 ∧ win0_2.index t 1 = 0 ∧ win0_2.index t 2 = 0 ∧ win0_2.index t 3 = 0 := by
  decide +kernel
theorem idx_3 : ∀ t : Fin grid0.N, win0_3.index t 0 = t.val / 8 ∧ win0_3.index t 1 = 0 ∧ win0_3.index t 2 = 0 ∧ win0_3.index t 3 = 0 := by
  decide +kernel
theorem idx_4 : ∀ t : Fin grid0.N, win0_4.index t 0 = t.val / 8 ∧ win0_4.index t 1 = 0 ∧ win0_4.index t 2 = 0 ∧ win0_4.index t 3 = 0 := by
  decide +kernel
theorem idx_5 : ∀ t : Fin grid0.N, win0_5.index t 0 = t.val / 8 ∧ win0_5.index t 1 = t.val % 8 ∧ win0_5.index t 2 = 0 := by
  decide +kernel

theorem N_eq : cfg0.N = 256 := by decide +kernel
theorem t_lt (t : Fin cfg0.N) : t.val < 256 := N_eq ▸ t.isLt

/-- Point `t`'s batch. -/
def bat (t : Fin cfg0.N) : Fin 32 := ⟨t.val / 8, by have := t_lt t; omega⟩
/-- Point `t`'s row `r` in the array. -/
def row (t : Fin cfg0.N) (r : Fin 256) : Fin 2048 := ⟨256 * (t.val % 8) + r.val, by have := r.isLt; omega⟩

theorem iblk0 (c : Dev nD) (t : Fin cfg0.N) (h : Fin 8) (r : Fin 256) (d : Fin 128) :
    (iblk m c 0 t : Vec Ideal S1x8x256x128 .bf16) (ix4 0 h r d) = m ((c : Thread nD τ).loc main_arg0) (ix4 (bat t) h (row t r) d) := by
  have e := idx_0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1 + 1 * 0 = t.val / 8; rw [e.1]; omega
  | ⟨1, _⟩ => show win0_0.index t 1 * 8 + 1 * h.val = h.val; rw [e.2.1]; omega
  | ⟨2, _⟩ => show win0_0.index t 2 * 256 + 1 * r.val = 256 * (t.val % 8) + r.val; rw [e.2.2.1]; omega
  | ⟨3, _⟩ => show win0_0.index t 3 * 128 + 1 * d.val = d.val; rw [e.2.2.2]; omega

theorem iblk1 (c : Dev nD) (t : Fin cfg0.N) (h : Fin 8) (r : Fin 2048) (d : Fin 128) :
    (iblk m c 1 t : Vec Ideal S1x8x2048x128 .bf16) (ix4 0 h r d) = m ((c : Thread nD τ).loc main_arg1) (ix4 (bat t) h r d) := by
  have e := idx_1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * 0 = t.val / 8; rw [e.1]; omega
  | ⟨1, _⟩ => show win0_1.index t 1 * 8 + 1 * h.val = h.val; rw [e.2.1]; omega
  | ⟨2, _⟩ => show win0_1.index t 2 * 2048 + 1 * r.val = r.val; rw [e.2.2.1]; omega
  | ⟨3, _⟩ => show win0_1.index t 3 * 128 + 1 * d.val = d.val; rw [e.2.2.2]; omega

theorem iblk2 (c : Dev nD) (t : Fin cfg0.N) (h : Fin 4) (r : Fin 2048) (d : Fin 128) :
    (iblk m c 2 t : Vec Ideal S1x4x2048x128 .bf16) (ix4 0 h r d) = m ((c : Thread nD τ).loc main_arg2) (ix4 (bat t) h r d) := by
  have e := idx_2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1 + 1 * 0 = t.val / 8; rw [e.1]; omega
  | ⟨1, _⟩ => show win0_2.index t 1 * 4 + 1 * h.val = h.val; rw [e.2.1]; omega
  | ⟨2, _⟩ => show win0_2.index t 2 * 2048 + 1 * r.val = r.val; rw [e.2.2.1]; omega
  | ⟨3, _⟩ => show win0_2.index t 3 * 128 + 1 * d.val = d.val; rw [e.2.2.2]; omega

theorem iblk3 (c : Dev nD) (t : Fin cfg0.N) (h : Fin 8) (r : Fin 256) (d : Fin 128) :
    (iblk m c 3 t : Vec Ideal S1x8x256x128 .bf16) (ix4 0 h r d) = m ((c : Thread nD τ).loc main_arg3) (ix4 (bat t) h r d) := by
  have e := idx_3 t
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ => show win0_3.index t 0 * 1 + 1 * 0 = t.val / 8; rw [e.1]; omega
  | ⟨1, _⟩ => show win0_3.index t 1 * 8 + 1 * h.val = h.val; rw [e.2.1]; omega
  | ⟨2, _⟩ => show win0_3.index t 2 * 256 + 1 * r.val = r.val; rw [e.2.2.1]; omega
  | ⟨3, _⟩ => show win0_3.index t 3 * 128 + 1 * d.val = d.val; rw [e.2.2.2]; omega

theorem iblk4 (c : Dev nD) (t : Fin cfg0.N) (h : Fin 4) (r : Fin 256) (d : Fin 128) :
    (iblk m c 4 t : Vec Ideal S1x4x256x128 .bf16) (ix4 0 h r d) = m ((c : Thread nD τ).loc main_arg4) (ix4 (bat t) h r d) := by
  have e := idx_4 t
  unfold iblk
  rw [View.read_apply]
  show V m c main_arg4 _ = m (c.tc.loc main_arg4) _
  rw [V_main_arg4]
  refine congrArg (m (c.tc.loc main_arg4)) (funext fun a => Fin.ext ?_)
  match a with
  | ⟨0, _⟩ => show win0_4.index t 0 * 1 + 1 * 0 = t.val / 8; rw [e.1]; omega
  | ⟨1, _⟩ => show win0_4.index t 1 * 4 + 1 * h.val = h.val; rw [e.2.1]; omega
  | ⟨2, _⟩ => show win0_4.index t 2 * 256 + 1 * r.val = r.val; rw [e.2.2.1]; omega
  | ⟨3, _⟩ => show win0_4.index t 3 * 128 + 1 * d.val = d.val; rw [e.2.2.2]; omega

/-- What the result array is shown to hold. -/
def val (c : Dev nD) : Buf (Elt Ideal) ((c : Thread nD τ).loc main_v0) :=
  attn (m ((c : Thread nD τ).loc main_arg0)) (m ((c : Thread nD τ).loc main_arg1)) (m ((c : Thread nD τ).loc main_arg2))
    (m ((c : Thread nD τ).loc main_arg3)) (m ((c : Thread nD τ).loc main_arg4))

/-- An entry over the blocks is one over the arrays. -/
theorem entry_iblk (c : Dev nD) (t : Fin cfg0.N) (h : Fin 8) (p : Fin 4) (r : Fin 256) (k : Fin 128) :
    Block.entry (iblk m c 0 t) (iblk m c 1 t) (iblk m c 2 t) (iblk m c 3 t) (iblk m c 4 t) h p r k
      = attnEntry (m ((c : Thread nD τ).loc main_arg0)) (m ((c : Thread nD τ).loc main_arg1)) (m ((c : Thread nD τ).loc main_arg2))
          (m ((c : Thread nD τ).loc main_arg3)) (m ((c : Thread nD τ).loc main_arg4)) (bat t) h p (row t r) k := by
  unfold Block.entry attnEntry
  simp only [iblk0, iblk1, iblk2, iblk3, iblk4]

/-- What point `t` writes back is its block of `val`. -/
theorem flushed_eq (c : Dev nD) (t : Fin cfg0.N) :
    (dats m 0 c).flushed 5 t = (win0_5.blk t).view.read (Elt Ideal) (val m c) := by
  show (cfg0.win 5).cut (grid0.coords t) ((dats m 0 c).after 5 t) = _
  rw [after0_5, Block.out_eq]
  have e := idx_5 t
  funext y
  rw [View.read_apply]
  show Block.block (iblk m c 0 t) (iblk m c 1 t) (iblk m c 2 t) (iblk m c 3 t) (iblk m c 4 t) y = val m c ((win0_5.blk t).view.emb y)
  have e0 : ((win0_5.blk t).view.emb y) 0 = bat t :=
    Fin.ext (by show win0_5.index t 0 * 1 + 1 * (y 0).val = t.val / 8; have : (y 0).val < 1 := (y 0).isLt; rw [e.1]; omega)
  have e1 : ((win0_5.blk t).view.emb y) 1 = row t (y 1) :=
    Fin.ext (by show win0_5.index t 1 * 256 + 1 * (y 1).val = 256 * (t.val % 8) + (y 1).val; rw [e.2.1]; omega)
  have e2 : (((win0_5.blk t).view.emb y) 2).val = (y 2).val := by
    show win0_5.index t 2 * 512 + 1 * (y 2).val = (y 2).val; rw [e.2.2]; omega
  unfold Block.block val attn
  simp only [e0, e1, e2]
  exact entry_iblk m c t _ _ (y 1) _

theorem mem_blk (t : Fin cfg0.N) (i : S32x2048x512.Idx) :
    i ∈ ((cfg0.win 5).blk t).view.set ↔ (i 0).val = t.val / 8 ∧ 256 * (t.val % 8) ≤ (i 1).val ∧ (i 1).val < 256 * (t.val % 8) + 256 := by
  show i ∈ ((View.whole main_v0).slice (win0_5.rect t)).set ↔ _
  rw [View.set_slice_whole, Rect.mem_set_unit]
  have e := idx_5 t
  have h2 : (i 2).val < 512 := (i 2).isLt
  refine ⟨fun h => ?_, fun h a => ?_⟩
  · have g0 : win0_5.index t 0 * 1 ≤ (i 0).val ∧ (i 0).val < win0_5.index t 0 * 1 + 1 := h 0
    have g1 : win0_5.index t 1 * 256 ≤ (i 1).val ∧ (i 1).val < win0_5.index t 1 * 256 + 256 := h 1
    rw [e.1] at g0; rw [e.2.1] at g1; omega
  · match a with
    | ⟨0, _⟩ => show win0_5.index t 0 * 1 ≤ (i 0).val ∧ (i 0).val < win0_5.index t 0 * 1 + 1; rw [e.1]; omega
    | ⟨1, _⟩ => show win0_5.index t 1 * 256 ≤ (i 1).val ∧ (i 1).val < win0_5.index t 1 * 256 + 256; rw [e.2.1]; omega
    | ⟨2, _⟩ => show win0_5.index t 2 * 512 ≤ (i 2).val ∧ (i 2).val < win0_5.index t 2 * 512 + 512; rw [e.2.2]; omega

theorem cover (i : S32x2048x512.Idx) : ∃ t : Fin cfg0.N, (cfg0.win 5).flush t = true ∧ i ∈ ((cfg0.win 5).blk t).view.set := by
  have h0 : (i 0).val < 32 := (i 0).isLt
  have h1 : (i 1).val < 2048 := (i 1).isLt
  have hN := N_eq
  refine ⟨⟨8 * (i 0).val + (i 1).val / 256, by omega⟩, flush0_5 _, ?_⟩
  rw [mem_blk]
  dsimp only
  omega

theorem final_o (c : Dev nD) : (dats m 0 c).arrAt 5 cfg0.N = val m c :=
  (dats m 0 c).arrAt_eq_of_cover 5 (val m c) (fun t _ => flushed_eq m c t) cover

/-- The run, read: the result array at `val`, the arguments unchanged. -/
theorem run : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_o m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _)⟩)
    (run_main m ρ)

end Cert.KernelIdeal.Attn

end
-- ==== Proof.RefRead.lean ====
/- What the attention reference computes, entry by entry: one softmax over the joined keys, of the scores in base two
   rescaled, times the joined values. -/
module

public import proofs.«01_k».proof.Proof.Gen.ReferenceIdeal
public import proofs.«01_k».proof.Proof.Gen.ReferenceIdeal.Read
public import proofs.«01_k».proof.Proof.Softmax
public import Idealize.ShloMosaic.Lib.Pipeline.Value
public import Idealize.ShloMosaic.Lib.Pointwise
public import Idealize.ShloMosaic.Lib.ReduceAll

@[expose] public section

noncomputable section

namespace Cert.ReferenceIdeal.RefRead

open Cert.ReferenceIdeal Cert.ReferenceIdeal.Gen Cert.ReferenceIdeal.Read Cert.ReferenceIdeal.Facts
open Idealize.ShloMosaic

variable (x0 x1 : (⟨S32x8x2048x128, .bf16⟩ : BufTy).Contents (Elt Ideal)) (x2 : (⟨S32x4x2048x128, .bf16⟩ : BufTy).Contents (Elt Ideal))
  (x3 : (⟨S32x8x256x128, .bf16⟩ : BufTy).Contents (Elt Ideal)) (x4 : (⟨S32x4x256x128, .bf16⟩ : BufTy).Contents (Elt Ideal))

/-- A joined key in the first segment. -/
theorem key_left (b : Fin 32) (h : Fin 8) (i : Fin 2048) (d : Fin 128) :
    val_main_v5 (F := Ideal) x1 x3 (ix4 b h (Fin.castAdd 256 i : Fin 2304) d) = x1 (ix4 b h i d)  := by
  unfold val_main_v5
  exact concatenate_pair_apply_left (t := S32x8x2304x128) (s₁ := S32x8x2048x128) (s₂ := S32x8x256x128) 2 _ _ _ _ rfl (ix4 b h i d) (fun a => by match a with | ⟨0, _⟩ => rfl | ⟨1, _⟩ => rfl | ⟨2, _⟩ => rfl | ⟨3, _⟩ => rfl)

/-- A joined key in the second segment. -/
theorem key_right (b : Fin 32) (h : Fin 8) (i : Fin 256) (d : Fin 128) :
    val_main_v5 (F := Ideal) x1 x3 (ix4 b h (Fin.natAdd 2048 i : Fin 2304) d) = x3 (ix4 b h i d)  := by
  unfold val_main_v5
  refine concatenate_pair_apply_right (t := S32x8x2304x128) (s₁ := S32x8x2048x128) (s₂ := S32x8x256x128) 2 _ _ _ _ rfl rfl (ix4 b h i d)
    (fun a ha => by match a with | ⟨0, _⟩ => rfl | ⟨1, _⟩ => rfl | ⟨2, _⟩ => exact absurd rfl ha | ⟨3, _⟩ => rfl) ?_
  exact Nat.add_comm i.val 2048

/-- A joined value in the first segment. -/
theorem value_left (b : Fin 32) (h : Fin 4) (i : Fin 2048) (d : Fin 128) :
    val_main_v6 (F := Ideal) x2 x4 (ix4 b h (Fin.castAdd 256 i : Fin 2304) d) = x2 (ix4 b h i d)  := by
  unfold val_main_v6
  exact concatenate_pair_apply_left (t := S32x4x2304x128) (s₁ := S32x4x2048x128) (s₂ := S32x4x256x128) 2 _ _ _ _ rfl (ix4 b h i d) (fun a => by match a with | ⟨0, _⟩ => rfl | ⟨1, _⟩ => rfl | ⟨2, _⟩ => rfl | ⟨3, _⟩ => rfl)

/-- A joined value in the second segment. -/
theorem value_right (b : Fin 32) (h : Fin 4) (i : Fin 256) (d : Fin 128) :
    val_main_v6 (F := Ideal) x2 x4 (ix4 b h (Fin.natAdd 2048 i : Fin 2304) d) = x4 (ix4 b h i d)  := by
  unfold val_main_v6
  refine concatenate_pair_apply_right (t := S32x4x2304x128) (s₁ := S32x4x2048x128) (s₂ := S32x4x256x128) 2 _ _ _ _ rfl rfl (ix4 b h i d)
    (fun a ha => by match a with | ⟨0, _⟩ => rfl | ⟨1, _⟩ => rfl | ⟨2, _⟩ => exact absurd rfl ha | ⟨3, _⟩ => rfl) ?_
  exact Nat.add_comm i.val 2048

/-- A head's column of the pair that holds it. -/
abbrev col (h : Fin 8) (e : Fin 64) : Fin 128 := ⟨64 * (h.val % 2) + e.val, by omega⟩
/-- A head's pair. -/
abbrev prOf (h : Fin 8) : Fin 4 := ⟨h.val / 2, by omega⟩

/-- The digits of a flat position among the paired values. -/
theorem digits (a0 a1 a2 a3 a4 : Nat) (h1 : a1 < 4) (h2 : a2 < 2304) (h3 : a3 < 2) (h4 : a4 < 64) :
    ((((a0 * 4 + a1) * 2304 + a2) * 2 + a3) * 64 + a4) / 1179648 = a0 ∧ ((((a0 * 4 + a1) * 2304 + a2) * 2 + a3) * 64 + a4) / 294912 % 4 = a1
      ∧ ((((a0 * 4 + a1) * 2304 + a2) * 2 + a3) * 64 + a4) / 128 % 2304 = a2 ∧ ((((a0 * 4 + a1) * 2304 + a2) * 2 + a3) * 64 + a4) % 128 = 64 * a3 + a4 := by
  refine ⟨?_, ?_, ?_, ?_⟩ <;> omega

/-- The values by head are the joined pairs' columns. -/
theorem value_head (b : Fin 32) (h : Fin 8) (j : Fin 2304) (e : Fin 64) :
    val_main_v9 (F := Ideal) x2 x4 (ix4 b h j e) = val_main_v6 (F := Ideal) x2 x4 (ix4 b (prOf h) j (col h e)) := by
  rw [val_main_v9_apply, val_main_v8_apply, val_main_v7_apply]
  refine congrArg _ (funext fun a => Fin.ext ?_)
  have := b.isLt; have := h.isLt; have := j.isLt; have := e.isLt
  have n0 : (((b.val * 8 + h.val) * 2304 + j.val) * 64 + e.val) / 1179648 = b.val := by omega
  have n1 : (((b.val * 8 + h.val) * 2304 + j.val) * 64 + e.val) / 294912 % 4 = h.val / 2 := by omega
  have n2 : (((b.val * 8 + h.val) * 2304 + j.val) * 64 + e.val) / 147456 % 2 = h.val % 2 := by omega
  have n3 : (((b.val * 8 + h.val) * 2304 + j.val) * 64 + e.val) / 64 % 2304 = j.val := by omega
  have n4 : (((b.val * 8 + h.val) * 2304 + j.val) * 64 + e.val) % 64 = e.val := by omega
  have m : ∀ a0 a1 a2 a3 a4 : Nat, a0 = b.val → a1 = h.val / 2 → a2 = j.val → a3 = h.val % 2 → a4 = e.val →
      ((((a0 * 4 + a1) * 2304 + a2) * 2 + a3) * 64 + a4) / 1179648 = b.val ∧ ((((a0 * 4 + a1) * 2304 + a2) * 2 + a3) * 64 + a4) / 294912 % 4 = h.val / 2
        ∧ ((((a0 * 4 + a1) * 2304 + a2) * 2 + a3) * 64 + a4) / 128 % 2304 = j.val ∧ ((((a0 * 4 + a1) * 2304 + a2) * 2 + a3) * 64 + a4) % 128 = 64 * (h.val % 2) + e.val := by
    rintro _ _ _ _ _ rfl rfl rfl rfl rfl
    exact digits b.val (h.val / 2) j.val (h.val % 2) e.val (by omega) (by omega) (by omega) (by omega)
  have m' := m _ _ _ _ _ n0 n1 n3 n2 n4
  match a with
  | ⟨0, _⟩ => exact m'.1
  | ⟨1, _⟩ => exact m'.2.1
  | ⟨2, _⟩ => exact m'.2.2.1
  | ⟨3, _⟩ => exact m'.2.2.2

/-- A score in base two. -/
def score (b : Fin 32) (h : Fin 8) (r : Fin 2048) (j : Fin 2304) : EReal := ∑ d : Fin 128, x0 (ix4 b h r d) * val_main_v5 (F := Ideal) x1 x3 (ix4 b h j d)

theorem v10_eq (b : Fin 32) (h : Fin 8) (r : Fin 2048) (j : Fin 2304) : val_main_v10 (F := Ideal) x0 x1 x3 (ix4 b h r j) = score x0 x1 x3 b h r j := by
  rw [val_main_v10_apply]
  refine Finset.sum_congr rfl fun d _ => ?_
  have e0 : lidx_main_v10 (ix4 b h r j) d = ix4 b h r d := funext fun a => Fin.ext (by match a with | ⟨0, _⟩ => rfl | ⟨1, _⟩ => rfl | ⟨2, _⟩ => rfl | ⟨3, _⟩ => rfl)
  have e1 : ridx_main_v10 (ix4 b h r j) d = ix4 b h j d := funext fun a => Fin.ext (by match a with | ⟨0, _⟩ => rfl | ⟨1, _⟩ => rfl | ⟨2, _⟩ => rfl | ⟨3, _⟩ => rfl)
  rw [e0, e1]
  rfl

/-- The constant two. -/
theorem two_bits : Ideal.ofBits .f32 0x40000000#32 = 2 := by
  simp [Ideal.ofBits, Ideal.ieee]
  rw [← EReal.coe_mul]
  exact congrArg _ (by norm_num)

/-- The constant zero. -/
theorem zero_bits : Ideal.ofBits .f32 0x00000000#32 = 0 := by
  simp [Ideal.ofBits, Ideal.ieee]

/-- The pattern the maximum starts from. -/
theorem negInf_bits : Ideal.ofBits .f32 0xFF800000#32 = ⊥ := by simp [Ideal.ofBits, Ideal.ieee]

/-- The score in base e. -/
theorem v13_eq (b : Fin 32) (h : Fin 8) (r : Fin 2048) (j : Fin 2304) :
    val_main_v13 (F := Ideal) x0 x1 x3 (ix4 b h r j) = score x0 x1 x3 b h r j * Ideal.log 2 := by
  rw [val_main_v13_apply, v10_eq, val_main_v12_apply]
  show _ * Ideal.log (Ideal.ofBits .f32 0x40000000#32) = _
  rw [two_bits]

/-- The greatest of a row's scores. -/
def top (b : Fin 32) (h : Fin 8) (r : Fin 2048) : EReal :=
  max ⊥ ((Finset.univ : Finset (Fin 2304)).fold max ⊥ fun j => score x0 x1 x3 b h r j * Ideal.log 2)

theorem v16_eq (b : Fin 32) (h : Fin 8) (r : Fin 2048) : val_main_v16 (F := Ideal) x0 x1 x3 (ix3 b h r) = top x0 x1 x3 b h r := by
  have e14 : val_main_v14 (F := Ideal) x0 x1 x3 (ix3 b h r)
      = (Finset.univ : Finset (Fin 2304)).fold max ⊥ fun j => score x0 x1 x3 b h r j * Ideal.log 2 := by
    unfold val_main_v14
    rw [Host.reduce_eq_fold_single (a := 3) _ _ _ _ (by decide)]
    show (Finset.univ : Finset (Fin 2304)).fold max (Ideal.ofBits .f32 0xFF800000#32) _ = _
    rw [negInf_bits]
    refine congrArg (fun f => Finset.fold max ⊥ f (Finset.univ : Finset (Fin 2304))) (funext fun j => ?_)
    refine (congrArg (val_main_v13 (F := Ideal) x0 x1 x3) ?_).trans (v13_eq x0 x1 x3 b h r j)
    exact funext fun a => Fin.ext (by match a with | ⟨0, _⟩ => rfl | ⟨1, _⟩ => rfl | ⟨2, _⟩ => rfl | ⟨3, _⟩ => rfl)
  rw [val_main_v16_apply, e14, val_main_v15_apply]
  show max (Ideal.ofBits .f32 0xFF800000#32) _ = _
  rw [negInf_bits]
  rfl

/-- An exponential. -/
theorem v20_eq (b : Fin 32) (h : Fin 8) (r : Fin 2048) (j : Fin 2304) :
    val_main_v20 (F := Ideal) x0 x1 x3 (ix4 b h r j) = Ideal.exp (score x0 x1 x3 b h r j * Ideal.log 2 - top x0 x1 x3 b h r) := by
  rw [val_main_v20_apply, val_main_v19_apply, v13_eq, val_main_v18_apply, val_main_v17_apply]
  have e : idx_main_v17 (idx_main_v18 (ix4 b h r j)) = ix3 b h r := funext fun a => Fin.ext (by match a with | ⟨0, _⟩ => rfl | ⟨1, _⟩ => rfl | ⟨2, _⟩ => rfl)
  rw [e, v16_eq]
  rfl

/-- A row's sum of exponentials. -/
theorem v21_eq (b : Fin 32) (h : Fin 8) (r : Fin 2048) :
    val_main_v21 (F := Ideal) x0 x1 x3 (ix3 b h r) = 0 + ∑ j : Fin 2304, Ideal.exp (score x0 x1 x3 b h r j * Ideal.log 2 - top x0 x1 x3 b h r) := by
  rw [val_main_v21_apply]
  refine congr (congrArg _ zero_bits) (Finset.sum_congr rfl fun j _ => ?_)
  rw [← v20_eq]
  exact congrArg _ (funext fun a => Fin.ext (by match a with | ⟨0, _⟩ => rfl | ⟨1, _⟩ => rfl | ⟨2, _⟩ => rfl | ⟨3, _⟩ => rfl))

/-- A weight. -/
theorem v24_eq (b : Fin 32) (h : Fin 8) (r : Fin 2048) (j : Fin 2304) :
    val_main_v24 (F := Ideal) x0 x1 x3 (ix4 b h r j) = Ideal.div (Ideal.exp (score x0 x1 x3 b h r j * Ideal.log 2 - top x0 x1 x3 b h r))
      (0 + ∑ j : Fin 2304, Ideal.exp (score x0 x1 x3 b h r j * Ideal.log 2 - top x0 x1 x3 b h r)) := by
  rw [val_main_v24_apply, v20_eq, val_main_v23_apply, val_main_v22_apply]
  have e : idx_main_v22 (idx_main_v23 (ix4 b h r j)) = ix3 b h r := funext fun a => Fin.ext (by match a with | ⟨0, _⟩ => rfl | ⟨1, _⟩ => rfl | ⟨2, _⟩ => rfl)
  rw [e, v21_eq]
  rfl

/-- The head and the column of it that a result column is. -/
abbrev hd (C : Fin 512) : Fin 8 := ⟨C.val / 64, by omega⟩
abbrev lc (C : Fin 512) : Fin 64 := ⟨C.val % 64, by omega⟩

/-- THE REFERENCE'S RESULT, entry by entry: one softmax over the joined keys. -/
theorem result_eq (b : Fin 32) (r : Fin 2048) (C : Fin 512) :
    val_main_v28 (F := Ideal) x0 x1 x2 x3 x4 (ix3 b r C)
      = Cert.Softmax.joined (fun j : Fin 2304 => score x0 x1 x3 b (hd C) r j)
          (fun j => val_main_v6 (F := Ideal) x2 x4 (ix4 b (prOf (hd C)) j (col (hd C) (lc C)))) := by
  rw [val_main_v28_apply, val_main_v27_apply, val_main_v26_apply]
  have e : idx_main_v26 (idx_main_v27 (ix3 b r C)) = ix4 b (hd C) (lc C) r := by
    have := b.isLt; have := r.isLt; have := C.isLt
    refine funext fun a => Fin.ext ?_
    have n0 : ((b.val * 2048 + r.val) * 512 + C.val) / 1048576 = b.val := by omega
    have n1 : ((b.val * 2048 + r.val) * 512 + C.val) / 64 % 8 = C.val / 64 := by omega
    have n2 : ((b.val * 2048 + r.val) * 512 + C.val) % 64 = C.val % 64 := by omega
    have n3 : ((b.val * 2048 + r.val) * 512 + C.val) / 512 % 2048 = r.val := by omega
    match a with
    | ⟨0, _⟩ => exact n0
    | ⟨1, _⟩ => exact n1
    | ⟨2, _⟩ => exact n2
    | ⟨3, _⟩ => exact n3
  rw [e]
  show val_main_v25 (F := Ideal) x0 x1 x2 x3 x4 (ix4 b (hd C) (lc C) r) = _
  rw [val_main_v25_apply]
  refine Finset.sum_congr rfl fun j _ => ?_
  have el : lidx_main_v25 (ix4 b (hd C) (lc C) r) j = ix4 b (hd C) j (lc C) := funext fun a => Fin.ext (by match a with | ⟨0, _⟩ => rfl | ⟨1, _⟩ => rfl | ⟨2, _⟩ => rfl | ⟨3, _⟩ => rfl)
  have er : ridx_main_v25 (ix4 b (hd C) (lc C) r) j = ix4 b (hd C) r j := funext fun a => Fin.ext (by match a with | ⟨0, _⟩ => rfl | ⟨1, _⟩ => rfl | ⟨2, _⟩ => rfl | ⟨3, _⟩ => rfl)
  rw [el, er, v24_eq, value_head]
  rfl

/-- On finite scores the reference's entry is the two-segment softmax. -/
theorem result_two (b : Fin 32) (r : Fin 2048) (C : Fin 512) (hs : ∀ j, ∃ u : ℝ, score x0 x1 x3 b (hd C) r j = u) :
    val_main_v28 (F := Ideal) x0 x1 x2 x3 x4 (ix3 b r C)
      = Cert.Softmax.twoSegments (fun i : Fin 2048 => ∑ d : Fin 128, x0 (ix4 b (hd C) r d) * x1 (ix4 b (hd C) i d))
          (fun i : Fin 256 => ∑ d : Fin 128, x0 (ix4 b (hd C) r d) * x3 (ix4 b (hd C) i d))
          (fun i => x2 (ix4 b (prOf (hd C)) i (col (hd C) (lc C)))) (fun i => x4 (ix4 b (prOf (hd C)) i (col (hd C) (lc C)))) := by
  rw [result_eq]
  have t := Cert.Softmax.twoSegments_eq_joined (n := 2048) (k := 256) (by norm_num) (by norm_num) (fun j => score x0 x1 x3 b (hd C) r j)
    (fun j => val_main_v6 (F := Ideal) x2 x4 (ix4 b (prOf (hd C)) j (col (hd C) (lc C)))) hs
  refine t.symm.trans ?_
  simp only [score, key_left, key_right, value_left, value_right]

end Cert.ReferenceIdeal.RefRead
-- ==== Proof.Finite.lean ====
/- The precondition of the attention call, decoded: every query and every key is a real number, so every score is. -/
module

public import proofs.«01_k».proof.Defs
public import proofs.«01_k».proof.Proof.Softmax
public import Idealize.ShloMosaic.Lib.Pointwise
public import Idealize.ShloMosaic.Lib.ReduceAll
public import Idealize.ShloMosaic.Lib.IdealHost

@[expose] public section

noncomputable section

namespace Cert.Finite

open Idealize.ShloMosaic

/-- Both sides of a true conjunction are true. -/
theorem andi_one : ∀ a b : BitVec 1, IntOp.andi a b = 1#1 → a = 1#1 ∧ b = 1#1 := by decide

/-- The pattern of positive infinity is the top. -/
theorem inf_bits : Ideal.ofBits .f32 0x7F800000#32 = ⊤ := by simp [Ideal.ofBits, Ideal.ieee]

/-- An absolute value below the top is a real number's. -/
theorem real_of_abs_lt (x : EReal) (h : max x (-x) < ⊤) : ∃ r : ℝ, x = r := by
  induction x with
  | bot => simp at h
  | top => simp at h
  | coe r => exact ⟨r, rfl⟩

/-- A true comparison of an absolute value with infinity. -/
theorem real_of_cmp (x : EReal) (h : Ideal.cmp .olt (max x (-x)) (Ideal.ofBits .f32 0x7F800000#32) = 1#1) : ∃ r : ℝ, x = r := by
  rw [inf_bits] at h
  refine real_of_abs_lt x ?_
  by_contra hn
  simp [Ideal.cmp, hn] at h

/-- A sum of products of real numbers is a real number. -/
theorem dot_real {n : Nat} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← Cert.Softmax.sum_coe]
  exact Finset.sum_congr rfl fun i _ => by rw [ha, hb, EReal.coe_mul]

section Decode

open Cert.Pre_finite_qk

/-- The precondition's shape facts. -/
instance facts_finite_qk : Cert.Pre_finite_qk.Facts where
  bitsLt_bf16_f32 := by decide
  bcast_S_S32x8x2048x128 := by decide
  reducesTo_S32x8x2048x128_S_d0_1_2_3 := by decide
  h_S_ := by decide
  bcast_S_S32x8x256x128 := by decide
  reducesTo_S32x8x256x128_S_d0_1_2_3 := by decide

/-- The precondition makes the queries, the keys and the second keys real numbers. -/
theorem real_of_pre (x0 x1 : S32x8x2048x128.Idx → EReal) (x2 : S32x4x2048x128.Idx → EReal) (x3 : S32x8x256x128.Idx → EReal) (x4 : S32x4x256x128.Idx → EReal)
    (h : Cert.Pre_finite_qk.fn (F := Ideal) x0 x1 x2 x3 x4 = fun _ => 1#1) :
    (∀ i, ∃ r : ℝ, x0 i = r) ∧ (∀ i, ∃ r : ℝ, x1 i = r) ∧ ∀ i, ∃ r : ℝ, x3 i = r := by
  have e := congrFun h (Shape.Idx.first Facts.h_S_)
  obtain ⟨e01, e3⟩ := andi_one _ _ e
  obtain ⟨e0, e1⟩ := andi_one _ _ e01
  haveI : Subsingleton S_.Idx := ⟨fun a b => funext fun i => i.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e3 i)⟩

end Decode

end Cert.Finite
-- ==== Proof.Mla.lean ====
/- The attention call and its reference agree: frames, and the equality of the results under the precondition. -/
module

public import proofs.«01_k».proof.Defs
public import proofs.«01_k».proof.Proof.Attn
public import proofs.«01_k».proof.Proof.RefRead
public import proofs.«01_k».proof.Proof.Finite
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Mla

open Idealize.ShloMosaic Idealize.SL.Sem Idealize.ShloMosaic.TcCoe

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_qk := fun m ρ _ => Cert.KernelIdeal.Gen.frame m ρ
theorem frame_ri : Cert.quiescent_ReferenceIdeal := fun m ρ _ =>
  (θ_run Cert.ReferenceIdeal.defs _ _).mono (fun r h => ⟨fun c => ⟨(h c).2.1, (h c).2.2.1, (h c).2.2.2.1, (h c).2.2.2.2.1, (h c).2.2.2.2.2⟩,
    Idealize.ShloMosaic.sem_eq_zero_of_no_sems (by decide) r.2⟩) (Cert.ReferenceIdeal.Value.run (F := Ideal) m ρ)
theorem frame_ri_pre : Cert.quiescent_ReferenceIdeal_pre_finite_qk := fun m ρ _ => frame_ri m ρ trivial

/-- The two results, entry by entry. -/
theorem values (a0 a1 : Cert.KernelIdeal.S32x8x2048x128.Idx → EReal) (a2 : Cert.KernelIdeal.S32x4x2048x128.Idx → EReal)
    (a3 : Cert.KernelIdeal.S32x8x256x128.Idx → EReal) (a4 : Cert.KernelIdeal.S32x4x256x128.Idx → EReal)
    (h0 : ∀ i, ∃ r : ℝ, a0 i = r) (h1 : ∀ i, ∃ r : ℝ, a1 i = r) (h3 : ∀ i, ∃ r : ℝ, a3 i = r) (b : Fin 32) (r : Fin 2048) (C : Fin 512) :
    Cert.ReferenceIdeal.Read.val_main_v28 (F := Ideal) a0 a1 a2 a3 a4 (ix3 b r C) = Cert.KernelIdeal.Attn.attn a0 a1 a2 a3 a4 (ix3 b r C) := by
  refine (Cert.ReferenceIdeal.RefRead.result_two a0 a1 a2 a3 a4 b r C fun j => ?_).trans ?_
  · refine Cert.Finite.dot_real _ _ (fun d => h0 _) fun d => ?_
    by_cases hj : j.val < 2048
    · obtain ⟨u, hu⟩ := h1 (ix4 b (Cert.ReferenceIdeal.RefRead.hd C) ⟨j.val, hj⟩ d)
      exact ⟨u, (Cert.ReferenceIdeal.RefRead.key_left a1 a3 b _ ⟨j.val, hj⟩ d).trans hu⟩
    · have hj' : j.val - 2048 < 256 := by omega
      have e : j = (Fin.natAdd 2048 ⟨j.val - 2048, hj'⟩ : Fin 2304) := Fin.ext (by show j.val = 2048 + (j.val - 2048); omega)
      obtain ⟨u, hu⟩ := h3 (ix4 b (Cert.ReferenceIdeal.RefRead.hd C) ⟨j.val - 2048, hj'⟩ d)
      rw [e]
      exact ⟨u, (Cert.ReferenceIdeal.RefRead.key_right a1 a3 b _ ⟨j.val - 2048, hj'⟩ d).trans hu⟩
  · have ep : Cert.ReferenceIdeal.RefRead.prOf (Cert.ReferenceIdeal.RefRead.hd C) = ⟨C.val / 128, by omega⟩ :=
      Fin.ext (by show C.val / 64 / 2 = C.val / 128; omega)
    have ec : Cert.ReferenceIdeal.RefRead.col (Cert.ReferenceIdeal.RefRead.hd C) (Cert.ReferenceIdeal.RefRead.lc C) = ⟨C.val % 128, Nat.mod_lt _ (by omega)⟩ :=
      Fin.ext (by show 64 * (C.val / 64 % 2) + C.val % 64 = C.val % 128; omega)
    rw [ep, ec]
    rfl

theorem algebraic : Cert.algebraic_KernelIdeal_ReferenceIdeal_pre_finite_qk := by
  intro m g m' g' hpre hagree
  refine ⟨fun c => Cert.KernelIdeal.Attn.val m c, Cert.KernelIdeal.Attn.run m g, ?_⟩
  refine (θ_run Cert.ReferenceIdeal.defs _ _).mono (fun r h c => ⟨(h c).1.trans ?_, (h c).2⟩) (Cert.ReferenceIdeal.Value.run (F := Ideal) m' g')
  obtain ⟨h0, h1, h3⟩ := Cert.Finite.real_of_pre _ _ _ _ _ (hpre c)
  obtain ⟨e0, e1, e2, e3, e4⟩ := hagree c
  rw [Cert.ReferenceIdeal.Read.val_main_v28_eq, e0, e1, e2, e3, e4]
  funext y
  have hy : y = ix3 (y 0) (y 1) (y 2) := funext fun a => by match a with | ⟨0, _⟩ => rfl | ⟨1, _⟩ => rfl | ⟨2, _⟩ => rfl
  rw [hy]
  exact values _ _ _ _ _ h0 h1 h3 (y 0) (y 1) (y 2)

end Cert.Mla
-- ==== Proof.Tables.lean ====
/- The precondition of the experts call, decoded: every table word in its range, every routing weight nonnegative and finite. -/
module

public import proofs.«01_k».proof.Defs
public import proofs.«01_k».proof.Proof.Finite
public import proofs.«01_k».proof.Proof.Gen.Pre_plan_tables
public import Idealize.ShloMosaic.Lib.ReduceAll
public import Idealize.ShloMosaic.Lib.ValueIdx

@[expose] public section

set_option maxRecDepth 16384

noncomputable section

namespace Cert.Tables

open Idealize.ShloMosaic Cert.Pre_plan_tables Cert.Finite

/-- A word at least zero and below a bound, both as signed comparisons, is below it as a natural number. -/
theorem word_lt (x : BitVec 32) (n : Nat) (hn : n < 2 ^ 31) (h0 : IntOp.cmpi .sge x 0#32 = 1#1)
    (h1 : IntOp.cmpi .slt x (BitVec.ofNat 32 n) = 1#1) : x.toNat < n := by
  have b : ∀ p : Bool, (BitVec.ofBool p = 1#1) ↔ p = true := by decide
  simp only [IntOp.cmpi, b, BitVec.sle, BitVec.slt, decide_eq_true_eq, BitVec.toInt, BitVec.toNat_ofNat] at h0 h1
  omega

/-- A number at least zero and below infinity, both as comparisons. -/
theorem weight_of_cmp (x : EReal) (h0 : Ideal.cmp .oge x (Ideal.ofBits .f32 0x00000000#32) = 1#1)
    (h1 : Ideal.cmp .olt x (Ideal.ofBits .f32 0x7F800000#32) = 1#1) : ∃ r : ℝ, 0 ≤ r ∧ x = r := by
  have z : Ideal.ofBits .f32 0x00000000#32 = 0 := by simp [Ideal.ofBits, Ideal.ieee]
  rw [z] at h0
  rw [inf_bits] at h1
  have p0 : 0 ≤ x := by by_contra hn; simp [Ideal.cmp, hn] at h0
  have p1 : x < ⊤ := by by_contra hn; simp [Ideal.cmp, hn] at h1
  induction x with
  | bot => simp at p0
  | top => simp at p1
  | coe r => exact ⟨r, by exact_mod_cast p0, rfl⟩

section
variable {F : FTy → Type} [FloatOps F]
variable (e1 e2 blk valid : IVec S168 32) (hs : FVec F S86016x1152 .f32) (wg wu : FVec F S16x1024x512 .bf16) (wd : FVec F S16x512x1024 .bf16)

/-- The tables' words are in range. -/
theorem words_of_pre (h : Cert.Pre_plan_tables.fn (F := F) e1 e2 blk valid hs wg wu wd = fun _ => 1#1) :
    (∀ i, (e1 i).toNat < 16) ∧ (∀ i, (e2 i).toNat < 16) ∧ ∀ i, (blk i).toNat < 168 := by
  have e := congrFun h (Shape.Idx.first Facts.h_S_)
  obtain ⟨e20, -⟩ := andi_one _ _ e
  obtain ⟨e13, e19⟩ := andi_one _ _ e20
  obtain ⟨e6, e12⟩ := andi_one _ _ e13
  haveI : Subsingleton S_.Idx := ⟨fun a b => funext fun i => i.elim0⟩
  refine ⟨fun i => ?_, fun i => ?_, fun i => ?_⟩
  · obtain ⟨a, b⟩ := andi_one _ _ (Host.reduce_andi_all _ _ _ _ _ e6 i); exact word_lt _ 16 (by norm_num) a b
  · obtain ⟨a, b⟩ := andi_one _ _ (Host.reduce_andi_all _ _ _ _ _ e12 i); exact word_lt _ 16 (by norm_num) a b
  · obtain ⟨a, b⟩ := andi_one _ _ (Host.reduce_andi_all _ _ _ _ _ e19 i); exact word_lt _ 168 (by norm_num) a b

end

/-- The weights' columns are nonnegative real numbers. -/
theorem weights_of_pre (e1 e2 blk valid : IVec S168 32) (hs : S86016x1152.Idx → EReal) (wg wu : S16x1024x512.Idx → EReal) (wd : S16x512x1024.Idx → EReal)
    (h : Cert.Pre_plan_tables.fn (F := Ideal) e1 e2 blk valid hs wg wu wd = fun _ => 1#1) (R : Fin 86016) (k : Fin 2) :
    ∃ r : ℝ, 0 ≤ r ∧ hs (ix2 R (⟨1024 + k.val, by omega⟩ : Fin 1152)) = r := by
  have e := congrFun h (Shape.Idx.first Facts.h_S_)
  obtain ⟨-, e26⟩ := andi_one _ _ e
  haveI : Subsingleton S_.Idx := ⟨fun a b => funext fun i => i.elim0⟩
  obtain ⟨a, b⟩ := andi_one _ _ (Host.reduce_andi_all _ _ _ _ _ e26 (ix2 R k))
  obtain ⟨r, hr, hx⟩ := weight_of_cmp _ a b
  refine ⟨r, hr, Eq.trans (congrArg hs (funext fun a => Fin.ext ?_)) hx⟩
  match a with
  | ⟨0, _⟩ => show R.val = 0 + R.val; omega
  | ⟨1, _⟩ => rfl

end Cert.Tables
-- ==== Proof.ExI.Kit.lean ====
/- What the two cases of the experts body share: the program up to the kernel, the tables, the windows' blocks and buffers. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
/-- @main up to the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S168 .i32 := Memref.whole main_arg0
abbrev htbM0_0 : tbM0_0.IsWhole := Memref.isWhole_whole _
abbrev tbM0_1 : Memref sig .tc .smem S168 .i32 := Memref.whole main_arg1
abbrev htbM0_1 : tbM0_1.IsWhole := Memref.isWhole_whole _
abbrev tbM0_2 : Memref sig .tc .smem S168 .i32 := Memref.whole main_arg2
abbrev htbM0_2 : tbM0_2.IsWhole := Memref.isWhole_whole _
abbrev tbM0_3 : Memref sig .tc .smem S168 .i32 := Memref.whole main_arg3
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats 0 c).arrAt_in 0 rfl _).trans ((hA c 0).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

/-- The block has rows to compute: the condition under which the body runs the experts. -/
abbrev cond0_0 (i : grid0.Coords) (v1 : BitVec 32) : Prop := k0_cond2 v1 = 1#1

/-- The two conditions of the body exclude each other, and one of them holds. -/
theorem cond_compl (v : BitVec 32) : k0_cond1 v = 1#1 ↔ ¬ k0_cond2 v = 1#1 := by
  unfold k0_cond1 k0_cond2
  dsimp only
  rcases (show ∀ b : BitVec 1, b = 0#1 ∨ b = 1#1 from by decide) (Scalar.cmpi .sgt v 0#32) with h | h <;>
    rw [h] <;> decide

abbrev VO0_7 : View sig .tc .vmem S512x1024 .f32 := (Memref.whole cc0_stg7_0 : Memref sig .tc .vmem S512x1024 .f32).view
abbrev ms0_0 (hO : Ok m) (t : Fin (cfgM m hO).N) : Memref sig .tc .vmem S512x1152 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x1024 .f32 := spec0_7.stage ((cfgM m hO).slots t 7)
abbrev hs0_7 (hO : Ok m) (t : Fin (cfgM m hO).N) : (ms0_7 m hO t).IsWhole := hstage0_7 (((cfgM m hO).slots t 7).cast nbuf0_7)

end Cert.ExpertsIdeal.Own

end
-- ==== Proof.ExI.RunA.lean ====
/- The experts body, a block with rows. -/
module

public import proofs.«01_k».proof.Proof.ExI.Kit

@[expose] public section

set_option maxRecDepth 16384

noncomputable section

namespace Cert.ExpertsIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

variable (m : (ℓ : Loc nD τ sig) → Buf (Elt F) ℓ) (ρ : Dev nD → PrngReg)

set_option maxHeartbeats 1000000 in
/-- The body in a block with rows to compute: what it stores, and that it runs to it. -/
noncomputable def kernelRun0_A (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S168) (k0_off1 i) S1.size (k0_off1_inb i)).toLoadRect xt3 (Shape.Idx.first (numel1_S1.symm ▸ Nat.one_pos)))) :
    { L7 : List (View.Piece (Elt F) S512x1024 .f32) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    have hc1 : ¬k0_cond1 (tbM0_3.view.readAt (Elt F) (Rect.unit (s := S168) (k0_off1 i) S1.size (k0_off1_inb i)).toLoadRect xt3 (Shape.Idx.first (numel1_S1.symm ▸ Nat.one_pos))) = 1#1 := fun h => (cond_compl _).1 h hc0
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HT0]; · iexact HT0
    isplitl [HT1]; · iexact HT1
    isplitl [HT2]; · iexact HT2
    iexact HT3

end Cert.ExpertsIdeal.Own

end
-- ==== Proof.ExI.RunB.lean ====
/- The experts body, a block without rows. -/
module

public import proofs.«01_k».proof.Proof.ExI.RunA

@[expose] public section

set_option maxRecDepth 16384

noncomputable section

namespace Cert.ExpertsIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

variable (m : (ℓ : Loc nD τ sig) → Buf (Elt F) ℓ) (ρ : Dev nD → PrngReg)

set_option maxHeartbeats 1000000 in
/-- The body in a block with no rows: what it stores, and that it runs to it. -/
noncomputable def kernelRun0_B (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S168) (k0_off1 i) S1.size (k0_off1_inb i)).toLoadRect xt3 (Shape.Idx.first (numel1_S1.symm ▸ Nat.one_pos)))) :
    { L7 : List (View.Piece (Elt F) S512x1024 .f32) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    have hc1 : k0_cond1 (tbM0_3.view.readAt (Elt F) (Rect.unit (s := S168) (k0_off1 i) S1.size (k0_off1_inb i)).toLoadRect xt3 (Shape.Idx.first (numel1_S1.symm ▸ Nat.one_pos))) = 1#1 := (cond_compl _).2 hc0
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HT0]; · iexact HT0
    isplitl [HT1]; · iexact HT1
    isplitl [HT2]; · iexact HT2
    iexact HT3

end Cert.ExpertsIdeal.Own

end
-- ==== Proof.ExI.Frame.lean ====
/- The experts call runs to an end, with its arguments as they began and its result as the body leaves it block by block. -/
module

public import proofs.«01_k».proof.Proof.ExI.RunB
public import Idealize.ShloMosaic.Lib.Claim

@[expose] public section

set_option maxRecDepth 16384

noncomputable section

namespace Cert.ExpertsIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

variable (m : (ℓ : Loc nD τ sig) → Buf (Elt F) ℓ) (ρ : Dev nD → PrngReg)
theorem cover0_A_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S168) (k0_off1 i) S1.size (k0_off1_inb i)).toLoadRect xt3 (Shape.Idx.first (numel1_S1.symm ▸ Nat.one_pos)))) (y : S512x1024.Idx) :
    ∃ pc ∈ (kernelRun0_A c i arg5 harg5 arg6 harg6 arg7 harg7 arg8 harg8 arg9 harg9 arg10 harg10 arg11 harg11 arg12 harg12 x0 x1 x2 x3 x4 x5 x6 xt0 xt1 xt2 xt3 hc0).1, y ∈ pc.1.set :=
  View.cover_of_tiledL (kernelRun0_A c i arg5 harg5 arg6 harg6 arg7 harg7 arg8 harg8 arg9 harg9 arg10 harg10 arg11 harg11 arg12 harg12 x0 x1 x2 x3 x4 x5 x6 xt0 xt1 xt2 xt3 hc0).1 S512x1024.size (by sl_kernel_rfl) y

def out0_A_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S168) (k0_off1 i) S1.size (k0_off1_inb i)).toLoadRect xt3 (Shape.Idx.first (numel1_S1.symm ▸ Nat.one_pos)))) : Vec F S512x1024 .f32 :=
  VO0_7.read (Elt F) (VO0_7.writes (Elt F) VO0_7.junk (kernelRun0_A c i arg5 harg5 arg6 harg6 arg7 harg7 arg8 harg8 arg9 harg9 arg10 harg10 arg11 harg11 arg12 harg12 x0 x1 x2 x3 x4 x5 x6 xt0 xt1 xt2 xt3 hc0).1)

theorem cover0_B_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S168) (k0_off1 i) S1.size (k0_off1_inb i)).toLoadRect xt3 (Shape.Idx.first (numel1_S1.symm ▸ Nat.one_pos)))) (y : S512x1024.Idx) :
    ∃ pc ∈ (kernelRun0_B c i arg5 harg5 arg6 harg6 arg7 harg7 arg8 harg8 arg9 harg9 arg10 harg10 arg11 harg11 arg12 harg12 x0 x1 x2 x3 x4 x5 x6 xt0 xt1 xt2 xt3 hc0).1, y ∈ pc.1.set :=
  View.cover_of_tiledL (kernelRun0_B c i arg5 harg5 arg6 harg6 arg7 harg7 arg8 harg8 arg9 harg9 arg10 harg10 arg11 harg11 arg12 harg12 x0 x1 x2 x3 x4 x5 x6 xt0 xt1 xt2 xt3 hc0).1 S512x1024.size (by sl_kernel_rfl) y

def out0_B_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S168) (k0_off1 i) S1.size (k0_off1_inb i)).toLoadRect xt3 (Shape.Idx.first (numel1_S1.symm ▸ Nat.one_pos)))) : Vec F S512x1024 .f32 :=
  VO0_7.read (Elt F) (VO0_7.writes (Elt F) VO0_7.junk (kernelRun0_B c i arg5 harg5 arg6 harg6 arg7 harg7 arg8 harg8 arg9 harg9 arg10 harg10 arg11 harg11 arg12 harg12 x0 x1 x2 x3 x4 x5 x6 xt0 xt1 xt2 xt3 hc0).1)

/-- What the body leaves in the result's buffer at each point. -/
def outsAt0 (hO : Ok m) (c : Dev nD) (t : Fin (cfgM m hO).N) : Vec F S512x1024 .f32 :=
  if h0 : cond0_0 (grid0.coords t) (tbM0_3.view.readAt (Elt F) (Rect.unit (s := S168) (k0_off1 (grid0.coords t)) S1.size (k0_off1_inb (grid0.coords t))).toLoadRect (tbl m 3) (Shape.Idx.first (numel1_S1.symm ▸ Nat.one_pos))) then
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0
  else
    out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0

theorem outsAt0_A (hO : Ok m) (c : Dev nD) (t : Fin (cfgM m hO).N) (h0 : cond0_0 (grid0.coords t) (tbM0_3.view.readAt (Elt F) (Rect.unit (s := S168) (k0_off1 (grid0.coords t)) S1.size (k0_off1_inb (grid0.coords t))).toLoadRect (tbl m 3) (Shape.Idx.first (numel1_S1.symm ▸ Nat.one_pos)))) :
    outsAt0 m hO c t = out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0 := by
  unfold outsAt0; exact (dif_pos h0).trans rfl

theorem outsAt0_B (hO : Ok m) (c : Dev nD) (t : Fin (cfgM m hO).N) (h0 : ¬cond0_0 (grid0.coords t) (tbM0_3.view.readAt (Elt F) (Rect.unit (s := S168) (k0_off1 (grid0.coords t)) S1.size (k0_off1_inb (grid0.coords t))).toLoadRect (tbl m 3) (Shape.Idx.first (numel1_S1.symm ▸ Nat.one_pos)))) :
    outsAt0 m hO c t = out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0 := by
  unfold outsAt0; exact (dif_neg h0).trans rfl

/-- The arrays as launched, and what each window's buffer holds after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  by_cases h0 : cond0_0 (grid0.coords t) (tbM0_3.view.readAt (Elt F) (Rect.unit (s := S168) (k0_off1 (grid0.coords t)) S1.size (k0_off1_inb (grid0.coords t))).toLoadRect (tbl m 3) (Shape.Idx.first (numel1_S1.symm ▸ Nat.one_pos)))
  · rw [outsAt0_A m hO c t h0]
    unfold out0_A_7
    iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    isplitl [HT3]; · iexact HT3
    iintro ⟨H0, H1, H2, H3, H4, H5, H6, ⟨%e7, H7⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _ _ _ _)
  · rw [outsAt0_B m hO c t h0]
    unfold out0_B_7
    iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    isplitl [HT3]; · iexact HT3
    iintro ⟨H0, H1, H2, H3, H4, H5, H6, ⟨%e7, H7⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's window is written back at every point, so it must hold what the body leaves. -/
theorem leaves_out (hO : Ok m) (c : Dev nD) (t : Fin (cfgM m hO).N) :
    (dats (F := F) m hO 0 c).leavesExact 7 t
      = owns (c : Thread nD τ) (ms0_7 m hO t) fullShare ((dats m hO 0 c).after 7 t) := by
  unfold Dat.leavesExact
  rw [flush0_7 (adm m hO) t]
  split <;> rfl

/-- The body at every point of the grid. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have h7 := leaves_out m hO c t
  unfold Dat.leavesExact at h7
  refine sep_mono .rfl (sep_mono .rfl (sep_mono .rfl (sep_mono .rfl (sep_mono .rfl (sep_mono .rfl (sep_mono .rfl (sep_mono .rfl (sep_mono .rfl ?_))))))))
  exact (Entails.of_eq h7.symm)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The run ends with the arguments unchanged and every semaphore at zero. -/
theorem frame (hO : Ok m) : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).1 0).trans (((dats m hO 0 c).arrAt_in 0 rfl _).trans ((A_eq m hO c 0).trans (V_main_arg4 m c))),
      ((h.1 c).1 4).trans (((dats m hO 0 c).arrAt_in 4 rfl _).trans ((A_eq m hO c 4).trans (V_main_arg5 m c))),
      ((h.1 c).1 5).trans (((dats m hO 0 c).arrAt_in 5 rfl _).trans ((A_eq m hO c 5).trans (V_main_arg6 m c))),
      ((h.1 c).1 6).trans (((dats m hO 0 c).arrAt_in 6 rfl _).trans ((A_eq m hO c 6).trans (V_main_arg7 m c)))⟩, h.2⟩)
    (run_main_quiescent m ρ hO)

end Cert.ExpertsIdeal.Own

end
-- ==== Proof.ExI.Block.lean ====
/- What the experts body leaves in its result block: two gated expert products of each row where the block has rows, zero where it has none. -/
module

public import proofs.«01_k».proof.Proof.ExI.Frame
public import Idealize.ShloMosaic.Lib.Pointwise
public import Idealize.ShloMosaic.Lib.Pipeline.ValueKit
public import Idealize.ShloMosaic.Lib.VecWindow

@[expose] public section

set_option maxRecDepth 16384

noncomputable section

namespace Cert.ExpertsIdeal.Block

open Cert.ExpertsIdeal Cert.ExpertsIdeal.Gen Cert.ExpertsIdeal.Own Idealize.ShloMosaic Idealize.ShloMosaic.TcCoe Idealize.ShloMosaic.Pointwise

/-- One hidden unit of an expert at a row: the gate through its sigmoid, times the value. -/
def unit (x : Fin 1024 → EReal) (g u : Fin 1024 → EReal) : EReal :=
  (∑ d, x d * g d) * Ideal.logistic (∑ d, x d * g d) * ∑ d, x d * u d

/-- One expert at a row and a column, its hidden units weighted by `w`. -/
def expert (x : Fin 1024 → EReal) (w : EReal) (wg wu : Fin 1024 → Fin 512 → EReal) (wd : Fin 512 → EReal) : EReal :=
  ∑ f, unit x (fun d => wg d f) (fun d => wu d f) * w * wd f

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

section
variable (c : Dev nD) (i : grid0.Coords) (arg5 : Memref sig .tc .vmem S512x1152 .f32) (harg5 : arg5.IsWhole) (arg6 : Memref sig .tc .vmem S1x1024x512 .bf16) (harg6 : arg6.IsWhole)
  (arg7 : Memref sig .tc .vmem S1x1024x512 .bf16) (harg7 : arg7.IsWhole) (arg8 : Memref sig .tc .vmem S1x512x1024 .bf16) (harg8 : arg8.IsWhole)
  (arg9 : Memref sig .tc .vmem S1x1024x512 .bf16) (harg9 : arg9.IsWhole) (arg10 : Memref sig .tc .vmem S1x1024x512 .bf16) (harg10 : arg10.IsWhole)
  (arg11 : Memref sig .tc .vmem S1x512x1024 .bf16) (harg11 : arg11.IsWhole) (arg12 : Memref sig .tc .vmem S512x1024 .f32) (harg12 : arg12.IsWhole)
  (x0 : Vec Ideal S512x1152 .f32) (x1 x2 : Vec Ideal S1x1024x512 .bf16) (x3 : Vec Ideal S1x512x1024 .bf16) (x4 x5 : Vec Ideal S1x1024x512 .bf16) (x6 : Vec Ideal S1x512x1024 .bf16)
  (xt0 : TbBuf0 (F := Ideal) c tbM0_0) (xt1 : TbBuf0 (F := Ideal) c tbM0_1) (xt2 : TbBuf0 (F := Ideal) c tbM0_2) (xt3 : TbBuf0 (F := Ideal) c tbM0_3)

/-- The rows, and their two weights, as the body loads them. -/
def ldx : Vec Ideal S512x1024 .f32 := View.ld x0 (Rect.unit (s := S512x1152) ![0, 0] S512x1024.size inb_S512x1152_S512x1024_0_0)
def ldw1 : Vec Ideal S512x1 .f32 := View.ld x0 (Rect.unit (s := S512x1152) ![0, 1024] S512x1.size inb_S512x1152_S512x1_0_1024)
def ldw2 : Vec Ideal S512x1 .f32 := View.ld x0 (Rect.unit (s := S512x1152) ![0, 1025] S512x1.size inb_S512x1152_S512x1_0_1025)

theorem out_A (hc0) : out0_A_7 (F := Ideal) c i arg5 harg5 arg6 harg6 arg7 harg7 arg8 harg8 arg9 harg9 arg10 harg10 arg11 harg11 arg12 harg12 x0 x1 x2 x3 x4 x5 x6 xt0 xt1 xt2 xt3 hc0
    = k0_pay2 (k0_pay4 (ldx x0) (ldw2 x0) x4 x5) (k0_pay5 (ldx x0) (ldw1 x0) x1 x2 x3) x6 := by
  unfold out0_A_7
  rw [View.read_writes_junk_eq_canon]
  show View.canon ([⟨Rect.unit ![0, 0] S512x1024.size inb_S512x1024_S512x1024_0_0,
      k0_pay2 (k0_pay4
          (View.readAt (Elt Ideal) arg5.view (Rect.unit (s := S512x1152) ![0, 0] S512x1024.size inb_S512x1152_S512x1024_0_0).toLoadRect (harg5.unread x0))
          (View.readAt (Elt Ideal) arg5.view (Rect.unit (s := S512x1152) ![0, 1025] S512x1.size inb_S512x1152_S512x1_0_1025).toLoadRect (harg5.unread x0))
          (View.readAt (Elt Ideal) arg9.view (Rect.unit (s := S1x1024x512) ![0, 0, 0] S1x1024x512.size inb_S1x1024x512_S1x1024x512_0_0_0).toLoadRect (harg9.unread x4))
          (View.readAt (Elt Ideal) arg10.view (Rect.unit (s := S1x1024x512) ![0, 0, 0] S1x1024x512.size inb_S1x1024x512_S1x1024x512_0_0_0).toLoadRect (harg10.unread x5)))
        (k0_pay5
          (View.readAt (Elt Ideal) arg5.view (Rect.unit (s := S512x1152) ![0, 0] S512x1024.size inb_S512x1152_S512x1024_0_0).toLoadRect (harg5.unread x0))
          (View.readAt (Elt Ideal) arg5.view (Rect.unit (s := S512x1152) ![0, 1024] S512x1.size inb_S512x1152_S512x1_0_1024).toLoadRect (harg5.unread x0))
          (View.readAt (Elt Ideal) arg6.view (Rect.unit (s := S1x1024x512) ![0, 0, 0] S1x1024x512.size inb_S1x1024x512_S1x1024x512_0_0_0).toLoadRect (harg6.unread x1))
          (View.readAt (Elt Ideal) arg7.view (Rect.unit (s := S1x1024x512) ![0, 0, 0] S1x1024x512.size inb_S1x1024x512_S1x1024x512_0_0_0).toLoadRect (harg7.unread x2))
          (View.readAt (Elt Ideal) arg8.view (Rect.unit (s := S1x512x1024) ![0, 0, 0] S1x512x1024.size inb_S1x512x1024_S1x512x1024_0_0_0).toLoadRect (harg8.unread x3)))
        (View.readAt (Elt Ideal) arg11.view (Rect.unit (s := S1x512x1024) ![0, 0, 0] S1x512x1024.size inb_S1x512x1024_S1x512x1024_0_0_0).toLoadRect (harg11.unread x6))⟩] :
      List (View.Piece (Elt Ideal) S512x1024 .f32)) = _
  rw [View.canon_unit_zero hz2]
  simp only [View.readAt_eq_ld, harg5.read_unread, harg6.read_unread, harg7.read_unread, harg8.read_unread, harg9.read_unread, harg10.read_unread,
    harg11.read_unread, View.ld_unit_zero (S := S1x1024x512) hz3, View.ld_unit_zero (S := S1x512x1024) hz3, ldx, ldw1, ldw2]

theorem out_B (hc0) : out0_B_7 (F := Ideal) c i arg5 harg5 arg6 harg6 arg7 harg7 arg8 harg8 arg9 harg9 arg10 harg10 arg11 harg11 arg12 harg12 x0 x1 x2 x3 x4 x5 x6 xt0 xt1 xt2 xt3 hc0
    = k0_pay1 (F := Ideal) := by
  unfold out0_B_7
  rw [View.read_writes_junk_eq_canon]
  show View.canon ([⟨Rect.unit ![0, 0] S512x1024.size inb_S512x1024_S512x1024_0_0, k0_pay1 (F := Ideal)⟩] : List (View.Piece (Elt Ideal) S512x1024 .f32)) = _
  rw [View.canon_unit_zero hz2]

end

theorem ldx_apply (x0 : Vec Ideal S512x1152 .f32) (r : Fin 512) (d : Fin 1024) : ldx x0 (ix2 r d) = x0 (ix2 r (⟨d.val, by omega⟩ : Fin 1152)) := by
  unfold ldx
  rw [View.ld_unit]
  unfold extractStridedSlice
  refine congrArg x0 (funext fun a => Fin.ext ?_)
  match a with
  | ⟨0, _⟩ => show 0 + r.val = r.val; omega
  | ⟨1, _⟩ => show 0 + d.val = d.val; omega

theorem ldw1_apply (x0 : Vec Ideal S512x1152 .f32) (r : Fin 512) : ldw1 x0 (ix2 r 0) = x0 (ix2 r (⟨1024, by omega⟩ : Fin 1152)) := by
  unfold ldw1
  rw [View.ld_unit]
  unfold extractStridedSlice
  refine congrArg x0 (funext fun a => Fin.ext ?_)
  match a with
  | ⟨0, _⟩ => show 0 + r.val = r.val; omega
  | ⟨1, _⟩ => rfl

theorem ldw2_apply (x0 : Vec Ideal S512x1152 .f32) (r : Fin 512) : ldw2 x0 (ix2 r 0) = x0 (ix2 r (⟨1025, by omega⟩ : Fin 1152)) := by
  unfold ldw2
  rw [View.ld_unit]
  unfold extractStridedSlice
  refine congrArg x0 (funext fun a => Fin.ext ?_)
  match a with
  | ⟨0, _⟩ => show 0 + r.val = r.val; omega
  | ⟨1, _⟩ => rfl

theorem zero_apply (y : S512x1024.Idx) : k0_pay1 (F := Ideal) y = 0 := by
  show Ideal.ofBits .f32 0x00000000#32 = 0
  simp [Ideal.ofBits, Ideal.ieee]

theorem pay4_apply (v8 : Vec Ideal S512x1024 .f32) (v23 : Vec Ideal S512x1 .f32) (v24 v29 : Vec Ideal S1x1024x512 .bf16) (r f : Fin 512) :
    k0_pay4 (F := Ideal) v8 v23 v24 v29 (ix2 r f)
      = unit (fun d => v8 (ix2 r d)) (fun d => v24 (ix3 0 d f)) (fun d => v29 (ix3 0 d f)) * v23 (ix2 r 0) := by
  pointwise [k0_pay4, k0_pay3, unit]

theorem pay5_apply (v8 : Vec Ideal S512x1024 .f32) (v10 : Vec Ideal S512x1 .f32) (v11 v16 : Vec Ideal S1x1024x512 .bf16) (v36 : Vec Ideal S1x512x1024 .bf16) (r : Fin 512) (C : Fin 1024) :
    k0_pay5 (F := Ideal) v8 v10 v11 v16 v36 (ix2 r C)
      = expert (fun d => v8 (ix2 r d)) (v10 (ix2 r 0)) (fun d f => v11 (ix3 0 d f)) (fun d f => v16 (ix3 0 d f)) (fun f => v36 (ix3 0 f C)) := by
  pointwise [k0_pay5, k0_pay3, expert, unit]

/-- The body's row at a column. -/
theorem pay2_apply (v8 : Vec Ideal S512x1024 .f32) (v10 v23 : Vec Ideal S512x1 .f32) (v11 v16 v24 v29 : Vec Ideal S1x1024x512 .bf16) (v36 v39 : Vec Ideal S1x512x1024 .bf16) (r : Fin 512) (C : Fin 1024) :
    k0_pay2 (F := Ideal) (k0_pay4 v8 v23 v24 v29) (k0_pay5 v8 v10 v11 v16 v36) v39 (ix2 r C)
      = expert (fun d => v8 (ix2 r d)) (v10 (ix2 r 0)) (fun d f => v11 (ix3 0 d f)) (fun d f => v16 (ix3 0 d f)) (fun f => v36 (ix3 0 f C))
        + expert (fun d => v8 (ix2 r d)) (v23 (ix2 r 0)) (fun d f => v24 (ix3 0 d f)) (fun d f => v29 (ix3 0 d f)) (fun f => v39 (ix3 0 f C)) := by
  pointwise [k0_pay2, pay4_apply, pay5_apply]
  rfl

end Cert.ExpertsIdeal.Block

end
-- ==== Proof.ExI.Tab.lean ====
/- The experts call: the tables in range put every block inside its array. -/
module

public import proofs.«01_k».proof.Proof.Tables
public import proofs.«01_k».proof.Proof.ExI.Frame

@[expose] public section

set_option maxRecDepth 16384

noncomputable section

namespace Cert.ExpertsIdeal.Tab

open Cert.ExpertsIdeal Cert.ExpertsIdeal.Gen Cert.ExpertsIdeal.Own Idealize.ShloMosaic Idealize.ShloMosaic.TcCoe

variable {F : FTy → Type} [FloatOps F]

/-- The grid's coordinate as a row of the tables. -/
def pt (i : grid0.Coords) : Fin 168 := ⟨(i 0).val, (i 0).isLt⟩

/-- The word an index map reads. -/
theorem at_eq (pf : pre0.Contents (Elt F)) (i : grid0.Coords) (h : ∀ a, (k0_off1 i) a + S1.size a ≤ S168.size a) (h1 : S1.numel = 1) :
    pf.at 0 (Rect.unit (s := S168) (k0_off1 i) S1.size h) h1 = pf 0 (ix1 (pt i))
    ∧ pf.at 1 (Rect.unit (s := S168) (k0_off1 i) S1.size h) h1 = pf 1 (ix1 (pt i))
    ∧ pf.at 2 (Rect.unit (s := S168) (k0_off1 i) S1.size h) h1 = pf 2 (ix1 (pt i)) := by
  have e : (BitVec.ofNat 32 (i 0).val).toNat = (i 0).val := by
    have : (i 0).val < 168 := (i 0).isLt
    rw [BitVec.toNat_ofNat]; omega
  have ei : ∀ z, (Rect.unit (s := S168) (k0_off1 i) S1.size h).emb z = ix1 (pt i) := fun z => funext fun a => Fin.ext (by
    match a with
    | ⟨0, _⟩ =>
      have hz : (z 0).val < 1 := (z 0).isLt
      show (BitVec.ofNat 32 (i 0).val).toNat + 1 * (z 0).val = (i 0).val
      omega)
  exact ⟨congrArg (pf 0) (ei _), congrArg (pf 1) (ei _), congrArg (pf 2) (ei _)⟩

/-- A slab of one expert lies inside the experts' array. -/
theorem slab_inb {n p : Nat} (w : BitVec 32) (hw : w.toNat < 16) (a : Fin 3) :
    ((![w.toNat, 0, 0] : Fin 3 → Nat) a + 1) * (![1, n, p] : Fin 3 → Nat) a ≤ (![16, n, p] : Fin 3 → Nat) a := by
  match a with
  | ⟨0, _⟩ => show (w.toNat + 1) * 1 ≤ 16; omega
  | ⟨1, _⟩ => show (0 + 1) * n ≤ n; omega
  | ⟨2, _⟩ => show (0 + 1) * p ≤ p; omega

variable (m : (ℓ : Loc nD τ sig) → Buf (Elt F) ℓ)

/-- Words in range put every block inside its array. -/
theorem ok_of_words (h1 : ∀ i : S168.Idx, ((tbl m 0 : S168.Idx → BitVec 32) i).toNat < 16) (h2 : ∀ i : S168.Idx, ((tbl m 1 : S168.Idx → BitVec 32) i).toNat < 16)
    (h3 : ∀ i : S168.Idx, ((tbl m 2 : S168.Idx → BitVec 32) i).toNat < 168) : Ok m := by
  have w0 : ∀ i a, (cc0_transform_0 k0_off1_inb numel1_S1 (tbl m) i a + 1) * S512x1152.size a ≤ S86016x1152.size a := fun i a => by
    match a with
    | ⟨0, _⟩ =>
      show ((Pipeline.Prefetch.Contents.at (tbl m) 2 (Rect.unit (s := S168) (k0_off1 i) S1.size (k0_off1_inb i)) numel1_S1 : BitVec 32).toNat + 1) * 512 ≤ 86016
      rw [(at_eq (tbl m) i _ _).2.2]
      have := h3 (ix1 (pt i)); omega
    | ⟨1, _⟩ => show (0 + 1) * 1152 ≤ 1152; omega
  have w1 : ∀ i a, (cc0_transform_1 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).1) (h1 _)) a
  have w2 : ∀ i a, (cc0_transform_2 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).1) (h1 _)) a
  have w3 : ∀ i a, (cc0_transform_3 k0_off1_inb numel1_S1 (tbl m) i a + 1) * S1x512x1024.size a ≤ S16x512x1024.size a := fun i a =>
    slab_inb (n := 512) (p := 1024) _ (lt_of_eq_of_lt (congrArg BitVec.toNat (at_eq (tbl m) i (k0_off1_inb i) numel1_S1).1) (h1 _)) a
  have w4 : ∀ i a, (cc0_transform_4 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).2.1) (h2 _)) a
  have w5 : ∀ i a, (cc0_transform_5 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).2.1) (h2 _)) a
  have w6 : ∀ i a, (cc0_transform_6 k0_off1_inb numel1_S1 (tbl m) i a + 1) * S1x512x1024.size a ≤ S16x512x1024.size a := fun i a =>
    slab_inb (n := 512) (p := 1024) _ (lt_of_eq_of_lt (congrArg BitVec.toNat (at_eq (tbl m) i (k0_off1_inb i) numel1_S1).2.1) (h2 _)) a
  exact ⟨fun i => ⟨w0 i, .inl rfl⟩, fun i => ⟨w1 i, .inr (.inr ⟨by decide, rfl, rfl, rfl⟩)⟩, fun i => ⟨w2 i, .inr (.inr ⟨by decide, rfl, rfl, rfl⟩)⟩, fun i => ⟨w3 i, .inr (.inr ⟨by decide, rfl, rfl, rfl⟩)⟩,
    fun i => ⟨w4 i, .inr (.inr ⟨by decide, rfl, rfl, rfl⟩)⟩, fun i => ⟨w5 i, .inr (.inr ⟨by decide, rfl, rfl, rfl⟩)⟩, fun i => ⟨w6 i, .inr (.inr ⟨by decide, rfl, rfl, rfl⟩)⟩⟩

/-- The precondition puts every block inside its array. -/
theorem ok_of_pre (m : (ℓ : Loc nD τ sig) → Buf (Elt Ideal) ℓ) (h : Cert.Pre_ExpertsIdeal m) : Ok m := by
  obtain ⟨a, b, d⟩ := Cert.Tables.words_of_pre (F := Ideal) _ _ _ _ _ _ _ _ (h 0)
  exact ok_of_words m a b d

end Cert.ExpertsIdeal.Tab
-- ==== Proof.ExI.Value.lean ====
/- The experts call's result array as one function of its eight argument arrays, and its run. -/
module

public import proofs.«01_k».proof.Proof.ExI.Block
public import proofs.«01_k».proof.Proof.ExI.Tab
public import Idealize.ShloMosaic.Lib.Pipeline.Value

@[expose] public section

set_option maxRecDepth 16384

noncomputable section

namespace Cert.ExpertsIdeal.Value

open Cert.ExpertsIdeal Cert.ExpertsIdeal.Gen Cert.ExpertsIdeal.Own Cert.ExpertsIdeal.Tab Idealize.ShloMosaic Idealize.ShloMosaic.TcCoe Idealize.SL.Sem Idealize.ShloMosaic.Pointwise
open Idealize.ShloMosaic.Pipeline (Dat)

/-- The expert a word names. -/
def ex (w : BitVec 32) : Fin 16 := ⟨w.toNat % 16, Nat.mod_lt _ (by omega)⟩
/-- Row `r` of the block of rows a word names. -/
def src (w : BitVec 32) (r : Fin 512) : Fin 86016 := ⟨(w.toNat * 512 + r.val) % 86016, Nat.mod_lt _ (by omega)⟩

/-- One row's product with one expert, its weight in column `k` of the row. -/
def half (hs : S86016x1152.Idx → EReal) (wg wu : S16x1024x512.Idx → EReal) (wd : S16x512x1024.Idx → EReal)
    (R : Fin 86016) (k : Fin 1152) (e : Fin 16) (C : Fin 1024) : EReal :=
  Block.expert (fun d => hs (ix2 R (⟨d.val, by omega⟩ : Fin 1152))) (hs (ix2 R k)) (fun d f => wg (ix3 e d f)) (fun d f => wu (ix3 e d f)) (fun f => wd (ix3 e f C))

/-- One entry of the result: block `t`, row `r` in it, column `C`. -/
def entry (e1 e2 blk vld : S168.Idx → BitVec 32) (hs : S86016x1152.Idx → EReal) (wg wu : S16x1024x512.Idx → EReal) (wd : S16x512x1024.Idx → EReal)
    (t : Fin 168) (r : Fin 512) (C : Fin 1024) : EReal :=
  if Scalar.cmpi .sgt (vld (ix1 t)) 0#32 = 1#1 then
    half hs wg wu wd (src (blk (ix1 t)) r) ⟨1024, by omega⟩ (ex (e1 (ix1 t))) C + half hs wg wu wd (src (blk (ix1 t)) r) ⟨1025, by omega⟩ (ex (e2 (ix1 t))) C
  else 0

/-- The result array. -/
def moe (e1 e2 blk vld : S168.Idx → BitVec 32) (hs : S86016x1152.Idx → EReal) (wg wu : S16x1024x512.Idx → EReal) (wd : S16x512x1024.Idx → EReal)
    (y : S86016x1024.Idx) : EReal :=
  entry e1 e2 blk vld hs wg wu wd ⟨(y 0).val / 512, by have : (y 0).val < 86016 := (y 0).isLt; omega⟩ ⟨(y 0).val % 512, Nat.mod_lt _ (by omega)⟩ (y 1)

theorem coords_eq : ∀ t : Fin grid0.N, ((grid0.coords t) 0).val = t.val := by decide +kernel

theorem cond_iff (v : BitVec 32) : k0_cond2 v = 1#1 ↔ Scalar.cmpi .sgt v 0#32 = 1#1 := by
  unfold k0_cond2
  dsimp only
  rcases (show ∀ b : BitVec 1, b = 0#1 ∨ b = 1#1 from by decide) (Scalar.cmpi .sgt v 0#32) with h | h <;>
    rw [h] <;> decide

variable (m : (ℓ : Loc nD τ sig) → Buf (Elt Ideal) ℓ) (ρ : Dev nD → PrngReg) (hO : Ok m)

theorem N_eq : (cfgM m hO).N = 168 := N_0
/-- Point `t` as a row of the tables. -/
def row (t : Fin (cfgM m hO).N) : Fin 168 := ⟨t.val, N_eq m hO ▸ t.isLt⟩
theorem pt_eq (t : Fin (cfgM m hO).N) : pt (grid0.coords t) = row m hO t := Fin.ext (coords_eq t)

/-- The words of point `t`. -/
def w1 (t : Fin (cfgM m hO).N) : BitVec 32 := (tbl m 0 : S168.Idx → BitVec 32) (ix1 (row m hO t))
def w2 (t : Fin (cfgM m hO).N) : BitVec 32 := (tbl m 1 : S168.Idx → BitVec 32) (ix1 (row m hO t))
def wb (t : Fin (cfgM m hO).N) : BitVec 32 := (tbl m 2 : S168.Idx → BitVec 32) (ix1 (row m hO t))

theorem at0 (t : Fin (cfgM m hO).N) (h : ∀ a, (k0_off1 (grid0.coords t)) a + S1.size a ≤ S168.size a) (h1 : S1.numel = 1) :
    (Pipeline.Prefetch.Contents.at (tbl m) 0 (Rect.unit (s := S168) (k0_off1 (grid0.coords t)) S1.size h) h1 : BitVec 32) = w1 m hO t :=
  (at_eq (tbl m) (grid0.coords t) h h1).1.trans (congrArg (fun z => (tbl m 0 : S168.Idx → BitVec 32) (ix1 z)) (pt_eq m hO t))
theorem at1 (t : Fin (cfgM m hO).N) (h : ∀ a, (k0_off1 (grid0.coords t)) a + S1.size a ≤ S168.size a) (h1 : S1.numel = 1) :
    (Pipeline.Prefetch.Contents.at (tbl m) 1 (Rect.unit (s := S168) (k0_off1 (grid0.coords t)) S1.size h) h1 : BitVec 32) = w2 m hO t :=
  (at_eq (tbl m) (grid0.coords t) h h1).2.1.trans (congrArg (fun z => (tbl m 1 : S168.Idx → BitVec 32) (ix1 z)) (pt_eq m hO t))
theorem at2 (t : Fin (cfgM m hO).N) (h : ∀ a, (k0_off1 (grid0.coords t)) a + S1.size a ≤ S168.size a) (h1 : S1.numel = 1) :
    (Pipeline.Prefetch.Contents.at (tbl m) 2 (Rect.unit (s := S168) (k0_off1 (grid0.coords t)) S1.size h) h1 : BitVec 32) = wb m hO t :=
  (at_eq (tbl m) (grid0.coords t) h h1).2.2.trans (congrArg (fun z => (tbl m 2 : S168.Idx → BitVec 32) (ix1 z)) (pt_eq m hO t))

/-- The words lie in range. -/
structure Words : Prop where
  e1 : ∀ i : S168.Idx, ((tbl m 0 : S168.Idx → BitVec 32) i).toNat < 16
  e2 : ∀ i : S168.Idx, ((tbl m 1 : S168.Idx → BitVec 32) i).toNat < 16
  blk : ∀ i : S168.Idx, ((tbl m 2 : S168.Idx → BitVec 32) i).toNat < 168

variable (hw : Words m)
include hw

theorem iblk0 (c : Dev nD) (t : Fin (cfgM m hO).N) (r : Fin 512) (k : Fin 1152) :
    (iblk m hO c 0 t : Vec Ideal S512x1152 .f32) (ix2 r k) = m ((c : Thread nD τ).loc main_arg4) (ix2 (src (wb m hO t) r) k) := by
  have hb : (wb m hO t).toNat < 168 := hw.blk _
  refine congrArg (m (c.tc.loc main_arg4) : S86016x1152.Idx → EReal) (funext fun a => Fin.ext ?_)
  match a with
  | ⟨0, _⟩ =>
    show (Pipeline.Prefetch.Contents.at (tbl m) 2 (Rect.unit (s := S168) (k0_off1 (grid0.coords t)) S1.size (k0_off1_inb (grid0.coords t))) numel1_S1 : BitVec 32).toNat * 512 + 1 * r.val
      = ((wb m hO t).toNat * 512 + r.val) % 86016
    rw [at2]; omega
  | ⟨1, _⟩ => show 0 * 1152 + 1 * k.val = k.val; omega

theorem iblk1 (c : Dev nD) (t : Fin (cfgM m hO).N) (d : Fin 1024) (f : Fin 512) :
    (iblk m hO c 1 t : Vec Ideal S1x1024x512 .bf16) (ix3 0 d f) = m ((c : Thread nD τ).loc main_arg5) (ix3 (ex (w1 m hO t)) d f) := by
  have hb : (w1 m hO t).toNat < 16 := hw.e1 _
  refine congrArg (m (c.tc.loc main_arg5) : S16x1024x512.Idx → EReal) (funext fun a => Fin.ext ?_)
  match a with
  | ⟨0, _⟩ =>
    show (Pipeline.Prefetch.Contents.at (tbl m) 0 (Rect.unit (s := S168) (k0_off1 (grid0.coords t)) S1.size (k0_off1_inb (grid0.coords t))) numel1_S1 : BitVec 32).toNat * 1 + 1 * 0
      = (w1 m hO t).toNat % 16
    rw [at0]; omega
  | ⟨1, _⟩ => show 0 * 1024 + 1 * d.val = d.val; omega
  | ⟨2, _⟩ => show 0 * 512 + 1 * f.val = f.val; omega

theorem iblk2 (c : Dev nD) (t : Fin (cfgM m hO).N) (d : Fin 1024) (f : Fin 512) :
    (iblk m hO c 2 t : Vec Ideal S1x1024x512 .bf16) (ix3 0 d f) = m ((c : Thread nD τ).loc main_arg6) (ix3 (ex (w1 m hO t)) d f) := by
  have hb : (w1 m hO t).toNat < 16 := hw.e1 _
  refine congrArg (m (c.tc.loc main_arg6) : S16x1024x512.Idx → EReal) (funext fun a => Fin.ext ?_)
  match a with
  | ⟨0, _⟩ =>
    show (Pipeline.Prefetch.Contents.at (tbl m) 0 (Rect.unit (s := S168) (k0_off1 (grid0.coords t)) S1.size (k0_off1_inb (grid0.coords t))) numel1_S1 : BitVec 32).toNat * 1 + 1 * 0
      = (w1 m hO t).toNat % 16
    rw [at0]; omega
  | ⟨1, _⟩ => show 0 * 1024 + 1 * d.val = d.val; omega
  | ⟨2, _⟩ => show 0 * 512 + 1 * f.val = f.val; omega

theorem iblk3 (c : Dev nD) (t : Fin (cfgM m hO).N) (f : Fin 512) (C : Fin 1024) :
    (iblk m hO c 3 t : Vec Ideal S1x512x1024 .bf16) (ix3 0 f C) = m ((c : Thread nD τ).loc main_arg7) (ix3 (ex (w1 m hO t)) f C) := by
  have hb : (w1 m hO t).toNat < 16 := hw.e1 _
  refine congrArg (m (c.tc.loc main_arg7) : S16x512x1024.Idx → EReal) (funext fun a => Fin.ext ?_)
  match a with
  | ⟨0, _⟩ =>
    show (Pipeline.Prefetch.Contents.at (tbl m) 0 (Rect.unit (s := S168) (k0_off1 (grid0.coords t)) S1.size (k0_off1_inb (grid0.coords t))) numel1_S1 : BitVec 32).toNat * 1 + 1 * 0
      = (w1 m hO t).toNat % 16
    rw [at0]; omega
  | ⟨1, _⟩ => show 0 * 512 + 1 * f.val = f.val; omega
  | ⟨2, _⟩ => show 0 * 1024 + 1 * C.val = C.val; omega

theorem iblk4 (c : Dev nD) (t : Fin (cfgM m hO).N) (d : Fin 1024) (f : Fin 512) :
    (iblk m hO c 4 t : Vec Ideal S1x1024x512 .bf16) (ix3 0 d f) = m ((c : Thread nD τ).loc main_arg5) (ix3 (ex (w2 m hO t)) d f) := by
  have hb : (w2 m hO t).toNat < 16 := hw.e2 _
  refine congrArg (m (c.tc.loc main_arg5) : S16x1024x512.Idx → EReal) (funext fun a => Fin.ext ?_)
  match a with
  | ⟨0, _⟩ =>
    show (Pipeline.Prefetch.Contents.at (tbl m) 1 (Rect.unit (s := S168) (k0_off1 (grid0.coords t)) S1.size (k0_off1_inb (grid0.coords t))) numel1_S1 : BitVec 32).toNat * 1 + 1 * 0
      = (w2 m hO t).toNat % 16
    rw [at1]; omega
  | ⟨1, _⟩ => show 0 * 1024 + 1 * d.val = d.val; omega
  | ⟨2, _⟩ => show 0 * 512 + 1 * f.val = f.val; omega

theorem iblk5 (c : Dev nD) (t : Fin (cfgM m hO).N) (d : Fin 1024) (f : Fin 512) :
    (iblk m hO c 5 t : Vec Ideal S1x1024x512 .bf16) (ix3 0 d f) = m ((c : Thread nD τ).loc main_arg6) (ix3 (ex (w2 m hO t)) d f) := by
  have hb : (w2 m hO t).toNat < 16 := hw.e2 _
  refine congrArg (m (c.tc.loc main_arg6) : S16x1024x512.Idx → EReal) (funext fun a => Fin.ext ?_)
  match a with
  | ⟨0, _⟩ =>
    show (Pipeline.Prefetch.Contents.at (tbl m) 1 (Rect.unit (s := S168) (k0_off1 (grid0.coords t)) S1.size (k0_off1_inb (grid0.coords t))) numel1_S1 : BitVec 32).toNat * 1 + 1 * 0
      = (w2 m hO t).toNat % 16
    rw [at1]; omega
  | ⟨1, _⟩ => show 0 * 1024 + 1 * d.val = d.val; omega
  | ⟨2, _⟩ => show 0 * 512 + 1 * f.val = f.val; omega

theorem iblk6 (c : Dev nD) (t : Fin (cfgM m hO).N) (f : Fin 512) (C : Fin 1024) :
    (iblk m hO c 6 t : Vec Ideal S1x512x1024 .bf16) (ix3 0 f C) = m ((c : Thread nD τ).loc main_arg7) (ix3 (ex (w2 m hO t)) f C) := by
  have hb : (w2 m hO t).toNat < 16 := hw.e2 _
  refine congrArg (m (c.tc.loc main_arg7) : S16x512x1024.Idx → EReal) (funext fun a => Fin.ext ?_)
  match a with
  | ⟨0, _⟩ =>
    show (Pipeline.Prefetch.Contents.at (tbl m) 1 (Rect.unit (s := S168) (k0_off1 (grid0.coords t)) S1.size (k0_off1_inb (grid0.coords t))) numel1_S1 : BitVec 32).toNat * 1 + 1 * 0
      = (w2 m hO t).toNat % 16
    rw [at1]; omega
  | ⟨1, _⟩ => show 0 * 512 + 1 * f.val = f.val; omega
  | ⟨2, _⟩ => show 0 * 1024 + 1 * C.val = C.val; omega

omit hw in
/-- The word the body branches on. -/
theorem word_eq (t : Fin (cfgM m hO).N) :
    tbM0_3.view.readAt (Elt Ideal) (Rect.unit (s := S168) (k0_off1 (grid0.coords t)) S1.size (k0_off1_inb (grid0.coords t))).toLoadRect (tbl m 3) (Shape.Idx.first (numel1_S1.symm ▸ Nat.one_pos))
      = (tbl m 3 : S168.Idx → BitVec 32) (ix1 (row m hO t)) := by
  have hc := coords_eq t
  have ht : t.val < 168 := N_eq m hO ▸ t.isLt
  have e : (BitVec.ofNat 32 ((grid0.coords t) 0).val).toNat = t.val := by rw [BitVec.toNat_ofNat, hc]; omega
  refine congrArg (tbl m 3 : S168.Idx → BitVec 32) (funext fun a => Fin.ext ?_)
  match a with
  | ⟨0, _⟩ =>
    show (BitVec.ofNat 32 ((grid0.coords t) 0).val).toNat + 1 * 0 = t.val
    omega

/-- What the result array is shown to hold. -/
def val (m : (ℓ : Loc nD τ sig) → Buf (Elt Ideal) ℓ) (c : Dev nD) : Buf (Elt Ideal) ((c : Thread nD τ).loc main_v0) :=
  moe (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What the body leaves at point `t`, entry by entry. -/
theorem outs_apply (c : Dev nD) (t : Fin (cfgM m hO).N) (r : Fin 512) (C : Fin 1024) :
    outsAt0 m hO c t (ix2 r C) = entry (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (row m hO t) r C := by
  obtain rfl : c = 0 := Subsingleton.elim _ _
  have hwd := word_eq m hO t
  unfold entry
  by_cases h0 : cond0_0 (grid0.coords t) (tbM0_3.view.readAt (Elt Ideal) (Rect.unit (s := S168) (k0_off1 (grid0.coords t)) S1.size (k0_off1_inb (grid0.coords t))).toLoadRect (tbl m 3) (Shape.Idx.first (numel1_S1.symm ▸ Nat.one_pos)))
  · have hv : Scalar.cmpi .sgt ((tbl m 3 : S168.Idx → BitVec 32) (ix1 (row m hO t))) 0#32 = 1#1 := (cond_iff _).mp (hwd ▸ h0)
    refine (congrFun (outsAt0_A m hO 0 t h0) _).trans ((congrFun (Block.out_A _ _ _ _ _ _ _ _ _ _ _ _ _ _ _ _ _ _ _ _ _ _ _ _ _ _ _ _ _ h0) _).trans ((Block.pay2_apply _ _ _ _ _ _ _ _ _ r C).trans ?_))
    refine Eq.trans ?_ (if_pos hv).symm
    refine congrArg₂ (· + ·) ?_ ?_
    · unfold half
      congr 1
      · funext d; exact (Block.ldx_apply _ r d).trans (iblk0 m hO hw 0 t r _)
      · exact (Block.ldw1_apply _ r).trans (iblk0 m hO hw 0 t r _)
      · funext d f; exact iblk1 m hO hw 0 t d f
      · funext d f; exact iblk2 m hO hw 0 t d f
      · funext f; exact iblk3 m hO hw 0 t f C
    · unfold half
      congr 1
      · funext d; exact (Block.ldx_apply _ r d).trans (iblk0 m hO hw 0 t r _)
      · exact (Block.ldw2_apply _ r).trans (iblk0 m hO hw 0 t r _)
      · funext d f; exact iblk4 m hO hw 0 t d f
      · funext d f; exact iblk5 m hO hw 0 t d f
      · funext f; exact iblk6 m hO hw 0 t f C
  · have hv : ¬ Scalar.cmpi .sgt ((tbl m 3 : S168.Idx → BitVec 32) (ix1 (row m hO t))) 0#32 = 1#1 := fun h => h0 (hwd ▸ (cond_iff _).mpr h)
    exact (congrFun (outsAt0_B m hO 0 t h0) _).trans ((congrFun (Block.out_B _ _ _ _ _ _ _ _ _ _ _ _ _ _ _ _ _ _ _ _ _ _ _ _ _ _ _ _ _ h0) _).trans ((Block.zero_apply _).trans (if_neg hv).symm))

omit hw in
/-- Row `r` of the block written back at point `t` is row `512 t + r` of the result. -/
theorem emb_eq (t : Fin (cfgM m hO).N) (y : S512x1024.Idx) :
    ((((cfgM m hO).win 7).blk t).view.emb y : S86016x1024.Idx) = ix2 (⟨t.val * 512 + (y 0).val, by have := N_eq m hO; have := t.isLt; have : (y 0).val < 512 := (y 0).isLt; omega⟩ : Fin 86016) (y 1) := by
  have hc := coords_eq t
  have ht : t.val < 168 := N_eq m hO ▸ t.isLt
  have e : (BitVec.ofNat 32 ((grid0.coords t) 0).val).toNat = t.val := by rw [BitVec.toNat_ofNat, hc]; omega
  refine funext fun a => Fin.ext ?_
  match a with
  | ⟨0, _⟩ => show (BitVec.ofNat 32 ((grid0.coords t) 0).val).toNat * 512 + 1 * (y 0).val = t.val * 512 + (y 0).val; rw [e]; omega
  | ⟨1, _⟩ => show 0 * 1024 + 1 * (y 1).val = (y 1).val; omega

/-- What point `t` writes back is its block of `val`. -/
theorem flushed_eq (c : Dev nD) (t : Fin (cfgM m hO).N) :
    (dats m hO 0 c).flushed 7 t = (((cfgM m hO).win 7).blk t).view.read (Elt Ideal) (val m c) := by
  have ht : t.val < 168 := N_eq m hO ▸ t.isLt
  show ((cfgM m hO).win 7).cut (grid0.coords t) ((dats m hO 0 c).after 7 t) = _
  rw [after0_7]
  refine funext fun (y : S512x1024.Idx) => ?_
  have hy : y = ix2 (y 0) (y 1) := funext fun a => by match a with | ⟨0, _⟩ => rfl | ⟨1, _⟩ => rfl
  have l0 : (y 0).val < 512 := (y 0).isLt
  show outsAt0 m hO c t y = (val m c : S86016x1024.Idx → EReal) ((((cfgM m hO).win 7).blk t).view.emb y)
  refine Eq.trans ?_ (congrArg (val m c : S86016x1024.Idx → EReal) (emb_eq m hO t y)).symm
  refine (congrArg (outsAt0 m hO c t) hy).trans ((outs_apply m hO hw c t (y 0) (y 1)).trans ?_)
  unfold val moe
  congr 1
  · exact Fin.ext (by show t.val = (t.val * 512 + (y 0).val) / 512; omega)
  · exact Fin.ext (by show (y 0).val = (t.val * 512 + (y 0).val) % 512; omega)

omit hw in
theorem cover (i : S86016x1024.Idx) : ∃ t : Fin (cfgM m hO).N, ((cfgM m hO).win 7).flush t = true ∧ i ∈ (((cfgM m hO).win 7).blk t).view.set := by
  have h0 : (i 0).val < 86016 := (i 0).isLt
  have hN := N_eq m hO
  have hr : (i 0).val % 512 < 512 := Nat.mod_lt _ (by omega)
  have hl : (i 0).val / 512 < (cfgM m hO).N := by rw [hN]; omega
  have hm := View.emb_mem_set (((cfgM m hO).win 7).blk ⟨(i 0).val / 512, hl⟩).view (ix2 (⟨(i 0).val % 512, hr⟩ : Fin 512) (i 1) : S512x1024.Idx)
  have he : ((((cfgM m hO).win 7).blk ⟨(i 0).val / 512, hl⟩).view.emb (ix2 (⟨(i 0).val % 512, hr⟩ : Fin 512) (i 1) : S512x1024.Idx) : S86016x1024.Idx) = i :=
    (emb_eq m hO _ _).trans (funext fun a => Fin.ext (by
      match a with
      | ⟨0, _⟩ => show (i 0).val / 512 * 512 + (i 0).val % 512 = (i 0).val; omega
      | ⟨1, _⟩ => rfl))
  exact ⟨⟨(i 0).val / 512, hl⟩, flush0_7 (adm m hO) _,
    (congrArg (fun z : (((cfgM m hO).win 7).blk ⟨(i 0).val / 512, hl⟩).view.ty.Idx => z ∈ (((cfgM m hO).win 7).blk ⟨(i 0).val / 512, hl⟩).view.set) he).mp hm⟩

theorem final_o (c : Dev nD) : (dats m hO 0 c).arrAt 7 (cfgM m hO).N = val m c :=
  (dats m hO 0 c).arrAt_eq_of_cover 7 (val m c) (fun t _ => flushed_eq m hO hw c t) (cover m hO)

include hO in
/-- The run, read: the result array at `val`, the arguments unchanged. -/
theorem run : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 7).trans (final_o m hO hw c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats m hO 0 c).arrAt_in 0 rfl _).trans ((A_eq m hO c 0).trans (V_main_arg4 m c))),
      ((h c).1 4).trans (((dats m hO 0 c).arrAt_in 4 rfl _).trans ((A_eq m hO c 4).trans (V_main_arg5 m c))),
      ((h c).1 5).trans (((dats m hO 0 c).arrAt_in 5 rfl _).trans ((A_eq m hO c 5).trans (V_main_arg6 m c))),
      ((h c).1 6).trans (((dats m hO 0 c).arrAt_in 6 rfl _).trans ((A_eq m hO c 6).trans (V_main_arg7 m c)))⟩)
    (run_main m ρ hO)

end Cert.ExpertsIdeal.Value

end
-- ==== Proof.DenseRead.lean ====
/- The dense reference of the experts call, read entry by entry: the row a block names, the weight of each expert at it, and the sum over all the experts. -/
module

public import proofs.«01_k».proof.Proof.Softmax
public import proofs.«01_k».proof.Proof.ExI.Value
public import proofs.«01_k».proof.Proof.Gen.DenseIdeal.Read
public import Idealize.ShloMosaic.Lib.Routing.Ops
public import Idealize.ShloMosaic.Lib.IdealHost

@[expose] public section

set_option maxRecDepth 16384

noncomputable section

namespace Cert.DenseIdeal.DRead

open Cert.DenseIdeal Cert.DenseIdeal.Gen Cert.DenseIdeal.Read Idealize.ShloMosaic Idealize.ShloMosaic.TcCoe
open Cert.ExpertsIdeal.Value (ex src)
open Cert.ExpertsIdeal.Block (unit expert)

/-- Row `R`'s block. -/
def blkOf (R : Fin 86016) : Fin 168 := ⟨R.val / 512, by omega⟩
/-- Row `R`'s place in its block. -/
def inBlk (R : Fin 86016) : Fin 512 := ⟨R.val % 512, Nat.mod_lt _ (by omega)⟩

variable (x0 x1 x2 x3 : S168.Idx → BitVec 32) (x4 : S86016x1152.Idx → EReal) (x5 x6 : S16x1024x512.Idx → EReal) (x7 : S16x512x1024.Idx → EReal)

/-- A word times a number plus a number, below the word size. -/
theorem word_mul_add (w : BitVec 32) (n r : Nat) (hw : w.toNat * n + r < 2 ^ 32) (hn : n < 2 ^ 32) (hr : r < 2 ^ 32) :
    w * BitVec.ofNat 32 n + BitVec.ofNat 32 r = BitVec.ofNat 32 (w.toNat * n + r) := by
  apply BitVec.eq_of_toNat_eq
  rw [BitVec.toNat_add, BitVec.toNat_mul, BitVec.toNat_ofNat, BitVec.toNat_ofNat, BitVec.toNat_ofNat, Nat.mod_eq_of_lt hn, Nat.mod_eq_of_lt hr]
  have h1 : w.toNat * n < 2 ^ 32 := by omega
  rw [Nat.mod_eq_of_lt h1]

theorem not_slt (n : Nat) (h : n < 2 ^ 31) : IntOp.cmpi .slt (BitVec.ofNat 32 n) 0#32 = 0#1 := by
  have b : ∀ p : Bool, (BitVec.ofBool p = 0#1) ↔ p = false := by decide
  simp only [IntOp.cmpi, b, BitVec.slt, decide_eq_false_iff_not, BitVec.toInt, BitVec.toNat_ofNat]
  omega

section
variable (h2 : ∀ i, (x2 i).toNat < 168)
include h2

/-- The number of the row read for row `R`. -/
theorem row_word (R : Fin 86016) : val_main_v8 (F := Ideal) x2 (ix1 R) = BitVec.ofNat 32 (src (x2 (ix1 (blkOf R))) (inBlk R)).val := by
  have hb : (x2 (ix1 (blkOf R))).toNat < 168 := h2 _
  have hr : R.val % 512 < 512 := Nat.mod_lt _ (by omega)
  rw [val_main_v8_apply, val_main_v7_apply, val_main_v5_apply, val_main_v2_apply, val_main_v0_apply, val_main_v1_apply, val_main_c_apply,
    val_main_v6_apply, val_main_v4_apply, val_main_v3_apply]
  have hi : idx_main_v0 (idx_main_v5 (idx_main_v8 (ix1 R))) = ix1 (blkOf R) := funext fun a => by match a with | ⟨0, _⟩ => rfl
  rw [hi]
  refine (word_mul_add (x2 (ix1 (blkOf R))) 512 (R.val % 512) (by omega) (by omega) (by omega)).trans ?_
  refine congrArg (BitVec.ofNat 32) ?_
  show _ = ((x2 (ix1 (blkOf R))).toNat * 512 + R.val % 512) % 86016
  omega

theorem index_word (R : Fin 86016) : val_main_v14 (F := Ideal) x2 (ix2 R (0 : Fin 1)) = BitVec.ofNat 32 (src (x2 (ix1 (blkOf R))) (inBlk R)).val := by
  have hi : idx_main_v14 (ix2 R (0 : Fin 1)) = ix1 R := funext fun a => by match a with | ⟨0, _⟩ => rfl
  rw [val_main_v14_apply, hi, val_main_v13_apply, val_main_v10_apply, val_main_v9_apply, val_main_c_0_apply, row_word x2 h2,
    not_slt _ (by have := (src (x2 (ix1 (blkOf R))) (inBlk R)).isLt; omega)]
  exact if_neg (by decide)

/-- Row `R` reads the row its block names. -/
theorem rows (R : Fin 86016) (k : Fin 1152) : val_main_v15 (F := Ideal) x2 x4 (ix2 R k) = x4 (ix2 (src (x2 (ix1 (blkOf R))) (inBlk R)) k) := by
  unfold val_main_v15
  exact Routing.gather_row _ rfl rfl rfl rfl rfl x4 _ R k _ (index_word x2 h2 R) (by decide)

theorem row_x (R : Fin 86016) (d : Fin 1024) : val_main_v16 (F := Ideal) x2 x4 (ix2 R d) = x4 (ix2 (src (x2 (ix1 (blkOf R))) (inBlk R)) (⟨d.val, by omega⟩ : Fin 1152)) := by
  have hi : idx_main_v16 (ix2 R d) = ix2 R (⟨d.val, by omega⟩ : Fin 1152) := funext fun a => by match a with | ⟨0, _⟩ => rfl | ⟨1, _⟩ => rfl
  rw [val_main_v16_apply, hi, rows x2 x4 h2]

theorem row_w1 (R : Fin 86016) : val_main_v27 (F := Ideal) x2 x4 (ix2 R (0 : Fin 1)) = x4 (ix2 (src (x2 (ix1 (blkOf R))) (inBlk R)) (⟨1024, by omega⟩ : Fin 1152)) := by
  have hi : idx_main_v27 (ix2 R (0 : Fin 1)) = ix2 R (⟨1024, by omega⟩ : Fin 1152) := funext fun a => by match a with | ⟨0, _⟩ => rfl | ⟨1, _⟩ => rfl
  rw [val_main_v27_apply, hi, rows x2 x4 h2]

theorem row_w2 (R : Fin 86016) : val_main_v40 (F := Ideal) x2 x4 (ix2 R (0 : Fin 1)) = x4 (ix2 (src (x2 (ix1 (blkOf R))) (inBlk R)) (⟨1025, by omega⟩ : Fin 1152)) := by
  have hi : idx_main_v40 (ix2 R (0 : Fin 1)) = ix2 R (⟨1025, by omega⟩ : Fin 1152) := funext fun a => by match a with | ⟨0, _⟩ => rfl | ⟨1, _⟩ => rfl
  rw [val_main_v40_apply, hi, rows x2 x4 h2]

end

/-- One where the word names the expert, zero elsewhere. -/
def hot (w : BitVec 32) (e : Fin 16) : EReal := if ex w = e then 1 else 0

theorem hot_eq (w : BitVec 32) (hw : w.toNat < 16) (e : Fin 16) :
    FloatOps.uitofp (F := Ideal) .f32 (IntOp.cmpi .eq w (BitVec.ofNat 32 e.val)) = hot w e := by
  have he : e.val < 16 := e.isLt
  have o : FloatOps.uitofp (F := Ideal) .f32 (1#1) = 1 := by
    show (((1#1 : BitVec 1).toNat : ℝ) : EReal) = 1
    norm_num
  have z : FloatOps.uitofp (F := Ideal) .f32 (0#1) = 0 := by
    show (((0#1 : BitVec 1).toNat : ℝ) : EReal) = 0
    norm_num
  unfold hot
  by_cases h : ex w = e
  · have hv : w.toNat % 16 = e.val := congrArg Fin.val h
    have hw' : w = BitVec.ofNat 32 e.val := BitVec.eq_of_toNat_eq (by rw [BitVec.toNat_ofNat]; omega)
    have hc : IntOp.cmpi .eq w (BitVec.ofNat 32 e.val) = 1#1 := by rw [← hw']; simp [IntOp.cmpi]
    rw [if_pos h, hc, o]
  · have hw' : ¬ w = BitVec.ofNat 32 e.val := fun hh => h (Fin.ext (by
      have := congrArg BitVec.toNat hh
      rw [BitVec.toNat_ofNat] at this
      show w.toNat % 16 = e.val
      omega))
    have hc : IntOp.cmpi .eq w (BitVec.ofNat 32 e.val) = 0#1 := by
      have hb : (w == BitVec.ofNat 32 e.val) = false := beq_eq_false_iff_ne.mpr hw'
      simp only [IntOp.cmpi, hb]
      rfl
    rw [if_neg h, hc, z]

theorem hot1 (h0 : ∀ i, (x0 i).toNat < 16) (R : Fin 86016) (e : Fin 16) : val_main_v26 (F := Ideal) x0 (ix2 R e) = hot (x0 (ix1 (blkOf R))) e := by
  rw [val_main_v26_apply, val_main_v25_apply, val_main_v23_apply, val_main_v20_apply, val_main_v19_apply, val_main_v18_apply, val_main_v17_apply,
    val_main_v24_apply, val_main_v22_apply, val_main_v21_apply]
  have hi : idx_main_v17 (idx_main_v18 (idx_main_v19 (idx_main_v20 (idx_main_v23 (ix2 R e))))) = ix1 (blkOf R) := funext fun a => by match a with | ⟨0, _⟩ => rfl
  rw [hi]
  exact hot_eq _ (h0 _) e

theorem hot2 (h1 : ∀ i, (x1 i).toNat < 16) (R : Fin 86016) (e : Fin 16) : val_main_v39 (F := Ideal) x1 (ix2 R e) = hot (x1 (ix1 (blkOf R))) e := by
  rw [val_main_v39_apply, val_main_v38_apply, val_main_v36_apply, val_main_v33_apply, val_main_v32_apply, val_main_v31_apply, val_main_v30_apply,
    val_main_v37_apply, val_main_v35_apply, val_main_v34_apply]
  have hi : idx_main_v30 (idx_main_v31 (idx_main_v32 (idx_main_v33 (idx_main_v36 (ix2 R e))))) = ix1 (blkOf R) := funext fun a => by match a with | ⟨0, _⟩ => rfl
  rw [hi]
  exact hot_eq _ (h1 _) e

section
variable (h0 : ∀ i, (x0 i).toNat < 16) (h1 : ∀ i, (x1 i).toNat < 16) (h2 : ∀ i, (x2 i).toNat < 168)
include h2

/-- The gate's product, its factors in the kernel's order. -/
theorem gate (R : Fin 86016) (e : Fin 16) (f : Fin 512) : val_main_v48 (F := Ideal) x2 x4 x5 (ix3 e R f)
    = ∑ d, x4 (ix2 (src (x2 (ix1 (blkOf R))) (inBlk R)) (⟨d.val, by omega⟩ : Fin 1152)) * x5 (ix3 e d f) := by
  rw [val_main_v48_apply, val_main_v47_apply]
  refine Finset.sum_congr rfl fun d _ => ?_
  have hl : lidx_main_v47 (idx_main_v48 (ix3 e R f)) d = ix3 e d f := funext fun a => by match a with | ⟨0, _⟩ => rfl | ⟨1, _⟩ => rfl | ⟨2, _⟩ => rfl
  have hr : ridx_main_v47 (idx_main_v48 (ix3 e R f)) d = ix2 R d := funext fun a => by match a with | ⟨0, _⟩ => rfl | ⟨1, _⟩ => rfl
  rw [hl, hr, row_x x2 x4 h2, mul_comm]
  rfl

theorem up (R : Fin 86016) (e : Fin 16) (f : Fin 512) : val_main_v51 (F := Ideal) x2 x4 x6 (ix3 e R f)
    = ∑ d, x4 (ix2 (src (x2 (ix1 (blkOf R))) (inBlk R)) (⟨d.val, by omega⟩ : Fin 1152)) * x6 (ix3 e d f) := by
  rw [val_main_v51_apply, val_main_v50_apply]
  refine Finset.sum_congr rfl fun d _ => ?_
  have hl : lidx_main_v50 (idx_main_v51 (ix3 e R f)) d = ix3 e d f := funext fun a => by match a with | ⟨0, _⟩ => rfl | ⟨1, _⟩ => rfl | ⟨2, _⟩ => rfl
  have hr : ridx_main_v50 (idx_main_v51 (ix3 e R f)) d = ix2 R d := funext fun a => by match a with | ⟨0, _⟩ => rfl | ⟨1, _⟩ => rfl
  rw [hl, hr, row_x x2 x4 h2, mul_comm]
  rfl

/-- One hidden unit of expert `e` at row `R`. -/
theorem hidden (R : Fin 86016) (e : Fin 16) (f : Fin 512) : val_main_v52 (F := Ideal) x2 x4 x5 x6 (ix3 e R f)
    = unit (fun d => x4 (ix2 (src (x2 (ix1 (blkOf R))) (inBlk R)) (⟨d.val, by omega⟩ : Fin 1152))) (fun d => x5 (ix3 e d f)) (fun d => x6 (ix3 e d f)) := by
  rw [val_main_v52_apply, val_main_v49_apply, val_main_call0_v5_apply, val_main_call0_v4_apply, val_main_call0_cst_0_apply, val_main_call0_v3_apply,
    val_main_call0_v2_apply, val_main_call0_cst_apply, val_main_call0_v1_apply, val_main_call0_v0_apply, gate x2 x4 x5 h2, up x2 x4 x6 h2]
  unfold unit
  show _ * Ideal.div (Ideal.ofBits .f32 0x3F800000#32) (Ideal.ofBits .f32 0x3F800000#32 + Ideal.exp (-_)) * _ = _
  rw [Idealize.ShloMosaic.Ideal.ofBits_one_f32]
  rfl

/-- One expert's row, not yet weighted. -/
theorem product (R : Fin 86016) (e : Fin 16) (C : Fin 1024) : val_main_v55 (F := Ideal) x2 x4 x5 x6 x7 (ix3 e R C)
    = ∑ f, unit (fun d => x4 (ix2 (src (x2 (ix1 (blkOf R))) (inBlk R)) (⟨d.val, by omega⟩ : Fin 1152))) (fun d => x5 (ix3 e d f)) (fun d => x6 (ix3 e d f)) * x7 (ix3 e f C) := by
  rw [val_main_v55_apply]
  refine Finset.sum_congr rfl fun f _ => ?_
  have hl : lidx_main_v55 (ix3 e R C) f = ix3 e R f := funext fun a => by match a with | ⟨0, _⟩ => rfl | ⟨1, _⟩ => rfl | ⟨2, _⟩ => rfl
  have hr : ridx_main_v55 (ix3 e R C) f = ix3 e f C := funext fun a => by match a with | ⟨0, _⟩ => rfl | ⟨1, _⟩ => rfl | ⟨2, _⟩ => rfl
  rw [hl, hr, hidden x2 x4 x5 x6 h2]
  rfl

include h0 h1

/-- The weight of expert `e` at row `R`. -/
theorem weight (R : Fin 86016) (e : Fin 16) (C : Fin 1024) : val_main_v56 (F := Ideal) x0 x1 x2 x4 (ix3 e R C)
    = hot (x0 (ix1 (blkOf R))) e * x4 (ix2 (src (x2 (ix1 (blkOf R))) (inBlk R)) (⟨1024, by omega⟩ : Fin 1152))
      + hot (x1 (ix1 (blkOf R))) e * x4 (ix2 (src (x2 (ix1 (blkOf R))) (inBlk R)) (⟨1025, by omega⟩ : Fin 1152)) := by
  have hi : idx_main_v53 (idx_main_v54 (idx_main_v56 (ix3 e R C))) = ix2 R e := funext fun a => by match a with | ⟨0, _⟩ => rfl | ⟨1, _⟩ => rfl
  have hj : idx_main_v28 (ix2 R e) = ix2 R (0 : Fin 1) := funext fun a => by match a with | ⟨0, _⟩ => rfl | ⟨1, _⟩ => rfl
  have hk : idx_main_v41 (ix2 R e) = ix2 R (0 : Fin 1) := funext fun a => by match a with | ⟨0, _⟩ => rfl | ⟨1, _⟩ => rfl
  rw [val_main_v56_apply, val_main_v54_apply, val_main_v53_apply, hi, val_main_v43_apply, val_main_v29_apply, val_main_v42_apply,
    val_main_v28_apply, val_main_v41_apply, hj, hk, row_w1 x2 x4 h2, row_w2 x2 x4 h2, hot1 x0 h0, hot2 x1 h1]
  rfl

/-- The reference's entry. -/
theorem result (R : Fin 86016) (C : Fin 1024) : val_main_v65 (F := Ideal) x0 x1 x2 x3 x4 x5 x6 x7 (ix2 R C)
    = if Scalar.cmpi .sgt (x3 (ix1 (blkOf R))) 0#32 = 1#1 then
        ∑ e, (hot (x0 (ix1 (blkOf R))) e * x4 (ix2 (src (x2 (ix1 (blkOf R))) (inBlk R)) (⟨1024, by omega⟩ : Fin 1152))
            + hot (x1 (ix1 (blkOf R))) e * x4 (ix2 (src (x2 (ix1 (blkOf R))) (inBlk R)) (⟨1025, by omega⟩ : Fin 1152)))
          * ∑ f, unit (fun d => x4 (ix2 (src (x2 (ix1 (blkOf R))) (inBlk R)) (⟨d.val, by omega⟩ : Fin 1152))) (fun d => x5 (ix3 e d f)) (fun d => x6 (ix3 e d f)) * x7 (ix3 e f C)
      else 0 := by
  have z : Ideal.ofBits .f32 0x00000000#32 = 0 := by simp [Ideal.ofBits, Ideal.ieee]
  have hv : val_main_call1_v1 (F := Ideal) x3 (ix2 R C) = Scalar.cmpi .sgt (x3 (ix1 (blkOf R))) 0#32 := by
    rw [val_main_call1_v1_apply, val_main_v64_apply, val_main_v62_apply, val_main_v61_apply, val_main_v60_apply, val_main_v59_apply, val_main_v63_apply, val_main_c_2_apply]
    have hi : idx_main_v59 (idx_main_v60 (idx_main_v61 (idx_main_v62 (idx_main_call1_v1 (ix2 R C))))) = ix1 (blkOf R) := funext fun a => by match a with | ⟨0, _⟩ => rfl
    rw [hi]
    rfl
  have hs : val_main_v58 (F := Ideal) x0 x1 x2 x4 x5 x6 x7 (ix2 R C)
      = ∑ e, (hot (x0 (ix1 (blkOf R))) e * x4 (ix2 (src (x2 (ix1 (blkOf R))) (inBlk R)) (⟨1024, by omega⟩ : Fin 1152))
            + hot (x1 (ix1 (blkOf R))) e * x4 (ix2 (src (x2 (ix1 (blkOf R))) (inBlk R)) (⟨1025, by omega⟩ : Fin 1152)))
          * ∑ f, unit (fun d => x4 (ix2 (src (x2 (ix1 (blkOf R))) (inBlk R)) (⟨d.val, by omega⟩ : Fin 1152))) (fun d => x5 (ix3 e d f)) (fun d => x6 (ix3 e d f)) * x7 (ix3 e f C) := by
    rw [val_main_v58_apply, val_main_cst_apply]
    show Ideal.ofBits .f32 0x00000000#32 + _ = _
    rw [z, zero_add]
    refine Finset.sum_congr rfl fun e _ => ?_
    have hi : idx_main_v58 (ix2 R C) e = ix3 e R C := funext fun a => by match a with | ⟨0, _⟩ => rfl | ⟨1, _⟩ => rfl | ⟨2, _⟩ => rfl
    rw [hi, val_main_v57_apply, weight x0 x1 x2 x4 h0 h1 h2, product x2 x4 x5 x6 x7 h2]
    rfl
  have hz : val_main_call1_v2 (F := Ideal) (ix2 R C) = 0 := by
    rw [val_main_call1_v2_apply, val_main_call1_v0_apply, val_main_cst_3_apply]
    exact z
  rw [val_main_v65_apply, hv, hs, hz]
  rfl

end

/-- The dense sum is the sum of the two experts named: every other expert's weight is zero. -/
theorem two_experts (a b : BitVec 32) (u v : ℝ) (hu : 0 ≤ u) (hv : 0 ≤ v) (E : Fin 16 → EReal) :
    ∑ e, (hot a e * (u : EReal) + hot b e * (v : EReal)) * E e = (u : EReal) * E (ex a) + (v : EReal) * E (ex b) := by
  have pick : ∀ (w : BitVec 32) (r : ℝ), ∑ e, hot w e * (r : EReal) * E e = (r : EReal) * E (ex w) := fun w r => by
    rw [Finset.sum_eq_single (ex w)]
    · unfold hot; rw [if_pos rfl, one_mul]
    · intro e _ he; unfold hot; rw [if_neg (Ne.symm he), zero_mul, zero_mul]
    · intro h; exact absurd (Finset.mem_univ _) h
  have nn : ∀ (w : BitVec 32) (r : ℝ), 0 ≤ r → ∀ e, 0 ≤ hot w e * (r : EReal) := fun w r hr e => by
    refine mul_nonneg ?_ (EReal.coe_nonneg.2 hr)
    unfold hot; split
    · exact zero_le_one
    · exact le_refl _
  rw [← pick a u, ← pick b v, ← Finset.sum_add_distrib]
  exact Finset.sum_congr rfl fun e _ => EReal.right_distrib_of_nonneg (nn a u hu e) (nn b v hv e)

/-- A weight on the hidden units is a weight on their product. -/
theorem expert_eq (x : Fin 1024 → EReal) (r : ℝ) (hr : 0 ≤ r) (wg wu : Fin 1024 → Fin 512 → EReal) (wd : Fin 512 → EReal) :
    expert x (r : EReal) wg wu wd = (r : EReal) * ∑ f, unit x (fun d => wg d f) (fun d => wu d f) * wd f := by
  unfold expert
  rw [mul_comm, Cert.Softmax.sum_mul_coe _ _ _ hr]
  exact Finset.sum_congr rfl fun f _ => mul_right_comm _ _ _

/-- The two programs' results agree at each entry. -/
theorem agree (h0 : ∀ i, (x0 i).toNat < 16) (h1 : ∀ i, (x1 i).toNat < 16) (h2 : ∀ i, (x2 i).toNat < 168)
    (hw : ∀ (R : Fin 86016) (k : Fin 2), ∃ r : ℝ, 0 ≤ r ∧ x4 (ix2 R (⟨1024 + k.val, by omega⟩ : Fin 1152)) = r) (R : Fin 86016) (C : Fin 1024) :
    val_main_v65 (F := Ideal) x0 x1 x2 x3 x4 x5 x6 x7 (ix2 R C) = Cert.ExpertsIdeal.Value.moe x0 x1 x2 x3 x4 x5 x6 x7 (ix2 R C) := by
  refine (result x0 x1 x2 x3 x4 x5 x6 x7 h0 h1 h2 R C).trans ?_
  unfold Cert.ExpertsIdeal.Value.moe Cert.ExpertsIdeal.Value.entry
  show _ = if Scalar.cmpi .sgt (x3 (ix1 (blkOf R))) 0#32 = 1#1 then
      Cert.ExpertsIdeal.Value.half x4 x5 x6 x7 (src (x2 (ix1 (blkOf R))) (inBlk R)) ⟨1024, by omega⟩ (ex (x0 (ix1 (blkOf R)))) C
        + Cert.ExpertsIdeal.Value.half x4 x5 x6 x7 (src (x2 (ix1 (blkOf R))) (inBlk R)) ⟨1025, by omega⟩ (ex (x1 (ix1 (blkOf R)))) C
    else 0
  obtain ⟨u, hu, eu⟩ := hw (src (x2 (ix1 (blkOf R))) (inBlk R)) 0
  obtain ⟨v, hv, ev⟩ := hw (src (x2 (ix1 (blkOf R))) (inBlk R)) 1
  have eu' : x4 (ix2 (src (x2 (ix1 (blkOf R))) (inBlk R)) (⟨1024, by omega⟩ : Fin 1152)) = (u : EReal) := eu
  have ev' : x4 (ix2 (src (x2 (ix1 (blkOf R))) (inBlk R)) (⟨1025, by omega⟩ : Fin 1152)) = (v : EReal) := ev
  unfold Cert.ExpertsIdeal.Value.half
  rw [eu', ev', expert_eq _ u hu, expert_eq _ v hv, two_experts _ _ u v hu hv]

end Cert.DenseIdeal.DRead

end
-- ==== Proof.Moe.lean ====
/- The experts call and its dense reference agree: frames, and the equality of the results under the precondition on the tables. -/
module

public import proofs.«01_k».proof.Defs
public import proofs.«01_k».proof.Proof.Ex.Tab
public import proofs.«01_k».proof.Proof.ExI.Value
public import proofs.«01_k».proof.Proof.DenseRead
public import proofs.«01_k».proof.Proof.Gen.DenseIdeal.Run
public import Idealize.ShloMosaic.Adequacy
public import Idealize.ShloMosaic.Init

@[expose] public section

noncomputable section

namespace Cert.Moe

open Idealize.ShloMosaic Idealize.SL.Sem Idealize.ShloMosaic.TcCoe

theorem frame_e : Cert.quiescent_Experts := fun m ρ h => Cert.Experts.Own.frame m ρ (Cert.Experts.Tab.ok_of_pre m h)
theorem frame_ei : Cert.quiescent_ExpertsIdeal := fun m ρ h => Cert.ExpertsIdeal.Own.frame m ρ (Cert.ExpertsIdeal.Tab.ok_of_pre m h)
theorem frame_di : Cert.quiescent_DenseIdeal := fun m ρ _ =>
  (θ_run Cert.DenseIdeal.defs _ _).mono (fun r h => ⟨fun c => (h c).2,
    Idealize.ShloMosaic.sem_eq_zero_of_no_sems (by decide) r.2⟩) (Cert.DenseIdeal.Value.run (F := Ideal) m ρ)
theorem frame_di_pre : Cert.quiescent_DenseIdeal_pre_plan_tables := fun m ρ _ => frame_di m ρ trivial

theorem algebraic : Cert.algebraic_ExpertsIdeal_DenseIdeal := by
  intro m g m' g' hpre hagree
  have hW : Cert.ExpertsIdeal.Value.Words m := by
    obtain ⟨a, b, d⟩ := Cert.Tables.words_of_pre (F := Ideal) _ _ _ _ _ _ _ _ (hpre 0)
    exact ⟨a, b, d⟩
  refine ⟨fun c => Cert.ExpertsIdeal.Value.val m c, Cert.ExpertsIdeal.Value.run m g (Cert.ExpertsIdeal.Tab.ok_of_pre m hpre) hW, ?_⟩
  refine (θ_run Cert.DenseIdeal.defs _ _).mono (fun r h c => ⟨(h c).1.trans ?_, (h c).2⟩) (Cert.DenseIdeal.Value.run (F := Ideal) m' g')
  obtain ⟨w0, w1, w2⟩ := Cert.Tables.words_of_pre (F := Ideal) _ _ _ _ _ _ _ _ (hpre c)
  have ww := Cert.Tables.weights_of_pre _ _ _ _ _ _ _ _ (hpre c)
  obtain ⟨e0, e1, e2, e3, e4, e5, e6, e7⟩ := hagree c
  rw [Cert.DenseIdeal.Read.val_main_v65_eq, e0, e1, e2, e3, e4, e5, e6, e7]
  funext y
  have hy : y = ix2 (y 0) (y 1) := funext fun a => by match a with | ⟨0, _⟩ => rfl | ⟨1, _⟩ => rfl
  rw [hy]
  exact Cert.DenseIdeal.DRead.agree _ _ _ _ _ _ _ _ w0 w1 w2 ww (y 0) (y 1)

end Cert.Moe

end
-- ==== Proof.TablesLast.lean ====
/- The precondition of the experts call, decoded: every table word in its range, every routing weight nonnegative and finite. -/
module

public import proofs.«01_k».proof.Defs
public import proofs.«01_k».proof.Proof.Finite
public import proofs.«01_k».proof.Proof.Gen.Pre_plan_tables_last
public import Idealize.ShloMosaic.Lib.ReduceAll
public import Idealize.ShloMosaic.Lib.ValueIdx

@[expose] public section

set_option maxRecDepth 16384

noncomputable section

namespace Cert.TablesLast

open Idealize.ShloMosaic Cert.Pre_plan_tables_last Cert.Finite

/-- A word at least zero and below a bound, both as signed comparisons, is below it as a natural number. -/
theorem word_lt (x : BitVec 32) (n : Nat) (hn : n < 2 ^ 31) (h0 : IntOp.cmpi .sge x 0#32 = 1#1)
    (h1 : IntOp.cmpi .slt x (BitVec.ofNat 32 n) = 1#1) : x.toNat < n := by
  have b : ∀ p : Bool, (BitVec.ofBool p = 1#1) ↔ p = true := by decide
  simp only [IntOp.cmpi, b, BitVec.sle, BitVec.slt, decide_eq_true_eq, BitVec.toInt, BitVec.toNat_ofNat] at h0 h1
  omega

/-- A number at least zero and below infinity, both as comparisons. -/
theorem weight_of_cmp (x : EReal) (h0 : Ideal.cmp .oge x (Ideal.ofBits .f32 0x00000000#32) = 1#1)
    (h1 : Ideal.cmp .olt x (Ideal.ofBits .f32 0x7F800000#32) = 1#1) : ∃ r : ℝ, 0 ≤ r ∧ x = r := by
  have z : Ideal.ofBits .f32 0x00000000#32 = 0 := by simp [Ideal.ofBits, Ideal.ieee]
  rw [z] at h0
  rw [inf_bits] at h1
  have p0 : 0 ≤ x := by by_contra hn; simp [Ideal.cmp, hn] at h0
  have p1 : x < ⊤ := by by_contra hn; simp [Ideal.cmp, hn] at h1
  induction x with
  | bot => simp at p0
  | top => simp at p1
  | coe r => exact ⟨r, by exact_mod_cast p0, rfl⟩

section
variable {F : FTy → Type} [FloatOps F]
variable (e1 e2 blk valid : IVec S152 32) (hs : FVec F S77824x1152 .f32) (wg wu : FVec F S16x1024x512 .bf16) (wd : FVec F S16x512x1024 .bf16)

/-- The tables' words are in range. -/
theorem words_of_pre (h : Cert.Pre_plan_tables_last.fn (F := F) e1 e2 blk valid hs wg wu wd = fun _ => 1#1) :
    (∀ i, (e1 i).toNat < 16) ∧ (∀ i, (e2 i).toNat < 16) ∧ ∀ i, (blk i).toNat < 152 := by
  have e := congrFun h (Shape.Idx.first Facts.h_S_)
  obtain ⟨e20, -⟩ := andi_one _ _ e
  obtain ⟨e13, e19⟩ := andi_one _ _ e20
  obtain ⟨e6, e12⟩ := andi_one _ _ e13
  haveI : Subsingleton S_.Idx := ⟨fun a b => funext fun i => i.elim0⟩
  refine ⟨fun i => ?_, fun i => ?_, fun i => ?_⟩
  · obtain ⟨a, b⟩ := andi_one _ _ (Host.reduce_andi_all _ _ _ _ _ e6 i); exact word_lt _ 16 (by norm_num) a b
  · obtain ⟨a, b⟩ := andi_one _ _ (Host.reduce_andi_all _ _ _ _ _ e12 i); exact word_lt _ 16 (by norm_num) a b
  · obtain ⟨a, b⟩ := andi_one _ _ (Host.reduce_andi_all _ _ _ _ _ e19 i); exact word_lt _ 152 (by norm_num) a b

end

/-- The weights' columns are nonnegative real numbers. -/
theorem weights_of_pre (e1 e2 blk valid : IVec S152 32) (hs : S77824x1152.Idx → EReal) (wg wu : S16x1024x512.Idx → EReal) (wd : S16x512x1024.Idx → EReal)
    (h : Cert.Pre_plan_tables_last.fn (F := Ideal) e1 e2 blk valid hs wg wu wd = fun _ => 1#1) (R : Fin 77824) (k : Fin 2) :
    ∃ r : ℝ, 0 ≤ r ∧ hs (ix2 R (⟨1024 + k.val, by omega⟩ : Fin 1152)) = r := by
  have e := congrFun h (Shape.Idx.first Facts.h_S_)
  obtain ⟨-, e26⟩ := andi_one _ _ e
  haveI : Subsingleton S_.Idx := ⟨fun a b => funext fun i => i.elim0⟩
  obtain ⟨a, b⟩ := andi_one _ _ (Host.reduce_andi_all _ _ _ _ _ e26 (ix2 R k))
  obtain ⟨r, hr, hx⟩ := weight_of_cmp _ a b
  refine ⟨r, hr, Eq.trans (congrArg hs (funext fun a => Fin.ext ?_)) hx⟩
  match a with
  | ⟨0, _⟩ => show R.val = 0 + R.val; omega
  | ⟨1, _⟩ => rfl

end Cert.TablesLast
-- ==== Proof.ExLI.Kit.lean ====
/- What the two cases of the experts body share: the program up to the kernel, the tables, the windows' blocks and buffers. -/
module

public import proofs.«01_k».proof.Proof.Gen.ExpertsLastIdeal.Launch
public import proofs.«01_k».proof.Proof.Gen.ExpertsLastIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsLastIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsLastIdeal.Gen

variable {F : FTy → Type} [FloatOps F]

theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
/-- @main up to the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S152 .i32 := Memref.whole main_arg0
abbrev htbM0_0 : tbM0_0.IsWhole := Memref.isWhole_whole _
abbrev tbM0_1 : Memref sig .tc .smem S152 .i32 := Memref.whole main_arg1
abbrev htbM0_1 : tbM0_1.IsWhole := Memref.isWhole_whole _
abbrev tbM0_2 : Memref sig .tc .smem S152 .i32 := Memref.whole main_arg2
abbrev htbM0_2 : tbM0_2.IsWhole := Memref.isWhole_whole _
abbrev tbM0_3 : Memref sig .tc .smem S152 .i32 := Memref.whole main_arg3
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats 0 c).arrAt_in 0 rfl _).trans ((hA c 0).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

/-- The block has rows to compute: the condition under which the body runs the experts. -/
abbrev cond0_0 (i : grid0.Coords) (v1 : BitVec 32) : Prop := k0_cond2 v1 = 1#1

/-- The two conditions of the body exclude each other, and one of them holds. -/
theorem cond_compl (v : BitVec 32) : k0_cond1 v = 1#1 ↔ ¬ k0_cond2 v = 1#1 := by
  unfold k0_cond1 k0_cond2
  dsimp only
  rcases (show ∀ b : BitVec 1, b = 0#1 ∨ b = 1#1 from by decide) (Scalar.cmpi .sgt v 0#32) with h | h <;>
    rw [h] <;> decide

abbrev VO0_7 : View sig .tc .vmem S512x1024 .f32 := (Memref.whole cc0_stg7_0 : Memref sig .tc .vmem S512x1024 .f32).view
abbrev ms0_0 (hO : Ok m) (t : Fin (cfgM m hO).N) : Memref sig .tc .vmem S512x1152 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x1024 .f32 := spec0_7.stage ((cfgM m hO).slots t 7)
abbrev hs0_7 (hO : Ok m) (t : Fin (cfgM m hO).N) : (ms0_7 m hO t).IsWhole := hstage0_7 (((cfgM m hO).slots t 7).cast nbuf0_7)

end Cert.ExpertsLastIdeal.Own

end
-- ==== Proof.ExLI.RunA.lean ====
/- The experts body, a block with rows. -/
module

public import proofs.«01_k».proof.Proof.ExLI.Kit

@[expose] public section

set_option maxRecDepth 16384

noncomputable section

namespace Cert.ExpertsLastIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsLastIdeal.Gen

variable {F : FTy → Type} [FloatOps F]

variable (m : (ℓ : Loc nD τ sig) → Buf (Elt F) ℓ) (ρ : Dev nD → PrngReg)

set_option maxHeartbeats 1000000 in
/-- The body in a block with rows to compute: what it stores, and that it runs to it. -/
noncomputable def kernelRun0_A (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S152) (k0_off1 i) S1.size (k0_off1_inb i)).toLoadRect xt3 (Shape.Idx.first (numel1_S1.symm ▸ Nat.one_pos)))) :
    { L7 : List (View.Piece (Elt F) S512x1024 .f32) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    have hc1 : ¬k0_cond1 (tbM0_3.view.readAt (Elt F) (Rect.unit (s := S152) (k0_off1 i) S1.size (k0_off1_inb i)).toLoadRect xt3 (Shape.Idx.first (numel1_S1.symm ▸ Nat.one_pos))) = 1#1 := fun h => (cond_compl _).1 h hc0
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HT0]; · iexact HT0
    isplitl [HT1]; · iexact HT1
    isplitl [HT2]; · iexact HT2
    iexact HT3

end Cert.ExpertsLastIdeal.Own

end
-- ==== Proof.ExLI.RunB.lean ====
/- The experts body, a block without rows. -/
module

public import proofs.«01_k».proof.Proof.ExLI.RunA

@[expose] public section

set_option maxRecDepth 16384

noncomputable section

namespace Cert.ExpertsLastIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsLastIdeal.Gen

variable {F : FTy → Type} [FloatOps F]

variable (m : (ℓ : Loc nD τ sig) → Buf (Elt F) ℓ) (ρ : Dev nD → PrngReg)

set_option maxHeartbeats 1000000 in
/-- The body in a block with no rows: what it stores, and that it runs to it. -/
noncomputable def kernelRun0_B (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S152) (k0_off1 i) S1.size (k0_off1_inb i)).toLoadRect xt3 (Shape.Idx.first (numel1_S1.symm ▸ Nat.one_pos)))) :
    { L7 : List (View.Piece (Elt F) S512x1024 .f32) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_moe_experts i tbM0_0 htbM0_0 tbM0_1 htbM0_1 tbM0_2 htbM0_2 tbM0_3 htbM0_3 arg5 harg5 arg6 harg6 arg7 harg7 arg8 harg8 arg9 harg9 arg10 harg10 arg11 harg11 arg12 harg12) K } := by
  refine ⟨?_, fun E K => ?run⟩
  case run =>
    have hc1 : k0_cond1 (tbM0_3.view.readAt (Elt F) (Rect.unit (s := S152) (k0_off1 i) S1.size (k0_off1_inb i)).toLoadRect xt3 (Shape.Idx.first (numel1_S1.symm ▸ Nat.one_pos))) = 1#1 := (cond_compl _).2 hc0
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [HT0]; · iexact HT0
    isplitl [HT1]; · iexact HT1
    isplitl [HT2]; · iexact HT2
    iexact HT3

end Cert.ExpertsLastIdeal.Own

end
-- ==== Proof.ExLI.Frame.lean ====
/- The experts call runs to an end, with its arguments as they began and its result as the body leaves it block by block. -/
module

public import proofs.«01_k».proof.Proof.ExLI.RunB
public import Idealize.ShloMosaic.Lib.Claim

@[expose] public section

set_option maxRecDepth 16384

noncomputable section

namespace Cert.ExpertsLastIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsLastIdeal.Gen

variable {F : FTy → Type} [FloatOps F]

variable (m : (ℓ : Loc nD τ sig) → Buf (Elt F) ℓ) (ρ : Dev nD → PrngReg)
theorem cover0_A_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S152) (k0_off1 i) S1.size (k0_off1_inb i)).toLoadRect xt3 (Shape.Idx.first (numel1_S1.symm ▸ Nat.one_pos)))) (y : S512x1024.Idx) :
    ∃ pc ∈ (kernelRun0_A c i arg5 harg5 arg6 harg6 arg7 harg7 arg8 harg8 arg9 harg9 arg10 harg10 arg11 harg11 arg12 harg12 x0 x1 x2 x3 x4 x5 x6 xt0 xt1 xt2 xt3 hc0).1, y ∈ pc.1.set :=
  View.cover_of_tiledL (kernelRun0_A c i arg5 harg5 arg6 harg6 arg7 harg7 arg8 harg8 arg9 harg9 arg10 harg10 arg11 harg11 arg12 harg12 x0 x1 x2 x3 x4 x5 x6 xt0 xt1 xt2 xt3 hc0).1 S512x1024.size (by sl_kernel_rfl) y

def out0_A_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : cond0_0 i (tbM0_3.view.readAt (Elt F) (Rect.unit (s := S152) (k0_off1 i) S1.size (k0_off1_inb i)).toLoadRect xt3 (Shape.Idx.first (numel1_S1.symm ▸ Nat.one_pos)))) : Vec F S512x1024 .f32 :=
  VO0_7.read (Elt F) (VO0_7.writes (Elt F) VO0_7.junk (kernelRun0_A c i arg5 harg5 arg6 harg6 arg7 harg7 arg8 harg8 arg9 harg9 arg10 harg10 arg11 harg11 arg12 harg12 x0 x1 x2 x3 x4 x5 x6 xt0 xt1 xt2 xt3 hc0).1)

theorem cover0_B_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S152) (k0_off1 i) S1.size (k0_off1_inb i)).toLoadRect xt3 (Shape.Idx.first (numel1_S1.symm ▸ Nat.one_pos)))) (y : S512x1024.Idx) :
    ∃ pc ∈ (kernelRun0_B c i arg5 harg5 arg6 harg6 arg7 harg7 arg8 harg8 arg9 harg9 arg10 harg10 arg11 harg11 arg12 harg12 x0 x1 x2 x3 x4 x5 x6 xt0 xt1 xt2 xt3 hc0).1, y ∈ pc.1.set :=
  View.cover_of_tiledL (kernelRun0_B c i arg5 harg5 arg6 harg6 arg7 harg7 arg8 harg8 arg9 harg9 arg10 harg10 arg11 harg11 arg12 harg12 x0 x1 x2 x3 x4 x5 x6 xt0 xt1 xt2 xt3 hc0).1 S512x1024.size (by sl_kernel_rfl) y

def out0_B_7 (c : Dev nD) (i : grid0.Coords) (arg5 : Memref sig .tc .vmem S512x1152 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S512x1024 .f32) (harg12 : arg12.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (xt0 : TbBuf0 (F := F) c tbM0_0) (xt1 : TbBuf0 (F := F) c tbM0_1) (xt2 : TbBuf0 (F := F) c tbM0_2) (xt3 : TbBuf0 (F := F) c tbM0_3) (hc0 : ¬cond0_0 i (tbM0_3.view.readAt (Elt F) (Rect.unit (s := S152) (k0_off1 i) S1.size (k0_off1_inb i)).toLoadRect xt3 (Shape.Idx.first (numel1_S1.symm ▸ Nat.one_pos)))) : Vec F S512x1024 .f32 :=
  VO0_7.read (Elt F) (VO0_7.writes (Elt F) VO0_7.junk (kernelRun0_B c i arg5 harg5 arg6 harg6 arg7 harg7 arg8 harg8 arg9 harg9 arg10 harg10 arg11 harg11 arg12 harg12 x0 x1 x2 x3 x4 x5 x6 xt0 xt1 xt2 xt3 hc0).1)

/-- What the body leaves in the result's buffer at each point. -/
def outsAt0 (hO : Ok m) (c : Dev nD) (t : Fin (cfgM m hO).N) : Vec F S512x1024 .f32 :=
  if h0 : cond0_0 (grid0.coords t) (tbM0_3.view.readAt (Elt F) (Rect.unit (s := S152) (k0_off1 (grid0.coords t)) S1.size (k0_off1_inb (grid0.coords t))).toLoadRect (tbl m 3) (Shape.Idx.first (numel1_S1.symm ▸ Nat.one_pos))) then
    out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0
  else
    out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0

theorem outsAt0_A (hO : Ok m) (c : Dev nD) (t : Fin (cfgM m hO).N) (h0 : cond0_0 (grid0.coords t) (tbM0_3.view.readAt (Elt F) (Rect.unit (s := S152) (k0_off1 (grid0.coords t)) S1.size (k0_off1_inb (grid0.coords t))).toLoadRect (tbl m 3) (Shape.Idx.first (numel1_S1.symm ▸ Nat.one_pos)))) :
    outsAt0 m hO c t = out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0 := by
  unfold outsAt0; exact (dif_pos h0).trans rfl

theorem outsAt0_B (hO : Ok m) (c : Dev nD) (t : Fin (cfgM m hO).N) (h0 : ¬cond0_0 (grid0.coords t) (tbM0_3.view.readAt (Elt F) (Rect.unit (s := S152) (k0_off1 (grid0.coords t)) S1.size (k0_off1_inb (grid0.coords t))).toLoadRect (tbl m 3) (Shape.Idx.first (numel1_S1.symm ▸ Nat.one_pos)))) :
    outsAt0 m hO c t = out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0 := by
  unfold outsAt0; exact (dif_neg h0).trans rfl

/-- The arrays as launched, and what each window's buffer holds after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  by_cases h0 : cond0_0 (grid0.coords t) (tbM0_3.view.readAt (Elt F) (Rect.unit (s := S152) (k0_off1 (grid0.coords t)) S1.size (k0_off1_inb (grid0.coords t))).toLoadRect (tbl m 3) (Shape.Idx.first (numel1_S1.symm ▸ Nat.one_pos)))
  · rw [outsAt0_A m hO c t h0]
    unfold out0_A_7
    iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    isplitl [HT3]; · iexact HT3
    iintro ⟨H0, H1, H2, H3, H4, H5, H6, ⟨%e7, H7⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _ _ _ _ _)
  · rw [outsAt0_B m hO c t h0]
    unfold out0_B_7
    iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (tbl m 3) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    isplitl [HT3]; · iexact HT3
    iintro ⟨H0, H1, H2, H3, H4, H5, H6, ⟨%e7, H7⟩, HT0, HT1, HT2, HT3⟩
    isplitl [HΦ HT0 HT1 HT2 HT3]
    · isplitl [HΦ]
      · iexact HΦ
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's window is written back at every point, so it must hold what the body leaves. -/
theorem leaves_out (hO : Ok m) (c : Dev nD) (t : Fin (cfgM m hO).N) :
    (dats (F := F) m hO 0 c).leavesExact 7 t
      = owns (c : Thread nD τ) (ms0_7 m hO t) fullShare ((dats m hO 0 c).after 7 t) := by
  unfold Dat.leavesExact
  rw [flush0_7 (adm m hO) t]
  split <;> rfl

/-- The body at every point of the grid. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have h7 := leaves_out m hO c t
  unfold Dat.leavesExact at h7
  refine sep_mono .rfl (sep_mono .rfl (sep_mono .rfl (sep_mono .rfl (sep_mono .rfl (sep_mono .rfl (sep_mono .rfl (sep_mono .rfl (sep_mono .rfl ?_))))))))
  exact (Entails.of_eq h7.symm)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The run ends with the arguments unchanged and every semaphore at zero. -/
theorem frame (hO : Ok m) : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).1 0).trans (((dats m hO 0 c).arrAt_in 0 rfl _).trans ((A_eq m hO c 0).trans (V_main_arg4 m c))),
      ((h.1 c).1 4).trans (((dats m hO 0 c).arrAt_in 4 rfl _).trans ((A_eq m hO c 4).trans (V_main_arg5 m c))),
      ((h.1 c).1 5).trans (((dats m hO 0 c).arrAt_in 5 rfl _).trans ((A_eq m hO c 5).trans (V_main_arg6 m c))),
      ((h.1 c).1 6).trans (((dats m hO 0 c).arrAt_in 6 rfl _).trans ((A_eq m hO c 6).trans (V_main_arg7 m c)))⟩, h.2⟩)
    (run_main_quiescent m ρ hO)

end Cert.ExpertsLastIdeal.Own

end
-- ==== Proof.ExLI.Block.lean ====
/- What the experts body leaves in its result block: two gated expert products of each row where the block has rows, zero where it has none. -/
module

public import proofs.«01_k».proof.Proof.ExLI.Frame
public import Idealize.ShloMosaic.Lib.Pointwise
public import Idealize.ShloMosaic.Lib.Pipeline.ValueKit
public import Idealize.ShloMosaic.Lib.VecWindow

@[expose] public section

set_option maxRecDepth 16384

noncomputable section

namespace Cert.ExpertsLastIdeal.Block

open Cert.ExpertsLastIdeal Cert.ExpertsLastIdeal.Gen Cert.ExpertsLastIdeal.Own Idealize.ShloMosaic Idealize.ShloMosaic.TcCoe Idealize.ShloMosaic.Pointwise

/-- One hidden unit of an expert at a row: the gate through its sigmoid, times the value. -/
def unit (x : Fin 1024 → EReal) (g u : Fin 1024 → EReal) : EReal :=
  (∑ d, x d * g d) * Ideal.logistic (∑ d, x d * g d) * ∑ d, x d * u d

/-- One expert at a row and a column, its hidden units weighted by `w`. -/
def expert (x : Fin 1024 → EReal) (w : EReal) (wg wu : Fin 1024 → Fin 512 → EReal) (wd : Fin 512 → EReal) : EReal :=
  ∑ f, unit x (fun d => wg d f) (fun d => wu d f) * w * wd f

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

section
variable (c : Dev nD) (i : grid0.Coords) (arg5 : Memref sig .tc .vmem S512x1152 .f32) (harg5 : arg5.IsWhole) (arg6 : Memref sig .tc .vmem S1x1024x512 .bf16) (harg6 : arg6.IsWhole)
  (arg7 : Memref sig .tc .vmem S1x1024x512 .bf16) (harg7 : arg7.IsWhole) (arg8 : Memref sig .tc .vmem S1x512x1024 .bf16) (harg8 : arg8.IsWhole)
  (arg9 : Memref sig .tc .vmem S1x1024x512 .bf16) (harg9 : arg9.IsWhole) (arg10 : Memref sig .tc .vmem S1x1024x512 .bf16) (harg10 : arg10.IsWhole)
  (arg11 : Memref sig .tc .vmem S1x512x1024 .bf16) (harg11 : arg11.IsWhole) (arg12 : Memref sig .tc .vmem S512x1024 .f32) (harg12 : arg12.IsWhole)
  (x0 : Vec Ideal S512x1152 .f32) (x1 x2 : Vec Ideal S1x1024x512 .bf16) (x3 : Vec Ideal S1x512x1024 .bf16) (x4 x5 : Vec Ideal S1x1024x512 .bf16) (x6 : Vec Ideal S1x512x1024 .bf16)
  (xt0 : TbBuf0 (F := Ideal) c tbM0_0) (xt1 : TbBuf0 (F := Ideal) c tbM0_1) (xt2 : TbBuf0 (F := Ideal) c tbM0_2) (xt3 : TbBuf0 (F := Ideal) c tbM0_3)

/-- The rows, and their two weights, as the body loads them. -/
def ldx : Vec Ideal S512x1024 .f32 := View.ld x0 (Rect.unit (s := S512x1152) ![0, 0] S512x1024.size inb_S512x1152_S512x1024_0_0)
def ldw1 : Vec Ideal S512x1 .f32 := View.ld x0 (Rect.unit (s := S512x1152) ![0, 1024] S512x1.size inb_S512x1152_S512x1_0_1024)
def ldw2 : Vec Ideal S512x1 .f32 := View.ld x0 (Rect.unit (s := S512x1152) ![0, 1025] S512x1.size inb_S512x1152_S512x1_0_1025)

theorem out_A (hc0) : out0_A_7 (F := Ideal) c i arg5 harg5 arg6 harg6 arg7 harg7 arg8 harg8 arg9 harg9 arg10 harg10 arg11 harg11 arg12 harg12 x0 x1 x2 x3 x4 x5 x6 xt0 xt1 xt2 xt3 hc0
    = k0_pay2 (k0_pay4 (ldx x0) (ldw2 x0) x4 x5) (k0_pay5 (ldx x0) (ldw1 x0) x1 x2 x3) x6 := by
  unfold out0_A_7
  rw [View.read_writes_junk_eq_canon]
  show View.canon ([⟨Rect.unit ![0, 0] S512x1024.size inb_S512x1024_S512x1024_0_0,
      k0_pay2 (k0_pay4
          (View.readAt (Elt Ideal) arg5.view (Rect.unit (s := S512x1152) ![0, 0] S512x1024.size inb_S512x1152_S512x1024_0_0).toLoadRect (harg5.unread x0))
          (View.readAt (Elt Ideal) arg5.view (Rect.unit (s := S512x1152) ![0, 1025] S512x1.size inb_S512x1152_S512x1_0_1025).toLoadRect (harg5.unread x0))
          (View.readAt (Elt Ideal) arg9.view (Rect.unit (s := S1x1024x512) ![0, 0, 0] S1x1024x512.size inb_S1x1024x512_S1x1024x512_0_0_0).toLoadRect (harg9.unread x4))
          (View.readAt (Elt Ideal) arg10.view (Rect.unit (s := S1x1024x512) ![0, 0, 0] S1x1024x512.size inb_S1x1024x512_S1x1024x512_0_0_0).toLoadRect (harg10.unread x5)))
        (k0_pay5
          (View.readAt (Elt Ideal) arg5.view (Rect.unit (s := S512x1152) ![0, 0] S512x1024.size inb_S512x1152_S512x1024_0_0).toLoadRect (harg5.unread x0))
          (View.readAt (Elt Ideal) arg5.view (Rect.unit (s := S512x1152) ![0, 1024] S512x1.size inb_S512x1152_S512x1_0_1024).toLoadRect (harg5.unread x0))
          (View.readAt (Elt Ideal) arg6.view (Rect.unit (s := S1x1024x512) ![0, 0, 0] S1x1024x512.size inb_S1x1024x512_S1x1024x512_0_0_0).toLoadRect (harg6.unread x1))
          (View.readAt (Elt Ideal) arg7.view (Rect.unit (s := S1x1024x512) ![0, 0, 0] S1x1024x512.size inb_S1x1024x512_S1x1024x512_0_0_0).toLoadRect (harg7.unread x2))
          (View.readAt (Elt Ideal) arg8.view (Rect.unit (s := S1x512x1024) ![0, 0, 0] S1x512x1024.size inb_S1x512x1024_S1x512x1024_0_0_0).toLoadRect (harg8.unread x3)))
        (View.readAt (Elt Ideal) arg11.view (Rect.unit (s := S1x512x1024) ![0, 0, 0] S1x512x1024.size inb_S1x512x1024_S1x512x1024_0_0_0).toLoadRect (harg11.unread x6))⟩] :
      List (View.Piece (Elt Ideal) S512x1024 .f32)) = _
  rw [View.canon_unit_zero hz2]
  simp only [View.readAt_eq_ld, harg5.read_unread, harg6.read_unread, harg7.read_unread, harg8.read_unread, harg9.read_unread, harg10.read_unread,
    harg11.read_unread, View.ld_unit_zero (S := S1x1024x512) hz3, View.ld_unit_zero (S := S1x512x1024) hz3, ldx, ldw1, ldw2]

theorem out_B (hc0) : out0_B_7 (F := Ideal) c i arg5 harg5 arg6 harg6 arg7 harg7 arg8 harg8 arg9 harg9 arg10 harg10 arg11 harg11 arg12 harg12 x0 x1 x2 x3 x4 x5 x6 xt0 xt1 xt2 xt3 hc0
    = k0_pay1 (F := Ideal) := by
  unfold out0_B_7
  rw [View.read_writes_junk_eq_canon]
  show View.canon ([⟨Rect.unit ![0, 0] S512x1024.size inb_S512x1024_S512x1024_0_0, k0_pay1 (F := Ideal)⟩] : List (View.Piece (Elt Ideal) S512x1024 .f32)) = _
  rw [View.canon_unit_zero hz2]

end

theorem ldx_apply (x0 : Vec Ideal S512x1152 .f32) (r : Fin 512) (d : Fin 1024) : ldx x0 (ix2 r d) = x0 (ix2 r (⟨d.val, by omega⟩ : Fin 1152)) := by
  unfold ldx
  rw [View.ld_unit]
  unfold extractStridedSlice
  refine congrArg x0 (funext fun a => Fin.ext ?_)
  match a with
  | ⟨0, _⟩ => show 0 + r.val = r.val; omega
  | ⟨1, _⟩ => show 0 + d.val = d.val; omega

theorem ldw1_apply (x0 : Vec Ideal S512x1152 .f32) (r : Fin 512) : ldw1 x0 (ix2 r 0) = x0 (ix2 r (⟨1024, by omega⟩ : Fin 1152)) := by
  unfold ldw1
  rw [View.ld_unit]
  unfold extractStridedSlice
  refine congrArg x0 (funext fun a => Fin.ext ?_)
  match a with
  | ⟨0, _⟩ => show 0 + r.val = r.val; omega
  | ⟨1, _⟩ => rfl

theorem ldw2_apply (x0 : Vec Ideal S512x1152 .f32) (r : Fin 512) : ldw2 x0 (ix2 r 0) = x0 (ix2 r (⟨1025, by omega⟩ : Fin 1152)) := by
  unfold ldw2
  rw [View.ld_unit]
  unfold extractStridedSlice
  refine congrArg x0 (funext fun a => Fin.ext ?_)
  match a with
  | ⟨0, _⟩ => show 0 + r.val = r.val; omega
  | ⟨1, _⟩ => rfl

theorem zero_apply (y : S512x1024.Idx) : k0_pay1 (F := Ideal) y = 0 := by
  show Ideal.ofBits .f32 0x00000000#32 = 0
  simp [Ideal.ofBits, Ideal.ieee]

theorem pay4_apply (v8 : Vec Ideal S512x1024 .f32) (v23 : Vec Ideal S512x1 .f32) (v24 v29 : Vec Ideal S1x1024x512 .bf16) (r f : Fin 512) :
    k0_pay4 (F := Ideal) v8 v23 v24 v29 (ix2 r f)
      = unit (fun d => v8 (ix2 r d)) (fun d => v24 (ix3 0 d f)) (fun d => v29 (ix3 0 d f)) * v23 (ix2 r 0) := by
  pointwise [k0_pay4, k0_pay3, unit]

theorem pay5_apply (v8 : Vec Ideal S512x1024 .f32) (v10 : Vec Ideal S512x1 .f32) (v11 v16 : Vec Ideal S1x1024x512 .bf16) (v36 : Vec Ideal S1x512x1024 .bf16) (r : Fin 512) (C : Fin 1024) :
    k0_pay5 (F := Ideal) v8 v10 v11 v16 v36 (ix2 r C)
      = expert (fun d => v8 (ix2 r d)) (v10 (ix2 r 0)) (fun d f => v11 (ix3 0 d f)) (fun d f => v16 (ix3 0 d f)) (fun f => v36 (ix3 0 f C)) := by
  pointwise [k0_pay5, k0_pay3, expert, unit]

/-- The body's row at a column. -/
theorem pay2_apply (v8 : Vec Ideal S512x1024 .f32) (v10 v23 : Vec Ideal S512x1 .f32) (v11 v16 v24 v29 : Vec Ideal S1x1024x512 .bf16) (v36 v39 : Vec Ideal S1x512x1024 .bf16) (r : Fin 512) (C : Fin 1024) :
    k0_pay2 (F := Ideal) (k0_pay4 v8 v23 v24 v29) (k0_pay5 v8 v10 v11 v16 v36) v39 (ix2 r C)
      = expert (fun d => v8 (ix2 r d)) (v10 (ix2 r 0)) (fun d f => v11 (ix3 0 d f)) (fun d f => v16 (ix3 0 d f)) (fun f => v36 (ix3 0 f C))
        + expert (fun d => v8 (ix2 r d)) (v23 (ix2 r 0)) (fun d f => v24 (ix3 0 d f)) (fun d f => v29 (ix3 0 d f)) (fun f => v39 (ix3 0 f C)) := by
  pointwise [k0_pay2, pay4_apply, pay5_apply]
  rfl

end Cert.ExpertsLastIdeal.Block

end
-- ==== Proof.ExLI.Tab.lean ====
/- The experts call: the tables in range put every block inside its array. -/
module

public import proofs.«01_k».proof.Proof.TablesLast
public import proofs.«01_k».proof.Proof.ExLI.Frame

@[expose] public section

set_option maxRecDepth 16384

noncomputable section

namespace Cert.ExpertsLastIdeal.Tab

open Cert.ExpertsLastIdeal Cert.ExpertsLastIdeal.Gen Cert.ExpertsLastIdeal.Own Idealize.ShloMosaic Idealize.ShloMosaic.TcCoe

variable {F : FTy → Type} [FloatOps F]

/-- The grid's coordinate as a row of the tables. -/
def pt (i : grid0.Coords) : Fin 152 := ⟨(i 0).val, (i 0).isLt⟩

/-- The word an index map reads. -/
theorem at_eq (pf : pre0.Contents (Elt F)) (i : grid0.Coords) (h : ∀ a, (k0_off1 i) a + S1.size a ≤ S152.size a) (h1 : S1.numel = 1) :
    pf.at 0 (Rect.unit (s := S152) (k0_off1 i) S1.size h) h1 = pf 0 (ix1 (pt i))
    ∧ pf.at 1 (Rect.unit (s := S152) (k0_off1 i) S1.size h) h1 = pf 1 (ix1 (pt i))
    ∧ pf.at 2 (Rect.unit (s := S152) (k0_off1 i) S1.size h) h1 = pf 2 (ix1 (pt i)) := by
  have e : (BitVec.ofNat 32 (i 0).val).toNat = (i 0).val := by
    have : (i 0).val < 152 := (i 0).isLt
    rw [BitVec.toNat_ofNat]; omega
  have ei : ∀ z, (Rect.unit (s := S152) (k0_off1 i) S1.size h).emb z = ix1 (pt i) := fun z => funext fun a => Fin.ext (by
    match a with
    | ⟨0, _⟩ =>
      have hz : (z 0).val < 1 := (z 0).isLt
      show (BitVec.ofNat 32 (i 0).val).toNat + 1 * (z 0).val = (i 0).val
      omega)
  exact ⟨congrArg (pf 0) (ei _), congrArg (pf 1) (ei _), congrArg (pf 2) (ei _)⟩

/-- A slab of one expert lies inside the experts' array. -/
theorem slab_inb {n p : Nat} (w : BitVec 32) (hw : w.toNat < 16) (a : Fin 3) :
    ((![w.toNat, 0, 0] : Fin 3 → Nat) a + 1) * (![1, n, p] : Fin 3 → Nat) a ≤ (![16, n, p] : Fin 3 → Nat) a := by
  match a with
  | ⟨0, _⟩ => show (w.toNat + 1) * 1 ≤ 16; omega
  | ⟨1, _⟩ => show (0 + 1) * n ≤ n; omega
  | ⟨2, _⟩ => show (0 + 1) * p ≤ p; omega

variable (m : (ℓ : Loc nD τ sig) → Buf (Elt F) ℓ)

/-- Words in range put every block inside its array. -/
theorem ok_of_words (h1 : ∀ i : S152.Idx, ((tbl m 0 : S152.Idx → BitVec 32) i).toNat < 16) (h2 : ∀ i : S152.Idx, ((tbl m 1 : S152.Idx → BitVec 32) i).toNat < 16)
    (h3 : ∀ i : S152.Idx, ((tbl m 2 : S152.Idx → BitVec 32) i).toNat < 152) : Ok m := by
  have w0 : ∀ i a, (cc0_transform_0 k0_off1_inb numel1_S1 (tbl m) i a + 1) * S512x1152.size a ≤ S77824x1152.size a := fun i a => by
    match a with
    | ⟨0, _⟩ =>
      show ((Pipeline.Prefetch.Contents.at (tbl m) 2 (Rect.unit (s := S152) (k0_off1 i) S1.size (k0_off1_inb i)) numel1_S1 : BitVec 32).toNat + 1) * 512 ≤ 77824
      rw [(at_eq (tbl m) i _ _).2.2]
      have := h3 (ix1 (pt i)); omega
    | ⟨1, _⟩ => show (0 + 1) * 1152 ≤ 1152; omega
  have w1 : ∀ i a, (cc0_transform_1 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).1) (h1 _)) a
  have w2 : ∀ i a, (cc0_transform_2 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).1) (h1 _)) a
  have w3 : ∀ i a, (cc0_transform_3 k0_off1_inb numel1_S1 (tbl m) i a + 1) * S1x512x1024.size a ≤ S16x512x1024.size a := fun i a =>
    slab_inb (n := 512) (p := 1024) _ (lt_of_eq_of_lt (congrArg BitVec.toNat (at_eq (tbl m) i (k0_off1_inb i) numel1_S1).1) (h1 _)) a
  have w4 : ∀ i a, (cc0_transform_4 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).2.1) (h2 _)) a
  have w5 : ∀ i a, (cc0_transform_5 k0_off1_inb numel1_S1 (tbl m) i a + 1) * S1x1024x512.size a ≤ S16x1024x512.size a := fun i a =>
    slab_inb (n := 1024) (p := 512) _ (lt_of_eq_of_lt (congrArg BitVec.toNat (at_eq (tbl m) i (k0_off1_inb i) numel1_S1).2.1) (h2 _)) a
  have w6 : ∀ i a, (cc0_transform_6 k0_off1_inb numel1_S1 (tbl m) i a + 1) * S1x512x1024.size a ≤ S16x512x1024.size a := fun i a =>
    slab_inb (n := 512) (p := 1024) _ (lt_of_eq_of_lt (congrArg BitVec.toNat (at_eq (tbl m) i (k0_off1_inb i) numel1_S1).2.1) (h2 _)) a
  exact ⟨fun i => ⟨w0 i, .inl rfl⟩, fun i => ⟨w1 i, .inr (.inr ⟨by decide, rfl, rfl, rfl⟩)⟩, fun i => ⟨w2 i, .inr (.inr ⟨by decide, rfl, rfl, rfl⟩)⟩, fun i => ⟨w3 i, .inr (.inr ⟨by decide, rfl, rfl, rfl⟩)⟩,
    fun i => ⟨w4 i, .inr (.inr ⟨by decide, rfl, rfl, rfl⟩)⟩, fun i => ⟨w5 i, .inr (.inr ⟨by decide, rfl, rfl, rfl⟩)⟩, fun i => ⟨w6 i, .inr (.inr ⟨by decide, rfl, rfl, rfl⟩)⟩⟩

/-- The precondition puts every block inside its array. -/
theorem ok_of_pre (m : (ℓ : Loc nD τ sig) → Buf (Elt Ideal) ℓ) (h : Cert.Pre_ExpertsLastIdeal m) : Ok m := by
  obtain ⟨a, b, d⟩ := Cert.TablesLast.words_of_pre (F := Ideal) _ _ _ _ _ _ _ _ (h 0)
  exact ok_of_words m a b d

end Cert.ExpertsLastIdeal.Tab
-- ==== Proof.ExLI.Value.lean ====
/- The experts call's result array as one function of its eight argument arrays, and its run. -/
module

public import proofs.«01_k».proof.Proof.ExLI.Block
public import proofs.«01_k».proof.Proof.ExLI.Tab
public import Idealize.ShloMosaic.Lib.Pipeline.Value

@[expose] public section

set_option maxRecDepth 16384

noncomputable section

namespace Cert.ExpertsLastIdeal.Value

open Cert.ExpertsLastIdeal Cert.ExpertsLastIdeal.Gen Cert.ExpertsLastIdeal.Own Cert.ExpertsLastIdeal.Tab Idealize.ShloMosaic Idealize.ShloMosaic.TcCoe Idealize.SL.Sem Idealize.ShloMosaic.Pointwise
open Idealize.ShloMosaic.Pipeline (Dat)

/-- The expert a word names. -/
def ex (w : BitVec 32) : Fin 16 := ⟨w.toNat % 16, Nat.mod_lt _ (by omega)⟩
/-- Row `r` of the block of rows a word names. -/
def src (w : BitVec 32) (r : Fin 512) : Fin 77824 := ⟨(w.toNat * 512 + r.val) % 77824, Nat.mod_lt _ (by omega)⟩

/-- One row's product with one expert, its weight in column `k` of the row. -/
def half (hs : S77824x1152.Idx → EReal) (wg wu : S16x1024x512.Idx → EReal) (wd : S16x512x1024.Idx → EReal)
    (R : Fin 77824) (k : Fin 1152) (e : Fin 16) (C : Fin 1024) : EReal :=
  Block.expert (fun d => hs (ix2 R (⟨d.val, by omega⟩ : Fin 1152))) (hs (ix2 R k)) (fun d f => wg (ix3 e d f)) (fun d f => wu (ix3 e d f)) (fun f => wd (ix3 e f C))

/-- One entry of the result: block `t`, row `r` in it, column `C`. -/
def entry (e1 e2 blk vld : S152.Idx → BitVec 32) (hs : S77824x1152.Idx → EReal) (wg wu : S16x1024x512.Idx → EReal) (wd : S16x512x1024.Idx → EReal)
    (t : Fin 152) (r : Fin 512) (C : Fin 1024) : EReal :=
  if Scalar.cmpi .sgt (vld (ix1 t)) 0#32 = 1#1 then
    half hs wg wu wd (src (blk (ix1 t)) r) ⟨1024, by omega⟩ (ex (e1 (ix1 t))) C + half hs wg wu wd (src (blk (ix1 t)) r) ⟨1025, by omega⟩ (ex (e2 (ix1 t))) C
  else 0

/-- The result array. -/
def moe (e1 e2 blk vld : S152.Idx → BitVec 32) (hs : S77824x1152.Idx → EReal) (wg wu : S16x1024x512.Idx → EReal) (wd : S16x512x1024.Idx → EReal)
    (y : S77824x1024.Idx) : EReal :=
  entry e1 e2 blk vld hs wg wu wd ⟨(y 0).val / 512, by have : (y 0).val < 77824 := (y 0).isLt; omega⟩ ⟨(y 0).val % 512, Nat.mod_lt _ (by omega)⟩ (y 1)

theorem coords_eq : ∀ t : Fin grid0.N, ((grid0.coords t) 0).val = t.val := by decide +kernel

theorem cond_iff (v : BitVec 32) : k0_cond2 v = 1#1 ↔ Scalar.cmpi .sgt v 0#32 = 1#1 := by
  unfold k0_cond2
  dsimp only
  rcases (show ∀ b : BitVec 1, b = 0#1 ∨ b = 1#1 from by decide) (Scalar.cmpi .sgt v 0#32) with h | h <;>
    rw [h] <;> decide

variable (m : (ℓ : Loc nD τ sig) → Buf (Elt Ideal) ℓ) (ρ : Dev nD → PrngReg) (hO : Ok m)

theorem N_eq : (cfgM m hO).N = 152 := N_0
/-- Point `t` as a row of the tables. -/
def row (t : Fin (cfgM m hO).N) : Fin 152 := ⟨t.val, N_eq m hO ▸ t.isLt⟩
theorem pt_eq (t : Fin (cfgM m hO).N) : pt (grid0.coords t) = row m hO t := Fin.ext (coords_eq t)

/-- The words of point `t`. -/
def w1 (t : Fin (cfgM m hO).N) : BitVec 32 := (tbl m 0 : S152.Idx → BitVec 32) (ix1 (row m hO t))
def w2 (t : Fin (cfgM m hO).N) : BitVec 32 := (tbl m 1 : S152.Idx → BitVec 32) (ix1 (row m hO t))
def wb (t : Fin (cfgM m hO).N) : BitVec 32 := (tbl m 2 : S152.Idx → BitVec 32) (ix1 (row m hO t))

theorem at0 (t : Fin (cfgM m hO).N) (h : ∀ a, (k0_off1 (grid0.coords t)) a + S1.size a ≤ S152.size a) (h1 : S1.numel = 1) :
    (Pipeline.Prefetch.Contents.at (tbl m) 0 (Rect.unit (s := S152) (k0_off1 (grid0.coords t)) S1.size h) h1 : BitVec 32) = w1 m hO t :=
  (at_eq (tbl m) (grid0.coords t) h h1).1.trans (congrArg (fun z => (tbl m 0 : S152.Idx → BitVec 32) (ix1 z)) (pt_eq m hO t))
theorem at1 (t : Fin (cfgM m hO).N) (h : ∀ a, (k0_off1 (grid0.coords t)) a + S1.size a ≤ S152.size a) (h1 : S1.numel = 1) :
    (Pipeline.Prefetch.Contents.at (tbl m) 1 (Rect.unit (s := S152) (k0_off1 (grid0.coords t)) S1.size h) h1 : BitVec 32) = w2 m hO t :=
  (at_eq (tbl m) (grid0.coords t) h h1).2.1.trans (congrArg (fun z => (tbl m 1 : S152.Idx → BitVec 32) (ix1 z)) (pt_eq m hO t))
theorem at2 (t : Fin (cfgM m hO).N) (h : ∀ a, (k0_off1 (grid0.coords t)) a + S1.size a ≤ S152.size a) (h1 : S1.numel = 1) :
    (Pipeline.Prefetch.Contents.at (tbl m) 2 (Rect.unit (s := S152) (k0_off1 (grid0.coords t)) S1.size h) h1 : BitVec 32) = wb m hO t :=
  (at_eq (tbl m) (grid0.coords t) h h1).2.2.trans (congrArg (fun z => (tbl m 2 : S152.Idx → BitVec 32) (ix1 z)) (pt_eq m hO t))

/-- The words lie in range. -/
structure Words : Prop where
  e1 : ∀ i : S152.Idx, ((tbl m 0 : S152.Idx → BitVec 32) i).toNat < 16
  e2 : ∀ i : S152.Idx, ((tbl m 1 : S152.Idx → BitVec 32) i).toNat < 16
  blk : ∀ i : S152.Idx, ((tbl m 2 : S152.Idx → BitVec 32) i).toNat < 152

variable (hw : Words m)
include hw

theorem iblk0 (c : Dev nD) (t : Fin (cfgM m hO).N) (r : Fin 512) (k : Fin 1152) :
    (iblk m hO c 0 t : Vec Ideal S512x1152 .f32) (ix2 r k) = m ((c : Thread nD τ).loc main_arg4) (ix2 (src (wb m hO t) r) k) := by
  have hb : (wb m hO t).toNat < 152 := hw.blk _
  refine congrArg (m (c.tc.loc main_arg4) : S77824x1152.Idx → EReal) (funext fun a => Fin.ext ?_)
  match a with
  | ⟨0, _⟩ =>
    show (Pipeline.Prefetch.Contents.at (tbl m) 2 (Rect.unit (s := S152) (k0_off1 (grid0.coords t)) S1.size (k0_off1_inb (grid0.coords t))) numel1_S1 : BitVec 32).toNat * 512 + 1 * r.val
      = ((wb m hO t).toNat * 512 + r.val) % 77824
    rw [at2]; omega
  | ⟨1, _⟩ => show 0 * 1152 + 1 * k.val = k.val; omega

theorem iblk1 (c : Dev nD) (t : Fin (cfgM m hO).N) (d : Fin 1024) (f : Fin 512) :
    (iblk m hO c 1 t : Vec Ideal S1x1024x512 .bf16) (ix3 0 d f) = m ((c : Thread nD τ).loc main_arg5) (ix3 (ex (w1 m hO t)) d f) := by
  have hb : (w1 m hO t).toNat < 16 := hw.e1 _
  refine congrArg (m (c.tc.loc main_arg5) : S16x1024x512.Idx → EReal) (funext fun a => Fin.ext ?_)
  match a with
  | ⟨0, _⟩ =>
    show (Pipeline.Prefetch.Contents.at (tbl m) 0 (Rect.unit (s := S152) (k0_off1 (grid0.coords t)) S1.size (k0_off1_inb (grid0.coords t))) numel1_S1 : BitVec 32).toNat * 1 + 1 * 0
      = (w1 m hO t).toNat % 16
    rw [at0]; omega
  | ⟨1, _⟩ => show 0 * 1024 + 1 * d.val = d.val; omega
  | ⟨2, _⟩ => show 0 * 512 + 1 * f.val = f.val; omega

theorem iblk2 (c : Dev nD) (t : Fin (cfgM m hO).N) (d : Fin 1024) (f : Fin 512) :
    (iblk m hO c 2 t : Vec Ideal S1x1024x512 .bf16) (ix3 0 d f) = m ((c : Thread nD τ).loc main_arg6) (ix3 (ex (w1 m hO t)) d f) := by
  have hb : (w1 m hO t).toNat < 16 := hw.e1 _
  refine congrArg (m (c.tc.loc main_arg6) : S16x1024x512.Idx → EReal) (funext fun a => Fin.ext ?_)
  match a with
  | ⟨0, _⟩ =>
    show (Pipeline.Prefetch.Contents.at (tbl m) 0 (Rect.unit (s := S152) (k0_off1 (grid0.coords t)) S1.size (k0_off1_inb (grid0.coords t))) numel1_S1 : BitVec 32).toNat * 1 + 1 * 0
      = (w1 m hO t).toNat % 16
    rw [at0]; omega
  | ⟨1, _⟩ => show 0 * 1024 + 1 * d.val = d.val; omega
  | ⟨2, _⟩ => show 0 * 512 + 1 * f.val = f.val; omega

theorem iblk3 (c : Dev nD) (t : Fin (cfgM m hO).N) (f : Fin 512) (C : Fin 1024) :
    (iblk m hO c 3 t : Vec Ideal S1x512x1024 .bf16) (ix3 0 f C) = m ((c : Thread nD τ).loc main_arg7) (ix3 (ex (w1 m hO t)) f C) := by
  have hb : (w1 m hO t).toNat < 16 := hw.e1 _
  refine congrArg (m (c.tc.loc main_arg7) : S16x512x1024.Idx → EReal) (funext fun a => Fin.ext ?_)
  match a with
  | ⟨0, _⟩ =>
    show (Pipeline.Prefetch.Contents.at (tbl m) 0 (Rect.unit (s := S152) (k0_off1 (grid0.coords t)) S1.size (k0_off1_inb (grid0.coords t))) numel1_S1 : BitVec 32).toNat * 1 + 1 * 0
      = (w1 m hO t).toNat % 16
    rw [at0]; omega
  | ⟨1, _⟩ => show 0 * 512 + 1 * f.val = f.val; omega
  | ⟨2, _⟩ => show 0 * 1024 + 1 * C.val = C.val; omega

theorem iblk4 (c : Dev nD) (t : Fin (cfgM m hO).N) (d : Fin 1024) (f : Fin 512) :
    (iblk m hO c 4 t : Vec Ideal S1x1024x512 .bf16) (ix3 0 d f) = m ((c : Thread nD τ).loc main_arg5) (ix3 (ex (w2 m hO t)) d f) := by
  have hb : (w2 m hO t).toNat < 16 := hw.e2 _
  refine congrArg (m (c.tc.loc main_arg5) : S16x1024x512.Idx → EReal) (funext fun a => Fin.ext ?_)
  match a with
  | ⟨0, _⟩ =>
    show (Pipeline.Prefetch.Contents.at (tbl m) 1 (Rect.unit (s := S152) (k0_off1 (grid0.coords t)) S1.size (k0_off1_inb (grid0.coords t))) numel1_S1 : BitVec 32).toNat * 1 + 1 * 0
      = (w2 m hO t).toNat % 16
    rw [at1]; omega
  | ⟨1, _⟩ => show 0 * 1024 + 1 * d.val = d.val; omega
  | ⟨2, _⟩ => show 0 * 512 + 1 * f.val = f.val; omega

theorem iblk5 (c : Dev nD) (t : Fin (cfgM m hO).N) (d : Fin 1024) (f : Fin 512) :
    (iblk m hO c 5 t : Vec Ideal S1x1024x512 .bf16) (ix3 0 d f) = m ((c : Thread nD τ).loc main_arg6) (ix3 (ex (w2 m hO t)) d f) := by
  have hb : (w2 m hO t).toNat < 16 := hw.e2 _
  refine congrArg (m (c.tc.loc main_arg6) : S16x1024x512.Idx → EReal) (funext fun a => Fin.ext ?_)
  match a with
  | ⟨0, _⟩ =>
    show (Pipeline.Prefetch.Contents.at (tbl m) 1 (Rect.unit (s := S152) (k0_off1 (grid0.coords t)) S1.size (k0_off1_inb (grid0.coords t))) numel1_S1 : BitVec 32).toNat * 1 + 1 * 0
      = (w2 m hO t).toNat % 16
    rw [at1]; omega
  | ⟨1, _⟩ => show 0 * 1024 + 1 * d.val = d.val; omega
  | ⟨2, _⟩ => show 0 * 512 + 1 * f.val = f.val; omega

theorem iblk6 (c : Dev nD) (t : Fin (cfgM m hO).N) (f : Fin 512) (C : Fin 1024) :
    (iblk m hO c 6 t : Vec Ideal S1x512x1024 .bf16) (ix3 0 f C) = m ((c : Thread nD τ).loc main_arg7) (ix3 (ex (w2 m hO t)) f C) := by
  have hb : (w2 m hO t).toNat < 16 := hw.e2 _
  refine congrArg (m (c.tc.loc main_arg7) : S16x512x1024.Idx → EReal) (funext fun a => Fin.ext ?_)
  match a with
  | ⟨0, _⟩ =>
    show (Pipeline.Prefetch.Contents.at (tbl m) 1 (Rect.unit (s := S152) (k0_off1 (grid0.coords t)) S1.size (k0_off1_inb (grid0.coords t))) numel1_S1 : BitVec 32).toNat * 1 + 1 * 0
      = (w2 m hO t).toNat % 16
    rw [at1]; omega
  | ⟨1, _⟩ => show 0 * 512 + 1 * f.val = f.val; omega
  | ⟨2, _⟩ => show 0 * 1024 + 1 * C.val = C.val; omega

omit hw in
/-- The word the body branches on. -/
theorem word_eq (t : Fin (cfgM m hO).N) :
    tbM0_3.view.readAt (Elt Ideal) (Rect.unit (s := S152) (k0_off1 (grid0.coords t)) S1.size (k0_off1_inb (grid0.coords t))).toLoadRect (tbl m 3) (Shape.Idx.first (numel1_S1.symm ▸ Nat.one_pos))
      = (tbl m 3 : S152.Idx → BitVec 32) (ix1 (row m hO t)) := by
  have hc := coords_eq t
  have ht : t.val < 152 := N_eq m hO ▸ t.isLt
  have e : (BitVec.ofNat 32 ((grid0.coords t) 0).val).toNat = t.val := by rw [BitVec.toNat_ofNat, hc]; omega
  refine congrArg (tbl m 3 : S152.Idx → BitVec 32) (funext fun a => Fin.ext ?_)
  match a with
  | ⟨0, _⟩ =>
    show (BitVec.ofNat 32 ((grid0.coords t) 0).val).toNat + 1 * 0 = t.val
    omega

/-- What the result array is shown to hold. -/
def val (m : (ℓ : Loc nD τ sig) → Buf (Elt Ideal) ℓ) (c : Dev nD) : Buf (Elt Ideal) ((c : Thread nD τ).loc main_v0) :=
  moe (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What the body leaves at point `t`, entry by entry. -/
theorem outs_apply (c : Dev nD) (t : Fin (cfgM m hO).N) (r : Fin 512) (C : Fin 1024) :
    outsAt0 m hO c t (ix2 r C) = entry (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (row m hO t) r C := by
  obtain rfl : c = 0 := Subsingleton.elim _ _
  have hwd := word_eq m hO t
  unfold entry
  by_cases h0 : cond0_0 (grid0.coords t) (tbM0_3.view.readAt (Elt Ideal) (Rect.unit (s := S152) (k0_off1 (grid0.coords t)) S1.size (k0_off1_inb (grid0.coords t))).toLoadRect (tbl m 3) (Shape.Idx.first (numel1_S1.symm ▸ Nat.one_pos)))
  · have hv : Scalar.cmpi .sgt ((tbl m 3 : S152.Idx → BitVec 32) (ix1 (row m hO t))) 0#32 = 1#1 := (cond_iff _).mp (hwd ▸ h0)
    refine (congrFun (outsAt0_A m hO 0 t h0) _).trans ((congrFun (Block.out_A _ _ _ _ _ _ _ _ _ _ _ _ _ _ _ _ _ _ _ _ _ _ _ _ _ _ _ _ _ h0) _).trans ((Block.pay2_apply _ _ _ _ _ _ _ _ _ r C).trans ?_))
    refine Eq.trans ?_ (if_pos hv).symm
    refine congrArg₂ (· + ·) ?_ ?_
    · unfold half
      congr 1
      · funext d; exact (Block.ldx_apply _ r d).trans (iblk0 m hO hw 0 t r _)
      · exact (Block.ldw1_apply _ r).trans (iblk0 m hO hw 0 t r _)
      · funext d f; exact iblk1 m hO hw 0 t d f
      · funext d f; exact iblk2 m hO hw 0 t d f
      · funext f; exact iblk3 m hO hw 0 t f C
    · unfold half
      congr 1
      · funext d; exact (Block.ldx_apply _ r d).trans (iblk0 m hO hw 0 t r _)
      · exact (Block.ldw2_apply _ r).trans (iblk0 m hO hw 0 t r _)
      · funext d f; exact iblk4 m hO hw 0 t d f
      · funext d f; exact iblk5 m hO hw 0 t d f
      · funext f; exact iblk6 m hO hw 0 t f C
  · have hv : ¬ Scalar.cmpi .sgt ((tbl m 3 : S152.Idx → BitVec 32) (ix1 (row m hO t))) 0#32 = 1#1 := fun h => h0 (hwd ▸ (cond_iff _).mpr h)
    exact (congrFun (outsAt0_B m hO 0 t h0) _).trans ((congrFun (Block.out_B _ _ _ _ _ _ _ _ _ _ _ _ _ _ _ _ _ _ _ _ _ _ _ _ _ _ _ _ _ h0) _).trans ((Block.zero_apply _).trans (if_neg hv).symm))

omit hw in
/-- Row `r` of the block written back at point `t` is row `512 t + r` of the result. -/
theorem emb_eq (t : Fin (cfgM m hO).N) (y : S512x1024.Idx) :
    ((((cfgM m hO).win 7).blk t).view.emb y : S77824x1024.Idx) = ix2 (⟨t.val * 512 + (y 0).val, by have := N_eq m hO; have := t.isLt; have : (y 0).val < 512 := (y 0).isLt; omega⟩ : Fin 77824) (y 1) := by
  have hc := coords_eq t
  have ht : t.val < 152 := N_eq m hO ▸ t.isLt
  have e : (BitVec.ofNat 32 ((grid0.coords t) 0).val).toNat = t.val := by rw [BitVec.toNat_ofNat, hc]; omega
  refine funext fun a => Fin.ext ?_
  match a with
  | ⟨0, _⟩ => show (BitVec.ofNat 32 ((grid0.coords t) 0).val).toNat * 512 + 1 * (y 0).val = t.val * 512 + (y 0).val; rw [e]; omega
  | ⟨1, _⟩ => show 0 * 1024 + 1 * (y 1).val = (y 1).val; omega

/-- What point `t` writes back is its block of `val`. -/
theorem flushed_eq (c : Dev nD) (t : Fin (cfgM m hO).N) :
    (dats m hO 0 c).flushed 7 t = (((cfgM m hO).win 7).blk t).view.read (Elt Ideal) (val m c) := by
  have ht : t.val < 152 := N_eq m hO ▸ t.isLt
  show ((cfgM m hO).win 7).cut (grid0.coords t) ((dats m hO 0 c).after 7 t) = _
  rw [after0_7]
  refine funext fun (y : S512x1024.Idx) => ?_
  have hy : y = ix2 (y 0) (y 1) := funext fun a => by match a with | ⟨0, _⟩ => rfl | ⟨1, _⟩ => rfl
  have l0 : (y 0).val < 512 := (y 0).isLt
  show outsAt0 m hO c t y = (val m c : S77824x1024.Idx → EReal) ((((cfgM m hO).win 7).blk t).view.emb y)
  refine Eq.trans ?_ (congrArg (val m c : S77824x1024.Idx → EReal) (emb_eq m hO t y)).symm
  refine (congrArg (outsAt0 m hO c t) hy).trans ((outs_apply m hO hw c t (y 0) (y 1)).trans ?_)
  unfold val moe
  congr 1
  · exact Fin.ext (by show t.val = (t.val * 512 + (y 0).val) / 512; omega)
  · exact Fin.ext (by show (y 0).val = (t.val * 512 + (y 0).val) % 512; omega)

omit hw in
theorem cover (i : S77824x1024.Idx) : ∃ t : Fin (cfgM m hO).N, ((cfgM m hO).win 7).flush t = true ∧ i ∈ (((cfgM m hO).win 7).blk t).view.set := by
  have h0 : (i 0).val < 77824 := (i 0).isLt
  have hN := N_eq m hO
  have hr : (i 0).val % 512 < 512 := Nat.mod_lt _ (by omega)
  have hl : (i 0).val / 512 < (cfgM m hO).N := by rw [hN]; omega
  have hm := View.emb_mem_set (((cfgM m hO).win 7).blk ⟨(i 0).val / 512, hl⟩).view (ix2 (⟨(i 0).val % 512, hr⟩ : Fin 512) (i 1) : S512x1024.Idx)
  have he : ((((cfgM m hO).win 7).blk ⟨(i 0).val / 512, hl⟩).view.emb (ix2 (⟨(i 0).val % 512, hr⟩ : Fin 512) (i 1) : S512x1024.Idx) : S77824x1024.Idx) = i :=
    (emb_eq m hO _ _).trans (funext fun a => Fin.ext (by
      match a with
      | ⟨0, _⟩ => show (i 0).val / 512 * 512 + (i 0).val % 512 = (i 0).val; omega
      | ⟨1, _⟩ => rfl))
  exact ⟨⟨(i 0).val / 512, hl⟩, flush0_7 (adm m hO) _,
    (congrArg (fun z : (((cfgM m hO).win 7).blk ⟨(i 0).val / 512, hl⟩).view.ty.Idx => z ∈ (((cfgM m hO).win 7).blk ⟨(i 0).val / 512, hl⟩).view.set) he).mp hm⟩

theorem final_o (c : Dev nD) : (dats m hO 0 c).arrAt 7 (cfgM m hO).N = val m c :=
  (dats m hO 0 c).arrAt_eq_of_cover 7 (val m c) (fun t _ => flushed_eq m hO hw c t) (cover m hO)

include hO in
/-- The run, read: the result array at `val`, the arguments unchanged. -/
theorem run : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 7).trans (final_o m hO hw c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 0).trans (((dats m hO 0 c).arrAt_in 0 rfl _).trans ((A_eq m hO c 0).trans (V_main_arg4 m c))),
      ((h c).1 4).trans (((dats m hO 0 c).arrAt_in 4 rfl _).trans ((A_eq m hO c 4).trans (V_main_arg5 m c))),
      ((h c).1 5).trans (((dats m hO 0 c).arrAt_in 5 rfl _).trans ((A_eq m hO c 5).trans (V_main_arg6 m c))),
      ((h c).1 6).trans (((dats m hO 0 c).arrAt_in 6 rfl _).trans ((A_eq m hO c 6).trans (V_main_arg7 m c)))⟩)
    (run_main m ρ hO)

end Cert.ExpertsLastIdeal.Value

end
-- ==== Proof.DenseReadLast.lean ====
/- The dense reference of the experts call, read entry by entry: the row a block names, the weight of each expert at it, and the sum over all the experts. -/
module

public import proofs.«01_k».proof.Proof.Softmax
public import proofs.«01_k».proof.Proof.ExLI.Value
public import proofs.«01_k».proof.Proof.Gen.DenseLastIdeal.Read
public import Idealize.ShloMosaic.Lib.Routing.Ops
public import Idealize.ShloMosaic.Lib.IdealHost

@[expose] public section

set_option maxRecDepth 16384

noncomputable section

namespace Cert.DenseLastIdeal.DRead

open Cert.DenseLastIdeal Cert.DenseLastIdeal.Gen Cert.DenseLastIdeal.Read Idealize.ShloMosaic Idealize.ShloMosaic.TcCoe
open Cert.ExpertsLastIdeal.Value (ex src)
open Cert.ExpertsLastIdeal.Block (unit expert)

/-- Row `R`'s block. -/
def blkOf (R : Fin 77824) : Fin 152 := ⟨R.val / 512, by omega⟩
/-- Row `R`'s place in its block. -/
def inBlk (R : Fin 77824) : Fin 512 := ⟨R.val % 512, Nat.mod_lt _ (by omega)⟩

variable (x0 x1 x2 x3 : S152.Idx → BitVec 32) (x4 : S77824x1152.Idx → EReal) (x5 x6 : S16x1024x512.Idx → EReal) (x7 : S16x512x1024.Idx → EReal)

/-- A word times a number plus a number, below the word size. -/
theorem word_mul_add (w : BitVec 32) (n r : Nat) (hw : w.toNat * n + r < 2 ^ 32) (hn : n < 2 ^ 32) (hr : r < 2 ^ 32) :
    w * BitVec.ofNat 32 n + BitVec.ofNat 32 r = BitVec.ofNat 32 (w.toNat * n + r) := by
  apply BitVec.eq_of_toNat_eq
  rw [BitVec.toNat_add, BitVec.toNat_mul, BitVec.toNat_ofNat, BitVec.toNat_ofNat, BitVec.toNat_ofNat, Nat.mod_eq_of_lt hn, Nat.mod_eq_of_lt hr]
  have h1 : w.toNat * n < 2 ^ 32 := by omega
  rw [Nat.mod_eq_of_lt h1]

theorem not_slt (n : Nat) (h : n < 2 ^ 31) : IntOp.cmpi .slt (BitVec.ofNat 32 n) 0#32 = 0#1 := by
  have b : ∀ p : Bool, (BitVec.ofBool p = 0#1) ↔ p = false := by decide
  simp only [IntOp.cmpi, b, BitVec.slt, decide_eq_false_iff_not, BitVec.toInt, BitVec.toNat_ofNat]
  omega

section
variable (h2 : ∀ i, (x2 i).toNat < 152)
include h2

/-- The number of the row read for row `R`. -/
theorem row_word (R : Fin 77824) : val_main_v8 (F := Ideal) x2 (ix1 R) = BitVec.ofNat 32 (src (x2 (ix1 (blkOf R))) (inBlk R)).val := by
  have hb : (x2 (ix1 (blkOf R))).toNat < 152 := h2 _
  have hr : R.val % 512 < 512 := Nat.mod_lt _ (by omega)
  rw [val_main_v8_apply, val_main_v7_apply, val_main_v5_apply, val_main_v2_apply, val_main_v0_apply, val_main_v1_apply, val_main_c_apply,
    val_main_v6_apply, val_main_v4_apply, val_main_v3_apply]
  have hi : idx_main_v0 (idx_main_v5 (idx_main_v8 (ix1 R))) = ix1 (blkOf R) := funext fun a => by match a with | ⟨0, _⟩ => rfl
  rw [hi]
  refine (word_mul_add (x2 (ix1 (blkOf R))) 512 (R.val % 512) (by omega) (by omega) (by omega)).trans ?_
  refine congrArg (BitVec.ofNat 32) ?_
  show _ = ((x2 (ix1 (blkOf R))).toNat * 512 + R.val % 512) % 77824
  omega

theorem index_word (R : Fin 77824) : val_main_v14 (F := Ideal) x2 (ix2 R (0 : Fin 1)) = BitVec.ofNat 32 (src (x2 (ix1 (blkOf R))) (inBlk R)).val := by
  have hi : idx_main_v14 (ix2 R (0 : Fin 1)) = ix1 R := funext fun a => by match a with | ⟨0, _⟩ => rfl
  rw [val_main_v14_apply, hi, val_main_v13_apply, val_main_v10_apply, val_main_v9_apply, val_main_c_0_apply, row_word x2 h2,
    not_slt _ (by have := (src (x2 (ix1 (blkOf R))) (inBlk R)).isLt; omega)]
  exact if_neg (by decide)

/-- Row `R` reads the row its block names. -/
theorem rows (R : Fin 77824) (k : Fin 1152) : val_main_v15 (F := Ideal) x2 x4 (ix2 R k) = x4 (ix2 (src (x2 (ix1 (blkOf R))) (inBlk R)) k) := by
  unfold val_main_v15
  exact Routing.gather_row _ rfl rfl rfl rfl rfl x4 _ R k _ (index_word x2 h2 R) (by decide)

theorem row_x (R : Fin 77824) (d : Fin 1024) : val_main_v16 (F := Ideal) x2 x4 (ix2 R d) = x4 (ix2 (src (x2 (ix1 (blkOf R))) (inBlk R)) (⟨d.val, by omega⟩ : Fin 1152)) := by
  have hi : idx_main_v16 (ix2 R d) = ix2 R (⟨d.val, by omega⟩ : Fin 1152) := funext fun a => by match a with | ⟨0, _⟩ => rfl | ⟨1, _⟩ => rfl
  rw [val_main_v16_apply, hi, rows x2 x4 h2]

theorem row_w1 (R : Fin 77824) : val_main_v27 (F := Ideal) x2 x4 (ix2 R (0 : Fin 1)) = x4 (ix2 (src (x2 (ix1 (blkOf R))) (inBlk R)) (⟨1024, by omega⟩ : Fin 1152)) := by
  have hi : idx_main_v27 (ix2 R (0 : Fin 1)) = ix2 R (⟨1024, by omega⟩ : Fin 1152) := funext fun a => by match a with | ⟨0, _⟩ => rfl | ⟨1, _⟩ => rfl
  rw [val_main_v27_apply, hi, rows x2 x4 h2]

theorem row_w2 (R : Fin 77824) : val_main_v40 (F := Ideal) x2 x4 (ix2 R (0 : Fin 1)) = x4 (ix2 (src (x2 (ix1 (blkOf R))) (inBlk R)) (⟨1025, by omega⟩ : Fin 1152)) := by
  have hi : idx_main_v40 (ix2 R (0 : Fin 1)) = ix2 R (⟨1025, by omega⟩ : Fin 1152) := funext fun a => by match a with | ⟨0, _⟩ => rfl | ⟨1, _⟩ => rfl
  rw [val_main_v40_apply, hi, rows x2 x4 h2]

end

/-- One where the word names the expert, zero elsewhere. -/
def hot (w : BitVec 32) (e : Fin 16) : EReal := if ex w = e then 1 else 0

theorem hot_eq (w : BitVec 32) (hw : w.toNat < 16) (e : Fin 16) :
    FloatOps.uitofp (F := Ideal) .f32 (IntOp.cmpi .eq w (BitVec.ofNat 32 e.val)) = hot w e := by
  have he : e.val < 16 := e.isLt
  have o : FloatOps.uitofp (F := Ideal) .f32 (1#1) = 1 := by
    show (((1#1 : BitVec 1).toNat : ℝ) : EReal) = 1
    norm_num
  have z : FloatOps.uitofp (F := Ideal) .f32 (0#1) = 0 := by
    show (((0#1 : BitVec 1).toNat : ℝ) : EReal) = 0
    norm_num
  unfold hot
  by_cases h : ex w = e
  · have hv : w.toNat % 16 = e.val := congrArg Fin.val h
    have hw' : w = BitVec.ofNat 32 e.val := BitVec.eq_of_toNat_eq (by rw [BitVec.toNat_ofNat]; omega)
    have hc : IntOp.cmpi .eq w (BitVec.ofNat 32 e.val) = 1#1 := by rw [← hw']; simp [IntOp.cmpi]
    rw [if_pos h, hc, o]
  · have hw' : ¬ w = BitVec.ofNat 32 e.val := fun hh => h (Fin.ext (by
      have := congrArg BitVec.toNat hh
      rw [BitVec.toNat_ofNat] at this
      show w.toNat % 16 = e.val
      omega))
    have hc : IntOp.cmpi .eq w (BitVec.ofNat 32 e.val) = 0#1 := by
      have hb : (w == BitVec.ofNat 32 e.val) = false := beq_eq_false_iff_ne.mpr hw'
      simp only [IntOp.cmpi, hb]
      rfl
    rw [if_neg h, hc, z]

theorem hot1 (h0 : ∀ i, (x0 i).toNat < 16) (R : Fin 77824) (e : Fin 16) : val_main_v26 (F := Ideal) x0 (ix2 R e) = hot (x0 (ix1 (blkOf R))) e := by
  rw [val_main_v26_apply, val_main_v25_apply, val_main_v23_apply, val_main_v20_apply, val_main_v19_apply, val_main_v18_apply, val_main_v17_apply,
    val_main_v24_apply, val_main_v22_apply, val_main_v21_apply]
  have hi : idx_main_v17 (idx_main_v18 (idx_main_v19 (idx_main_v20 (idx_main_v23 (ix2 R e))))) = ix1 (blkOf R) := funext fun a => by match a with | ⟨0, _⟩ => rfl
  rw [hi]
  exact hot_eq _ (h0 _) e

theorem hot2 (h1 : ∀ i, (x1 i).toNat < 16) (R : Fin 77824) (e : Fin 16) : val_main_v39 (F := Ideal) x1 (ix2 R e) = hot (x1 (ix1 (blkOf R))) e := by
  rw [val_main_v39_apply, val_main_v38_apply, val_main_v36_apply, val_main_v33_apply, val_main_v32_apply, val_main_v31_apply, val_main_v30_apply,
    val_main_v37_apply, val_main_v35_apply, val_main_v34_apply]
  have hi : idx_main_v30 (idx_main_v31 (idx_main_v32 (idx_main_v33 (idx_main_v36 (ix2 R e))))) = ix1 (blkOf R) := funext fun a => by match a with | ⟨0, _⟩ => rfl
  rw [hi]
  exact hot_eq _ (h1 _) e

section
variable (h0 : ∀ i, (x0 i).toNat < 16) (h1 : ∀ i, (x1 i).toNat < 16) (h2 : ∀ i, (x2 i).toNat < 152)
include h2

/-- The gate's product, its factors in the kernel's order. -/
theorem gate (R : Fin 77824) (e : Fin 16) (f : Fin 512) : val_main_v48 (F := Ideal) x2 x4 x5 (ix3 e R f)
    = ∑ d, x4 (ix2 (src (x2 (ix1 (blkOf R))) (inBlk R)) (⟨d.val, by omega⟩ : Fin 1152)) * x5 (ix3 e d f) := by
  rw [val_main_v48_apply, val_main_v47_apply]
  refine Finset.sum_congr rfl fun d _ => ?_
  have hl : lidx_main_v47 (idx_main_v48 (ix3 e R f)) d = ix3 e d f := funext fun a => by match a with | ⟨0, _⟩ => rfl | ⟨1, _⟩ => rfl | ⟨2, _⟩ => rfl
  have hr : ridx_main_v47 (idx_main_v48 (ix3 e R f)) d = ix2 R d := funext fun a => by match a with | ⟨0, _⟩ => rfl | ⟨1, _⟩ => rfl
  rw [hl, hr, row_x x2 x4 h2, mul_comm]
  rfl

theorem up (R : Fin 77824) (e : Fin 16) (f : Fin 512) : val_main_v51 (F := Ideal) x2 x4 x6 (ix3 e R f)
    = ∑ d, x4 (ix2 (src (x2 (ix1 (blkOf R))) (inBlk R)) (⟨d.val, by omega⟩ : Fin 1152)) * x6 (ix3 e d f) := by
  rw [val_main_v51_apply, val_main_v50_apply]
  refine Finset.sum_congr rfl fun d _ => ?_
  have hl : lidx_main_v50 (idx_main_v51 (ix3 e R f)) d = ix3 e d f := funext fun a => by match a with | ⟨0, _⟩ => rfl | ⟨1, _⟩ => rfl | ⟨2, _⟩ => rfl
  have hr : ridx_main_v50 (idx_main_v51 (ix3 e R f)) d = ix2 R d := funext fun a => by match a with | ⟨0, _⟩ => rfl | ⟨1, _⟩ => rfl
  rw [hl, hr, row_x x2 x4 h2, mul_comm]
  rfl

/-- One hidden unit of expert `e` at row `R`. -/
theorem hidden (R : Fin 77824) (e : Fin 16) (f : Fin 512) : val_main_v52 (F := Ideal) x2 x4 x5 x6 (ix3 e R f)
    = unit (fun d => x4 (ix2 (src (x2 (ix1 (blkOf R))) (inBlk R)) (⟨d.val, by omega⟩ : Fin 1152))) (fun d => x5 (ix3 e d f)) (fun d => x6 (ix3 e d f)) := by
  rw [val_main_v52_apply, val_main_v49_apply, val_main_call0_v5_apply, val_main_call0_v4_apply, val_main_call0_cst_0_apply, val_main_call0_v3_apply,
    val_main_call0_v2_apply, val_main_call0_cst_apply, val_main_call0_v1_apply, val_main_call0_v0_apply, gate x2 x4 x5 h2, up x2 x4 x6 h2]
  unfold unit
  show _ * Ideal.div (Ideal.ofBits .f32 0x3F800000#32) (Ideal.ofBits .f32 0x3F800000#32 + Ideal.exp (-_)) * _ = _
  rw [Idealize.ShloMosaic.Ideal.ofBits_one_f32]
  rfl

/-- One expert's row, not yet weighted. -/
theorem product (R : Fin 77824) (e : Fin 16) (C : Fin 1024) : val_main_v55 (F := Ideal) x2 x4 x5 x6 x7 (ix3 e R C)
    = ∑ f, unit (fun d => x4 (ix2 (src (x2 (ix1 (blkOf R))) (inBlk R)) (⟨d.val, by omega⟩ : Fin 1152))) (fun d => x5 (ix3 e d f)) (fun d => x6 (ix3 e d f)) * x7 (ix3 e f C) := by
  rw [val_main_v55_apply]
  refine Finset.sum_congr rfl fun f _ => ?_
  have hl : lidx_main_v55 (ix3 e R C) f = ix3 e R f := funext fun a => by match a with | ⟨0, _⟩ => rfl | ⟨1, _⟩ => rfl | ⟨2, _⟩ => rfl
  have hr : ridx_main_v55 (ix3 e R C) f = ix3 e f C := funext fun a => by match a with | ⟨0, _⟩ => rfl | ⟨1, _⟩ => rfl | ⟨2, _⟩ => rfl
  rw [hl, hr, hidden x2 x4 x5 x6 h2]
  rfl

include h0 h1

/-- The weight of expert `e` at row `R`. -/
theorem weight (R : Fin 77824) (e : Fin 16) (C : Fin 1024) : val_main_v56 (F := Ideal) x0 x1 x2 x4 (ix3 e R C)
    = hot (x0 (ix1 (blkOf R))) e * x4 (ix2 (src (x2 (ix1 (blkOf R))) (inBlk R)) (⟨1024, by omega⟩ : Fin 1152))
      + hot (x1 (ix1 (blkOf R))) e * x4 (ix2 (src (x2 (ix1 (blkOf R))) (inBlk R)) (⟨1025, by omega⟩ : Fin 1152)) := by
  have hi : idx_main_v53 (idx_main_v54 (idx_main_v56 (ix3 e R C))) = ix2 R e := funext fun a => by match a with | ⟨0, _⟩ => rfl | ⟨1, _⟩ => rfl
  have hj : idx_main_v28 (ix2 R e) = ix2 R (0 : Fin 1) := funext fun a => by match a with | ⟨0, _⟩ => rfl | ⟨1, _⟩ => rfl
  have hk : idx_main_v41 (ix2 R e) = ix2 R (0 : Fin 1) := funext fun a => by match a with | ⟨0, _⟩ => rfl | ⟨1, _⟩ => rfl
  rw [val_main_v56_apply, val_main_v54_apply, val_main_v53_apply, hi, val_main_v43_apply, val_main_v29_apply, val_main_v42_apply,
    val_main_v28_apply, val_main_v41_apply, hj, hk, row_w1 x2 x4 h2, row_w2 x2 x4 h2, hot1 x0 h0, hot2 x1 h1]
  rfl

/-- The reference's entry. -/
theorem result (R : Fin 77824) (C : Fin 1024) : val_main_v65 (F := Ideal) x0 x1 x2 x3 x4 x5 x6 x7 (ix2 R C)
    = if Scalar.cmpi .sgt (x3 (ix1 (blkOf R))) 0#32 = 1#1 then
        ∑ e, (hot (x0 (ix1 (blkOf R))) e * x4 (ix2 (src (x2 (ix1 (blkOf R))) (inBlk R)) (⟨1024, by omega⟩ : Fin 1152))
            + hot (x1 (ix1 (blkOf R))) e * x4 (ix2 (src (x2 (ix1 (blkOf R))) (inBlk R)) (⟨1025, by omega⟩ : Fin 1152)))
          * ∑ f, unit (fun d => x4 (ix2 (src (x2 (ix1 (blkOf R))) (inBlk R)) (⟨d.val, by omega⟩ : Fin 1152))) (fun d => x5 (ix3 e d f)) (fun d => x6 (ix3 e d f)) * x7 (ix3 e f C)
      else 0 := by
  have z : Ideal.ofBits .f32 0x00000000#32 = 0 := by simp [Ideal.ofBits, Ideal.ieee]
  have hv : val_main_call1_v1 (F := Ideal) x3 (ix2 R C) = Scalar.cmpi .sgt (x3 (ix1 (blkOf R))) 0#32 := by
    rw [val_main_call1_v1_apply, val_main_v64_apply, val_main_v62_apply, val_main_v61_apply, val_main_v60_apply, val_main_v59_apply, val_main_v63_apply, val_main_c_2_apply]
    have hi : idx_main_v59 (idx_main_v60 (idx_main_v61 (idx_main_v62 (idx_main_call1_v1 (ix2 R C))))) = ix1 (blkOf R) := funext fun a => by match a with | ⟨0, _⟩ => rfl
    rw [hi]
    rfl
  have hs : val_main_v58 (F := Ideal) x0 x1 x2 x4 x5 x6 x7 (ix2 R C)
      = ∑ e, (hot (x0 (ix1 (blkOf R))) e * x4 (ix2 (src (x2 (ix1 (blkOf R))) (inBlk R)) (⟨1024, by omega⟩ : Fin 1152))
            + hot (x1 (ix1 (blkOf R))) e * x4 (ix2 (src (x2 (ix1 (blkOf R))) (inBlk R)) (⟨1025, by omega⟩ : Fin 1152)))
          * ∑ f, unit (fun d => x4 (ix2 (src (x2 (ix1 (blkOf R))) (inBlk R)) (⟨d.val, by omega⟩ : Fin 1152))) (fun d => x5 (ix3 e d f)) (fun d => x6 (ix3 e d f)) * x7 (ix3 e f C) := by
    rw [val_main_v58_apply, val_main_cst_apply]
    show Ideal.ofBits .f32 0x00000000#32 + _ = _
    rw [z, zero_add]
    refine Finset.sum_congr rfl fun e _ => ?_
    have hi : idx_main_v58 (ix2 R C) e = ix3 e R C := funext fun a => by match a with | ⟨0, _⟩ => rfl | ⟨1, _⟩ => rfl | ⟨2, _⟩ => rfl
    rw [hi, val_main_v57_apply, weight x0 x1 x2 x4 h0 h1 h2, product x2 x4 x5 x6 x7 h2]
    rfl
  have hz : val_main_call1_v2 (F := Ideal) (ix2 R C) = 0 := by
    rw [val_main_call1_v2_apply, val_main_call1_v0_apply, val_main_cst_3_apply]
    exact z
  rw [val_main_v65_apply, hv, hs, hz]
  rfl

end

/-- The dense sum is the sum of the two experts named: every other expert's weight is zero. -/
theorem two_experts (a b : BitVec 32) (u v : ℝ) (hu : 0 ≤ u) (hv : 0 ≤ v) (E : Fin 16 → EReal) :
    ∑ e, (hot a e * (u : EReal) + hot b e * (v : EReal)) * E e = (u : EReal) * E (ex a) + (v : EReal) * E (ex b) := by
  have pick : ∀ (w : BitVec 32) (r : ℝ), ∑ e, hot w e * (r : EReal) * E e = (r : EReal) * E (ex w) := fun w r => by
    rw [Finset.sum_eq_single (ex w)]
    · unfold hot; rw [if_pos rfl, one_mul]
    · intro e _ he; unfold hot; rw [if_neg (Ne.symm he), zero_mul, zero_mul]
    · intro h; exact absurd (Finset.mem_univ _) h
  have nn : ∀ (w : BitVec 32) (r : ℝ), 0 ≤ r → ∀ e, 0 ≤ hot w e * (r : EReal) := fun w r hr e => by
    refine mul_nonneg ?_ (EReal.coe_nonneg.2 hr)
    unfold hot; split
    · exact zero_le_one
    · exact le_refl _
  rw [← pick a u, ← pick b v, ← Finset.sum_add_distrib]
  exact Finset.sum_congr rfl fun e _ => EReal.right_distrib_of_nonneg (nn a u hu e) (nn b v hv e)

/-- A weight on the hidden units is a weight on their product. -/
theorem expert_eq (x : Fin 1024 → EReal) (r : ℝ) (hr : 0 ≤ r) (wg wu : Fin 1024 → Fin 512 → EReal) (wd : Fin 512 → EReal) :
    expert x (r : EReal) wg wu wd = (r : EReal) * ∑ f, unit x (fun d => wg d f) (fun d => wu d f) * wd f := by
  unfold expert
  rw [mul_comm, Cert.Softmax.sum_mul_coe _ _ _ hr]
  exact Finset.sum_congr rfl fun f _ => mul_right_comm _ _ _

/-- The two programs' results agree at each entry. -/
theorem agree (h0 : ∀ i, (x0 i).toNat < 16) (h1 : ∀ i, (x1 i).toNat < 16) (h2 : ∀ i, (x2 i).toNat < 152)
    (hw : ∀ (R : Fin 77824) (k : Fin 2), ∃ r : ℝ, 0 ≤ r ∧ x4 (ix2 R (⟨1024 + k.val, by omega⟩ : Fin 1152)) = r) (R : Fin 77824) (C : Fin 1024) :
    val_main_v65 (F := Ideal) x0 x1 x2 x3 x4 x5 x6 x7 (ix2 R C) = Cert.ExpertsLastIdeal.Value.moe x0 x1 x2 x3 x4 x5 x6 x7 (ix2 R C) := by
  refine (result x0 x1 x2 x3 x4 x5 x6 x7 h0 h1 h2 R C).trans ?_
  unfold Cert.ExpertsLastIdeal.Value.moe Cert.ExpertsLastIdeal.Value.entry
  show _ = if Scalar.cmpi .sgt (x3 (ix1 (blkOf R))) 0#32 = 1#1 then
      Cert.ExpertsLastIdeal.Value.half x4 x5 x6 x7 (src (x2 (ix1 (blkOf R))) (inBlk R)) ⟨1024, by omega⟩ (ex (x0 (ix1 (blkOf R)))) C
        + Cert.ExpertsLastIdeal.Value.half x4 x5 x6 x7 (src (x2 (ix1 (blkOf R))) (inBlk R)) ⟨1025, by omega⟩ (ex (x1 (ix1 (blkOf R)))) C
    else 0
  obtain ⟨u, hu, eu⟩ := hw (src (x2 (ix1 (blkOf R))) (inBlk R)) 0
  obtain ⟨v, hv, ev⟩ := hw (src (x2 (ix1 (blkOf R))) (inBlk R)) 1
  have eu' : x4 (ix2 (src (x2 (ix1 (blkOf R))) (inBlk R)) (⟨1024, by omega⟩ : Fin 1152)) = (u : EReal) := eu
  have ev' : x4 (ix2 (src (x2 (ix1 (blkOf R))) (inBlk R)) (⟨1025, by omega⟩ : Fin 1152)) = (v : EReal) := ev
  unfold Cert.ExpertsLastIdeal.Value.half
  rw [eu', ev', expert_eq _ u hu, expert_eq _ v hv, two_experts _ _ u v hu hv]

end Cert.DenseLastIdeal.DRead

end
-- ==== Proof.MoeLast.lean ====
/- The experts call and its dense reference agree: frames, and the equality of the results under the precondition on the tables. -/
module

public import proofs.«01_k».proof.Defs
public import proofs.«01_k».proof.Proof.ExL.Tab
public import proofs.«01_k».proof.Proof.ExLI.Value
public import proofs.«01_k».proof.Proof.DenseReadLast
public import proofs.«01_k».proof.Proof.Gen.DenseLastIdeal.Run
public import Idealize.ShloMosaic.Adequacy
public import Idealize.ShloMosaic.Init

@[expose] public section

noncomputable section

namespace Cert.MoeLast

open Idealize.ShloMosaic Idealize.SL.Sem Idealize.ShloMosaic.TcCoe

theorem frame_e : Cert.quiescent_ExpertsLast := fun m ρ h => Cert.ExpertsLast.Own.frame m ρ (Cert.ExpertsLast.Tab.ok_of_pre m h)
theorem frame_ei : Cert.quiescent_ExpertsLastIdeal := fun m ρ h => Cert.ExpertsLastIdeal.Own.frame m ρ (Cert.ExpertsLastIdeal.Tab.ok_of_pre m h)
theorem frame_di : Cert.quiescent_DenseLastIdeal := fun m ρ _ =>
  (θ_run Cert.DenseLastIdeal.defs _ _).mono (fun r h => ⟨fun c => (h c).2,
    Idealize.ShloMosaic.sem_eq_zero_of_no_sems (by decide) r.2⟩) (Cert.DenseLastIdeal.Value.run (F := Ideal) m ρ)
theorem frame_di_pre : Cert.quiescent_DenseLastIdeal_pre_plan_tables_last := fun m ρ _ => frame_di m ρ trivial

theorem algebraic : Cert.algebraic_ExpertsLastIdeal_DenseLastIdeal := by
  intro m g m' g' hpre hagree
  have hW : Cert.ExpertsLastIdeal.Value.Words m := by
    obtain ⟨a, b, d⟩ := Cert.TablesLast.words_of_pre (F := Ideal) _ _ _ _ _ _ _ _ (hpre 0)
    exact ⟨a, b, d⟩
  refine ⟨fun c => Cert.ExpertsLastIdeal.Value.val m c, Cert.ExpertsLastIdeal.Value.run m g (Cert.ExpertsLastIdeal.Tab.ok_of_pre m hpre) hW, ?_⟩
  refine (θ_run Cert.DenseLastIdeal.defs _ _).mono (fun r h c => ⟨(h c).1.trans ?_, (h c).2⟩) (Cert.DenseLastIdeal.Value.run (F := Ideal) m' g')
  obtain ⟨w0, w1, w2⟩ := Cert.TablesLast.words_of_pre (F := Ideal) _ _ _ _ _ _ _ _ (hpre c)
  have ww := Cert.TablesLast.weights_of_pre _ _ _ _ _ _ _ _ (hpre c)
  obtain ⟨e0, e1, e2, e3, e4, e5, e6, e7⟩ := hagree c
  rw [Cert.DenseLastIdeal.Read.val_main_v65_eq, e0, e1, e2, e3, e4, e5, e6, e7]
  funext y
  have hy : y = ix2 (y 0) (y 1) := funext fun a => by match a with | ⟨0, _⟩ => rfl | ⟨1, _⟩ => rfl
  rw [hy]
  exact Cert.DenseLastIdeal.DRead.agree _ _ _ _ _ _ _ _ w0 w1 w2 ww (y 0) (y 1)

end Cert.MoeLast

end
-- ==== Proof.Gq.Head.lean ====
/- One head of the grouped attention body, read at a row and a column: the two segments' softmax of Softmax.lean over the scores
   of the row, and the value columns. -/
module

public import proofs.«01_k».proof.Proof.Gen.GqaIdeal.Frame
public import proofs.«01_k».proof.Proof.Softmax
public import Idealize.ShloMosaic.Lib.Pointwise

@[expose] public section

set_option maxRecDepth 16384

noncomputable section

namespace Cert.GqaIdeal.Head

open Cert.GqaIdeal Cert.GqaIdeal.Gen Idealize.ShloMosaic Idealize.ShloMosaic.Pointwise

/-- One head's result rows, from its queries, its two segments of keys and its two segments of values. -/
def head {F : FTy → Type} [FloatOps F] (q : Vec F S1x1x256x128 .bf16) (k : Vec F S1x1x2048x128 .bf16) (ck : Vec F S1x1x256x128 .bf16)
    (v : Vec F S1x1x2048x128 .bf16) (cv : Vec F S1x1x256x128 .bf16) : FVec F S256x128 .f32 :=
  k0_pay12 (k0_pay9 q k ck) (k0_pay10 q k ck v) (k0_pay11 q k ck) cv

/-- Two heads side by side in 128 columns: the first where the mask is set, the second elsewhere. -/
def pair {F : FTy → Type} [FloatOps F] (b : IVec S1x128 1) (lo hi : FVec F S256x128 .f32) : FVec F S1x256x128 .bf16 :=
  shapeCast S1x256x128 (truncf .bf16 (select (broadcastTo S256x128 (shapeCast S1x128 b shapeCasts_S1x128_S1x128) broadcasts_S1x128_S256x128) lo hi)
    bitsLt_bf16_f32) shapeCasts_S256x128_S1x256x128

section Spell
variable {F : FTy → Type} [FloatOps F] (b : IVec S1x128 1) (lo : FVec F S256x128 .f32) (q ck cv : Vec F S1x1x256x128 .bf16) (k v : Vec F S1x1x2048x128 .bf16)

/-- The first pair's payload. -/
theorem pair0 : k0_pay21 b lo (k0_pay18 q k ck) (k0_pay19 q k ck) (k0_pay20 q k ck v) cv = pair b lo (head q k ck v cv) := rfl
/-- The second pair's payload, and its first head. -/
theorem pair1 : k0_pay36 b lo (k0_pay34 q k ck) (k0_pay35 q k ck) v cv = pair b lo (head q k ck v cv) := rfl
theorem head2 : k0_pay29 (k0_pay26 q k ck) (k0_pay27 q k ck) (k0_pay28 q k ck) v cv = head q k ck v cv := rfl
/-- The third pair's payload, and its first head. -/
theorem pair2 : k0_pay43 b lo (k0_pay41 q) (k0_pay42 q k) ck v cv = pair b lo (head q k ck v cv) := rfl
theorem head4 : k0_pay40 (k0_pay37 q) (k0_pay38 q k) (k0_pay39 ck) v cv = head q k ck v cv := rfl
/-- The fourth pair's payload, and its first head. -/
theorem pair3 : k0_pay1 b lo (k0_pay51 q k ck) (k0_pay52 q k ck v) (k0_pay53 q k ck cv) = pair b lo (head q k ck v cv) := rfl
theorem head6 : k0_pay44 q k ck v cv = head q k ck v cv := rfl
end Spell

section Read
variable (q ck cv : Vec Ideal S1x1x256x128 .bf16) (k v : Vec Ideal S1x1x2048x128 .bf16)

/-- A row's score against a key. -/
def sc1 (r : Fin 256) (i : Fin 2048) : EReal := ∑ d : Fin 128, q (ix4 0 0 r d) * k (ix4 0 0 i d)
def sc2 (r : Fin 256) (i : Fin 256) : EReal := ∑ d : Fin 128, q (ix4 0 0 r d) * ck (ix4 0 0 i d)

theorem pay4_apply (r : Fin 256) (i : Fin 2048) : k0_pay4 (F := Ideal) q k (ix2 r i) = sc1 q k r i := by
  pointwise [k0_pay4, k0_pay3, sc1]

theorem pay5_apply (r : Fin 256) (i : Fin 256) : k0_pay5 (F := Ideal) q ck (ix2 r i) = sc2 q ck r i := by
  pointwise [k0_pay5, k0_pay3, sc2]

/-- The pattern the maximum starts from is the bottom of the extended reals. -/
theorem negInf : Ideal.ofBits .f32 0xFF800000#32 = ⊥ := by simp [Ideal.ofBits, Ideal.ieee]

/-- The greatest of a row's scores over both segments. -/
def mx (r : Fin 256) : EReal :=
  max ((Finset.univ : Finset (Fin 2048)).fold max ⊥ (sc1 q k r)) ((Finset.univ : Finset (Fin 256)).fold max ⊥ (sc2 q ck r))

theorem pay6_apply (r : Fin 256) : k0_pay6 (F := Ideal) q k ck (ix2 r 0) = mx q ck k r := by
  pointwise [k0_pay6, pay4_apply, pay5_apply, mx]
  rw [negInf]

theorem pay7_apply (r : Fin 256) (i : Fin 2048) : k0_pay7 (F := Ideal) q k ck (ix2 r i) = Ideal.exp2 (sc1 q k r i - mx q ck k r) := by
  pointwise [k0_pay7, pay4_apply, pay6_apply]
  rfl

theorem pay8_apply (r : Fin 256) (i : Fin 256) : k0_pay8 (F := Ideal) q k ck (ix2 r i) = Ideal.exp2 (sc2 q ck r i - mx q ck k r) := by
  pointwise [k0_pay8, pay5_apply, pay6_apply]
  rfl

theorem pay9_apply (r : Fin 256) : k0_pay9 (F := Ideal) q k ck (ix2 r 0)
    = (∑ i, Ideal.exp2 (sc1 q k r i - mx q ck k r)) + ∑ i, Ideal.exp2 (sc2 q ck r i - mx q ck k r) := by
  pointwise [k0_pay9, pay7_apply, pay8_apply]

theorem pay10_apply (r : Fin 256) (j : Fin 128) : k0_pay10 (F := Ideal) q k ck v (ix2 r j)
    = ∑ i, Ideal.exp2 (sc1 q k r i - mx q ck k r) * v (ix4 0 0 i j) := by
  pointwise [k0_pay10, pay7_apply]

/-- One head at a row and a column. -/
theorem head_apply (r : Fin 256) (j : Fin 128) : head (F := Ideal) q k ck v cv (ix2 r j)
    = Cert.Softmax.twoSegments (sc1 q k r) (sc2 q ck r) (fun i => v (ix4 0 0 i j)) (fun i => cv (ix4 0 0 i j)) := by
  pointwise [head, k0_pay12, k0_pay11, pay9_apply, pay10_apply, pay8_apply]
  rfl

/-- The mask the body computes: the lanes below 64. -/
theorem mask_apply (c : Fin 128) : k0_pay2 (ix2 0 c) = if c.val < 64 then 1#1 else 0#1 := by
  revert c; decide +kernel

/-- A pair at a row and a column. -/
theorem pair_apply (lo hi : FVec Ideal S256x128 .f32) (r : Fin 256) (c : Fin 128) :
    pair (F := Ideal) k0_pay2 lo hi (ix3 0 r c) = if c.val < 64 then lo (ix2 r c) else hi (ix2 r c) := by
  pointwise [pair]
  rw [mask_apply]
  split <;> rfl
end Read

end Cert.GqaIdeal.Head

end
-- ==== Proof.Gq.Block.lean ====
/- What the grouped attention body leaves in its output block, as one function of its five input blocks. -/
module

public import proofs.«01_k».proof.Proof.Gq.Head
public import proofs.«01_k».proof.Proof.Block

@[expose] public section

set_option maxRecDepth 16384

noncomputable section

namespace Cert.GqaIdeal.Block

open Cert.GqaIdeal Cert.GqaIdeal.Facts Cert.GqaIdeal.Gen Idealize.ShloMosaic Idealize.ShloMosaic.Pointwise Cert.GqaIdeal.Head
open Cert.KernelIdeal.Block (ld_slab)

variable (x0 : Vec Ideal S1x8x256x128 .bf16) (x1 x2 : Vec Ideal S1x1x2048x128 .bf16)
  (x3 x4 : Vec Ideal S1x1x256x128 .bf16)

/-- One entry: query head `h`, row `r`, value column `c`; the keys and values are one head's. -/
def entry (h : Fin 8) (r : Fin 256) (c : Fin 128) : EReal :=
  Cert.Softmax.twoSegments (fun i : Fin 2048 => ∑ d : Fin 128, x0 (ix4 0 h r d) * x1 (ix4 0 0 i d))
    (fun i : Fin 256 => ∑ d : Fin 128, x0 (ix4 0 h r d) * x3 (ix4 0 0 i d))
    (fun i => x2 (ix4 0 0 i c)) (fun i => x4 (ix4 0 0 i c))

/-- The output block: columns `128 p` to `128 p + 63` are query head `p`, the next 64 are query head `p + 4`. -/
def block (y : S1x256x512.Idx) : EReal :=
  entry x0 x1 x2 x3 x4 ⟨(y 2).val / 128 + 4 * ((y 2).val / 64 % 2), by have : (y 2).val < 512 := (y 2).isLt; omega⟩ (y 1) ⟨(y 2).val % 128, Nat.mod_lt _ (by omega)⟩

/-- One head of loaded slabs is `entry`. -/
theorem head_entry (h : Fin 8) (q ck cv : Vec Ideal S1x1x256x128 .bf16) (k v : Vec Ideal S1x1x2048x128 .bf16)
    (hq : ∀ r d, q (ix4 0 0 r d) = x0 (ix4 0 h r d)) (hk : ∀ r d, k (ix4 0 0 r d) = x1 (ix4 0 0 r d))
    (hck : ∀ r d, ck (ix4 0 0 r d) = x3 (ix4 0 0 r d)) (hv : ∀ r d, v (ix4 0 0 r d) = x2 (ix4 0 0 r d))
    (hcv : ∀ r d, cv (ix4 0 0 r d) = x4 (ix4 0 0 r d)) (r : Fin 256) (c : Fin 128) :
    head (F := Ideal) q k ck v cv (ix2 r c) = entry x0 x1 x2 x3 x4 h r c := by
  rw [head_apply]
  unfold entry
  congr 1
  · funext i; unfold sc1; simp only [hq, hk]
  · funext i; unfold sc2; simp only [hq, hck]
  · funext i; rw [hv]
  · funext i; rw [hcv]

/-- A pair's payload is its 128 columns of `block`. -/
theorem pair_block (p : Nat) (hp : p < 4) (lo hi : FVec Ideal S256x128 .f32)
    (hlo : ∀ r c, lo (ix2 r c) = entry x0 x1 x2 x3 x4 ⟨p, by omega⟩ r c)
    (hhi : ∀ r c, hi (ix2 r c) = entry x0 x1 x2 x3 x4 ⟨p + 4, by omega⟩ r c)
    (inb : ∀ a, (![0, 0, 128 * p] : Fin 3 → Nat) a + S1x256x128.size a ≤ S1x256x512.size a) (j : S1x256x128.Idx) :
    pair (F := Ideal) k0_pay2 lo hi j = block x0 x1 x2 x3 x4 ((Rect.unit (s := S1x256x512) ![0, 0, 128 * p] S1x256x128.size inb).emb j) := by
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  have hc : (j 2).val < 128 := (j 2).isLt
  have e1 : ((Rect.unit (s := S1x256x512) ![0, 0, 128 * p] S1x256x128.size inb).emb j 1) = (j 1 : Fin 256) :=
    Fin.ext (by show 0 + 1 * (j 1).val = (j 1).val; omega)
  have e2 : (((Rect.unit (s := S1x256x512) ![0, 0, 128 * p] S1x256x128.size inb).emb j) 2).val = 128 * p + (j 2).val := by
    show 128 * p + 1 * (j 2).val = _; omega
  refine (congrArg (pair (F := Ideal) k0_pay2 lo hi) hj).trans ((pair_apply lo hi (j 1) (j 2)).trans ?_)
  unfold block
  simp only [e1, e2]
  have a3 : (⟨(128 * p + (j 2).val) % 128, Nat.mod_lt _ (by omega)⟩ : Fin 128) = j 2 := Fin.ext (by show _ % 128 = (j 2).val; omega)
  rw [a3]
  split
  · next h =>
    have a1 : (⟨(128 * p + (j 2).val) / 128 + 4 * ((128 * p + (j 2).val) / 64 % 2), by omega⟩ : Fin 8) = ⟨p, by omega⟩ := Fin.ext (by show _ / 128 + 4 * (_ / 64 % 2) = p; omega)
    rw [a1]; exact hlo (j 1) (j 2)
  · next h =>
    have a1 : (⟨(128 * p + (j 2).val) / 128 + 4 * ((128 * p + (j 2).val) / 64 % 2), by omega⟩ : Fin 8) = ⟨p + 4, by omega⟩ := Fin.ext (by show _ / 128 + 4 * (_ / 64 % 2) = p + 4; omega)
    rw [a1]; exact hhi (j 1) (j 2)

/-- The body's output block. -/
theorem out_eq : out0_5 (F := Ideal) x0 x1 x2 x3 x4 = block x0 x1 x2 x3 x4 := by
  funext y
  unfold out0_5
  refine View.canon_apply_of_pieces (Val := Elt Ideal) (e := .bf16) (block x0 x1 x2 x3 x4) _ (fun p hp j => ?_) y (cover0_5 _ _ _ _ y)
  simp only [List.mem_cons, List.mem_nil_iff, or_false] at hp
  rcases hp with rfl | rfl | rfl | rfl
  · refine Eq.trans (congrFun (pair3 _ _ _ _ _ _ _) j) ?_
    refine pair_block x0 x1 x2 x3 x4 3 (by omega) _ _ (fun r c => ?_) (fun r c => ?_) inb_S1x256x512_S1x256x128_0_0_384 j
    · rw [head6]
      exact head_entry x0 x1 x2 x3 x4 _ _ _ _ _ _ (ld_slab x0 3 (by omega) _) (ld_slab x1 0 (by omega) _) (ld_slab x3 0 (by omega) _)
        (ld_slab x2 0 (by omega) _) (ld_slab x4 0 (by omega) _) r c
    · exact head_entry x0 x1 x2 x3 x4 _ _ _ _ _ _ (ld_slab x0 7 (by omega) _) (ld_slab x1 0 (by omega) _) (ld_slab x3 0 (by omega) _)
        (ld_slab x2 0 (by omega) _) (ld_slab x4 0 (by omega) _) r c
  · refine Eq.trans (congrFun (pair2 _ _ _ _ _ _ _) j) ?_
    refine pair_block x0 x1 x2 x3 x4 2 (by omega) _ _ (fun r c => ?_) (fun r c => ?_) inb_S1x256x512_S1x256x128_0_0_256 j
    · rw [head4]
      exact head_entry x0 x1 x2 x3 x4 _ _ _ _ _ _ (ld_slab x0 2 (by omega) _) (ld_slab x1 0 (by omega) _) (ld_slab x3 0 (by omega) _)
        (ld_slab x2 0 (by omega) _) (ld_slab x4 0 (by omega) _) r c
    · exact head_entry x0 x1 x2 x3 x4 _ _ _ _ _ _ (ld_slab x0 6 (by omega) _) (ld_slab x1 0 (by omega) _) (ld_slab x3 0 (by omega) _)
        (ld_slab x2 0 (by omega) _) (ld_slab x4 0 (by omega) _) r c
  · refine Eq.trans (congrFun (pair1 _ _ _ _ _ _ _) j) ?_
    refine pair_block x0 x1 x2 x3 x4 1 (by omega) _ _ (fun r c => ?_) (fun r c => ?_) inb_S1x256x512_S1x256x128_0_0_128 j
    · rw [head2]
      exact head_entry x0 x1 x2 x3 x4 _ _ _ _ _ _ (ld_slab x0 1 (by omega) _) (ld_slab x1 0 (by omega) _) (ld_slab x3 0 (by omega) _)
        (ld_slab x2 0 (by omega) _) (ld_slab x4 0 (by omega) _) r c
    · exact head_entry x0 x1 x2 x3 x4 _ _ _ _ _ _ (ld_slab x0 5 (by omega) _) (ld_slab x1 0 (by omega) _) (ld_slab x3 0 (by omega) _)
        (ld_slab x2 0 (by omega) _) (ld_slab x4 0 (by omega) _) r c
  · refine Eq.trans (congrFun (pair0 _ _ _ _ _ _ _) j) ?_
    refine pair_block x0 x1 x2 x3 x4 0 (by omega) _ _ (fun r c => ?_) (fun r c => ?_) inb_S1x256x512_S1x256x128_0_0_0 j
    · exact head_entry x0 x1 x2 x3 x4 _ _ _ _ _ _ (ld_slab x0 0 (by omega) _) (ld_slab x1 0 (by omega) _) (ld_slab x3 0 (by omega) _)
        (ld_slab x2 0 (by omega) _) (ld_slab x4 0 (by omega) _) r c
    · exact head_entry x0 x1 x2 x3 x4 _ _ _ _ _ _ (ld_slab x0 4 (by omega) _) (ld_slab x1 0 (by omega) _) (ld_slab x3 0 (by omega) _)
        (ld_slab x2 0 (by omega) _) (ld_slab x4 0 (by omega) _) r c

end Cert.GqaIdeal.Block

end
-- ==== Proof.Gq.Attn.lean ====
/- The grouped attention call's result array as one function of its five argument arrays, and its run. -/
module

public import proofs.«01_k».proof.Proof.Gq.Block
public import Idealize.ShloMosaic.Lib.Pipeline.Value

@[expose] public section

set_option maxRecDepth 16384

noncomputable section

namespace Cert.GqaIdeal.Attn

open Cert.GqaIdeal Cert.GqaIdeal.Gen Idealize.ShloMosaic Idealize.ShloMosaic.TcCoe Idealize.SL.Sem Idealize.ShloMosaic.Pointwise
open Idealize.ShloMosaic.Pipeline (Dat)

/-- One entry of the result: batch `b`, row `R`, column `C`. -/
def attnEntry (a0 : S32x8x2048x128.Idx → EReal) (a1 a2 : S32x1x2048x128.Idx → EReal) (a3 a4 : S32x1x256x128.Idx → EReal)
    (b : Fin 32) (h : Fin 8) (R : Fin 2048) (c : Fin 128) : EReal :=
  Cert.Softmax.twoSegments (fun i : Fin 2048 => ∑ d : Fin 128, a0 (ix4 b h R d) * a1 (ix4 b 0 i d))
    (fun i : Fin 256 => ∑ d : Fin 128, a0 (ix4 b h R d) * a3 (ix4 b 0 i d))
    (fun i => a2 (ix4 b 0 i c)) (fun i => a4 (ix4 b 0 i c))

/-- The result array: columns `128 p` to `128 p + 63` are query head `p`, the next 64 are query head `p + 4`. -/
def attn (a0 : S32x8x2048x128.Idx → EReal) (a1 a2 : S32x1x2048x128.Idx → EReal) (a3 a4 : S32x1x256x128.Idx → EReal) (y : S32x2048x512.Idx) : EReal :=
  attnEntry a0 a1 a2 a3 a4 (y 0) ⟨(y 2).val / 128 + 4 * ((y 2).val / 64 % 2), by have : (y 2).val < 512 := (y 2).isLt; omega⟩ (y 1) ⟨(y 2).val % 128, Nat.mod_lt _ (by omega)⟩

variable (m : (ℓ : Loc nD τ sig) → Buf (Elt Ideal) ℓ) (ρ : Dev nD → PrngReg)

/-- The windows' blocks: batch `t / 8`, rows `256 * (t % 8)` on. -/
theorem idx_0 : ∀ t : Fin grid0.N, win0_0.index t 0 = t.val / 8 ∧ win0_0.index t 1 = 0 ∧ win0_0.index t 2 = t.val % 8 ∧ win0_0.index t 3 = 0 := by
  decide +kernel
theorem idx_1 : ∀ t : Fin grid0.N, win0_1.index t 0 = t.val / 8 ∧ win0_1.index t 1 = 0 ∧ win0_1.index t 2 = 0 ∧ win0_1.index t 3 = 0 := by
  decide +kernel
theorem idx_2 : ∀ t : Fin grid0.N, win0_2.index t 0 = t.val / 8 ∧ win0_2.index t 1 = 0 ∧ win0_2.index t 2 = 0 ∧ win0_2.index t 3 = 0 := by
  decide +kernel
theorem idx_3 : ∀ t : Fin grid0.N, win0_3.index t 0 = t.val / 8 ∧ win0_3.index t 1 = 0 ∧ win0_3.index t 2 = 0 ∧ win0_3.index t 3 = 0 := by
  decide +kernel
theorem idx_4 : ∀ t : Fin grid0.N, win0_4.index t 0 = t.val / 8 ∧ win0_4.index t 1 = 0 ∧ win0_4.index t 2 = 0 ∧ win0_4.index t 3 = 0 := by
  decide +kernel
theorem idx_5 : ∀ t : Fin grid0.N, win0_5.index t 0 = t.val / 8 ∧ win0_5.index t 1 = t.val % 8 ∧ win0_5.index t 2 = 0 := by
  decide +kernel

theorem N_eq : cfg0.N = 256 := by decide +kernel
theorem t_lt (t : Fin cfg0.N) : t.val < 256 := N_eq ▸ t.isLt

/-- Point `t`'s batch. -/
def bat (t : Fin cfg0.N) : Fin 32 := ⟨t.val / 8, by have := t_lt t; omega⟩
/-- Point `t`'s row `r` in the array. -/
def row (t : Fin cfg0.N) (r : Fin 256) : Fin 2048 := ⟨256 * (t.val % 8) + r.val, by have := r.isLt; omega⟩

theorem iblk0 (c : Dev nD) (t : Fin cfg0.N) (h : Fin 8) (r : Fin 256) (d : Fin 128) :
    (iblk m c 0 t : Vec Ideal S1x8x256x128 .bf16) (ix4 0 h r d) = m ((c : Thread nD τ).loc main_arg0) (ix4 (bat t) h (row t r) d) := by
  have e := idx_0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1 + 1 * 0 = t.val / 8; rw [e.1]; omega
  | ⟨1, _⟩ => show win0_0.index t 1 * 8 + 1 * h.val = h.val; rw [e.2.1]; omega
  | ⟨2, _⟩ => show win0_0.index t 2 * 256 + 1 * r.val = 256 * (t.val % 8) + r.val; rw [e.2.2.1]; omega
  | ⟨3, _⟩ => show win0_0.index t 3 * 128 + 1 * d.val = d.val; rw [e.2.2.2]; omega

theorem iblk1 (c : Dev nD) (t : Fin cfg0.N) (r : Fin 2048) (d : Fin 128) :
    (iblk m c 1 t : Vec Ideal S1x1x2048x128 .bf16) (ix4 0 0 r d) = m ((c : Thread nD τ).loc main_arg1) (ix4 (bat t) 0 r d) := by
  have e := idx_1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * 0 = t.val / 8; rw [e.1]; omega
  | ⟨1, _⟩ => show win0_1.index t 1 * 1 + 1 * 0 = 0; rw [e.2.1]
  | ⟨2, _⟩ => show win0_1.index t 2 * 2048 + 1 * r.val = r.val; rw [e.2.2.1]; omega
  | ⟨3, _⟩ => show win0_1.index t 3 * 128 + 1 * d.val = d.val; rw [e.2.2.2]; omega

theorem iblk2 (c : Dev nD) (t : Fin cfg0.N) (r : Fin 2048) (d : Fin 128) :
    (iblk m c 2 t : Vec Ideal S1x1x2048x128 .bf16) (ix4 0 0 r d) = m ((c : Thread nD τ).loc main_arg2) (ix4 (bat t) 0 r d) := by
  have e := idx_2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1 + 1 * 0 = t.val / 8; rw [e.1]; omega
  | ⟨1, _⟩ => show win0_2.index t 1 * 1 + 1 * 0 = 0; rw [e.2.1]
  | ⟨2, _⟩ => show win0_2.index t 2 * 2048 + 1 * r.val = r.val; rw [e.2.2.1]; omega
  | ⟨3, _⟩ => show win0_2.index t 3 * 128 + 1 * d.val = d.val; rw [e.2.2.2]; omega

theorem iblk3 (c : Dev nD) (t : Fin cfg0.N) (r : Fin 256) (d : Fin 128) :
    (iblk m c 3 t : Vec Ideal S1x1x256x128 .bf16) (ix4 0 0 r d) = m ((c : Thread nD τ).loc main_arg3) (ix4 (bat t) 0 r d) := by
  have e := idx_3 t
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ => show win0_3.index t 0 * 1 + 1 * 0 = t.val / 8; rw [e.1]; omega
  | ⟨1, _⟩ => show win0_3.index t 1 * 1 + 1 * 0 = 0; rw [e.2.1]
  | ⟨2, _⟩ => show win0_3.index t 2 * 256 + 1 * r.val = r.val; rw [e.2.2.1]; omega
  | ⟨3, _⟩ => show win0_3.index t 3 * 128 + 1 * d.val = d.val; rw [e.2.2.2]; omega

theorem iblk4 (c : Dev nD) (t : Fin cfg0.N) (r : Fin 256) (d : Fin 128) :
    (iblk m c 4 t : Vec Ideal S1x1x256x128 .bf16) (ix4 0 0 r d) = m ((c : Thread nD τ).loc main_arg4) (ix4 (bat t) 0 r d) := by
  have e := idx_4 t
  unfold iblk
  rw [View.read_apply]
  show V m c main_arg4 _ = m (c.tc.loc main_arg4) _
  rw [V_main_arg4]
  refine congrArg (m (c.tc.loc main_arg4)) (funext fun a => Fin.ext ?_)
  match a with
  | ⟨0, _⟩ => show win0_4.index t 0 * 1 + 1 * 0 = t.val / 8; rw [e.1]; omega
  | ⟨1, _⟩ => show win0_4.index t 1 * 1 + 1 * 0 = 0; rw [e.2.1]
  | ⟨2, _⟩ => show win0_4.index t 2 * 256 + 1 * r.val = r.val; rw [e.2.2.1]; omega
  | ⟨3, _⟩ => show win0_4.index t 3 * 128 + 1 * d.val = d.val; rw [e.2.2.2]; omega

/-- What the result array is shown to hold. -/
def val (c : Dev nD) : Buf (Elt Ideal) ((c : Thread nD τ).loc main_v0) :=
  attn (m ((c : Thread nD τ).loc main_arg0)) (m ((c : Thread nD τ).loc main_arg1)) (m ((c : Thread nD τ).loc main_arg2))
    (m ((c : Thread nD τ).loc main_arg3)) (m ((c : Thread nD τ).loc main_arg4))

/-- An entry over the blocks is one over the arrays. -/
theorem entry_iblk (c : Dev nD) (t : Fin cfg0.N) (h : Fin 8) (r : Fin 256) (k : Fin 128) :
    Block.entry (iblk m c 0 t) (iblk m c 1 t) (iblk m c 2 t) (iblk m c 3 t) (iblk m c 4 t) h r k
      = attnEntry (m ((c : Thread nD τ).loc main_arg0)) (m ((c : Thread nD τ).loc main_arg1)) (m ((c : Thread nD τ).loc main_arg2))
          (m ((c : Thread nD τ).loc main_arg3)) (m ((c : Thread nD τ).loc main_arg4)) (bat t) h (row t r) k := by
  unfold Block.entry attnEntry
  simp only [iblk0, iblk1, iblk2, iblk3, iblk4]

/-- What point `t` writes back is its block of `val`. -/
theorem flushed_eq (c : Dev nD) (t : Fin cfg0.N) :
    (dats m 0 c).flushed 5 t = (win0_5.blk t).view.read (Elt Ideal) (val m c) := by
  show (cfg0.win 5).cut (grid0.coords t) ((dats m 0 c).after 5 t) = _
  rw [after0_5, Block.out_eq]
  have e := idx_5 t
  funext y
  rw [View.read_apply]
  show Block.block (iblk m c 0 t) (iblk m c 1 t) (iblk m c 2 t) (iblk m c 3 t) (iblk m c 4 t) y = val m c ((win0_5.blk t).view.emb y)
  have e0 : ((win0_5.blk t).view.emb y) 0 = bat t :=
    Fin.ext (by show win0_5.index t 0 * 1 + 1 * (y 0).val = t.val / 8; have : (y 0).val < 1 := (y 0).isLt; rw [e.1]; omega)
  have e1 : ((win0_5.blk t).view.emb y) 1 = row t (y 1) :=
    Fin.ext (by show win0_5.index t 1 * 256 + 1 * (y 1).val = 256 * (t.val % 8) + (y 1).val; rw [e.2.1]; omega)
  have e2 : (((win0_5.blk t).view.emb y) 2).val = (y 2).val := by
    show win0_5.index t 2 * 512 + 1 * (y 2).val = (y 2).val; rw [e.2.2]; omega
  unfold Block.block val attn
  simp only [e0, e1, e2]
  exact entry_iblk m c t _ (y 1) _

theorem mem_blk (t : Fin cfg0.N) (i : S32x2048x512.Idx) :
    i ∈ ((cfg0.win 5).blk t).view.set ↔ (i 0).val = t.val / 8 ∧ 256 * (t.val % 8) ≤ (i 1).val ∧ (i 1).val < 256 * (t.val % 8) + 256 := by
  show i ∈ ((View.whole main_v0).slice (win0_5.rect t)).set ↔ _
  rw [View.set_slice_whole, Rect.mem_set_unit]
  have e := idx_5 t
  have h2 : (i 2).val < 512 := (i 2).isLt
  refine ⟨fun h => ?_, fun h a => ?_⟩
  · have g0 : win0_5.index t 0 * 1 ≤ (i 0).val ∧ (i 0).val < win0_5.index t 0 * 1 + 1 := h 0
    have g1 : win0_5.index t 1 * 256 ≤ (i 1).val ∧ (i 1).val < win0_5.index t 1 * 256 + 256 := h 1
    rw [e.1] at g0; rw [e.2.1] at g1; omega
  · match a with
    | ⟨0, _⟩ => show win0_5.index t 0 * 1 ≤ (i 0).val ∧ (i 0).val < win0_5.index t 0 * 1 + 1; rw [e.1]; omega
    | ⟨1, _⟩ => show win0_5.index t 1 * 256 ≤ (i 1).val ∧ (i 1).val < win0_5.index t 1 * 256 + 256; rw [e.2.1]; omega
    | ⟨2, _⟩ => show win0_5.index t 2 * 512 ≤ (i 2).val ∧ (i 2).val < win0_5.index t 2 * 512 + 512; rw [e.2.2]; omega

theorem cover (i : S32x2048x512.Idx) : ∃ t : Fin cfg0.N, (cfg0.win 5).flush t = true ∧ i ∈ ((cfg0.win 5).blk t).view.set := by
  have h0 : (i 0).val < 32 := (i 0).isLt
  have h1 : (i 1).val < 2048 := (i 1).isLt
  have hN := N_eq
  refine ⟨⟨8 * (i 0).val + (i 1).val / 256, by omega⟩, flush0_5 _, ?_⟩
  rw [mem_blk]
  dsimp only
  omega

theorem final_o (c : Dev nD) : (dats m 0 c).arrAt 5 cfg0.N = val m c :=
  (dats m 0 c).arrAt_eq_of_cover 5 (val m c) (fun t _ => flushed_eq m c t) cover

/-- The run, read: the result array at `val`, the arguments unchanged. -/
theorem run : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_o m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _)⟩)
    (run_main m ρ)

end Cert.GqaIdeal.Attn

end
-- ==== Proof.Gq.RefRead.lean ====
/- What the grouped attention reference computes, entry by entry: one softmax over the joined keys, of the scores in base two
   rescaled, times the joined values. -/
module

public import proofs.«01_k».proof.Proof.Gen.GqaRefIdeal
public import proofs.«01_k».proof.Proof.Gen.GqaRefIdeal.Read
public import proofs.«01_k».proof.Proof.Softmax
public import proofs.«01_k».proof.Proof.RefRead
public import Idealize.ShloMosaic.Lib.Pipeline.Value
public import Idealize.ShloMosaic.Lib.Pointwise
public import Idealize.ShloMosaic.Lib.ReduceAll

@[expose] public section

noncomputable section

namespace Cert.GqaRefIdeal.RefRead

open Cert.GqaRefIdeal Cert.GqaRefIdeal.Gen Cert.GqaRefIdeal.Read Cert.GqaRefIdeal.Facts
open Idealize.ShloMosaic
open Cert.ReferenceIdeal.RefRead (two_bits zero_bits negInf_bits)

variable (x0 : (⟨S32x8x2048x128, .bf16⟩ : BufTy).Contents (Elt Ideal)) (x1 x2 : (⟨S32x1x2048x128, .bf16⟩ : BufTy).Contents (Elt Ideal))
  (x3 x4 : (⟨S32x1x256x128, .bf16⟩ : BufTy).Contents (Elt Ideal))

/-- A joined key in the first segment. -/
theorem key_left (b : Fin 32) (i : Fin 2048) (d : Fin 128) :
    val_main_v5 (F := Ideal) x1 x3 (ix4 b 0 (Fin.castAdd 256 i : Fin 2304) d) = x1 (ix4 b 0 i d)  := by
  unfold val_main_v5
  exact concatenate_pair_apply_left (t := S32x1x2304x128) (s₁ := S32x1x2048x128) (s₂ := S32x1x256x128) 2 _ _ _ _ rfl (ix4 b 0 i d) (fun a => by match a with | ⟨0, _⟩ => rfl | ⟨1, _⟩ => rfl | ⟨2, _⟩ => rfl | ⟨3, _⟩ => rfl)

/-- A joined key in the second segment. -/
theorem key_right (b : Fin 32) (i : Fin 256) (d : Fin 128) :
    val_main_v5 (F := Ideal) x1 x3 (ix4 b 0 (Fin.natAdd 2048 i : Fin 2304) d) = x3 (ix4 b 0 i d)  := by
  unfold val_main_v5
  refine concatenate_pair_apply_right (t := S32x1x2304x128) (s₁ := S32x1x2048x128) (s₂ := S32x1x256x128) 2 _ _ _ _ rfl rfl (ix4 b 0 i d)
    (fun a ha => by match a with | ⟨0, _⟩ => rfl | ⟨1, _⟩ => rfl | ⟨2, _⟩ => exact absurd rfl ha | ⟨3, _⟩ => rfl) ?_
  exact Nat.add_comm i.val 2048

/-- A joined value in the first segment. -/
theorem value_left (b : Fin 32) (i : Fin 2048) (d : Fin 128) :
    val_main_v6 (F := Ideal) x2 x4 (ix4 b 0 (Fin.castAdd 256 i : Fin 2304) d) = x2 (ix4 b 0 i d)  := by
  unfold val_main_v6
  exact concatenate_pair_apply_left (t := S32x1x2304x128) (s₁ := S32x1x2048x128) (s₂ := S32x1x256x128) 2 _ _ _ _ rfl (ix4 b 0 i d) (fun a => by match a with | ⟨0, _⟩ => rfl | ⟨1, _⟩ => rfl | ⟨2, _⟩ => rfl | ⟨3, _⟩ => rfl)

/-- A joined value in the second segment. -/
theorem value_right (b : Fin 32) (i : Fin 256) (d : Fin 128) :
    val_main_v6 (F := Ideal) x2 x4 (ix4 b 0 (Fin.natAdd 2048 i : Fin 2304) d) = x4 (ix4 b 0 i d)  := by
  unfold val_main_v6
  refine concatenate_pair_apply_right (t := S32x1x2304x128) (s₁ := S32x1x2048x128) (s₂ := S32x1x256x128) 2 _ _ _ _ rfl rfl (ix4 b 0 i d)
    (fun a ha => by match a with | ⟨0, _⟩ => rfl | ⟨1, _⟩ => rfl | ⟨2, _⟩ => exact absurd rfl ha | ⟨3, _⟩ => rfl) ?_
  exact Nat.add_comm i.val 2048

/-- A query head's column of the value row: heads 0 to 3 read the first 64, heads 4 to 7 the last. -/
abbrev col (h : Fin 8) (e : Fin 64) : Fin 128 := ⟨64 * (h.val / 4) + e.val, by omega⟩

/-- The keys by head are the joined keys. -/
theorem key_head (b : Fin 32) (h : Fin 8) (j : Fin 2304) (d : Fin 128) :
    val_main_v7 (F := Ideal) x1 x3 (ix4 b h j d) = val_main_v5 (F := Ideal) x1 x3 (ix4 b 0 j d) := by
  rw [val_main_v7_apply]
  exact congrArg _ (funext fun a => Fin.ext (by match a with | ⟨0, _⟩ => rfl | ⟨1, _⟩ => rfl | ⟨2, _⟩ => rfl | ⟨3, _⟩ => rfl))

/-- The digits of a flat position among the split value rows. -/
theorem digits (a0 a1 a2 a3 : Nat) (h1 : a1 < 2304) (h2 : a2 < 2) (h3 : a3 < 64) :
    (((a0 * 2304 + a1) * 2 + a2) * 64 + a3) / 294912 = a0 ∧ (((a0 * 2304 + a1) * 2 + a2) * 64 + a3) / 128 % 2304 = a1
      ∧ (((a0 * 2304 + a1) * 2 + a2) * 64 + a3) % 128 = 64 * a2 + a3 := by
  refine ⟨?_, ?_, ?_⟩ <;> omega

/-- The values by head are the joined values' columns. -/
theorem value_head (b : Fin 32) (h : Fin 8) (j : Fin 2304) (e : Fin 64) :
    val_main_v12 (F := Ideal) x2 x4 (ix4 b h j e) = val_main_v6 (F := Ideal) x2 x4 (ix4 b 0 j (col h e)) := by
  rw [val_main_v12_apply, val_main_v11_apply, val_main_v10_apply, val_main_v9_apply, val_main_v8_apply]
  refine congrArg _ (funext fun a => Fin.ext ?_)
  have := b.isLt; have := h.isLt; have := j.isLt; have := e.isLt
  have n0 : (((b.val * 8 + h.val) * 2304 + j.val) * 64 + e.val) / 1179648 = b.val := by omega
  have n1 : (((b.val * 8 + h.val) * 2304 + j.val) * 64 + e.val) / 589824 % 2 = h.val / 4 := by omega
  have n3 : (((b.val * 8 + h.val) * 2304 + j.val) * 64 + e.val) / 64 % 2304 = j.val := by omega
  have n4 : (((b.val * 8 + h.val) * 2304 + j.val) * 64 + e.val) % 64 = e.val := by omega
  have m : ∀ a0 a1 a2 a3 : Nat, a0 = b.val → a1 = j.val → a2 = h.val / 4 → a3 = e.val →
      (((a0 * 2304 + a1) * 2 + a2) * 64 + a3) / 294912 = b.val ∧ (((a0 * 2304 + a1) * 2 + a2) * 64 + a3) / 128 % 2304 = j.val
        ∧ (((a0 * 2304 + a1) * 2 + a2) * 64 + a3) % 128 = 64 * (h.val / 4) + e.val := by
    rintro _ _ _ _ rfl rfl rfl rfl
    exact digits b.val j.val (h.val / 4) e.val (by omega) (by omega) (by omega)
  have m' := m _ _ _ _ n0 n3 n1 n4
  match a with
  | ⟨0, _⟩ => exact m'.1
  | ⟨1, _⟩ => rfl
  | ⟨2, _⟩ => exact m'.2.1
  | ⟨3, _⟩ => exact m'.2.2

/-- A score in base two. -/
def score (b : Fin 32) (h : Fin 8) (r : Fin 2048) (j : Fin 2304) : EReal := ∑ d : Fin 128, x0 (ix4 b h r d) * val_main_v5 (F := Ideal) x1 x3 (ix4 b 0 j d)

theorem v13_eq (b : Fin 32) (h : Fin 8) (r : Fin 2048) (j : Fin 2304) : val_main_v13 (F := Ideal) x0 x1 x3 (ix4 b h r j) = score x0 x1 x3 b h r j := by
  rw [val_main_v13_apply]
  refine Finset.sum_congr rfl fun d _ => ?_
  have e0 : lidx_main_v13 (ix4 b h r j) d = ix4 b h r d := funext fun a => Fin.ext (by match a with | ⟨0, _⟩ => rfl | ⟨1, _⟩ => rfl | ⟨2, _⟩ => rfl | ⟨3, _⟩ => rfl)
  have e1 : ridx_main_v13 (ix4 b h r j) d = ix4 b h j d := funext fun a => Fin.ext (by match a with | ⟨0, _⟩ => rfl | ⟨1, _⟩ => rfl | ⟨2, _⟩ => rfl | ⟨3, _⟩ => rfl)
  rw [e0, e1, key_head]
  rfl

/-- The score in base e. -/
theorem v16_eq (b : Fin 32) (h : Fin 8) (r : Fin 2048) (j : Fin 2304) :
    val_main_v16 (F := Ideal) x0 x1 x3 (ix4 b h r j) = score x0 x1 x3 b h r j * Ideal.log 2 := by
  rw [val_main_v16_apply, v13_eq, val_main_v15_apply]
  show _ * Ideal.log (Ideal.ofBits .f32 0x40000000#32) = _
  rw [two_bits]

/-- The greatest of a row's scores. -/
def top (b : Fin 32) (h : Fin 8) (r : Fin 2048) : EReal :=
  max ⊥ ((Finset.univ : Finset (Fin 2304)).fold max ⊥ fun j => score x0 x1 x3 b h r j * Ideal.log 2)

theorem v19_eq (b : Fin 32) (h : Fin 8) (r : Fin 2048) : val_main_v19 (F := Ideal) x0 x1 x3 (ix3 b h r) = top x0 x1 x3 b h r := by
  have e14 : val_main_v17 (F := Ideal) x0 x1 x3 (ix3 b h r)
      = (Finset.univ : Finset (Fin 2304)).fold max ⊥ fun j => score x0 x1 x3 b h r j * Ideal.log 2 := by
    unfold val_main_v17
    rw [Host.reduce_eq_fold_single (a := 3) _ _ _ _ (by decide)]
    show (Finset.univ : Finset (Fin 2304)).fold max (Ideal.ofBits .f32 0xFF800000#32) _ = _
    rw [negInf_bits]
    refine congrArg (fun f => Finset.fold max ⊥ f (Finset.univ : Finset (Fin 2304))) (funext fun j => ?_)
    refine (congrArg (val_main_v16 (F := Ideal) x0 x1 x3) ?_).trans (v16_eq x0 x1 x3 b h r j)
    exact funext fun a => Fin.ext (by match a with | ⟨0, _⟩ => rfl | ⟨1, _⟩ => rfl | ⟨2, _⟩ => rfl | ⟨3, _⟩ => rfl)
  rw [val_main_v19_apply, e14, val_main_v18_apply]
  show max (Ideal.ofBits .f32 0xFF800000#32) _ = _
  rw [negInf_bits]
  rfl

/-- An exponential. -/
theorem v23_eq (b : Fin 32) (h : Fin 8) (r : Fin 2048) (j : Fin 2304) :
    val_main_v23 (F := Ideal) x0 x1 x3 (ix4 b h r j) = Ideal.exp (score x0 x1 x3 b h r j * Ideal.log 2 - top x0 x1 x3 b h r) := by
  rw [val_main_v23_apply, val_main_v22_apply, v16_eq, val_main_v21_apply, val_main_v20_apply]
  have e : idx_main_v20 (idx_main_v21 (ix4 b h r j)) = ix3 b h r := funext fun a => Fin.ext (by match a with | ⟨0, _⟩ => rfl | ⟨1, _⟩ => rfl | ⟨2, _⟩ => rfl)
  rw [e, v19_eq]
  rfl

/-- A row's sum of exponentials. -/
theorem v24_eq (b : Fin 32) (h : Fin 8) (r : Fin 2048) :
    val_main_v24 (F := Ideal) x0 x1 x3 (ix3 b h r) = 0 + ∑ j : Fin 2304, Ideal.exp (score x0 x1 x3 b h r j * Ideal.log 2 - top x0 x1 x3 b h r) := by
  rw [val_main_v24_apply]
  refine congr (congrArg _ zero_bits) (Finset.sum_congr rfl fun j _ => ?_)
  rw [← v23_eq]
  exact congrArg _ (funext fun a => Fin.ext (by match a with | ⟨0, _⟩ => rfl | ⟨1, _⟩ => rfl | ⟨2, _⟩ => rfl | ⟨3, _⟩ => rfl))

/-- A weight. -/
theorem v27_eq (b : Fin 32) (h : Fin 8) (r : Fin 2048) (j : Fin 2304) :
    val_main_v27 (F := Ideal) x0 x1 x3 (ix4 b h r j) = Ideal.div (Ideal.exp (score x0 x1 x3 b h r j * Ideal.log 2 - top x0 x1 x3 b h r))
      (0 + ∑ j : Fin 2304, Ideal.exp (score x0 x1 x3 b h r j * Ideal.log 2 - top x0 x1 x3 b h r)) := by
  rw [val_main_v27_apply, v23_eq, val_main_v26_apply, val_main_v25_apply]
  have e : idx_main_v25 (idx_main_v26 (ix4 b h r j)) = ix3 b h r := funext fun a => Fin.ext (by match a with | ⟨0, _⟩ => rfl | ⟨1, _⟩ => rfl | ⟨2, _⟩ => rfl)
  rw [e, v24_eq]
  rfl

/-- The head and the column of it that a result column is. -/
abbrev hd (C : Fin 512) : Fin 8 := ⟨C.val / 128 + 4 * (C.val / 64 % 2), by omega⟩
abbrev lc (C : Fin 512) : Fin 64 := ⟨C.val % 64, by omega⟩

/-- The digits of a flat position among the result's heads. -/
theorem back (a0 a1 a2 a3 a4 : Nat) (h1 : a1 < 2048) (h2 : a2 < 2) (h3 : a3 < 4) (h4 : a4 < 64) :
    ((((a0 * 2048 + a1) * 2 + a2) * 4 + a3) * 64 + a4) / 1048576 = a0 ∧ ((((a0 * 2048 + a1) * 2 + a2) * 4 + a3) * 64 + a4) / 512 % 2048 = a1
      ∧ ((((a0 * 2048 + a1) * 2 + a2) * 4 + a3) * 64 + a4) / 64 % 8 = a3 + 4 * a2 ∧ ((((a0 * 2048 + a1) * 2 + a2) * 4 + a3) * 64 + a4) % 64 = a4 := by
  refine ⟨?_, ?_, ?_, ?_⟩ <;> omega

/-- Where a result entry stands in the weighted values. -/
theorem place (b : Fin 32) (r : Fin 2048) (C : Fin 512) :
    idx_main_v29 (idx_main_v30 (idx_main_v31 (idx_main_v32 (ix3 b r C)))) = ix4 b (hd C) (lc C) r := by
  have := b.isLt; have := r.isLt; have := C.isLt
  refine funext fun a => Fin.ext ?_
  have n0 : ((b.val * 2048 + r.val) * 512 + C.val) / 1048576 = b.val := by omega
  have n1 : ((b.val * 2048 + r.val) * 512 + C.val) / 512 % 2048 = r.val := by omega
  have n2 : ((b.val * 2048 + r.val) * 512 + C.val) / 128 % 4 = C.val / 128 := by omega
  have n3 : ((b.val * 2048 + r.val) * 512 + C.val) / 64 % 2 = C.val / 64 % 2 := by omega
  have n4 : ((b.val * 2048 + r.val) * 512 + C.val) % 64 = C.val % 64 := by omega
  have m : ∀ a0 a1 a2 a3 a4 : Nat, a0 = b.val → a1 = r.val → a2 = C.val / 64 % 2 → a3 = C.val / 128 → a4 = C.val % 64 →
      ((((a0 * 2048 + a1) * 2 + a2) * 4 + a3) * 64 + a4) / 1048576 = b.val ∧ ((((a0 * 2048 + a1) * 2 + a2) * 4 + a3) * 64 + a4) / 512 % 2048 = r.val
        ∧ ((((a0 * 2048 + a1) * 2 + a2) * 4 + a3) * 64 + a4) / 64 % 8 = C.val / 128 + 4 * (C.val / 64 % 2)
        ∧ ((((a0 * 2048 + a1) * 2 + a2) * 4 + a3) * 64 + a4) % 64 = C.val % 64 := by
    rintro _ _ _ _ _ rfl rfl rfl rfl rfl
    exact back b.val r.val (C.val / 64 % 2) (C.val / 128) (C.val % 64) (by omega) (by omega) (by omega) (by omega)
  have m' := m _ _ _ _ _ n0 n1 n3 n2 n4
  match a with
  | ⟨0, _⟩ => exact m'.1
  | ⟨1, _⟩ => exact m'.2.2.1
  | ⟨2, _⟩ => exact m'.2.2.2
  | ⟨3, _⟩ => exact m'.2.1

/-- THE REFERENCE'S RESULT, entry by entry: one softmax over the joined keys. -/
theorem result_eq (b : Fin 32) (r : Fin 2048) (C : Fin 512) :
    val_main_v33 (F := Ideal) x0 x1 x2 x3 x4 (ix3 b r C)
      = Cert.Softmax.joined (fun j : Fin 2304 => score x0 x1 x3 b (hd C) r j)
          (fun j => val_main_v6 (F := Ideal) x2 x4 (ix4 b 0 j (col (hd C) (lc C)))) := by
  rw [val_main_v33_apply, val_main_v32_apply, val_main_v31_apply, val_main_v30_apply, val_main_v29_apply, place]
  show val_main_v28 (F := Ideal) x0 x1 x2 x3 x4 (ix4 b (hd C) (lc C) r) = _
  rw [val_main_v28_apply]
  refine Finset.sum_congr rfl fun j _ => ?_
  have el : lidx_main_v28 (ix4 b (hd C) (lc C) r) j = ix4 b (hd C) j (lc C) := funext fun a => Fin.ext (by match a with | ⟨0, _⟩ => rfl | ⟨1, _⟩ => rfl | ⟨2, _⟩ => rfl | ⟨3, _⟩ => rfl)
  have er : ridx_main_v28 (ix4 b (hd C) (lc C) r) j = ix4 b (hd C) r j := funext fun a => Fin.ext (by match a with | ⟨0, _⟩ => rfl | ⟨1, _⟩ => rfl | ⟨2, _⟩ => rfl | ⟨3, _⟩ => rfl)
  rw [el, er, v27_eq, value_head]
  rfl

/-- On finite scores the reference's entry is the two-segment softmax. -/
theorem result_two (b : Fin 32) (r : Fin 2048) (C : Fin 512) (hs : ∀ j, ∃ u : ℝ, score x0 x1 x3 b (hd C) r j = u) :
    val_main_v33 (F := Ideal) x0 x1 x2 x3 x4 (ix3 b r C)
      = Cert.Softmax.twoSegments (fun i : Fin 2048 => ∑ d : Fin 128, x0 (ix4 b (hd C) r d) * x1 (ix4 b 0 i d))
          (fun i : Fin 256 => ∑ d : Fin 128, x0 (ix4 b (hd C) r d) * x3 (ix4 b 0 i d))
          (fun i => x2 (ix4 b 0 i (col (hd C) (lc C)))) (fun i => x4 (ix4 b 0 i (col (hd C) (lc C)))) := by
  rw [result_eq]
  have t := Cert.Softmax.twoSegments_eq_joined (n := 2048) (k := 256) (by norm_num) (by norm_num) (fun j => score x0 x1 x3 b (hd C) r j)
    (fun j => val_main_v6 (F := Ideal) x2 x4 (ix4 b 0 j (col (hd C) (lc C)))) hs
  refine t.symm.trans ?_
  simp only [score, key_left, key_right, value_left, value_right]

end Cert.GqaRefIdeal.RefRead
-- ==== Proof.Gq.Claims.lean ====
/- The grouped attention call and its reference agree: frames, and the equality of the results under the precondition. -/
module

public import proofs.«01_k».proof.Defs
public import proofs.«01_k».proof.Proof.Gq.Attn
public import proofs.«01_k».proof.Proof.Gq.RefRead
public import proofs.«01_k».proof.Proof.Finite
public import proofs.«01_k».proof.Proof.Gen.Pre_finite_gqa
public import proofs.«01_k».proof.Proof.Gen.Gqa.Frame
public import proofs.«01_k».proof.Proof.Gen.GqaIdeal.Frame
public import proofs.«01_k».proof.Proof.Gen.GqaRefIdeal.Run
public import Idealize.ShloMosaic.Adequacy
public import Idealize.ShloMosaic.Init

@[expose] public section

noncomputable section

namespace Cert.GqaClaims

open Idealize.ShloMosaic Idealize.SL.Sem Idealize.ShloMosaic.TcCoe

theorem frame_p : Cert.quiescent_Gqa := fun m ρ _ => Cert.Gqa.Gen.frame m ρ
theorem frame_pi : Cert.quiescent_GqaIdeal := fun m ρ _ => Cert.GqaIdeal.Gen.frame m ρ
theorem frame_pi_pre : Cert.quiescent_GqaIdeal_pre_finite_gqa := fun m ρ _ => Cert.GqaIdeal.Gen.frame m ρ
theorem frame_ri : Cert.quiescent_GqaRefIdeal := fun m ρ _ =>
  (θ_run Cert.GqaRefIdeal.defs _ _).mono (fun r h => ⟨fun c => ⟨(h c).2.1, (h c).2.2.1, (h c).2.2.2.1, (h c).2.2.2.2.1, (h c).2.2.2.2.2⟩,
    Idealize.ShloMosaic.sem_eq_zero_of_no_sems (by decide) r.2⟩) (Cert.GqaRefIdeal.Value.run (F := Ideal) m ρ)
theorem frame_ri_pre : Cert.quiescent_GqaRefIdeal_pre_finite_gqa := fun m ρ _ => frame_ri m ρ trivial

section Decode

open Cert.Pre_finite_gqa Cert.Finite

/-- The precondition makes the queries, the keys and the second keys real numbers. -/
theorem real_of_pre (x0 : S32x8x2048x128.Idx → EReal) (x1 x2 : S32x1x2048x128.Idx → EReal) (x3 x4 : S32x1x256x128.Idx → EReal)
    (h : Cert.Pre_finite_gqa.fn (F := Ideal) x0 x1 x2 x3 x4 = fun _ => 1#1) :
    (∀ i, ∃ r : ℝ, x0 i = r) ∧ (∀ i, ∃ r : ℝ, x1 i = r) ∧ ∀ i, ∃ r : ℝ, x3 i = r := by
  have e := congrFun h (Shape.Idx.first Facts.h_S_)
  obtain ⟨e01, e3⟩ := andi_one _ _ e
  obtain ⟨e0, e1⟩ := andi_one _ _ e01
  haveI : Subsingleton S_.Idx := ⟨fun a b => funext fun i => i.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e3 i)⟩

end Decode

/-- The two results, entry by entry. -/
theorem values (a0 : Cert.GqaIdeal.S32x8x2048x128.Idx → EReal) (a1 a2 : Cert.GqaIdeal.S32x1x2048x128.Idx → EReal)
    (a3 a4 : Cert.GqaIdeal.S32x1x256x128.Idx → EReal)
    (h0 : ∀ i, ∃ r : ℝ, a0 i = r) (h1 : ∀ i, ∃ r : ℝ, a1 i = r) (h3 : ∀ i, ∃ r : ℝ, a3 i = r) (b : Fin 32) (r : Fin 2048) (C : Fin 512) :
    Cert.GqaRefIdeal.Read.val_main_v33 (F := Ideal) a0 a1 a2 a3 a4 (ix3 b r C) = Cert.GqaIdeal.Attn.attn a0 a1 a2 a3 a4 (ix3 b r C) := by
  refine (Cert.GqaRefIdeal.RefRead.result_two a0 a1 a2 a3 a4 b r C fun j => ?_).trans ?_
  · refine Cert.Finite.dot_real _ _ (fun d => h0 _) fun d => ?_
    by_cases hj : j.val < 2048
    · obtain ⟨u, hu⟩ := h1 (ix4 b 0 ⟨j.val, hj⟩ d)
      exact ⟨u, (Cert.GqaRefIdeal.RefRead.key_left a1 a3 b ⟨j.val, hj⟩ d).trans hu⟩
    · have hj' : j.val - 2048 < 256 := by omega
      have e : j = (Fin.natAdd 2048 ⟨j.val - 2048, hj'⟩ : Fin 2304) := Fin.ext (by show j.val = 2048 + (j.val - 2048); omega)
      obtain ⟨u, hu⟩ := h3 (ix4 b 0 ⟨j.val - 2048, hj'⟩ d)
      rw [e]
      exact ⟨u, (Cert.GqaRefIdeal.RefRead.key_right a1 a3 b ⟨j.val - 2048, hj'⟩ d).trans hu⟩
  · have ec : Cert.GqaRefIdeal.RefRead.col (Cert.GqaRefIdeal.RefRead.hd C) (Cert.GqaRefIdeal.RefRead.lc C) = ⟨C.val % 128, Nat.mod_lt _ (by omega)⟩ :=
      Fin.ext (by show 64 * ((C.val / 128 + 4 * (C.val / 64 % 2)) / 4) + C.val % 64 = C.val % 128; omega)
    rw [ec]
    rfl

theorem algebraic : Cert.algebraic_GqaIdeal_GqaRefIdeal_pre_finite_gqa := by
  intro m g m' g' hpre hagree
  refine ⟨fun c => Cert.GqaIdeal.Attn.val m c, Cert.GqaIdeal.Attn.run m g, ?_⟩
  refine (θ_run Cert.GqaRefIdeal.defs _ _).mono (fun r h c => ⟨(h c).1.trans ?_, (h c).2⟩) (Cert.GqaRefIdeal.Value.run (F := Ideal) m' g')
  obtain ⟨h0, h1, h3⟩ := real_of_pre _ _ _ _ _ (hpre c)
  obtain ⟨e0, e1, e2, e3, e4⟩ := hagree c
  rw [Cert.GqaRefIdeal.Read.val_main_v33_eq, e0, e1, e2, e3, e4]
  funext y
  have hy : y = ix3 (y 0) (y 1) (y 2) := funext fun a => by match a with | ⟨0, _⟩ => rfl | ⟨1, _⟩ => rfl | ⟨2, _⟩ => rfl
  rw [hy]
  exact values _ _ _ _ _ h0 h1 h3 (y 0) (y 1) (y 2)

end Cert.GqaClaims
-- ==== Proof.Mg.Block.lean ====
/- What the merge body leaves in its output block, as one function of its ten input blocks. -/
module

public import proofs.«01_k».proof.Proof.Gen.MergeIdeal.Frame
public import Idealize.ShloMosaic.Lib.Pointwise
public import Idealize.ShloMosaic.Lib.Pipeline.ValueKit
public import Idealize.ShloMosaic.Lib.VecWindow

@[expose] public section

set_option maxRecDepth 16384

noncomputable section

namespace Cert.MergeIdeal.Block

open Cert.MergeIdeal Cert.MergeIdeal.Facts Cert.MergeIdeal.Gen Idealize.ShloMosaic Idealize.ShloMosaic.Pointwise

/-- One row's merged branches at a column: each branch projected, times its gate. -/
def merged (om oc og : Fin 512 → EReal) (gt : Fin 3072 → EReal) (wm wc wg : S512x1024.Idx → EReal) (k : Fin 1024) : EReal :=
  gt ⟨k.val, by omega⟩ * (∑ j : Fin 512, om j * wm (ix2 j k)) + gt ⟨1024 + k.val, by omega⟩ * (∑ j : Fin 512, oc j * wc (ix2 j k))
    + gt ⟨2048 + k.val, by omega⟩ * (∑ j : Fin 512, og j * wg (ix2 j k))

/-- One entry of the result: the residual, and the projected merge under the row's gate. -/
def entry (x g : EReal) (om oc og : Fin 512 → EReal) (gt : Fin 3072 → EReal) (wm wc wg : S512x1024.Idx → EReal) (wo : S1024x1024.Idx → EReal)
    (C : Fin 1024) : EReal :=
  x + g * ∑ k : Fin 1024, merged om oc og gt wm wc wg k * wo (ix2 k C)

section Pay
variable (g0 g1 g2 : Vec Ideal S1x512x1024 .bf16) (a0 a1 a2 : Vec Ideal S1x512x512 .bf16) (w0 w1 w2 : Vec Ideal S512x1024 .bf16)
  (x : Vec Ideal S1x512x1024 .f32) (g : Vec Ideal S1x1x1024 .f32) (wo : Vec Ideal S1024x1024 .bf16)

theorem pay2_apply (r : Fin 512) (k : Fin 1024) : k0_pay2 (F := Ideal) g0 a0 w0 g1 a1 w1 g2 a2 w2 (ix2 r k)
    = g0 (ix3 0 r k) * (∑ j : Fin 512, a0 (ix3 0 r j) * w0 (ix2 j k)) + g1 (ix3 0 r k) * (∑ j : Fin 512, a1 (ix3 0 r j) * w1 (ix2 j k))
      + g2 (ix3 0 r k) * (∑ j : Fin 512, a2 (ix3 0 r j) * w2 (ix2 j k)) := by
  pointwise [k0_pay2]

theorem pay1_apply (v : FVec Ideal S512x1024 .f32) (r : Fin 512) (C : Fin 1024) : k0_pay1 (F := Ideal) v (k0_pay3 x) g wo (ix3 0 r C)
    = x (ix3 0 r C) + g (ix3 0 0 C) * ∑ k : Fin 1024, v (ix2 r k) * wo (ix2 k C) := by
  pointwise [k0_pay1, k0_pay3]
end Pay

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A load of one branch's gates, at a row and a column. -/
theorem ld_gate (x : Vec Ideal S1x512x3072 .bf16) (n : Nat) (inb : ∀ a, (![0, 0, n] : Fin 3 → Nat) a + S1x512x1024.size a ≤ S1x512x3072.size a)
    (r : Fin 512) (k : Fin 1024) (q : Fin 3072) (hq : q.val = n + k.val) :
    View.ld x (Rect.unit (s := S1x512x3072) ![0, 0, n] S1x512x1024.size inb) (ix3 0 r k) = x (ix3 0 r q) := by
  rw [View.ld_unit]
  unfold extractStridedSlice
  refine congrArg x (funext fun a => Fin.ext ?_)
  match a with
  | ⟨0, _⟩ => rfl
  | ⟨1, _⟩ => show 0 + r.val = r.val; omega
  | ⟨2, _⟩ => exact hq.symm

variable (x0 : Vec Ideal S1x512x1024 .f32) (x1 : Vec Ideal S1x1x1024 .f32) (x2 x3 x4 : Vec Ideal S1x512x512 .bf16) (x5 : Vec Ideal S1x512x3072 .bf16)
  (x6 x7 x8 : Vec Ideal S512x1024 .bf16) (x9 : Vec Ideal S1024x1024 .bf16)

/-- The body's output block at a row and a column. -/
theorem out_apply (r : Fin 512) (C : Fin 1024) : out0_10 (F := Ideal) x0 x1 x2 x3 x4 x5 x6 x7 x8 x9 (ix3 0 r C)
    = entry (x0 (ix3 0 r C)) (x1 (ix3 0 0 C)) (fun j => x2 (ix3 0 r j)) (fun j => x3 (ix3 0 r j)) (fun j => x4 (ix3 0 r j))
        (fun q => x5 (ix3 0 r q)) x6 x7 x8 x9 C := by
  unfold out0_10
  rw [View.canon_unit_zero hz3, pay1_apply]
  unfold entry merged
  have l0 : View.ld x0 r0_5 = x0 := View.ld_unit_zero (S := S1x512x1024) hz3 _ _
  have l1 : View.ld x1 r0_6 = x1 := View.ld_unit_zero (S := S1x1x1024) hz3 _ _
  have l9 : View.ld x9 r0_7 = x9 := View.ld_unit_zero (S := S1024x1024) hz2 _ _
  have la : ∀ x : Vec Ideal S1x512x512 .bf16, View.ld x r0_1 = x := fun x => View.ld_unit_zero (S := S1x512x512) hz3 _ _
  have lw : ∀ x : Vec Ideal S512x1024 .bf16, View.ld x r0_2 = x := fun x => View.ld_unit_zero (S := S512x1024) hz2 _ _
  rw [l0, l1, l9, la, la, la, lw, lw, lw]
  refine congrArg (fun f : Fin 1024 → EReal => x0 (ix3 0 r C) + x1 (ix3 0 0 C) * ∑ k : Fin 1024, f k) (funext fun k => ?_)
  rw [pay2_apply, ld_gate x5 0 _ r k ⟨k.val, by omega⟩ (by show k.val = 0 + k.val; omega), ld_gate x5 1024 _ r k ⟨1024 + k.val, by omega⟩ rfl,
    ld_gate x5 2048 _ r k ⟨2048 + k.val, by omega⟩ rfl]

end Cert.MergeIdeal.Block

end
-- ==== Proof.Mg.Result.lean ====
/- The merge call's result array as one function of its ten argument arrays, and its run. -/
module

public import proofs.«01_k».proof.Proof.Mg.Block
public import Idealize.ShloMosaic.Lib.Pipeline.Value

@[expose] public section

set_option maxRecDepth 16384

noncomputable section

namespace Cert.MergeIdeal.Result

open Cert.MergeIdeal Cert.MergeIdeal.Gen Idealize.ShloMosaic Idealize.ShloMosaic.TcCoe Idealize.SL.Sem Idealize.ShloMosaic.Pointwise
open Idealize.ShloMosaic.Pipeline (Dat)

/-- One entry of the result: batch `b`, row `R`, column `C`. -/
def mergeEntry (a0 : S32x2048x1024.Idx → EReal) (a1 : S32x1x1024.Idx → EReal) (a2 a3 a4 : S32x2048x512.Idx → EReal) (a5 : S32x2048x3072.Idx → EReal)
    (a6 a7 a8 : S512x1024.Idx → EReal) (a9 : S1024x1024.Idx → EReal) (b : Fin 32) (R : Fin 2048) (C : Fin 1024) : EReal :=
  Block.entry (a0 (ix3 b R C)) (a1 (ix3 b 0 C)) (fun j => a2 (ix3 b R j)) (fun j => a3 (ix3 b R j)) (fun j => a4 (ix3 b R j))
    (fun q => a5 (ix3 b R q)) a6 a7 a8 a9 C

variable (m : (ℓ : Loc nD τ sig) → Buf (Elt Ideal) ℓ) (ρ : Dev nD → PrngReg)

/-- What the result array is shown to hold. -/
def val (c : Dev nD) : Buf (Elt Ideal) ((c : Thread nD τ).loc main_v0) := fun y : S32x2048x1024.Idx =>
  mergeEntry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (y 0) (y 1) (y 2)

/-- The windows' blocks: batch `t / 4`, rows `512 * (t % 4)` on; the weights whole. -/
theorem idx_0 : ∀ t : Fin grid0.N, win0_0.index t 0 = t.val / 4 ∧ win0_0.index t 1 = t.val % 4 ∧ win0_0.index t 2 = 0 := by
  decide +kernel
theorem idx_1 : ∀ t : Fin grid0.N, win0_1.index t 0 = t.val / 4 ∧ win0_1.index t 1 = 0 ∧ win0_1.index t 2 = 0 := by
  decide +kernel
theorem idx_2 : ∀ t : Fin grid0.N, win0_2.index t 0 = t.val / 4 ∧ win0_2.index t 1 = t.val % 4 ∧ win0_2.index t 2 = 0 := by
  decide +kernel
theorem idx_3 : ∀ t : Fin grid0.N, win0_3.index t 0 = t.val / 4 ∧ win0_3.index t 1 = t.val % 4 ∧ win0_3.index t 2 = 0 := by
  decide +kernel
theorem idx_4 : ∀ t : Fin grid0.N, win0_4.index t 0 = t.val / 4 ∧ win0_4.index t 1 = t.val % 4 ∧ win0_4.index t 2 = 0 := by
  decide +kernel
theorem idx_5 : ∀ t : Fin grid0.N, win0_5.index t 0 = t.val / 4 ∧ win0_5.index t 1 = t.val % 4 ∧ win0_5.index t 2 = 0 := by
  decide +kernel
theorem idx_10 : ∀ t : Fin grid0.N, win0_10.index t 0 = t.val / 4 ∧ win0_10.index t 1 = t.val % 4 ∧ win0_10.index t 2 = 0 := by
  decide +kernel
theorem idx_6 : ∀ t : Fin grid0.N, win0_6.index t 0 = 0 ∧ win0_6.index t 1 = 0 := by
  decide +kernel
theorem idx_7 : ∀ t : Fin grid0.N, win0_7.index t 0 = 0 ∧ win0_7.index t 1 = 0 := by
  decide +kernel
theorem idx_8 : ∀ t : Fin grid0.N, win0_8.index t 0 = 0 ∧ win0_8.index t 1 = 0 := by
  decide +kernel
theorem idx_9 : ∀ t : Fin grid0.N, win0_9.index t 0 = 0 ∧ win0_9.index t 1 = 0 := by
  decide +kernel

theorem N_eq : cfg0.N = 128 := by decide +kernel
theorem t_lt (t : Fin cfg0.N) : t.val < 128 := N_eq ▸ t.isLt

/-- Point `t`'s batch. -/
def bat (t : Fin cfg0.N) : Fin 32 := ⟨t.val / 4, by have := t_lt t; omega⟩
/-- Point `t`'s row `r` in the array. -/
def row (t : Fin cfg0.N) (r : Fin 512) : Fin 2048 := ⟨512 * (t.val % 4) + r.val, by have := r.isLt; omega⟩

theorem iblk0 (c : Dev nD) (t : Fin cfg0.N) (r : Fin 512) (d : Fin 1024) :
    (iblk m c 0 t : Vec Ideal S1x512x1024 .f32) (ix3 0 r d) = m ((c : Thread nD τ).loc main_arg0) (ix3 (bat t) (row t r) d) := by
  have e := idx_0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1 + 1 * 0 = t.val / 4; rw [e.1]; omega
  | ⟨1, _⟩ => show win0_0.index t 1 * 512 + 1 * r.val = 512 * (t.val % 4) + r.val; rw [e.2.1]; omega
  | ⟨2, _⟩ => show win0_0.index t 2 * 1024 + 1 * d.val = d.val; rw [e.2.2]; omega

theorem iblk1 (c : Dev nD) (t : Fin cfg0.N) (d : Fin 1024) :
    (iblk m c 1 t : Vec Ideal S1x1x1024 .f32) (ix3 0 0 d) = m ((c : Thread nD τ).loc main_arg1) (ix3 (bat t) 0 d) := by
  have e := idx_1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * 0 = t.val / 4; rw [e.1]; omega
  | ⟨1, _⟩ => show win0_1.index t 1 * 1 + 1 * 0 = 0; rw [e.2.1]
  | ⟨2, _⟩ => show win0_1.index t 2 * 1024 + 1 * d.val = d.val; rw [e.2.2]; omega

theorem iblk2 (c : Dev nD) (t : Fin cfg0.N) (r : Fin 512) (d : Fin 512) :
    (iblk m c 2 t : Vec Ideal S1x512x512 .bf16) (ix3 0 r d) = m ((c : Thread nD τ).loc main_arg2) (ix3 (bat t) (row t r) d) := by
  have e := idx_2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1 + 1 * 0 = t.val / 4; rw [e.1]; omega
  | ⟨1, _⟩ => show win0_2.index t 1 * 512 + 1 * r.val = 512 * (t.val % 4) + r.val; rw [e.2.1]; omega
  | ⟨2, _⟩ => show win0_2.index t 2 * 512 + 1 * d.val = d.val; rw [e.2.2]; omega

theorem iblk3 (c : Dev nD) (t : Fin cfg0.N) (r : Fin 512) (d : Fin 512) :
    (iblk m c 3 t : Vec Ideal S1x512x512 .bf16) (ix3 0 r d) = m ((c : Thread nD τ).loc main_arg3) (ix3 (bat t) (row t r) d) := by
  have e := idx_3 t
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ => show win0_3.index t 0 * 1 + 1 * 0 = t.val / 4; rw [e.1]; omega
  | ⟨1, _⟩ => show win0_3.index t 1 * 512 + 1 * r.val = 512 * (t.val % 4) + r.val; rw [e.2.1]; omega
  | ⟨2, _⟩ => show win0_3.index t 2 * 512 + 1 * d.val = d.val; rw [e.2.2]; omega

theorem iblk4 (c : Dev nD) (t : Fin cfg0.N) (r : Fin 512) (d : Fin 512) :
    (iblk m c 4 t : Vec Ideal S1x512x512 .bf16) (ix3 0 r d) = m ((c : Thread nD τ).loc main_arg4) (ix3 (bat t) (row t r) d) := by
  have e := idx_4 t
  unfold iblk
  rw [View.read_apply]
  show V m c main_arg4 _ = m (c.tc.loc main_arg4) _
  rw [V_main_arg4]
  refine congrArg (m (c.tc.loc main_arg4)) (funext fun a => Fin.ext ?_)
  match a with
  | ⟨0, _⟩ => show win0_4.index t 0 * 1 + 1 * 0 = t.val / 4; rw [e.1]; omega
  | ⟨1, _⟩ => show win0_4.index t 1 * 512 + 1 * r.val = 512 * (t.val % 4) + r.val; rw [e.2.1]; omega
  | ⟨2, _⟩ => show win0_4.index t 2 * 512 + 1 * d.val = d.val; rw [e.2.2]; omega

theorem iblk5 (c : Dev nD) (t : Fin cfg0.N) (r : Fin 512) (d : Fin 3072) :
    (iblk m c 5 t : Vec Ideal S1x512x3072 .bf16) (ix3 0 r d) = m ((c : Thread nD τ).loc main_arg5) (ix3 (bat t) (row t r) d) := by
  have e := idx_5 t
  unfold iblk
  rw [View.read_apply]
  show V m c main_arg5 _ = m (c.tc.loc main_arg5) _
  rw [V_main_arg5]
  refine congrArg (m (c.tc.loc main_arg5)) (funext fun a => Fin.ext ?_)
  match a with
  | ⟨0, _⟩ => show win0_5.index t 0 * 1 + 1 * 0 = t.val / 4; rw [e.1]; omega
  | ⟨1, _⟩ => show win0_5.index t 1 * 512 + 1 * r.val = 512 * (t.val % 4) + r.val; rw [e.2.1]; omega
  | ⟨2, _⟩ => show win0_5.index t 2 * 3072 + 1 * d.val = d.val; rw [e.2.2]; omega

theorem iblk6 (c : Dev nD) (t : Fin cfg0.N) : (iblk m c 6 t : Vec Ideal S512x1024 .bf16) = m ((c : Thread nD τ).loc main_arg6) := by
  have e := idx_6 t
  funext y
  unfold iblk
  rw [View.read_apply]
  show V m c main_arg6 _ = m (c.tc.loc main_arg6) _
  rw [V_main_arg6]
  refine congrArg (m (c.tc.loc main_arg6)) (funext fun a => Fin.ext ?_)
  match a with
  | ⟨0, _⟩ => show win0_6.index t 0 * 512 + 1 * (y 0).val = (y 0).val; rw [e.1]; omega
  | ⟨1, _⟩ => show win0_6.index t 1 * 1024 + 1 * (y 1).val = (y 1).val; rw [e.2]; omega

theorem iblk7 (c : Dev nD) (t : Fin cfg0.N) : (iblk m c 7 t : Vec Ideal S512x1024 .bf16) = m ((c : Thread nD τ).loc main_arg7) := by
  have e := idx_7 t
  funext y
  unfold iblk
  rw [View.read_apply]
  show V m c main_arg7 _ = m (c.tc.loc main_arg7) _
  rw [V_main_arg7]
  refine congrArg (m (c.tc.loc main_arg7)) (funext fun a => Fin.ext ?_)
  match a with
  | ⟨0, _⟩ => show win0_7.index t 0 * 512 + 1 * (y 0).val = (y 0).val; rw [e.1]; omega
  | ⟨1, _⟩ => show win0_7.index t 1 * 1024 + 1 * (y 1).val = (y 1).val; rw [e.2]; omega

theorem iblk8 (c : Dev nD) (t : Fin cfg0.N) : (iblk m c 8 t : Vec Ideal S512x1024 .bf16) = m ((c : Thread nD τ).loc main_arg8) := by
  have e := idx_8 t
  funext y
  unfold iblk
  rw [View.read_apply]
  show V m c main_arg8 _ = m (c.tc.loc main_arg8) _
  rw [V_main_arg8]
  refine congrArg (m (c.tc.loc main_arg8)) (funext fun a => Fin.ext ?_)
  match a with
  | ⟨0, _⟩ => show win0_8.index t 0 * 512 + 1 * (y 0).val = (y 0).val; rw [e.1]; omega
  | ⟨1, _⟩ => show win0_8.index t 1 * 1024 + 1 * (y 1).val = (y 1).val; rw [e.2]; omega

theorem iblk9 (c : Dev nD) (t : Fin cfg0.N) : (iblk m c 9 t : Vec Ideal S1024x1024 .bf16) = m ((c : Thread nD τ).loc main_arg9) := by
  have e := idx_9 t
  funext y
  unfold iblk
  rw [View.read_apply]
  show V m c main_arg9 _ = m (c.tc.loc main_arg9) _
  rw [V_main_arg9]
  refine congrArg (m (c.tc.loc main_arg9)) (funext fun a => Fin.ext ?_)
  match a with
  | ⟨0, _⟩ => show win0_9.index t 0 * 1024 + 1 * (y 0).val = (y 0).val; rw [e.1]; omega
  | ⟨1, _⟩ => show win0_9.index t 1 * 1024 + 1 * (y 1).val = (y 1).val; rw [e.2]; omega

/-- What point `t` writes back is its block of `val`. -/
theorem flushed_eq (c : Dev nD) (t : Fin cfg0.N) :
    (dats m 0 c).flushed 10 t = (win0_10.blk t).view.read (Elt Ideal) (val m c) := by
  show (cfg0.win 10).cut (grid0.coords t) ((dats m 0 c).after 10 t) = _
  rw [after0_10]
  have e := idx_10 t
  funext (y : S1x512x1024.Idx)
  rw [View.read_apply]
  show out0_10 (iblk m c 0 t) (iblk m c 1 t) (iblk m c 2 t) (iblk m c 3 t) (iblk m c 4 t) (iblk m c 5 t) (iblk m c 6 t) (iblk m c 7 t) (iblk m c 8 t) (iblk m c 9 t) y
    = val m c ((win0_10.blk t).view.emb y)
  have hy : y = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  have e0 : ((win0_10.blk t).view.emb y) 0 = bat t :=
    Fin.ext (by show win0_10.index t 0 * 1 + 1 * (y 0).val = t.val / 4; have : (y 0).val < 1 := (y 0).isLt; rw [e.1]; omega)
  have e1 : ((win0_10.blk t).view.emb y) 1 = row t (y 1) :=
    Fin.ext (by show win0_10.index t 1 * 512 + 1 * (y 1).val = 512 * (t.val % 4) + (y 1).val; rw [e.2.1]; omega)
  have e2 : ((win0_10.blk t).view.emb y) 2 = (y 2 : Fin 1024) :=
    Fin.ext (by show win0_10.index t 2 * 1024 + 1 * (y 2).val = (y 2).val; rw [e.2.2]; omega)
  refine (congrArg _ hy).trans ((Block.out_apply _ _ _ _ _ _ _ _ _ _ (y 1) (y 2)).trans ?_)
  unfold val mergeEntry
  simp only [e0, e1, e2]
  rw [iblk0 m c t (y 1) (y 2), iblk1 m c t (y 2), funext (iblk2 m c t (y 1)), funext (iblk3 m c t (y 1)), funext (iblk4 m c t (y 1)),
    funext (iblk5 m c t (y 1)), iblk6, iblk7, iblk8, iblk9]

theorem mem_blk (t : Fin cfg0.N) (i : S32x2048x1024.Idx) :
    i ∈ ((cfg0.win 10).blk t).view.set ↔ (i 0).val = t.val / 4 ∧ 512 * (t.val % 4) ≤ (i 1).val ∧ (i 1).val < 512 * (t.val % 4) + 512 := by
  show i ∈ ((View.whole main_v0).slice (win0_10.rect t)).set ↔ _
  rw [View.set_slice_whole, Rect.mem_set_unit]
  have e := idx_10 t
  have h2 : (i 2).val < 1024 := (i 2).isLt
  refine ⟨fun h => ?_, fun h a => ?_⟩
  · have g0 : win0_10.index t 0 * 1 ≤ (i 0).val ∧ (i 0).val < win0_10.index t 0 * 1 + 1 := h 0
    have g1 : win0_10.index t 1 * 512 ≤ (i 1).val ∧ (i 1).val < win0_10.index t 1 * 512 + 512 := h 1
    rw [e.1] at g0; rw [e.2.1] at g1; omega
  · match a with
    | ⟨0, _⟩ => show win0_10.index t 0 * 1 ≤ (i 0).val ∧ (i 0).val < win0_10.index t 0 * 1 + 1; rw [e.1]; omega
    | ⟨1, _⟩ => show win0_10.index t 1 * 512 ≤ (i 1).val ∧ (i 1).val < win0_10.index t 1 * 512 + 512; rw [e.2.1]; omega
    | ⟨2, _⟩ => show win0_10.index t 2 * 1024 ≤ (i 2).val ∧ (i 2).val < win0_10.index t 2 * 1024 + 1024; rw [e.2.2]; omega

theorem cover (i : S32x2048x1024.Idx) : ∃ t : Fin cfg0.N, (cfg0.win 10).flush t = true ∧ i ∈ ((cfg0.win 10).blk t).view.set := by
  have h0 : (i 0).val < 32 := (i 0).isLt
  have h1 : (i 1).val < 2048 := (i 1).isLt
  have hN := N_eq
  refine ⟨⟨4 * (i 0).val + (i 1).val / 512, by omega⟩, flush0_10 _, ?_⟩
  rw [mem_blk]
  dsimp only
  omega

theorem final_o (c : Dev nD) : (dats m 0 c).arrAt 10 cfg0.N = val m c :=
  (dats m 0 c).arrAt_eq_of_cover 10 (val m c) (fun t _ => flushed_eq m c t) cover

/-- The run, read: the result array at `val`, the arguments unchanged. -/
theorem run : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1 10).trans (final_o m c),
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _),
      ((h c).1 7).trans ((dats m 0 c).arrAt_in 7 rfl _),
      ((h c).1 8).trans ((dats m 0 c).arrAt_in 8 rfl _),
      ((h c).1 9).trans ((dats m 0 c).arrAt_in 9 rfl _)⟩)
    (run_main m ρ)

end Cert.MergeIdeal.Result

end
-- ==== Proof.Mg.Ref.lean ====
/- What the merge reference computes, entry by entry: the merged branches, projected, added to the residual under its gate. -/
module

public import proofs.«01_k».proof.Proof.Gen.MergeRefIdeal
public import proofs.«01_k».proof.Proof.Gen.MergeRefIdeal.Read
public import proofs.«01_k».proof.Proof.Mg.Result
public import Idealize.ShloMosaic.Lib.Pipeline.Value
public import Idealize.ShloMosaic.Lib.Pointwise

@[expose] public section

noncomputable section

namespace Cert.MergeRefIdeal.RefRead

open Cert.MergeRefIdeal Cert.MergeRefIdeal.Gen Cert.MergeRefIdeal.Read Cert.MergeRefIdeal.Facts
open Idealize.ShloMosaic

variable (x0 : (⟨S32x2048x1024, .f32⟩ : BufTy).Contents (Elt Ideal)) (x1 : (⟨S32x1x1024, .f32⟩ : BufTy).Contents (Elt Ideal))
  (x2 x3 x4 : (⟨S32x2048x512, .bf16⟩ : BufTy).Contents (Elt Ideal)) (x5 : (⟨S32x2048x3072, .bf16⟩ : BufTy).Contents (Elt Ideal))
  (x6 x7 x8 : (⟨S512x1024, .bf16⟩ : BufTy).Contents (Elt Ideal)) (x9 : (⟨S1024x1024, .bf16⟩ : BufTy).Contents (Elt Ideal))

/-- The gates by branch are column ranges of the gate array. -/
theorem gate (i : S32x2048x3x1024.Idx) (b : Fin 32) (R : Fin 2048) (q : Fin 3072) (h0 : (i 0).val = b.val) (h1 : (i 1).val = R.val)
    (h2 : 1024 * (i 2).val + (i 3).val = q.val) : val_main_v8 (F := Ideal) x5 i = x5 (ix3 b R q) := by
  rw [val_main_v8_apply]
  show x5 (idx_main_v8 i) = _
  refine congrArg x5 (funext fun a => Fin.ext ?_)
  have := b.isLt; have := R.isLt; have := q.isLt
  have n0 : ((((i 0).val * 2048 + (i 1).val) * 3 + (i 2).val) * 1024 + (i 3).val) / 6291456 = b.val := by omega
  have n1 : ((((i 0).val * 2048 + (i 1).val) * 3 + (i 2).val) * 1024 + (i 3).val) / 3072 % 2048 = R.val := by omega
  have n2 : ((((i 0).val * 2048 + (i 1).val) * 3 + (i 2).val) * 1024 + (i 3).val) % 3072 = q.val := by omega
  match a with
  | ⟨0, _⟩ => exact n0
  | ⟨1, _⟩ => exact n1
  | ⟨2, _⟩ => exact n2

theorem gate0 (b : Fin 32) (R : Fin 2048) (k : Fin 1024) : val_main_v10 (F := Ideal) x5 (ix3 b R k) = x5 (ix3 b R ⟨k.val, by omega⟩) := by
  rw [val_main_v10_apply, val_main_v9_apply]
  have := b.isLt; have := R.isLt; have := k.isLt
  have n0 : ((b.val * 2048 + R.val) * 1024 + k.val) / 2097152 = b.val := by omega
  have n1 : ((b.val * 2048 + R.val) * 1024 + k.val) / 1024 % 2048 = R.val := by omega
  have n3 : ((b.val * 2048 + R.val) * 1024 + k.val) % 1024 = k.val := by omega
  refine gate x5 _ b R _ n0 n1 ?_
  show 1024 * (0 + 0) + ((b.val * 2048 + R.val) * 1024 + k.val) % 1024 = _
  rw [n3]; show _ = k.val; omega

theorem gate1 (b : Fin 32) (R : Fin 2048) (k : Fin 1024) : val_main_v14 (F := Ideal) x5 (ix3 b R k) = x5 (ix3 b R ⟨1024 + k.val, by omega⟩) := by
  rw [val_main_v14_apply, val_main_v13_apply]
  have := b.isLt; have := R.isLt; have := k.isLt
  have n0 : ((b.val * 2048 + R.val) * 1024 + k.val) / 2097152 = b.val := by omega
  have n1 : ((b.val * 2048 + R.val) * 1024 + k.val) / 1024 % 2048 = R.val := by omega
  have n3 : ((b.val * 2048 + R.val) * 1024 + k.val) % 1024 = k.val := by omega
  refine gate x5 _ b R _ n0 n1 ?_
  show 1024 * (1 + 0) + ((b.val * 2048 + R.val) * 1024 + k.val) % 1024 = _
  rw [n3]

theorem gate2 (b : Fin 32) (R : Fin 2048) (k : Fin 1024) : val_main_v19 (F := Ideal) x5 (ix3 b R k) = x5 (ix3 b R ⟨2048 + k.val, by omega⟩) := by
  rw [val_main_v19_apply, val_main_v18_apply]
  have := b.isLt; have := R.isLt; have := k.isLt
  have n0 : ((b.val * 2048 + R.val) * 1024 + k.val) / 2097152 = b.val := by omega
  have n1 : ((b.val * 2048 + R.val) * 1024 + k.val) / 1024 % 2048 = R.val := by omega
  have n3 : ((b.val * 2048 + R.val) * 1024 + k.val) % 1024 = k.val := by omega
  refine gate x5 _ b R _ n0 n1 ?_
  show 1024 * (2 + 0) + ((b.val * 2048 + R.val) * 1024 + k.val) % 1024 = _
  rw [n3]

theorem proj0 (b : Fin 32) (R : Fin 2048) (k : Fin 1024) :
    val_main_v11 (F := Ideal) x2 x6 (ix3 b R k) = ∑ j : Fin 512, x2 (ix3 b R j) * x6 (ix2 j k) := by
  rw [val_main_v11_apply]
  refine Finset.sum_congr rfl fun j _ => ?_
  have e0 : lidx_main_v11 (ix3 b R k) j = ix3 b R j := funext fun a => Fin.ext (by match a with | ⟨0, _⟩ => rfl | ⟨1, _⟩ => rfl | ⟨2, _⟩ => rfl)
  have e1 : ridx_main_v11 (ix3 b R k) j = ix2 j k := funext fun a => Fin.ext (by match a with | ⟨0, _⟩ => rfl | ⟨1, _⟩ => rfl)
  rw [e0, e1]
  rfl

theorem proj1 (b : Fin 32) (R : Fin 2048) (k : Fin 1024) :
    val_main_v15 (F := Ideal) x3 x7 (ix3 b R k) = ∑ j : Fin 512, x3 (ix3 b R j) * x7 (ix2 j k) := by
  rw [val_main_v15_apply]
  refine Finset.sum_congr rfl fun j _ => ?_
  have e0 : lidx_main_v15 (ix3 b R k) j = ix3 b R j := funext fun a => Fin.ext (by match a with | ⟨0, _⟩ => rfl | ⟨1, _⟩ => rfl | ⟨2, _⟩ => rfl)
  have e1 : ridx_main_v15 (ix3 b R k) j = ix2 j k := funext fun a => Fin.ext (by match a with | ⟨0, _⟩ => rfl | ⟨1, _⟩ => rfl)
  rw [e0, e1]
  rfl

theorem proj2 (b : Fin 32) (R : Fin 2048) (k : Fin 1024) :
    val_main_v20 (F := Ideal) x4 x8 (ix3 b R k) = ∑ j : Fin 512, x4 (ix3 b R j) * x8 (ix2 j k) := by
  rw [val_main_v20_apply]
  refine Finset.sum_congr rfl fun j _ => ?_
  have e0 : lidx_main_v20 (ix3 b R k) j = ix3 b R j := funext fun a => Fin.ext (by match a with | ⟨0, _⟩ => rfl | ⟨1, _⟩ => rfl | ⟨2, _⟩ => rfl)
  have e1 : ridx_main_v20 (ix3 b R k) j = ix2 j k := funext fun a => Fin.ext (by match a with | ⟨0, _⟩ => rfl | ⟨1, _⟩ => rfl)
  rw [e0, e1]
  rfl

/-- The merged branches. -/
theorem merged_eq (b : Fin 32) (R : Fin 2048) (k : Fin 1024) : val_main_v22 (F := Ideal) x2 x3 x4 x5 x6 x7 x8 (ix3 b R k)
    = Cert.MergeIdeal.Block.merged (fun j => x2 (ix3 b R j)) (fun j => x3 (ix3 b R j)) (fun j => x4 (ix3 b R j)) (fun q => x5 (ix3 b R q)) x6 x7 x8 k := by
  rw [val_main_v22_apply, val_main_v17_apply, val_main_v12_apply, val_main_v16_apply, val_main_v21_apply, gate0, gate1, gate2, proj0, proj1, proj2]
  rfl

/-- THE REFERENCE'S RESULT, entry by entry, is the call's. -/
theorem result_eq (b : Fin 32) (R : Fin 2048) (C : Fin 1024) : val_main_v26 (F := Ideal) x0 x1 x2 x3 x4 x5 x6 x7 x8 x9 (ix3 b R C)
    = Cert.MergeIdeal.Result.mergeEntry x0 x1 x2 x3 x4 x5 x6 x7 x8 x9 b R C := by
  rw [val_main_v26_apply, val_main_v25_apply, val_main_v24_apply, val_main_v23_apply]
  have e : idx_main_v24 (ix3 b R C) = ix3 b 0 C := funext fun a => Fin.ext (by match a with | ⟨0, _⟩ => rfl | ⟨1, _⟩ => rfl | ⟨2, _⟩ => rfl)
  rw [e]
  show _ + _ * _ = _
  unfold Cert.MergeIdeal.Result.mergeEntry Cert.MergeIdeal.Block.entry
  refine congrArg (fun z : EReal => x0 (ix3 b R C) + x1 (ix3 b 0 C) * z) (Finset.sum_congr rfl fun k _ => ?_)
  have e0 : lidx_main_v23 (ix3 b R C) k = ix3 b R k := funext fun a => Fin.ext (by match a with | ⟨0, _⟩ => rfl | ⟨1, _⟩ => rfl | ⟨2, _⟩ => rfl)
  have e1 : ridx_main_v23 (ix3 b R C) k = ix2 k C := funext fun a => Fin.ext (by match a with | ⟨0, _⟩ => rfl | ⟨1, _⟩ => rfl)
  rw [e0, e1, merged_eq]
  rfl

end Cert.MergeRefIdeal.RefRead

end
-- ==== Proof.Mg.Claims.lean ====
/- The merge call and its reference agree: frames, and the equality of the results. -/
module

public import proofs.«01_k».proof.Defs
public import proofs.«01_k».proof.Proof.Mg.Ref
public import proofs.«01_k».proof.Proof.Gen.Merge.Frame
public import proofs.«01_k».proof.Proof.Gen.MergeRefIdeal.Run
public import Idealize.ShloMosaic.Adequacy
public import Idealize.ShloMosaic.Init

@[expose] public section

noncomputable section

namespace Cert.MergeClaims

open Idealize.ShloMosaic Idealize.SL.Sem Idealize.ShloMosaic.TcCoe

theorem frame_m : Cert.quiescent_Merge := fun m ρ _ => Cert.Merge.Gen.frame m ρ
theorem frame_mi : Cert.quiescent_MergeIdeal := fun m ρ _ => Cert.MergeIdeal.Gen.frame m ρ
theorem frame_mr : Cert.quiescent_MergeRefIdeal := fun m ρ _ =>
  (θ_run Cert.MergeRefIdeal.defs _ _).mono (fun r h => ⟨fun c => (h c).2,
    Idealize.ShloMosaic.sem_eq_zero_of_no_sems (by decide) r.2⟩) (Cert.MergeRefIdeal.Value.run (F := Ideal) m ρ)

theorem algebraic : Cert.algebraic_MergeIdeal_MergeRefIdeal := by
  intro m g m' g' hpre hagree
  refine ⟨fun c => Cert.MergeIdeal.Result.val m c, Cert.MergeIdeal.Result.run m g, ?_⟩
  refine (θ_run Cert.MergeRefIdeal.defs _ _).mono (fun r h c => ⟨(h c).1.trans ?_, (h c).2⟩) (Cert.MergeRefIdeal.Value.run (F := Ideal) m' g')
  obtain ⟨e0, e1, e2, e3, e4, e5, e6, e7, e8, e9⟩ := hagree c
  rw [Cert.MergeRefIdeal.Read.val_main_v26_eq, e0, e1, e2, e3, e4, e5, e6, e7, e8, e9]
  funext y
  have hy : y = ix3 (y 0) (y 1) (y 2) := funext fun a => by match a with | ⟨0, _⟩ => rfl | ⟨1, _⟩ => rfl | ⟨2, _⟩ => rfl
  rw [hy]
  exact Cert.MergeRefIdeal.RefRead.result_eq _ _ _ _ _ _ _ _ _ _ (y 0) (y 1) (y 2)

end Cert.MergeClaims

end
-- ==== Proof.Pm.Spec.lean ====
/- What one row of the input transforms is: the norms, the projections and the rotations, over the extended reals. Both the
   call and its reference are read as these functions. -/
module

public import Idealize.ShloMosaic.PureOps.Ideal
public import Idealize.ShloMosaic.Lib.ValueIdx
public import Idealize.ShloMosaic.Lib.IdealHost

@[expose] public section

noncomputable section

namespace Cert.PreSpec

open Idealize.ShloMosaic

/-- The number an f32 pattern denotes. -/
abbrev lit (b : BitVec 32) : EReal := Ideal.ofBits .f32 b

/-- The columns from `o` on. -/
def sub {n : Nat} (k : Nat) (P : Fin n → EReal) (o : Nat) (h : o + k ≤ n) (j : Fin k) : EReal := P ⟨o + j.val, by omega⟩

/-- One over the root of a sum of squares over `n`, plus epsilon. -/
def inv (s n : EReal) : EReal := Ideal.rsqrt (Ideal.div s n + lit 0x358637BD#32)

/-- A row over its root mean square, times a gain. -/
def norm {k : Nat} (n : EReal) (t g : Fin k → EReal) (j : Fin k) : EReal := t j * inv (∑ i, t i * t i) n * g j

/-- The same with the first and the last 64 columns normed apart. -/
def two (n m : EReal) (t g : Fin 128 → EReal) (j : Fin 128) : EReal :=
  t j * (if j.val < 64 then inv (∑ i : Fin 64, sub 64 t 0 (by omega) i * sub 64 t 0 (by omega) i) n
    else inv (∑ i : Fin 64, sub 64 t 64 (by omega) i * sub 64 t 64 (by omega) i) m) * g j

/-- A row times the cosines, plus the columns ahead and behind times the sines. -/
def rot (p : Nat) (t c a s : Fin 128 → EReal) (j : Fin 128) : EReal :=
  t j * c j + t ⟨(j.val + p) % 128, Nat.mod_lt _ (by omega)⟩ * a j + t ⟨(j.val + (128 - p)) % 128, Nat.mod_lt _ (by omega)⟩ * s j

/-- A row times a matrix given by its entries. -/
def dot {k : Nat} (t : Fin k → EReal) (w : Fin k → EReal) : EReal := ∑ i, t i * w i

/-- The modulated row. -/
def hrow (x g sc sh : Fin 1024 → EReal) (d : Fin 1024) : EReal := norm (lit 0x44800000#32) x g d * (1 + sc d) + sh d

variable (P : Fin 5888 → EReal) (v : Fin 1024 → EReal)

/-- The latent attention's queries before their norms. -/
def qrow (w : Fin 256 → Fin 1024 → EReal) (C : Fin 1024) : EReal :=
  dot (norm (lit 0x43800000#32) (sub 256 P 0 (by omega)) (sub 256 v 0 (by omega))) fun k => w k C

/-- The latent attention's keys and values before their norms. -/
def kvrow (w : Fin 128 → Fin 1536 → EReal) (C : Fin 1536) : EReal :=
  dot (norm (lit 0x43000000#32) (sub 128 P 256 (by omega)) (sub 128 v 256 (by omega))) fun k => w k C

def qm (w : Fin 256 → Fin 1024 → EReal) (c a s : Fin 128 → EReal) (h : Fin 8) (j : Fin 128) : EReal :=
  rot 8 (two (lit 0x42800000#32) (lit 0x42000000#32) (sub 128 (qrow P v w) (128 * h.val) (by omega)) (sub 128 v 384 (by omega))) c a s j
    * lit 0x3E16C740#32

def km (w : Fin 128 → Fin 1536 → EReal) (c a s : Fin 128 → EReal) (h : Fin 8) (j : Fin 128) : EReal :=
  norm (lit 0x42800000#32) (sub 128 (kvrow P v w) (128 * h.val) (by omega)) (sub 128 v 512 (by omega)) j
    + rot 8 (norm (lit 0x42000000#32) (sub 128 P 384 (by omega)) (sub 128 v 512 (by omega))) c a s j

def vm (w : Fin 128 → Fin 1536 → EReal) (p : Fin 4) (j : Fin 128) : EReal := sub 128 (kvrow P v w) (1024 + 128 * p.val) (by omega) j

def qg (c a s : Fin 128 → EReal) (h : Fin 8) (j : Fin 128) : EReal :=
  rot 16 (norm (lit 0x42800000#32) (sub 128 P (768 + 128 * h.val) (by omega)) (sub 128 v 640 (by omega))) c a s j * lit 0x3E38AA3B#32

def kg (c a s : Fin 128 → EReal) (j : Fin 128) : EReal :=
  rot 16 (two (lit 0x42800000#32) (lit 0x42800000#32) (sub 128 P 512 (by omega)) (sub 128 v 768 (by omega))) c a s j

def vg (j : Fin 128) : EReal := sub 128 P 640 (by omega) j

def conv (j : Fin 512) : EReal := sub 512 P 1792 (by omega) j * Ideal.logistic (sub 512 P 2304 (by omega) j)

def gate (j : Fin 3072) : EReal := Ideal.logistic (sub 3072 P 2816 (by omega) j)

/-- Times one sixty-fourth is over sixty-four. -/
theorem mul_64 (x : EReal) : x * lit 0x3C800000#32 = Ideal.div x (lit 0x42800000#32) := by
  have e : lit 0x42800000#32 = ((64 : ℝ) : EReal) := by simp [lit, Ideal.ofBits, Ideal.ieee]; norm_num [← EReal.coe_mul]
  have f : lit 0x3C800000#32 = ((1 / 64 : ℝ) : EReal) := by simp [lit, Ideal.ofBits, Ideal.ieee]; norm_num [← EReal.coe_mul]
  rw [e, f, Ideal.div_coe (by norm_num)]

/-- Times one thirty-second is over thirty-two. -/
theorem mul_32 (x : EReal) : x * lit 0x3D000000#32 = Ideal.div x (lit 0x42000000#32) := by
  have e : lit 0x42000000#32 = ((32 : ℝ) : EReal) := by simp [lit, Ideal.ofBits, Ideal.ieee]; norm_num [← EReal.coe_mul]
  have f : lit 0x3D000000#32 = ((1 / 32 : ℝ) : EReal) := by simp [lit, Ideal.ofBits, Ideal.ieee]; norm_num [← EReal.coe_mul]
  rw [e, f, Ideal.div_coe (by norm_num)]

/-- A sum over 128 columns of which the last 64 are nought. -/
theorem sum_lo (f : Fin 128 → EReal) : (∑ i : Fin 128, if i.val < 64 then f i else 0) = ∑ i : Fin 64, f ⟨0 + i.val, by omega⟩ := by
  refine (Fin.sum_univ_add (a := 64) (b := 64) fun i : Fin 128 => if i.val < 64 then f i else 0).trans ?_
  have h2 : (∑ i : Fin 64, if (Fin.natAdd 64 i : Fin 128).val < 64 then f (Fin.natAdd 64 i) else 0) = 0 :=
    Finset.sum_eq_zero fun i _ => if_neg (by show ¬ (64 + i.val < 64); omega)
  rw [h2, add_zero]
  refine Finset.sum_congr rfl fun i _ => ?_
  rw [if_pos (by show i.val < 64; omega)]
  exact congrArg f (Fin.ext (by show i.val = 0 + i.val; omega))

/-- A sum over 128 columns of which the first 64 are nought. -/
theorem sum_hi (f : Fin 128 → EReal) : (∑ i : Fin 128, if i.val < 64 then 0 else f i) = ∑ i : Fin 64, f ⟨64 + i.val, by omega⟩ := by
  refine (Fin.sum_univ_add (a := 64) (b := 64) fun i : Fin 128 => if i.val < 64 then 0 else f i).trans ?_
  have h2 : (∑ i : Fin 64, if (Fin.castAdd 64 i : Fin 128).val < 64 then 0 else f (Fin.castAdd 64 i)) = 0 :=
    Finset.sum_eq_zero fun i _ => if_pos (by show i.val < 64; omega)
  rw [h2, zero_add]
  refine Finset.sum_congr rfl fun i _ => ?_
  rw [if_neg (by show ¬ (64 + i.val < 64); omega)]
  rfl

end Cert.PreSpec

end
-- ==== Proof.Pm.Head.lean ====
/- The pieces the input transforms' body is put together from - norms by one or two segments, rotations, projections - each read at a
   row and a column, and the body's many spellings of them. -/
module

public import proofs.«01_k».proof.Proof.Gen.PreIdeal.Frame
public import proofs.«01_k».proof.Proof.Pm.Spec
public import Idealize.ShloMosaic.Lib.Pointwise

@[expose] public section

set_option maxRecDepth 16384

noncomputable section

namespace Cert.PreIdeal.Head

open Cert.PreIdeal Cert.PreIdeal.Gen Idealize.ShloMosaic Idealize.ShloMosaic.Pointwise
open Cert.PreSpec (lit)

section Defs
variable {F : FTy → Type} [FloatOps F]

/-- A column of row sums. -/
def colSum (t : FVec F S512x128 .f32) : FVec F S512x1 .f32 :=
  shapeCast S512x1 (multiReduction .add [1] S512 t 0x00000000#32 reduces_S512x128_S512 (.inl rfl) rfl) shapeCasts_S512_S512x1

/-- One over the root of the scaled sums plus epsilon. -/
def root (s : FVec F S512x1 .f32) (c : BitVec 32) : FVec F S512x1 .f32 :=
  rsqrt (addf (mulf s (broadcast S512x1 (Scalar.ofBits .f32 c))) (broadcast S512x1 (Scalar.ofBits .f32 0x358637BD#32)))

/-- The lane mask over all rows. -/
def mask (b : IVec S1x128 1) : IVec S512x128 1 := broadcastTo S512x128 (shapeCast S1x128 b shapeCasts_S1x128_S1x128) broadcasts_S1x128_S512x128

def zeros : FVec F S512x128 .f32 := broadcast S512x128 (Scalar.ofBits .f32 0x00000000#32)

/-- Rows over their root mean squares, times the gain. -/
def nrm (g : Vec F S1x128 .f32) (xs : FVec F S512x128 .f32) (c : BitVec 32) : FVec F S512x128 .f32 :=
  mulf (mulf xs (broadcastTo S512x128 (root (colSum (mulf xs xs)) c) broadcasts_S512x1_S512x128)) (broadcastTo S512x128 g broadcasts_S1x128_S512x128)

/-- The same with the lanes of the mask and the others normed apart. -/
def segs (b : IVec S1x128 1) (g : Vec F S1x128 .f32) (xs : FVec F S512x128 .f32) (c d : BitVec 32) : FVec F S512x128 .f32 :=
  mulf (mulf xs (select (mask b)
      (broadcastTo S512x128 (shapeCast S512x1 (root (colSum (select (mask b) (mulf xs xs) zeros)) c) shapeCasts_S512x1_S512x1) broadcasts_S512x1_S512x128)
      (broadcastTo S512x128 (shapeCast S512x1 (root (colSum (select (mask b) zeros (mulf xs xs))) d) shapeCasts_S512x1_S512x1) broadcasts_S512x1_S512x128)))
    (broadcastTo S512x128 g broadcasts_S1x128_S512x128)

/-- Rows turned by the tables. -/
def turn (p q : BitVec 32) (t c a s : FVec F S512x128 .f32) : FVec F S512x128 .f32 :=
  addf (addf (mulf t c) (mulf (dynamicRotate 1 p none t rotates_S512x128_d1) a)) (mulf (dynamicRotate 1 q none t rotates_S512x128_d1) s)

def out4 (t : FVec F S512x128 .f32) : FVec F S1x1x512x128 .bf16 :=
  shapeCast S1x1x512x128 (truncf .bf16 t bitsLt_bf16_f32) shapeCasts_S512x128_S1x1x512x128

def scaled (t : FVec F S512x128 .f32) (k : BitVec 32) : FVec F S512x128 .f32 := mulf t (broadcast S512x128 (Scalar.ofBits .f32 k))

/-- One head of the latent attention's queries. -/
def qhead (b : IVec S1x128 1) (g : Vec F S1x128 .f32) (xs c a s : FVec F S512x128 .f32) : FVec F S1x1x512x128 .bf16 :=
  out4 (scaled (turn 120#32 8#32 (segs b g xs 0x3C800000#32 0x3D000000#32) c a s) 0x3E16C740#32)

/-- One head of its keys. -/
def khead (g : Vec F S1x128 .f32) (kpe xs : FVec F S512x128 .f32) : FVec F S1x1x512x128 .bf16 := out4 (addf (nrm g xs 0x3C800000#32) kpe)

/-- One head of the grouped attention's queries. -/
def ghead (g : Vec F S1x128 .f32) (xs c a s : FVec F S512x128 .f32) : FVec F S1x1x512x128 .bf16 :=
  out4 (scaled (turn 112#32 16#32 (nrm g xs 0x3C800000#32) c a s) 0x3E38AA3B#32)

/-- The latent queries' columns of one head. -/
def qcol (q : FVec F S512x1024 .f32) (o : Nat) (h : S512x1024.Slices ![0, o] S512x128) : FVec F S512x128 .f32 := extractStridedSlice S512x128 ![0, o] q h
def kcol (q : FVec F S512x1536 .f32) (o : Nat) (h : S512x1536.Slices ![0, o] S512x128) : FVec F S512x128 .f32 := extractStridedSlice S512x128 ![0, o] q h
end Defs

section Spell
variable {F : FTy → Type} [FloatOps F] (b : IVec S1x128 1) (g : Vec F S1x128 .f32) (q : FVec F S512x1024 .f32) (c a s : Vec F S512x128 .f32)

theorem q0 (p : FVec F S512x256 .f32) (v : Vec F S1x256 .f32) (n : FVec F S512x1 .f32) (k : F .f32) (w : Vec F S256x1024 .bf16) :
    k0_pay10 (k0_pay8 b p v n k w) (k0_pay9 g) c a s = qhead b g (qcol (k0_pay7 p v n k w) 0 slices_S512x1024_o0_0_S512x128) c a s := rfl
theorem q1 : k0_pay15 b g (k0_pay11 q) (k0_pay13 b q) (k0_pay14 b q) (Scalar.ofBits .f32 0x358637BD#32) c a s
    = qhead b g (qcol q 128 slices_S512x1024_o0_128_S512x128) c a s := rfl
theorem q2 : k0_pay20 b g (k0_pay16 q) (k0_pay18 b q) (k0_pay19 b q) c a s = qhead b g (qcol q 256 slices_S512x1024_o0_256_S512x128) c a s := rfl
theorem q3 : k0_pay25 (k0_pay24 b g (k0_pay21 q) (k0_pay22 q) (Scalar.ofBits .f32 0x00000000#32) (k0_pay23 b) c a s)
    = qhead b g (qcol q 384 slices_S512x1024_o0_384_S512x128) c a s := rfl
theorem q4 : k0_pay28 (k0_pay26 b q g) a s (k0_pay27 b q g c) 120#32 = qhead b g (qcol q 512 slices_S512x1024_o0_512_S512x128) c a s := rfl
theorem q5 : k0_pay31 (k0_pay29 b q) (k0_pay30 g) c a s = qhead b g (qcol q 640 slices_S512x1024_o0_640_S512x128) c a s := rfl
theorem q6 : k0_pay36 b g (k0_pay32 q) (k0_pay34 b q) (k0_pay35 b q) (Scalar.ofBits .f32 0x358637BD#32) c a s
    = qhead b g (qcol q 768 slices_S512x1024_o0_768_S512x128) c a s := rfl
theorem q7 : k0_pay41 b g (k0_pay37 q) (k0_pay39 b q) (k0_pay40 b q) c a s = qhead b g (qcol q 896 slices_S512x1024_o0_896_S512x128) c a s := rfl

variable (kpe : FVec F S512x128 .f32) (kv : FVec F S512x1536 .f32) (z : FVec F S512x128 .bf16) (w : Vec F S128x1536 .bf16)
theorem k0 : k0_pay45 g kpe z w = khead g kpe (kcol (k0_pay44 z w) 0 slices_S512x1536_o0_0_S512x128) := rfl
theorem k1 : k0_pay46 g kpe z w = khead g kpe (kcol (k0_pay44 z w) 128 slices_S512x1536_o0_128_S512x128) := rfl
theorem k2 : k0_pay49 g kpe (k0_pay47 z w) (k0_pay48 z w) = khead g kpe (kcol (k0_pay44 z w) 256 slices_S512x1536_o0_256_S512x128) := rfl
theorem k3 : k0_pay50 g kpe kv = khead g kpe (kcol kv 384 slices_S512x1536_o0_384_S512x128) := rfl
theorem k4 : k0_pay53 g kpe (k0_pay51 kv) (k0_pay52 kv) = khead g kpe (kcol kv 512 slices_S512x1536_o0_512_S512x128) := rfl
theorem k5 : k0_pay54 g kpe kv = khead g kpe (kcol kv 640 slices_S512x1536_o0_640_S512x128) := rfl
theorem k6 : k0_pay56 (k0_pay55 g kpe kv) = khead g kpe (kcol kv 768 slices_S512x1536_o0_768_S512x128) := rfl
theorem k7 : k0_pay57 g kpe kv = khead g kpe (kcol kv 896 slices_S512x1536_o0_896_S512x128) := rfl
theorem v0 : k0_pay58 kv = out4 (kcol kv 1024 slices_S512x1536_o0_1024_S512x128) := rfl
theorem v1 : k0_pay59 kv = out4 (kcol kv 1152 slices_S512x1536_o0_1152_S512x128) := rfl
theorem v2 : k0_pay61 (k0_pay60 kv) = out4 (kcol kv 1280 slices_S512x1536_o0_1280_S512x128) := rfl
theorem v3 : k0_pay62 kv = out4 (kcol kv 1408 slices_S512x1536_o0_1408_S512x128) := rfl

variable (hb : FVec F S512x1024 .bf16) (W : Vec F S1024x128 .bf16)
theorem g0 : k0_pay68 g (k0_pay66 hb W) (k0_pay67 hb W) c a s = ghead g (k0_pay66 hb W) c a s := rfl
theorem g1 : k0_pay70 (k0_pay69 hb g W) c a s = ghead g (k0_pay66 hb W) c a s := rfl
theorem g2 : k0_pay74 s (k0_pay72 hb g W c a) (k0_pay73 hb g W) = ghead g (k0_pay66 hb W) c a s := rfl
theorem g3 : k0_pay76 (k0_pay75 hb g W c a s) = ghead g (k0_pay66 hb W) c a s := rfl
theorem g4 : k0_pay77 hb g W c a s = ghead g (k0_pay66 hb W) c a s := rfl
theorem g5 : k0_pay80 g (k0_pay78 hb W) (k0_pay79 hb W) c a s = ghead g (k0_pay66 hb W) c a s := rfl
theorem g6 : k0_pay83 g (k0_pay81 hb W) (k0_pay82 hb W) c a s = ghead g (k0_pay66 hb W) c a s := rfl
theorem g7 : k0_pay85 (k0_pay84 hb g W) c a s = ghead g (k0_pay66 hb W) c a s := rfl
theorem kpe_eq : k0_pay42 hb g W c a s = turn 120#32 8#32 (nrm g (k0_pay66 hb W) 0x3D000000#32) c a s := rfl
theorem kg_eq : k0_pay64 (k0_pay63 hb b W) g c a s = shapeCast S1x512x128 (truncf .bf16
    (turn 112#32 16#32 (segs b g (k0_pay66 hb W) 0x3C800000#32 0x3C800000#32) c a s) bitsLt_bf16_f32) shapeCasts_S512x128_S1x512x128 := rfl
end Spell

section Read
variable (g : Vec Ideal S1x128 .f32) (xs c a s : FVec Ideal S512x128 .f32)

/-- The mask the body computes: the lanes below 64. -/
theorem mask_apply (j : Fin 128) : k0_pay4 (ix2 0 j) = if j.val < 64 then 1#1 else 0#1 := by
  revert j; decide +kernel

theorem root_apply (t : FVec Ideal S512x1 .f32) (k : BitVec 32) (r : Fin 512) :
    root t k (ix2 r 0) = Ideal.rsqrt (t (ix2 r 0) * lit k + lit 0x358637BD#32) := by
  pointwise [root]

theorem colSum_apply (t : FVec Ideal S512x128 .f32) (r : Fin 512) : colSum t (ix2 r 0) = ∑ i : Fin 128, t (ix2 r i) := by
  pointwise [colSum]

theorem nrm_apply (k : BitVec 32) (n : EReal) (hk : ∀ x : EReal, x * lit k = Ideal.div x n) (r : Fin 512) (j : Fin 128) :
    nrm g xs k (ix2 r j) = Cert.PreSpec.norm n (fun i => xs (ix2 r i)) (fun i => g (ix2 0 i)) j := by
  pointwise [nrm, root_apply, colSum_apply]
  unfold Cert.PreSpec.norm Cert.PreSpec.inv
  rw [← hk]

theorem lo_apply (r : Fin 512) : colSum (select (mask k0_pay4) (mulf xs xs) zeros) (ix2 r 0)
    = ∑ i : Fin 64, xs (ix2 r ⟨0 + i.val, by omega⟩) * xs (ix2 r ⟨0 + i.val, by omega⟩) := by
  rw [colSum_apply, ← Cert.PreSpec.sum_lo fun i => xs (ix2 r i) * xs (ix2 r i)]
  refine Finset.sum_congr rfl fun i _ => ?_
  pointwise [mask, zeros]
  rw [mask_apply]
  split <;> rfl

theorem hi_apply (r : Fin 512) : colSum (select (mask k0_pay4) zeros (mulf xs xs)) (ix2 r 0)
    = ∑ i : Fin 64, xs (ix2 r ⟨64 + i.val, by omega⟩) * xs (ix2 r ⟨64 + i.val, by omega⟩) := by
  rw [colSum_apply, ← Cert.PreSpec.sum_hi fun i => xs (ix2 r i) * xs (ix2 r i)]
  refine Finset.sum_congr rfl fun i _ => ?_
  pointwise [mask, zeros]
  rw [mask_apply]
  split <;> rfl

theorem segs_apply (k l : BitVec 32) (n m : EReal) (hk : ∀ x : EReal, x * lit k = Ideal.div x n) (hl : ∀ x : EReal, x * lit l = Ideal.div x m)
    (r : Fin 512) (j : Fin 128) :
    segs k0_pay4 g xs k l (ix2 r j) = Cert.PreSpec.two n m (fun i => xs (ix2 r i)) (fun i => g (ix2 0 i)) j := by
  unfold Cert.PreSpec.two Cert.PreSpec.inv Cert.PreSpec.sub
  rw [← hk, ← hl, ← lo_apply, ← hi_apply, ← root_apply, ← root_apply]
  generalize hA : root (colSum (select (mask k0_pay4) (mulf xs xs) zeros)) k = A
  generalize hB : root (colSum (select (mask k0_pay4) zeros (mulf xs xs))) l = B
  unfold segs
  rw [hA, hB]
  pointwise [mask]
  rw [mask_apply]
  split <;> rfl

theorem turn8_apply (t : FVec Ideal S512x128 .f32) (r : Fin 512) (j : Fin 128) : turn 120#32 8#32 t c a s (ix2 r j)
    = Cert.PreSpec.rot 8 (fun i => t (ix2 r i)) (fun i => c (ix2 r i)) (fun i => a (ix2 r i)) (fun i => s (ix2 r i)) j := by
  pointwise [turn]
  rfl

theorem turn16_apply (t : FVec Ideal S512x128 .f32) (r : Fin 512) (j : Fin 128) : turn 112#32 16#32 t c a s (ix2 r j)
    = Cert.PreSpec.rot 16 (fun i => t (ix2 r i)) (fun i => c (ix2 r i)) (fun i => a (ix2 r i)) (fun i => s (ix2 r i)) j := by
  pointwise [turn]
  rfl

theorem out4_apply (t : FVec Ideal S512x128 .f32) (r : Fin 512) (j : Fin 128) : out4 t (ix4 0 0 r j) = t (ix2 r j) := by
  pointwise [out4]

theorem qhead_apply (r : Fin 512) (j : Fin 128) : qhead k0_pay4 g xs c a s (ix4 0 0 r j)
    = Cert.PreSpec.rot 8 (Cert.PreSpec.two (lit 0x42800000#32) (lit 0x42000000#32) (fun i => xs (ix2 r i)) (fun i => g (ix2 0 i)))
        (fun i => c (ix2 r i)) (fun i => a (ix2 r i)) (fun i => s (ix2 r i)) j * lit 0x3E16C740#32 := by
  unfold qhead
  rw [out4_apply]
  pointwise [scaled]
  rw [turn8_apply, funext (segs_apply g xs _ _ _ _ Cert.PreSpec.mul_64 Cert.PreSpec.mul_32 r)]

theorem khead_apply (kpe : FVec Ideal S512x128 .f32) (r : Fin 512) (j : Fin 128) : khead g kpe xs (ix4 0 0 r j)
    = Cert.PreSpec.norm (lit 0x42800000#32) (fun i => xs (ix2 r i)) (fun i => g (ix2 0 i)) j + kpe (ix2 r j) := by
  unfold khead
  rw [out4_apply]
  pointwise []
  rw [nrm_apply g xs _ _ Cert.PreSpec.mul_64]

theorem ghead_apply (r : Fin 512) (j : Fin 128) : ghead g xs c a s (ix4 0 0 r j)
    = Cert.PreSpec.rot 16 (Cert.PreSpec.norm (lit 0x42800000#32) (fun i => xs (ix2 r i)) (fun i => g (ix2 0 i)))
        (fun i => c (ix2 r i)) (fun i => a (ix2 r i)) (fun i => s (ix2 r i)) j * lit 0x3E38AA3B#32 := by
  unfold ghead
  rw [out4_apply]
  pointwise [scaled]
  rw [turn16_apply, funext (nrm_apply g xs _ _ Cert.PreSpec.mul_64 r)]

variable (hb : FVec Ideal S512x1024 .bf16) (W : Vec Ideal S1024x128 .bf16)

/-- The projection to 128 columns. -/
theorem proj_apply (r : Fin 512) (j : Fin 128) : k0_pay66 (F := Ideal) hb W (ix2 r j) = ∑ k : Fin 1024, hb (ix2 r k) * W (ix2 k j) := by
  pointwise [k0_pay66]

theorem kpe_apply (r : Fin 512) (j : Fin 128) : k0_pay42 (F := Ideal) hb g W c a s (ix2 r j)
    = Cert.PreSpec.rot 8 (Cert.PreSpec.norm (lit 0x42000000#32) (fun j => ∑ k : Fin 1024, hb (ix2 r k) * W (ix2 k j)) (fun i => g (ix2 0 i)))
        (fun i => c (ix2 r i)) (fun i => a (ix2 r i)) (fun i => s (ix2 r i)) j := by
  rw [kpe_eq, turn8_apply, funext (nrm_apply g _ _ _ Cert.PreSpec.mul_32 r), funext (proj_apply hb W r)]

theorem kg_apply (r : Fin 512) (j : Fin 128) : k0_pay64 (F := Ideal) (k0_pay63 hb k0_pay4 W) g c a s (ix3 0 r j)
    = Cert.PreSpec.rot 16 (Cert.PreSpec.two (lit 0x42800000#32) (lit 0x42800000#32) (fun j => ∑ k : Fin 1024, hb (ix2 r k) * W (ix2 k j))
        (fun i => g (ix2 0 i))) (fun i => c (ix2 r i)) (fun i => a (ix2 r i)) (fun i => s (ix2 r i)) j := by
  rw [kg_eq]
  pointwise []
  rw [turn16_apply, funext (segs_apply g _ _ _ _ _ Cert.PreSpec.mul_64 Cert.PreSpec.mul_64 r), funext (proj_apply hb W r)]

theorem vg_apply (r : Fin 512) (j : Fin 128) : k0_pay65 (F := Ideal) hb W (ix3 0 r j) = ∑ k : Fin 1024, hb (ix2 r k) * W (ix2 k j) := by
  pointwise [k0_pay65]

/-- The modulated rows. -/
theorem hb_apply (x : Vec Ideal S1x512x1024 .f32) (v : Vec Ideal S1x1024 .f32) (sc sh : Vec Ideal S1x1x1024 .f32) (r : Fin 512) (d : Fin 1024) :
    k0_pay3 (F := Ideal) x v sc sh (ix2 r d)
      = Cert.PreSpec.hrow (fun i => x (ix3 0 r i)) (fun i => v (ix2 0 i)) (fun i => sc (ix3 0 0 i)) (fun i => sh (ix3 0 0 i)) d := by
  pointwise [k0_pay3]
  rfl

theorem proj256_apply (x : Vec Ideal S1x512x1024 .f32) (v : Vec Ideal S1x1024 .f32) (sc sh : Vec Ideal S1x1x1024 .f32) (w : Vec Ideal S1024x256 .bf16)
    (r : Fin 512) (j : Fin 256) : k0_pay5 (F := Ideal) x v sc sh w (ix2 r j) = ∑ k : Fin 1024, k0_pay3 (F := Ideal) x v sc sh (ix2 r k) * w (ix2 k j) := by
  pointwise [k0_pay5]

theorem sq256_apply (x : Vec Ideal S1x512x1024 .f32) (v : Vec Ideal S1x1024 .f32) (sc sh : Vec Ideal S1x1x1024 .f32) (w : Vec Ideal S1024x256 .bf16)
    (r : Fin 512) : k0_pay6 (F := Ideal) x v sc sh w (ix2 r 0)
      = ∑ j : Fin 256, k0_pay5 (F := Ideal) x v sc sh w (ix2 r j) * k0_pay5 (F := Ideal) x v sc sh w (ix2 r j) := by
  pointwise [k0_pay6]

/-- The latent queries before their norms. -/
theorem q_apply (p : FVec Ideal S512x256 .f32) (v : Vec Ideal S1x256 .f32) (n : FVec Ideal S512x1 .f32) (w : Vec Ideal S256x1024 .bf16)
    (r : Fin 512) (hn : n (ix2 r 0) = ∑ j : Fin 256, p (ix2 r j) * p (ix2 r j)) (C : Fin 1024) :
    k0_pay7 (F := Ideal) p v n (Scalar.ofBits .f32 0x43800000#32) w (ix2 r C)
      = Cert.PreSpec.dot (Cert.PreSpec.norm (lit 0x43800000#32) (fun j => p (ix2 r j)) (fun j => v (ix2 0 j))) fun k => w (ix2 k C) := by
  pointwise [k0_pay7]
  rw [hn]
  rfl

/-- The latent keys and values before their norms. -/
theorem kv_apply (v : Vec Ideal S1x128 .f32) (w : Vec Ideal S128x1536 .bf16) (r : Fin 512) (C : Fin 1536) :
    k0_pay44 (F := Ideal) (k0_pay43 hb W v) w (ix2 r C)
      = Cert.PreSpec.dot (Cert.PreSpec.norm (lit 0x43000000#32) (fun j => ∑ k : Fin 1024, hb (ix2 r k) * W (ix2 k j)) (fun j => v (ix2 0 j)))
          fun k => w (ix2 k C) := by
  pointwise [k0_pay44, k0_pay43]
  rfl

theorem conv_apply (w w' : Vec Ideal S1024x512 .bf16) (r : Fin 512) (j : Fin 512) : k0_pay86 (F := Ideal) hb w w' (ix3 0 r j)
    = (∑ k : Fin 1024, hb (ix2 r k) * w (ix2 k j)) * Ideal.logistic (∑ k : Fin 1024, hb (ix2 r k) * w' (ix2 k j)) := by
  pointwise [k0_pay86]

theorem gate_apply (w : Vec Ideal S1024x1024 .bf16) (r : Fin 512) (j : Fin 1024) : k0_pay87 (F := Ideal) hb w (ix3 0 r j)
    = Ideal.logistic (∑ k : Fin 1024, hb (ix2 r k) * w (ix2 k j)) := by
  pointwise [k0_pay87]
theorem gate1_eq (w : Vec Ideal S1024x1024 .bf16) : k0_pay1 (F := Ideal) hb w = k0_pay87 hb w := rfl
theorem gate2_eq (w : Vec Ideal S1024x1024 .bf16) : k0_pay2 (F := Ideal) hb w = k0_pay87 hb w := rfl
end Read

end Cert.PreIdeal.Head

end
-- ==== Proof.Pm.Block.lean ====
/- What the input transforms' body leaves in its eight output blocks, each as one function of its thirteen input blocks. -/
module

public import proofs.«01_k».proof.Proof.Pm.Head
public import Idealize.ShloMosaic.Lib.Pipeline.ValueKit
public import Idealize.ShloMosaic.Lib.VecWindow

@[expose] public section

set_option maxRecDepth 16384

noncomputable section

namespace Cert.PreIdeal.Block

open Cert.PreIdeal Cert.PreIdeal.Facts Cert.PreIdeal.Gen Idealize.ShloMosaic Idealize.ShloMosaic.Pointwise Cert.PreIdeal.Head
open Cert.PreSpec (lit)

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A load of a row of columns. -/
theorem ld_row {N K : Nat} (x : Vec Ideal ⟨2, ![2, N]⟩ .f32) (m : Fin 2) (o : Nat) (h : o + K ≤ N)
    (inb : ∀ a, (![m.val, o] : Fin 2 → Nat) a + (⟨2, ![1, K]⟩ : Shape).size a ≤ (⟨2, ![2, N]⟩ : Shape).size a) :
    (fun i : Fin K => View.ld x (Rect.unit (s := ⟨2, ![2, N]⟩) ![m.val, o] (⟨2, ![1, K]⟩ : Shape).size inb) (ix2 0 i))
      = Cert.PreSpec.sub K (fun k => x (ix2 m k)) o h := by
  funext i
  rw [View.ld_unit]
  unfold extractStridedSlice Cert.PreSpec.sub
  refine congrArg x (funext fun a => Fin.ext ?_)
  match a with
  | ⟨0, _⟩ => rfl
  | ⟨1, _⟩ => rfl

/-- A load of a range of columns of a matrix, times a row. -/
theorem dot_cols {M N K : Nat} (t : Fin M → EReal) (x : Vec Ideal ⟨2, ![M, N]⟩ .bf16) (o : Nat) (h : o + K ≤ N)
    (inb : ∀ a, (![0, o] : Fin 2 → Nat) a + (⟨2, ![M, K]⟩ : Shape).size a ≤ (⟨2, ![M, N]⟩ : Shape).size a) :
    (fun j : Fin K => ∑ k : Fin M, t k * View.ld x (Rect.unit (s := ⟨2, ![M, N]⟩) ![0, o] (⟨2, ![M, K]⟩ : Shape).size inb) (ix2 k j))
      = Cert.PreSpec.sub K (fun q => Cert.PreSpec.dot t fun k => x (ix2 k q)) o h := by
  funext j
  unfold Cert.PreSpec.sub Cert.PreSpec.dot
  refine Finset.sum_congr rfl fun k _ => congrArg (fun z => t k * z) ?_
  rw [View.ld_unit]
  unfold extractStridedSlice
  refine congrArg x (funext fun a => Fin.ext ?_)
  match a with
  | ⟨0, _⟩ => show 0 + k.val = k.val; omega
  | ⟨1, _⟩ => rfl

/-- A slab's payload is its part of the block. -/
theorem slab {H : Nat} (n : Nat) (hn : n < H) (E : Fin H → Fin 512 → Fin 128 → EReal) (p : FVec Ideal S1x1x512x128 .bf16)
    (hp : ∀ r j, p (ix4 0 0 r j) = E ⟨n, hn⟩ r j)
    (inb : ∀ a, (![0, n, 0, 0] : Fin 4 → Nat) a + S1x1x512x128.size a ≤ (⟨4, ![1, H, 512, 128]⟩ : Shape).size a) (j : S1x1x512x128.Idx) :
    p j = (fun y : (⟨4, ![1, H, 512, 128]⟩ : Shape).Idx => E (y 1) (y 2) (y 3))
      ((Rect.unit (s := ⟨4, ![1, H, 512, 128]⟩) ![0, n, 0, 0] S1x1x512x128.size inb).emb j) := by
  have hj : j = ix4 0 0 (j 2) (j 3) := by
    funext a
    match a with
    | ⟨0, _⟩ => exact Fin.ext (by have : (j 0).val < 1 := (j 0).isLt; show (j 0).val = 0; omega)
    | ⟨1, _⟩ => exact Fin.ext (by have : (j 1).val < 1 := (j 1).isLt; show (j 1).val = 0; omega)
    | ⟨2, _⟩ => rfl
    | ⟨3, _⟩ => rfl
  have e1 : ((Rect.unit (s := ⟨4, ![1, H, 512, 128]⟩) ![0, n, 0, 0] S1x1x512x128.size inb).emb j 1) = (⟨n, hn⟩ : Fin H) :=
    Fin.ext (by have : (j 1).val < 1 := (j 1).isLt; show n + 1 * (j 1).val = n; omega)
  have e2 : ((Rect.unit (s := ⟨4, ![1, H, 512, 128]⟩) ![0, n, 0, 0] S1x1x512x128.size inb).emb j 2) = (j 2 : Fin 512) :=
    Fin.ext (by show 0 + 1 * (j 2).val = (j 2).val; omega)
  have e3 : ((Rect.unit (s := ⟨4, ![1, H, 512, 128]⟩) ![0, n, 0, 0] S1x1x512x128.size inb).emb j 3) = (j 3 : Fin 128) :=
    Fin.ext (by show 0 + 1 * (j 3).val = (j 3).val; omega)
  refine (congrArg p hj).trans ((hp (j 2) (j 3)).trans ?_)
  dsimp only
  rw [e1, e2, e3]

section Pieces
variable (v : Fin 1024 → EReal) (P : Fin 512 → Fin 5888 → EReal)

theorem q_piece (n : Nat) (hn : n < 8) (w : Fin 256 → Fin 1024 → EReal) (q : FVec Ideal S512x1024 .f32) (g : Vec Ideal S1x128 .f32)
    (c a s : FVec Ideal S512x128 .f32) (hq : ∀ r C, q (ix2 r C) = Cert.PreSpec.qrow (P r) v w C)
    (hg : (fun i => g (ix2 0 i)) = Cert.PreSpec.sub 128 v 384 (by omega)) (h : S512x1024.Slices ![0, 128 * n] S512x128) (r : Fin 512) (j : Fin 128) :
    qhead k0_pay4 g (qcol q (128 * n) h) c a s (ix4 0 0 r j)
      = Cert.PreSpec.qm (P r) v w (fun i => c (ix2 r i)) (fun i => a (ix2 r i)) (fun i => s (ix2 r i)) ⟨n, hn⟩ j := by
  rw [qhead_apply, hg]
  have e : (fun i => qcol q (128 * n) h (ix2 r i)) = Cert.PreSpec.sub 128 (Cert.PreSpec.qrow (P r) v w) (128 * n) (by omega) := by
    funext i
    unfold Cert.PreSpec.sub
    rw [← hq]
    unfold qcol extractStridedSlice
    refine congrArg q (funext fun a => Fin.ext ?_)
    match a with
    | ⟨0, _⟩ => show 0 + r.val = r.val; omega
    | ⟨1, _⟩ => rfl
  rw [e]
  rfl

theorem k_read (o : Nat) (w : Fin 128 → Fin 1536 → EReal) (kv : FVec Ideal S512x1536 .f32)
    (hkv : ∀ r C, kv (ix2 r C) = Cert.PreSpec.kvrow (P r) v w C) (h : S512x1536.Slices ![0, o] S512x128) (ho : o + 128 ≤ 1536) (r : Fin 512) :
    (fun i => kcol kv o h (ix2 r i)) = Cert.PreSpec.sub 128 (Cert.PreSpec.kvrow (P r) v w) o ho := by
  funext i
  unfold Cert.PreSpec.sub
  rw [← hkv]
  unfold kcol extractStridedSlice
  refine congrArg kv (funext fun a => Fin.ext ?_)
  match a with
  | ⟨0, _⟩ => show 0 + r.val = r.val; omega
  | ⟨1, _⟩ => rfl

theorem k_piece (n : Nat) (hn : n < 8) (w : Fin 128 → Fin 1536 → EReal) (kv : FVec Ideal S512x1536 .f32) (g : Vec Ideal S1x128 .f32)
    (kpe c a s : FVec Ideal S512x128 .f32) (hkv : ∀ r C, kv (ix2 r C) = Cert.PreSpec.kvrow (P r) v w C)
    (hg : (fun i => g (ix2 0 i)) = Cert.PreSpec.sub 128 v 512 (by omega))
    (hkpe : ∀ r j, kpe (ix2 r j) = Cert.PreSpec.rot 8 (Cert.PreSpec.norm (lit 0x42000000#32) (Cert.PreSpec.sub 128 (P r) 384 (by omega))
      (Cert.PreSpec.sub 128 v 512 (by omega))) (fun i => c (ix2 r i)) (fun i => a (ix2 r i)) (fun i => s (ix2 r i)) j)
    (h : S512x1536.Slices ![0, 128 * n] S512x128) (r : Fin 512) (j : Fin 128) :
    khead g kpe (kcol kv (128 * n) h) (ix4 0 0 r j)
      = Cert.PreSpec.km (P r) v w (fun i => c (ix2 r i)) (fun i => a (ix2 r i)) (fun i => s (ix2 r i)) ⟨n, hn⟩ j := by
  rw [khead_apply, hg, k_read v P (128 * n) w kv hkv h (by omega) r, hkpe]
  rfl

theorem v_piece (n : Nat) (hn : n < 4) (w : Fin 128 → Fin 1536 → EReal) (kv : FVec Ideal S512x1536 .f32)
    (hkv : ∀ r C, kv (ix2 r C) = Cert.PreSpec.kvrow (P r) v w C) (h : S512x1536.Slices ![0, 1024 + 128 * n] S512x128) (r : Fin 512) (j : Fin 128) :
    out4 (kcol kv (1024 + 128 * n) h) (ix4 0 0 r j) = Cert.PreSpec.vm (P r) v w ⟨n, hn⟩ j := by
  rw [out4_apply]
  exact congrFun (k_read v P (1024 + 128 * n) w kv hkv h (by omega) r) j

theorem g_piece (n : Nat) (hn : n < 8) (hb : FVec Ideal S512x1024 .bf16) (W : Vec Ideal S1024x128 .bf16) (g : Vec Ideal S1x128 .f32)
    (c a s : FVec Ideal S512x128 .f32) (hg : (fun i => g (ix2 0 i)) = Cert.PreSpec.sub 128 v 640 (by omega))
    (hW : ∀ r, (fun j : Fin 128 => ∑ k : Fin 1024, hb (ix2 r k) * W (ix2 k j)) = Cert.PreSpec.sub 128 (P r) (768 + 128 * n) (by omega))
    (r : Fin 512) (j : Fin 128) : ghead g (k0_pay66 hb W) c a s (ix4 0 0 r j)
      = Cert.PreSpec.qg (P r) v (fun i => c (ix2 r i)) (fun i => a (ix2 r i)) (fun i => s (ix2 r i)) ⟨n, hn⟩ j := by
  rw [ghead_apply, hg, funext (proj_apply hb W r), hW]
  rfl

theorem gate_piece (n : Nat) (hn : n < 3) (hb : FVec Ideal S512x1024 .bf16) (W : Vec Ideal S1024x1024 .bf16)
    (hW : ∀ r, (fun j : Fin 1024 => ∑ k : Fin 1024, hb (ix2 r k) * W (ix2 k j)) = Cert.PreSpec.sub 1024 (P r) (2816 + 1024 * n) (by omega))
    (inb : ∀ a, (![0, 0, 1024 * n] : Fin 3 → Nat) a + S1x512x1024.size a ≤ S1x512x3072.size a) (j : S1x512x1024.Idx) :
    k0_pay87 (F := Ideal) hb W j = (fun y : S1x512x3072.Idx => Cert.PreSpec.gate (P (y 1)) (y 2))
      ((Rect.unit (s := S1x512x3072) ![0, 0, 1024 * n] S1x512x1024.size inb).emb j) := by
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  have h2 : (j 2).val < 1024 := (j 2).isLt
  have e1 : ((Rect.unit (s := S1x512x3072) ![0, 0, 1024 * n] S1x512x1024.size inb).emb j 1) = (j 1 : Fin 512) :=
    Fin.ext (by show 0 + 1 * (j 1).val = (j 1).val; omega)
  have e2 : ((Rect.unit (s := S1x512x3072) ![0, 0, 1024 * n] S1x512x1024.size inb).emb j 2) = (⟨1024 * n + (j 2).val, by omega⟩ : Fin 3072) :=
    Fin.ext (by show 1024 * n + 1 * (j 2).val = 1024 * n + (j 2).val; omega)
  refine (congrArg (k0_pay87 (F := Ideal) hb W) hj).trans ((gate_apply hb W (j 1) (j 2)).trans ?_)
  dsimp only
  rw [e1, e2]
  unfold Cert.PreSpec.gate
  refine congrArg Ideal.logistic ((congrFun (hW (j 1)) (j 2)).trans ?_)
  unfold Cert.PreSpec.sub
  exact congrArg (P (j 1)) (Fin.ext (by show 2816 + 1024 * n + (j 2).val = 2816 + (1024 * n + (j 2).val); omega))
end Pieces

variable (x0 : Vec Ideal S1x512x1024 .f32) (x1 x2 : Vec Ideal S1x1x1024 .f32) (x3 : Vec Ideal S2x1024 .f32) (x4 : Vec Ideal S1024x5888 .bf16)
  (x5 : Vec Ideal S256x1024 .bf16) (x6 : Vec Ideal S128x1536 .bf16) (x7 x8 x9 x10 x11 x12 : Vec Ideal S512x128 .f32)

/-- Row `r`'s modulated row, and its projection. -/
def hh (r : Fin 512) : Fin 1024 → EReal :=
  Cert.PreSpec.hrow (fun i => x0 (ix3 0 r i)) (fun i => x3 (ix2 0 i)) (fun i => x1 (ix3 0 0 i)) (fun i => x2 (ix3 0 0 i))
def pp (r : Fin 512) (q : Fin 5888) : EReal := Cert.PreSpec.dot (hh x0 x1 x2 x3 r) fun k => x4 (ix2 k q)

theorem ld_tab (x : Vec Ideal S512x128 .f32) : View.ld x r0_7 = x := View.ld_unit_zero (S := S512x128) hz2 _ _

theorem hb_row (r : Fin 512) (d : Fin 1024) : k0_pay3 (F := Ideal) (View.ld x0 r0_0) (View.ld x3 r0_1) (View.ld x1 r0_2) (View.ld x2 r0_2) (ix2 r d)
    = hh x0 x1 x2 x3 r d := by
  have l0 : View.ld x0 r0_0 = x0 := View.ld_unit_zero (S := S1x512x1024) hz3 _ _
  have l1 : ∀ x : Vec Ideal S1x1x1024 .f32, View.ld x r0_2 = x := fun x => View.ld_unit_zero (S := S1x1x1024) hz3 _ _
  rw [hb_apply, l0, l1, l1]
  unfold hh
  have e := ld_row (K := 1024) x3 0 0 (by omega) inb_S2x1024_S1x1024_0_0
  have e' : Cert.PreSpec.sub 1024 (fun k : Fin 1024 => x3 (ix2 0 k)) 0 (by omega) = fun k => x3 (ix2 0 k) := by
    funext k
    unfold Cert.PreSpec.sub
    exact congrArg (fun z => x3 (ix2 0 z)) (Fin.ext (by show 0 + k.val = k.val; omega))
  exact congrArg (fun z => Cert.PreSpec.hrow _ z _ _ d) (e.trans e')

theorem hb_proj {K : Nat} (o : Nat) (h : o + K ≤ 5888)
    (inb : ∀ a, (![0, o] : Fin 2 → Nat) a + (⟨2, ![1024, K]⟩ : Shape).size a ≤ S1024x5888.size a) (r : Fin 512) :
    (fun j : Fin K => ∑ k : Fin 1024, k0_pay88 (F := Ideal) x0 x1 x2 x3 x4 x5 x6 x7 x8 x9 x10 x11 x12 (ix2 r k)
        * View.ld x4 (Rect.unit (s := S1024x5888) ![0, o] (⟨2, ![1024, K]⟩ : Shape).size inb) (ix2 k j))
      = Cert.PreSpec.sub K (pp x0 x1 x2 x3 x4 r) o h := by
  unfold k0_pay88
  simp only [hb_row]
  exact dot_cols (hh x0 x1 x2 x3 r) x4 o h inb

theorem q_row (r : Fin 512) (C : Fin 1024) : k0_pay92 (F := Ideal) x0 x1 x2 x3 x4 x5 x6 x7 x8 x9 x10 x11 x12 (ix2 r C)
    = Cert.PreSpec.qrow (pp x0 x1 x2 x3 x4 r) (fun k => x3 (ix2 1 k)) (fun k C => x5 (ix2 k C)) C := by
  unfold k0_pay92 k0_pay90 k0_pay91
  rw [q_apply _ _ _ _ r (sq256_apply _ _ _ _ _ r)]
  have l5 : View.ld x5 r0_5 = x5 := View.ld_unit_zero (S := S256x1024) hz2 _ _
  have e := hb_proj (K := 256) x0 x1 x2 x3 x4 x5 x6 x7 x8 x9 x10 x11 x12 0 (by omega) inb_S1024x5888_S1024x256_0_0 r
  have e3 := ld_row (K := 256) x3 1 0 (by omega) inb_S2x1024_S1x256_1_0
  rw [l5]
  unfold Cert.PreSpec.qrow
  refine congrArg (fun z => Cert.PreSpec.dot z fun k => x5 (ix2 k C)) ?_
  exact congr (congrArg (Cert.PreSpec.norm (lit 0x43800000#32)) ((funext (proj256_apply _ _ _ _ _ r)).trans e)) e3

theorem kv_row (r : Fin 512) (C : Fin 1536) : k0_pay95 (F := Ideal) x0 x1 x2 x3 x4 x5 x6 x7 x8 x9 x10 x11 x12 (ix2 r C)
    = Cert.PreSpec.kvrow (pp x0 x1 x2 x3 x4 r) (fun k => x3 (ix2 1 k)) (fun k C => x6 (ix2 k C)) C := by
  unfold k0_pay95 k0_pay94
  rw [kv_apply]
  have l6 : View.ld x6 r0_20 = x6 := View.ld_unit_zero (S := S128x1536) hz2 _ _
  have e := hb_proj (K := 128) x0 x1 x2 x3 x4 x5 x6 x7 x8 x9 x10 x11 x12 256 (by omega) inb_S1024x5888_S1024x128_0_256 r
  have e3 := ld_row (K := 128) x3 1 256 (by omega) inb_S2x1024_S1x128_1_256
  rw [l6]
  unfold Cert.PreSpec.kvrow
  refine congrArg (fun z => Cert.PreSpec.dot z fun k => x6 (ix2 k C)) ?_
  exact congr (congrArg (Cert.PreSpec.norm (lit 0x43000000#32)) e) e3

theorem kpe_row (r : Fin 512) (j : Fin 128) : k0_pay93 (F := Ideal) x0 x1 x2 x3 x4 x5 x6 x7 x8 x9 x10 x11 x12 (ix2 r j)
    = Cert.PreSpec.rot 8 (Cert.PreSpec.norm (lit 0x42000000#32) (Cert.PreSpec.sub 128 (pp x0 x1 x2 x3 x4 r) 384 (by omega))
      (Cert.PreSpec.sub 128 (fun k => x3 (ix2 1 k)) 512 (by omega))) (fun i => x7 (ix2 r i)) (fun i => x8 (ix2 r i)) (fun i => x9 (ix2 r i)) j := by
  unfold k0_pay93
  rw [kpe_apply, ld_tab, ld_tab, ld_tab]
  have e := hb_proj (K := 128) x0 x1 x2 x3 x4 x5 x6 x7 x8 x9 x10 x11 x12 384 (by omega) inb_S1024x5888_S1024x128_0_384 r
  have e3 := ld_row (K := 128) x3 1 512 (by omega) inb_S2x1024_S1x128_1_512
  exact congrArg (fun z => Cert.PreSpec.rot 8 z _ _ _ j) (congr (congrArg (Cert.PreSpec.norm (lit 0x42000000#32)) e) e3)

theorem out13 : out0_13 (F := Ideal) x0 x1 x2 x3 x4 x5 x6 x7 x8 x9 x10 x11 x12 = fun y : S1x8x512x128.Idx =>
    (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) (y 1) (y 2) (y 3) := by
  funext y
  unfold out0_13
  refine View.canon_apply_of_pieces (Val := Elt Ideal) (e := .bf16) (fun y : S1x8x512x128.Idx =>
    (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) (y 1) (y 2) (y 3)) _ (fun p hp j => ?_) y (cover0_13 _ _ _ _ _ _ _ _ y)
  simp only [List.mem_cons, List.mem_nil_iff, or_false] at hp
  rcases hp with rfl | rfl | rfl | rfl | rfl | rfl | rfl | rfl
  · refine slab 7 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_7_0_0 j
    refine (congrFun (q7 _ _ _ _ _ _) (ix4 0 0 r j)).trans ?_
    rw [ld_tab, ld_tab, ld_tab]
    exact q_piece (fun k => x3 (ix2 1 k)) (pp x0 x1 x2 x3 x4) 7 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_896_S512x128 r j
  · refine slab 6 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_6_0_0 j
    refine (congrFun (q6 _ _ _ _ _ _) (ix4 0 0 r j)).trans ?_
    rw [ld_tab, ld_tab, ld_tab]
    exact q_piece (fun k => x3 (ix2 1 k)) (pp x0 x1 x2 x3 x4) 6 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_768_S512x128 r j
  · refine slab 5 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_5_0_0 j
    refine (congrFun (q5 _ _ _ _ _ _) (ix4 0 0 r j)).trans ?_
    rw [ld_tab, ld_tab, ld_tab]
    exact q_piece (fun k => x3 (ix2 1 k)) (pp x0 x1 x2 x3 x4) 5 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_640_S512x128 r j
  · refine slab 4 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_4_0_0 j
    refine (congrFun (q4 _ _ _ _ _ _) (ix4 0 0 r j)).trans ?_
    rw [ld_tab, ld_tab, ld_tab]
    exact q_piece (fun k => x3 (ix2 1 k)) (pp x0 x1 x2 x3 x4) 4 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_512_S512x128 r j
  · refine slab 3 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_3_0_0 j
    refine (congrFun (q3 _ _ _ _ _ _) (ix4 0 0 r j)).trans ?_
    rw [ld_tab, ld_tab, ld_tab]
    exact q_piece (fun k => x3 (ix2 1 k)) (pp x0 x1 x2 x3 x4) 3 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_384_S512x128 r j
  · refine slab 2 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_2_0_0 j
    refine (congrFun (q2 _ _ _ _ _ _) (ix4 0 0 r j)).trans ?_
    rw [ld_tab, ld_tab, ld_tab]
    exact q_piece (fun k => x3 (ix2 1 k)) (pp x0 x1 x2 x3 x4) 2 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_256_S512x128 r j
  · refine slab 1 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_1_0_0 j
    refine (congrFun (q1 _ _ _ _ _ _) (ix4 0 0 r j)).trans ?_
    rw [ld_tab, ld_tab, ld_tab]
    exact q_piece (fun k => x3 (ix2 1 k)) (pp x0 x1 x2 x3 x4) 1 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_128_S512x128 r j
  · refine slab 0 (by omega) (fun (h : Fin 8) (r : Fin 512) (j : Fin 128) => Cert.PreSpec.qm (pp x0 x1 x2 x3 x4 r) (fun k => x3 (ix2 1 k)) (fun k C => x5 (ix2 k C)) (fun i => x7 (ix2 r i)) (fun i => x8 (ix2 r i)) (fun i => x9 (ix2 r i)) h j) _ (fun r j => ?_) inb_S1x8x512x128_S1x1x512x128_0_0_0_0 j
    refine (congrFun (q0 _ _ _ _ _ _ _ _ _ _) (ix4 0 0 r j)).trans ?_
    rw [ld_tab, ld_tab, ld_tab]
    exact q_piece (fun k => x3 (ix2 1 k)) (pp x0 x1 x2 x3 x4) 0 (by omega) (fun k C => x5 (ix2 k C)) _ _ x7 x8 x9
      (q_row x0 x1 x2 x3 x4 x5 x6 x7 x8 x9 x10 x11 x12) (ld_row (K := 128) x3 1 384 (by omega) inb_S2x1024_S1x128_1_384) slices_S512x1024_o0_0_S512x128 r j

theorem out14 : out0_14 (F := Ideal) x0 x1 x2 x3 x4 x5 x6 x7 x8 x9 x10 x11 x12 = fun y : S1x8x512x128.Idx =>
    (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) (y 1) (y 2) (y 3) := by
  funext y
  unfold out0_14
  refine View.canon_apply_of_pieces (Val := Elt Ideal) (e := .bf16) (fun y : S1x8x512x128.Idx =>
    (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) (y 1) (y 2) (y 3)) _ (fun p hp j => ?_) y (cover0_14 _ _ _ _ _ _ _ _ y)
  simp only [List.mem_cons, List.mem_nil_iff, or_false] at hp
  rcases hp with rfl | rfl | rfl | rfl | rfl | rfl | rfl | rfl
  · refine slab 7 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_7_0_0 j
    refine (congrFun (k7 _ _ _) (ix4 0 0 r j)).trans ?_
    exact k_piece (fun k => x3 (ix2 1 k)) (pp x0 x1 x2 x3 x4) 7 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_896_S512x128 r j
  · refine slab 6 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_6_0_0 j
    refine (congrFun (k6 _ _ _) (ix4 0 0 r j)).trans ?_
    exact k_piece (fun k => x3 (ix2 1 k)) (pp x0 x1 x2 x3 x4) 6 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_768_S512x128 r j
  · refine slab 5 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_5_0_0 j
    refine (congrFun (k5 _ _ _) (ix4 0 0 r j)).trans ?_
    exact k_piece (fun k => x3 (ix2 1 k)) (pp x0 x1 x2 x3 x4) 5 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_640_S512x128 r j
  · refine slab 4 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_4_0_0 j
    refine (congrFun (k4 _ _ _) (ix4 0 0 r j)).trans ?_
    exact k_piece (fun k => x3 (ix2 1 k)) (pp x0 x1 x2 x3 x4) 4 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_512_S512x128 r j
  · refine slab 3 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_3_0_0 j
    refine (congrFun (k3 _ _ _) (ix4 0 0 r j)).trans ?_
    exact k_piece (fun k => x3 (ix2 1 k)) (pp x0 x1 x2 x3 x4) 3 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_384_S512x128 r j
  · refine slab 2 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_2_0_0 j
    refine (congrFun (k2 _ _ _ _) (ix4 0 0 r j)).trans ?_
    exact k_piece (fun k => x3 (ix2 1 k)) (pp x0 x1 x2 x3 x4) 2 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_256_S512x128 r j
  · refine slab 1 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_1_0_0 j
    refine (congrFun (k1 _ _ _ _) (ix4 0 0 r j)).trans ?_
    exact k_piece (fun k => x3 (ix2 1 k)) (pp x0 x1 x2 x3 x4) 1 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_128_S512x128 r j
  · refine slab 0 (by omega) (fun (h : Fin 8) (r : Fin 512) (j : Fin 128) => Cert.PreSpec.km (pp x0 x1 x2 x3 x4 r) (fun k => x3 (ix2 1 k)) (fun k C => x6 (ix2 k C)) (fun i => x7 (ix2 r i)) (fun i => x8 (ix2 r i)) (fun i => x9 (ix2 r i)) h j) _ (fun r j => ?_) inb_S1x8x512x128_S1x1x512x128_0_0_0_0 j
    refine (congrFun (k0 _ _ _ _) (ix4 0 0 r j)).trans ?_
    exact k_piece (fun k => x3 (ix2 1 k)) (pp x0 x1 x2 x3 x4) 0 (by omega) (fun k C => x6 (ix2 k C)) _ _ _ x7 x8 x9
      (kv_row x0 x1 x2 x3 x4 x5 x6 x7 x8 x9 x10 x11 x12) (ld_row (K := 128) x3 1 512 (by omega) inb_S2x1024_S1x128_1_512)
      (kpe_row x0 x1 x2 x3 x4 x5 x6 x7 x8 x9 x10 x11 x12) slices_S512x1536_o0_0_S512x128 r j

theorem out15 : out0_15 (F := Ideal) x0 x1 x2 x3 x4 x5 x6 x7 x8 x9 x10 x11 x12 = fun y : S1x4x512x128.Idx =>
    (fun (h : Fin 4) (r : Fin 512) (j : Fin 128) => Cert.PreSpec.vm (pp x0 x1 x2 x3 x4 r) (fun k => x3 (ix2 1 k)) (fun k C => x6 (ix2 k C)) h j) (y 1) (y 2) (y 3) := by
  funext y
  unfold out0_15
  refine View.canon_apply_of_pieces (Val := Elt Ideal) (e := .bf16) (fun y : S1x4x512x128.Idx =>
    (fun (h : Fin 4) (r : Fin 512) (j : Fin 128) => Cert.PreSpec.vm (pp x0 x1 x2 x3 x4 r) (fun k => x3 (ix2 1 k)) (fun k C => x6 (ix2 k C)) h j) (y 1) (y 2) (y 3)) _ (fun p hp j => ?_) y (cover0_15 _ _ _ _ y)
  simp only [List.mem_cons, List.mem_nil_iff, or_false] at hp
  rcases hp with rfl | rfl | rfl | rfl
  · refine slab 3 (by omega) (fun (h : Fin 4) (r : Fin 512) (j : Fin 128) => Cert.PreSpec.vm (pp x0 x1 x2 x3 x4 r) (fun k => x3 (ix2 1 k)) (fun k C => x6 (ix2 k C)) h j) _ (fun r j => ?_) inb_S1x4x512x128_S1x1x512x128_0_3_0_0 j
    refine (congrFun (v3 _) (ix4 0 0 r j)).trans ?_
    exact v_piece (fun k => x3 (ix2 1 k)) (pp x0 x1 x2 x3 x4) 3 (by omega) (fun k C => x6 (ix2 k C)) _
      (kv_row x0 x1 x2 x3 x4 x5 x6 x7 x8 x9 x10 x11 x12) slices_S512x1536_o0_1408_S512x128 r j
  · refine slab 2 (by omega) (fun (h : Fin 4) (r : Fin 512) (j : Fin 128) => Cert.PreSpec.vm (pp x0 x1 x2 x3 x4 r) (fun k => x3 (ix2 1 k)) (fun k C => x6 (ix2 k C)) h j) _ (fun r j => ?_) inb_S1x4x512x128_S1x1x512x128_0_2_0_0 j
    refine (congrFun (v2 _) (ix4 0 0 r j)).trans ?_
    exact v_piece (fun k => x3 (ix2 1 k)) (pp x0 x1 x2 x3 x4) 2 (by omega) (fun k C => x6 (ix2 k C)) _
      (kv_row x0 x1 x2 x3 x4 x5 x6 x7 x8 x9 x10 x11 x12) slices_S512x1536_o0_1280_S512x128 r j
  · refine slab 1 (by omega) (fun (h : Fin 4) (r : Fin 512) (j : Fin 128) => Cert.PreSpec.vm (pp x0 x1 x2 x3 x4 r) (fun k => x3 (ix2 1 k)) (fun k C => x6 (ix2 k C)) h j) _ (fun r j => ?_) inb_S1x4x512x128_S1x1x512x128_0_1_0_0 j
    refine (congrFun (v1 _) (ix4 0 0 r j)).trans ?_
    exact v_piece (fun k => x3 (ix2 1 k)) (pp x0 x1 x2 x3 x4) 1 (by omega) (fun k C => x6 (ix2 k C)) _
      (kv_row x0 x1 x2 x3 x4 x5 x6 x7 x8 x9 x10 x11 x12) slices_S512x1536_o0_1152_S512x128 r j
  · refine slab 0 (by omega) (fun (h : Fin 4) (r : Fin 512) (j : Fin 128) => Cert.PreSpec.vm (pp x0 x1 x2 x3 x4 r) (fun k => x3 (ix2 1 k)) (fun k C => x6 (ix2 k C)) h j) _ (fun r j => ?_) inb_S1x4x512x128_S1x1x512x128_0_0_0_0 j
    refine (congrFun (v0 _) (ix4 0 0 r j)).trans ?_
    exact v_piece (fun k => x3 (ix2 1 k)) (pp x0 x1 x2 x3 x4) 0 (by omega) (fun k C => x6 (ix2 k C)) _
      (kv_row x0 x1 x2 x3 x4 x5 x6 x7 x8 x9 x10 x11 x12) slices_S512x1536_o0_1024_S512x128 r j

theorem out16 : out0_16 (F := Ideal) x0 x1 x2 x3 x4 x5 x6 x7 x8 x9 x10 x11 x12 = fun y : S1x8x512x128.Idx =>
    (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) (y 1) (y 2) (y 3) := by
  funext y
  unfold out0_16
  refine View.canon_apply_of_pieces (Val := Elt Ideal) (e := .bf16) (fun y : S1x8x512x128.Idx =>
    (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) (y 1) (y 2) (y 3)) _ (fun p hp j => ?_) y (cover0_16 _ _ _ _ _ _ _ _ y)
  simp only [List.mem_cons, List.mem_nil_iff, or_false] at hp
  rcases hp with rfl | rfl | rfl | rfl | rfl | rfl | rfl | rfl
  · refine slab 7 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_7_0_0 j
    refine (congrFun (g7 _ _ _ _ _ _) (ix4 0 0 r j)).trans ?_
    rw [ld_tab, ld_tab, ld_tab]
    exact g_piece (fun k => x3 (ix2 1 k)) (pp x0 x1 x2 x3 x4) 7 (by omega) _ _ _ x10 x11 x12
      (ld_row (K := 128) x3 1 640 (by omega) inb_S2x1024_S1x128_1_640)
      (hb_proj (K := 128) x0 x1 x2 x3 x4 x5 x6 x7 x8 x9 x10 x11 x12 1664 (by omega) inb_S1024x5888_S1024x128_0_1664) r j
  · refine slab 6 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_6_0_0 j
    refine (congrFun (g6 _ _ _ _ _ _) (ix4 0 0 r j)).trans ?_
    rw [ld_tab, ld_tab, ld_tab]
    exact g_piece (fun k => x3 (ix2 1 k)) (pp x0 x1 x2 x3 x4) 6 (by omega) _ _ _ x10 x11 x12
      (ld_row (K := 128) x3 1 640 (by omega) inb_S2x1024_S1x128_1_640)
      (hb_proj (K := 128) x0 x1 x2 x3 x4 x5 x6 x7 x8 x9 x10 x11 x12 1536 (by omega) inb_S1024x5888_S1024x128_0_1536) r j
  · refine slab 5 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_5_0_0 j
    refine (congrFun (g5 _ _ _ _ _ _) (ix4 0 0 r j)).trans ?_
    rw [ld_tab, ld_tab, ld_tab]
    exact g_piece (fun k => x3 (ix2 1 k)) (pp x0 x1 x2 x3 x4) 5 (by omega) _ _ _ x10 x11 x12
      (ld_row (K := 128) x3 1 640 (by omega) inb_S2x1024_S1x128_1_640)
      (hb_proj (K := 128) x0 x1 x2 x3 x4 x5 x6 x7 x8 x9 x10 x11 x12 1408 (by omega) inb_S1024x5888_S1024x128_0_1408) r j
  · refine slab 4 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_4_0_0 j
    refine (congrFun (g4 _ _ _ _ _ _) (ix4 0 0 r j)).trans ?_
    rw [ld_tab, ld_tab, ld_tab]
    exact g_piece (fun k => x3 (ix2 1 k)) (pp x0 x1 x2 x3 x4) 4 (by omega) _ _ _ x10 x11 x12
      (ld_row (K := 128) x3 1 640 (by omega) inb_S2x1024_S1x128_1_640)
      (hb_proj (K := 128) x0 x1 x2 x3 x4 x5 x6 x7 x8 x9 x10 x11 x12 1280 (by omega) inb_S1024x5888_S1024x128_0_1280) r j
  · refine slab 3 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_3_0_0 j
    refine (congrFun (g3 _ _ _ _ _ _) (ix4 0 0 r j)).trans ?_
    rw [ld_tab, ld_tab, ld_tab]
    exact g_piece (fun k => x3 (ix2 1 k)) (pp x0 x1 x2 x3 x4) 3 (by omega) _ _ _ x10 x11 x12
      (ld_row (K := 128) x3 1 640 (by omega) inb_S2x1024_S1x128_1_640)
      (hb_proj (K := 128) x0 x1 x2 x3 x4 x5 x6 x7 x8 x9 x10 x11 x12 1152 (by omega) inb_S1024x5888_S1024x128_0_1152) r j
  · refine slab 2 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_2_0_0 j
    refine (congrFun (g2 _ _ _ _ _ _) (ix4 0 0 r j)).trans ?_
    rw [ld_tab, ld_tab, ld_tab]
    exact g_piece (fun k => x3 (ix2 1 k)) (pp x0 x1 x2 x3 x4) 2 (by omega) _ _ _ x10 x11 x12
      (ld_row (K := 128) x3 1 640 (by omega) inb_S2x1024_S1x128_1_640)
      (hb_proj (K := 128) x0 x1 x2 x3 x4 x5 x6 x7 x8 x9 x10 x11 x12 1024 (by omega) inb_S1024x5888_S1024x128_0_1024) r j
  · refine slab 1 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_1_0_0 j
    refine (congrFun (g1 _ _ _ _ _ _) (ix4 0 0 r j)).trans ?_
    rw [ld_tab, ld_tab, ld_tab]
    exact g_piece (fun k => x3 (ix2 1 k)) (pp x0 x1 x2 x3 x4) 1 (by omega) _ _ _ x10 x11 x12
      (ld_row (K := 128) x3 1 640 (by omega) inb_S2x1024_S1x128_1_640)
      (hb_proj (K := 128) x0 x1 x2 x3 x4 x5 x6 x7 x8 x9 x10 x11 x12 896 (by omega) inb_S1024x5888_S1024x128_0_896) r j
  · refine slab 0 (by omega) (fun (h : Fin 8) (r : Fin 512) (j : Fin 128) => Cert.PreSpec.qg (pp x0 x1 x2 x3 x4 r) (fun k => x3 (ix2 1 k)) (fun i => x10 (ix2 r i)) (fun i => x11 (ix2 r i)) (fun i => x12 (ix2 r i)) h j) _ (fun r j => ?_) inb_S1x8x512x128_S1x1x512x128_0_0_0_0 j
    refine (congrFun (g0 _ _ _ _ _ _) (ix4 0 0 r j)).trans ?_
    rw [ld_tab, ld_tab, ld_tab]
    exact g_piece (fun k => x3 (ix2 1 k)) (pp x0 x1 x2 x3 x4) 0 (by omega) _ _ _ x10 x11 x12
      (ld_row (K := 128) x3 1 640 (by omega) inb_S2x1024_S1x128_1_640)
      (hb_proj (K := 128) x0 x1 x2 x3 x4 x5 x6 x7 x8 x9 x10 x11 x12 768 (by omega) inb_S1024x5888_S1024x128_0_768) r j

theorem out17 (r : Fin 512) (j : Fin 128) : out0_17 (F := Ideal) x0 x1 x2 x3 x4 x5 x6 x7 x8 x9 x10 x11 x12 (ix3 0 r j)
    = Cert.PreSpec.kg (pp x0 x1 x2 x3 x4 r) (fun k => x3 (ix2 1 k)) (fun i => x10 (ix2 r i)) (fun i => x11 (ix2 r i)) (fun i => x12 (ix2 r i)) j := by
  unfold out0_17
  rw [View.canon_unit_zero hz3, ld_tab, ld_tab, ld_tab]
  unfold k0_pay89
  rw [kg_apply]
  have e := hb_proj (K := 128) x0 x1 x2 x3 x4 x5 x6 x7 x8 x9 x10 x11 x12 512 (by omega) inb_S1024x5888_S1024x128_0_512 r
  have e3 := ld_row (K := 128) x3 1 768 (by omega) inb_S2x1024_S1x128_1_768
  exact congrArg (fun z => Cert.PreSpec.rot 16 z _ _ _ j) (congr (congrArg (Cert.PreSpec.two (lit 0x42800000#32) (lit 0x42800000#32)) e) e3)

theorem out18 (r : Fin 512) (j : Fin 128) : out0_18 (F := Ideal) x0 x1 x2 x3 x4 x5 x6 x7 x8 x9 x10 x11 x12 (ix3 0 r j) = Cert.PreSpec.vg (pp x0 x1 x2 x3 x4 r) j := by
  unfold out0_18
  rw [View.canon_unit_zero hz3, vg_apply]
  exact congrFun (hb_proj (K := 128) x0 x1 x2 x3 x4 x5 x6 x7 x8 x9 x10 x11 x12 640 (by omega) inb_S1024x5888_S1024x128_0_640 r) j

theorem out19 (r : Fin 512) (j : Fin 512) : out0_19 (F := Ideal) x0 x1 x2 x3 x4 x5 x6 x7 x8 x9 x10 x11 x12 (ix3 0 r j) = Cert.PreSpec.conv (pp x0 x1 x2 x3 x4 r) j := by
  unfold out0_19
  rw [View.canon_unit_zero hz3, conv_apply]
  exact congrArg₂ (fun z w : EReal => z * Ideal.logistic w) (congrFun (hb_proj (K := 512) x0 x1 x2 x3 x4 x5 x6 x7 x8 x9 x10 x11 x12 1792 (by omega) inb_S1024x5888_S1024x512_0_1792 r) j)
    (congrFun (hb_proj (K := 512) x0 x1 x2 x3 x4 x5 x6 x7 x8 x9 x10 x11 x12 2304 (by omega) inb_S1024x5888_S1024x512_0_2304 r) j)

theorem out20 : out0_20 (F := Ideal) x0 x1 x2 x3 x4 x5 x6 x7 x8 x9 x10 x11 x12 = fun y : S1x512x3072.Idx => Cert.PreSpec.gate (pp x0 x1 x2 x3 x4 (y 1)) (y 2) := by
  funext y
  unfold out0_20
  refine View.canon_apply_of_pieces (Val := Elt Ideal) (e := .bf16)
    (fun y : S1x512x3072.Idx => Cert.PreSpec.gate (pp x0 x1 x2 x3 x4 (y 1)) (y 2)) _ (fun p hp j => ?_) y (cover0_20 _ _ _ y)
  simp only [List.mem_cons, List.mem_nil_iff, or_false] at hp
  rcases hp with rfl | rfl | rfl
  · refine (congrFun (gate2_eq _ _) j).trans ?_
    exact gate_piece (pp x0 x1 x2 x3 x4) 2 (by omega) _ _ (hb_proj (K := 1024) x0 x1 x2 x3 x4 x5 x6 x7 x8 x9 x10 x11 x12 4864 (by omega) inb_S1024x5888_S1024x1024_0_4864)
      inb_S1x512x3072_S1x512x1024_0_0_2048 j
  · refine (congrFun (gate1_eq _ _) j).trans ?_
    exact gate_piece (pp x0 x1 x2 x3 x4) 1 (by omega) _ _ (hb_proj (K := 1024) x0 x1 x2 x3 x4 x5 x6 x7 x8 x9 x10 x11 x12 3840 (by omega) inb_S1024x5888_S1024x1024_0_3840)
      inb_S1x512x3072_S1x512x1024_0_0_1024 j
  · exact gate_piece (pp x0 x1 x2 x3 x4) 0 (by omega) _ _ (hb_proj (K := 1024) x0 x1 x2 x3 x4 x5 x6 x7 x8 x9 x10 x11 x12 2816 (by omega) inb_S1024x5888_S1024x1024_0_2816)
      inb_S1x512x3072_S1x512x1024_0_0_0 j

end Cert.PreIdeal.Block

end
-- ==== Proof.Pm.Result.lean ====
/- The input transforms' eight result arrays, each as one function of the thirteen argument arrays, and the call's run. -/
module

public import proofs.«01_k».proof.Proof.Pm.Block
public import Idealize.ShloMosaic.Lib.Pipeline.Value

@[expose] public section

set_option maxRecDepth 16384

noncomputable section

namespace Cert.PreIdeal.Result

open Cert.PreIdeal Cert.PreIdeal.Gen Idealize.ShloMosaic Idealize.ShloMosaic.TcCoe Idealize.SL.Sem Idealize.ShloMosaic.Pointwise
open Idealize.ShloMosaic.Pipeline (Dat)

section Entries
variable (a0 : S32x2048x1024.Idx → EReal) (a1 a2 : S32x1x1024.Idx → EReal) (a3 : S2x1024.Idx → EReal) (a4 : S1024x5888.Idx → EReal)
  (a5 : S256x1024.Idx → EReal) (a6 : S128x1536.Idx → EReal) (a7 a8 a9 : S2048x128.Idx → EReal) (b : Fin 32) (R : Fin 2048)

/-- Row `R` of batch `b`, normed and modulated, and its projection. -/
def hid : Fin 1024 → EReal :=
  Cert.PreSpec.hrow (fun i => a0 (ix3 b R i)) (fun i => a3 (ix2 0 i)) (fun i => a1 (ix3 b 0 i)) (fun i => a2 (ix3 b 0 i))
def proj (q : Fin 5888) : EReal := Cert.PreSpec.dot (hid a0 a1 a2 a3 b R) fun k => a4 (ix2 k q)

/-- The gains. -/
def gains (k : Fin 1024) : EReal := a3 (ix2 1 k)

def qmE (h : Fin 8) (j : Fin 128) : EReal := Cert.PreSpec.qm (proj a0 a1 a2 a3 a4 b R) (gains a3) (fun k C => a5 (ix2 k C))
  (fun i => a7 (ix2 R i)) (fun i => a8 (ix2 R i)) (fun i => a9 (ix2 R i)) h j
def kmE (h : Fin 8) (j : Fin 128) : EReal := Cert.PreSpec.km (proj a0 a1 a2 a3 a4 b R) (gains a3) (fun k C => a6 (ix2 k C))
  (fun i => a7 (ix2 R i)) (fun i => a8 (ix2 R i)) (fun i => a9 (ix2 R i)) h j
def vmE (p : Fin 4) (j : Fin 128) : EReal := Cert.PreSpec.vm (proj a0 a1 a2 a3 a4 b R) (gains a3) (fun k C => a6 (ix2 k C)) p j
def qgE (h : Fin 8) (j : Fin 128) : EReal := Cert.PreSpec.qg (proj a0 a1 a2 a3 a4 b R) (gains a3)
  (fun i => a7 (ix2 R i)) (fun i => a8 (ix2 R i)) (fun i => a9 (ix2 R i)) h j
def kgE (j : Fin 128) : EReal := Cert.PreSpec.kg (proj a0 a1 a2 a3 a4 b R) (gains a3)
  (fun i => a7 (ix2 R i)) (fun i => a8 (ix2 R i)) (fun i => a9 (ix2 R i)) j
def vgE (j : Fin 128) : EReal := Cert.PreSpec.vg (proj a0 a1 a2 a3 a4 b R) j
def convE (j : Fin 512) : EReal := Cert.PreSpec.conv (proj a0 a1 a2 a3 a4 b R) j
def gateE (j : Fin 3072) : EReal := Cert.PreSpec.gate (proj a0 a1 a2 a3 a4 b R) j
end Entries

variable (m : (ℓ : Loc nD τ sig) → Buf (Elt Ideal) ℓ) (ρ : Dev nD → PrngReg)

/-- What the result arrays are shown to hold. -/
def qm (c : Dev nD) : Buf (Elt Ideal) ((c : Thread nD τ).loc main_v0_0) := fun y : S32x8x2048x128.Idx =>
  qmE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (y 0) (y 2) (y 1) (y 3)
def km (c : Dev nD) : Buf (Elt Ideal) ((c : Thread nD τ).loc main_v0_1) := fun y : S32x8x2048x128.Idx =>
  kmE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (y 0) (y 2) (y 1) (y 3)
def vm (c : Dev nD) : Buf (Elt Ideal) ((c : Thread nD τ).loc main_v0_2) := fun y : S32x4x2048x128.Idx =>
  vmE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (y 0) (y 2) (y 1) (y 3)
def qg (c : Dev nD) : Buf (Elt Ideal) ((c : Thread nD τ).loc main_v0_3) := fun y : S32x8x2048x128.Idx =>
  qgE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) (m ((c : Thread nD τ).loc main_arg11)) (m ((c : Thread nD τ).loc main_arg12)) (y 0) (y 2) (y 1) (y 3)
def kg (c : Dev nD) : Buf (Elt Ideal) ((c : Thread nD τ).loc main_v0_4) := fun y : S32x2048x128.Idx =>
  kgE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) (m ((c : Thread nD τ).loc main_arg11)) (m ((c : Thread nD τ).loc main_arg12)) (y 0) (y 1) (y 2)
def vg (c : Dev nD) : Buf (Elt Ideal) ((c : Thread nD τ).loc main_v0_5) := fun y : S32x2048x128.Idx =>
  vgE (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2)
def cv (c : Dev nD) : Buf (Elt Ideal) ((c : Thread nD τ).loc main_v0_6) := fun y : S32x2048x512.Idx =>
  convE (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2)
def gt (c : Dev nD) : Buf (Elt Ideal) ((c : Thread nD τ).loc main_v0_7) := fun y : S32x2048x3072.Idx =>
  gateE (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2)

/-- The windows' blocks: batch `t % 32`, rows `512 * (t / 32)` on; the weights whole. -/
theorem idx_0 : ∀ t : Fin grid0.N, win0_0.index t 0 = t.val % 32 ∧ win0_0.index t 1 = t.val / 32 ∧ win0_0.index t 2 = 0 := by
  decide +kernel
theorem idx_1 : ∀ t : Fin grid0.N, win0_1.index t 0 = t.val % 32 ∧ win0_1.index t 1 = 0 ∧ win0_1.index t 2 = 0 := by
  decide +kernel
theorem idx_2 : ∀ t : Fin grid0.N, win0_2.index t 0 = t.val % 32 ∧ win0_2.index t 1 = 0 ∧ win0_2.index t 2 = 0 := by
  decide +kernel
theorem idx_3 : ∀ t : Fin grid0.N, win0_3.index t 0 = 0 ∧ win0_3.index t 1 = 0 := by
  decide +kernel
theorem idx_4 : ∀ t : Fin grid0.N, win0_4.index t 0 = 0 ∧ win0_4.index t 1 = 0 := by
  decide +kernel
theorem idx_5 : ∀ t : Fin grid0.N, win0_5.index t 0 = 0 ∧ win0_5.index t 1 = 0 := by
  decide +kernel
theorem idx_6 : ∀ t : Fin grid0.N, win0_6.index t 0 = 0 ∧ win0_6.index t 1 = 0 := by
  decide +kernel
theorem idx_7 : ∀ t : Fin grid0.N, win0_7.index t 0 = t.val / 32 ∧ win0_7.index t 1 = 0 := by
  decide +kernel
theorem idx_8 : ∀ t : Fin grid0.N, win0_8.index t 0 = t.val / 32 ∧ win0_8.index t 1 = 0 := by
  decide +kernel
theorem idx_9 : ∀ t : Fin grid0.N, win0_9.index t 0 = t.val / 32 ∧ win0_9.index t 1 = 0 := by
  decide +kernel
theorem idx_10 : ∀ t : Fin grid0.N, win0_10.index t 0 = t.val / 32 ∧ win0_10.index t 1 = 0 := by
  decide +kernel
theorem idx_11 : ∀ t : Fin grid0.N, win0_11.index t 0 = t.val / 32 ∧ win0_11.index t 1 = 0 := by
  decide +kernel
theorem idx_12 : ∀ t : Fin grid0.N, win0_12.index t 0 = t.val / 32 ∧ win0_12.index t 1 = 0 := by
  decide +kernel
theorem idx_13 : ∀ t : Fin grid0.N, win0_13.index t 0 = t.val % 32 ∧ win0_13.index t 1 = 0 ∧ win0_13.index t 2 = t.val / 32 ∧ win0_13.index t 3 = 0 := by
  decide +kernel
theorem idx_14 : ∀ t : Fin grid0.N, win0_14.index t 0 = t.val % 32 ∧ win0_14.index t 1 = 0 ∧ win0_14.index t 2 = t.val / 32 ∧ win0_14.index t 3 = 0 := by
  decide +kernel
theorem idx_15 : ∀ t : Fin grid0.N, win0_15.index t 0 = t.val % 32 ∧ win0_15.index t 1 = 0 ∧ win0_15.index t 2 = t.val / 32 ∧ win0_15.index t 3 = 0 := by
  decide +kernel
theorem idx_16 : ∀ t : Fin grid0.N, win0_16.index t 0 = t.val % 32 ∧ win0_16.index t 1 = 0 ∧ win0_16.index t 2 = t.val / 32 ∧ win0_16.index t 3 = 0 := by
  decide +kernel
theorem idx_17 : ∀ t : Fin grid0.N, win0_17.index t 0 = t.val % 32 ∧ win0_17.index t 1 = t.val / 32 ∧ win0_17.index t 2 = 0 := by
  decide +kernel
theorem idx_18 : ∀ t : Fin grid0.N, win0_18.index t 0 = t.val % 32 ∧ win0_18.index t 1 = t.val / 32 ∧ win0_18.index t 2 = 0 := by
  decide +kernel
theorem idx_19 : ∀ t : Fin grid0.N, win0_19.index t 0 = t.val % 32 ∧ win0_19.index t 1 = t.val / 32 ∧ win0_19.index t 2 = 0 := by
  decide +kernel
theorem idx_20 : ∀ t : Fin grid0.N, win0_20.index t 0 = t.val % 32 ∧ win0_20.index t 1 = t.val / 32 ∧ win0_20.index t 2 = 0 := by
  decide +kernel

theorem N_eq : cfg0.N = 128 := by decide +kernel
theorem t_lt (t : Fin cfg0.N) : t.val < 128 := N_eq ▸ t.isLt

/-- Point `t`'s batch. -/
def bat (t : Fin cfg0.N) : Fin 32 := ⟨t.val % 32, Nat.mod_lt _ (by omega)⟩
/-- Point `t`'s row `r` in the array. -/
def row (t : Fin cfg0.N) (r : Fin 512) : Fin 2048 := ⟨512 * (t.val / 32) + r.val, by have := t_lt t; have := r.isLt; omega⟩

theorem iblk0 (c : Dev nD) (t : Fin cfg0.N) (r : Fin 512) (d : Fin 1024) :
    (iblk m c 0 t : Vec Ideal S1x512x1024 .f32) (ix3 0 r d) = m ((c : Thread nD τ).loc main_arg0) (ix3 (bat t) (row t r) d) := by
  have e := idx_0 t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1 + 1 * 0 = t.val % 32; rw [e.1]; omega
  | ⟨1, _⟩ => show win0_0.index t 1 * 512 + 1 * r.val = 512 * (t.val / 32) + r.val; rw [e.2.1]; omega
  | ⟨2, _⟩ => show win0_0.index t 2 * 1024 + 1 * d.val = d.val; rw [e.2.2]; omega

theorem iblk1 (c : Dev nD) (t : Fin cfg0.N) (d : Fin 1024) :
    (iblk m c 1 t : Vec Ideal S1x1x1024 .f32) (ix3 0 0 d) = m ((c : Thread nD τ).loc main_arg1) (ix3 (bat t) 0 d) := by
  have e := idx_1 t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 1 + 1 * 0 = t.val % 32; rw [e.1]; omega
  | ⟨1, _⟩ => show win0_1.index t 1 * 1 + 1 * 0 = 0; rw [e.2.1]
  | ⟨2, _⟩ => show win0_1.index t 2 * 1024 + 1 * d.val = d.val; rw [e.2.2]; omega

theorem iblk2 (c : Dev nD) (t : Fin cfg0.N) (d : Fin 1024) :
    (iblk m c 2 t : Vec Ideal S1x1x1024 .f32) (ix3 0 0 d) = m ((c : Thread nD τ).loc main_arg2) (ix3 (bat t) 0 d) := by
  have e := idx_2 t
  unfold iblk
  rw [View.read_apply]
  show V m c main_arg2 _ = m (c.tc.loc main_arg2) _
  rw [V_main_arg2]
  refine congrArg (m (c.tc.loc main_arg2)) (funext fun a => Fin.ext ?_)
  match a with
  | ⟨0, _⟩ => show win0_2.index t 0 * 1 + 1 * 0 = t.val % 32; rw [e.1]; omega
  | ⟨1, _⟩ => show win0_2.index t 1 * 1 + 1 * 0 = 0; rw [e.2.1]
  | ⟨2, _⟩ => show win0_2.index t 2 * 1024 + 1 * d.val = d.val; rw [e.2.2]; omega

theorem iblk3 (c : Dev nD) (t : Fin cfg0.N) : (iblk m c 3 t : Vec Ideal S2x1024 .f32) = m ((c : Thread nD τ).loc main_arg3) := by
  have e := idx_3 t
  funext y
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ => show win0_3.index t 0 * 2 + 1 * (y 0).val = (y 0).val; rw [e.1]; omega
  | ⟨1, _⟩ => show win0_3.index t 1 * 1024 + 1 * (y 1).val = (y 1).val; rw [e.2]; omega

theorem iblk4 (c : Dev nD) (t : Fin cfg0.N) : (iblk m c 4 t : Vec Ideal S1024x5888 .bf16) = m ((c : Thread nD τ).loc main_arg4) := by
  have e := idx_4 t
  funext y
  unfold iblk
  rw [View.read_apply]
  show V m c main_arg4 _ = m (c.tc.loc main_arg4) _
  rw [V_main_arg4]
  refine congrArg (m (c.tc.loc main_arg4)) (funext fun a => Fin.ext ?_)
  match a with
  | ⟨0, _⟩ => show win0_4.index t 0 * 1024 + 1 * (y 0).val = (y 0).val; rw [e.1]; omega
  | ⟨1, _⟩ => show win0_4.index t 1 * 5888 + 1 * (y 1).val = (y 1).val; rw [e.2]; omega

theorem iblk5 (c : Dev nD) (t : Fin cfg0.N) : (iblk m c 5 t : Vec Ideal S256x1024 .bf16) = m ((c : Thread nD τ).loc main_arg5) := by
  have e := idx_5 t
  funext y
  unfold iblk
  rw [View.read_apply]
  show V m c main_arg5 _ = m (c.tc.loc main_arg5) _
  rw [V_main_arg5]
  refine congrArg (m (c.tc.loc main_arg5)) (funext fun a => Fin.ext ?_)
  match a with
  | ⟨0, _⟩ => show win0_5.index t 0 * 256 + 1 * (y 0).val = (y 0).val; rw [e.1]; omega
  | ⟨1, _⟩ => show win0_5.index t 1 * 1024 + 1 * (y 1).val = (y 1).val; rw [e.2]; omega

theorem iblk6 (c : Dev nD) (t : Fin cfg0.N) : (iblk m c 6 t : Vec Ideal S128x1536 .bf16) = m ((c : Thread nD τ).loc main_arg6) := by
  have e := idx_6 t
  funext y
  unfold iblk
  rw [View.read_apply]
  show V m c main_arg6 _ = m (c.tc.loc main_arg6) _
  rw [V_main_arg6]
  refine congrArg (m (c.tc.loc main_arg6)) (funext fun a => Fin.ext ?_)
  match a with
  | ⟨0, _⟩ => show win0_6.index t 0 * 128 + 1 * (y 0).val = (y 0).val; rw [e.1]; omega
  | ⟨1, _⟩ => show win0_6.index t 1 * 1536 + 1 * (y 1).val = (y 1).val; rw [e.2]; omega

theorem iblk7 (c : Dev nD) (t : Fin cfg0.N) (r : Fin 512) (d : Fin 128) :
    (iblk m c 7 t : Vec Ideal S512x128 .f32) (ix2 r d) = m ((c : Thread nD τ).loc main_arg7) (ix2 (row t r) d) := by
  have e := idx_7 t
  unfold iblk
  rw [View.read_apply]
  show V m c main_arg7 _ = m (c.tc.loc main_arg7) _
  rw [V_main_arg7]
  refine congrArg (m (c.tc.loc main_arg7)) (funext fun a => Fin.ext ?_)
  match a with
  | ⟨0, _⟩ => show win0_7.index t 0 * 512 + 1 * r.val = 512 * (t.val / 32) + r.val; rw [e.1]; omega
  | ⟨1, _⟩ => show win0_7.index t 1 * 128 + 1 * d.val = d.val; rw [e.2]; omega

theorem iblk8 (c : Dev nD) (t : Fin cfg0.N) (r : Fin 512) (d : Fin 128) :
    (iblk m c 8 t : Vec Ideal S512x128 .f32) (ix2 r d) = m ((c : Thread nD τ).loc main_arg8) (ix2 (row t r) d) := by
  have e := idx_8 t
  unfold iblk
  rw [View.read_apply]
  show V m c main_arg8 _ = m (c.tc.loc main_arg8) _
  rw [V_main_arg8]
  refine congrArg (m (c.tc.loc main_arg8)) (funext fun a => Fin.ext ?_)
  match a with
  | ⟨0, _⟩ => show win0_8.index t 0 * 512 + 1 * r.val = 512 * (t.val / 32) + r.val; rw [e.1]; omega
  | ⟨1, _⟩ => show win0_8.index t 1 * 128 + 1 * d.val = d.val; rw [e.2]; omega

theorem iblk9 (c : Dev nD) (t : Fin cfg0.N) (r : Fin 512) (d : Fin 128) :
    (iblk m c 9 t : Vec Ideal S512x128 .f32) (ix2 r d) = m ((c : Thread nD τ).loc main_arg9) (ix2 (row t r) d) := by
  have e := idx_9 t
  unfold iblk
  rw [View.read_apply]
  show V m c main_arg9 _ = m (c.tc.loc main_arg9) _
  rw [V_main_arg9]
  refine congrArg (m (c.tc.loc main_arg9)) (funext fun a => Fin.ext ?_)
  match a with
  | ⟨0, _⟩ => show win0_9.index t 0 * 512 + 1 * r.val = 512 * (t.val / 32) + r.val; rw [e.1]; omega
  | ⟨1, _⟩ => show win0_9.index t 1 * 128 + 1 * d.val = d.val; rw [e.2]; omega

theorem iblk10 (c : Dev nD) (t : Fin cfg0.N) (r : Fin 512) (d : Fin 128) :
    (iblk m c 10 t : Vec Ideal S512x128 .f32) (ix2 r d) = m ((c : Thread nD τ).loc main_arg10) (ix2 (row t r) d) := by
  have e := idx_10 t
  unfold iblk
  rw [View.read_apply]
  show V m c main_arg10 _ = m (c.tc.loc main_arg10) _
  rw [V_main_arg10]
  refine congrArg (m (c.tc.loc main_arg10)) (funext fun a => Fin.ext ?_)
  match a with
  | ⟨0, _⟩ => show win0_10.index t 0 * 512 + 1 * r.val = 512 * (t.val / 32) + r.val; rw [e.1]; omega
  | ⟨1, _⟩ => show win0_10.index t 1 * 128 + 1 * d.val = d.val; rw [e.2]; omega

theorem iblk11 (c : Dev nD) (t : Fin cfg0.N) (r : Fin 512) (d : Fin 128) :
    (iblk m c 11 t : Vec Ideal S512x128 .f32) (ix2 r d) = m ((c : Thread nD τ).loc main_arg11) (ix2 (row t r) d) := by
  have e := idx_11 t
  unfold iblk
  rw [View.read_apply]
  show V m c main_arg11 _ = m (c.tc.loc main_arg11) _
  rw [V_main_arg11]
  refine congrArg (m (c.tc.loc main_arg11)) (funext fun a => Fin.ext ?_)
  match a with
  | ⟨0, _⟩ => show win0_11.index t 0 * 512 + 1 * r.val = 512 * (t.val / 32) + r.val; rw [e.1]; omega
  | ⟨1, _⟩ => show win0_11.index t 1 * 128 + 1 * d.val = d.val; rw [e.2]; omega

theorem iblk12 (c : Dev nD) (t : Fin cfg0.N) (r : Fin 512) (d : Fin 128) :
    (iblk m c 12 t : Vec Ideal S512x128 .f32) (ix2 r d) = m ((c : Thread nD τ).loc main_arg12) (ix2 (row t r) d) := by
  have e := idx_12 t
  unfold iblk
  rw [View.read_apply]
  show V m c main_arg12 _ = m (c.tc.loc main_arg12) _
  rw [V_main_arg12]
  refine congrArg (m (c.tc.loc main_arg12)) (funext fun a => Fin.ext ?_)
  match a with
  | ⟨0, _⟩ => show win0_12.index t 0 * 512 + 1 * r.val = 512 * (t.val / 32) + r.val; rw [e.1]; omega
  | ⟨1, _⟩ => show win0_12.index t 1 * 128 + 1 * d.val = d.val; rw [e.2]; omega

/-- The point's projected rows are the array's. -/
theorem pp_eq (c : Dev nD) (t : Fin cfg0.N) (r : Fin 512) :
    Block.pp (iblk m c 0 t) (iblk m c 1 t) (iblk m c 2 t) (iblk m c 3 t) (iblk m c 4 t) r = proj (m ((c : Thread nD τ).loc main_arg0)) (m ((c : Thread nD τ).loc main_arg1)) (m ((c : Thread nD τ).loc main_arg2)) (m ((c : Thread nD τ).loc main_arg3)) (m ((c : Thread nD τ).loc main_arg4)) (bat t) (row t r) := by
  funext q
  unfold Block.pp proj Block.hh hid
  rw [funext (iblk0 m c t r), funext (iblk1 m c t), funext (iblk2 m c t), iblk3, iblk4]

/-- What point `t` writes back is its block of `qm`. -/
theorem flushed_qm (c : Dev nD) (t : Fin cfg0.N) :
    (dats m 0 c).flushed 13 t = (win0_13.blk t).view.read (Elt Ideal) (qm m c) := by
  show (cfg0.win 13).cut (grid0.coords t) ((dats m 0 c).after 13 t) = _
  rw [after0_13]
  have e := idx_13 t
  funext (y : S1x8x512x128.Idx)
  rw [View.read_apply]
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = qm m c ((win0_13.blk t).view.emb y)
  have e0 : ((win0_13.blk t).view.emb y) 0 = bat t :=
    Fin.ext (by show win0_13.index t 0 * 1 + 1 * (y 0).val = t.val % 32; have : (y 0).val < 1 := (y 0).isLt; rw [e.1]; omega)
  have e1 : ((win0_13.blk t).view.emb y) 1 = (y 1 : Fin 8) :=
    Fin.ext (by show win0_13.index t 1 * 8 + 1 * (y 1).val = (y 1).val; rw [e.2.1]; omega)
  have e2 : ((win0_13.blk t).view.emb y) 2 = row t (y 2) :=
    Fin.ext (by show win0_13.index t 2 * 512 + 1 * (y 2).val = 512 * (t.val / 32) + (y 2).val; rw [e.2.2.1]; omega)
  have e3 : ((win0_13.blk t).view.emb y) 3 = (y 3 : Fin 128) :=
    Fin.ext (by show win0_13.index t 3 * 128 + 1 * (y 3).val = (y 3).val; rw [e.2.2.2]; omega)
  refine (congrFun (Block.out13 _ _ _ _ _ _ _ _ _ _ _ _ _) y).trans ?_
  unfold qm qmE
  simp only [e0, e1, e2, e3]
  rw [pp_eq m c t (y 2), iblk3, iblk5, funext (iblk7 m c t (y 2)), funext (iblk8 m c t (y 2)), funext (iblk9 m c t (y 2))]
  rfl

theorem mem_qm (t : Fin cfg0.N) (i : S32x8x2048x128.Idx) :
    i ∈ ((cfg0.win 13).blk t).view.set ↔ (i 0).val = t.val % 32 ∧ 512 * (t.val / 32) ≤ (i 2).val ∧ (i 2).val < 512 * (t.val / 32) + 512 := by
  show i ∈ ((View.whole main_v0_0).slice (win0_13.rect t)).set ↔ _
  rw [View.set_slice_whole, Rect.mem_set_unit]
  have e := idx_13 t
  have h1 : (i 1).val < 8 := (i 1).isLt
  have h3 : (i 3).val < 128 := (i 3).isLt
  refine ⟨fun h => ?_, fun h a => ?_⟩
  · have g0 : win0_13.index t 0 * 1 ≤ (i 0).val ∧ (i 0).val < win0_13.index t 0 * 1 + 1 := h 0
    have g1 : win0_13.index t 2 * 512 ≤ (i 2).val ∧ (i 2).val < win0_13.index t 2 * 512 + 512 := h 2
    rw [e.1] at g0; rw [e.2.2.1] at g1; omega
  · match a with
    | ⟨0, _⟩ => show win0_13.index t 0 * 1 ≤ (i 0).val ∧ (i 0).val < win0_13.index t 0 * 1 + 1; rw [e.1]; omega
    | ⟨1, _⟩ => show win0_13.index t 1 * 8 ≤ (i 1).val ∧ (i 1).val < win0_13.index t 1 * 8 + 8; rw [e.2.1]; omega
    | ⟨2, _⟩ => show win0_13.index t 2 * 512 ≤ (i 2).val ∧ (i 2).val < win0_13.index t 2 * 512 + 512; rw [e.2.2.1]; omega
    | ⟨3, _⟩ => show win0_13.index t 3 * 128 ≤ (i 3).val ∧ (i 3).val < win0_13.index t 3 * 128 + 128; rw [e.2.2.2]; omega

theorem cover_qm (i : S32x8x2048x128.Idx) : ∃ t : Fin cfg0.N, (cfg0.win 13).flush t = true ∧ i ∈ ((cfg0.win 13).blk t).view.set := by
  have h0 : (i 0).val < 32 := (i 0).isLt
  have h1 : (i 2).val < 2048 := (i 2).isLt
  have hN := N_eq
  refine ⟨⟨32 * ((i 2).val / 512) + (i 0).val, by omega⟩, flush0_13 _, ?_⟩
  rw [mem_qm]
  dsimp only
  omega

theorem final_qm (c : Dev nD) : (dats m 0 c).arrAt 13 cfg0.N = qm m c :=
  (dats m 0 c).arrAt_eq_of_cover 13 (qm m c) (fun t _ => flushed_qm m c t) cover_qm

/-- What point `t` writes back is its block of `km`. -/
theorem flushed_km (c : Dev nD) (t : Fin cfg0.N) :
    (dats m 0 c).flushed 14 t = (win0_14.blk t).view.read (Elt Ideal) (km m c) := by
  show (cfg0.win 14).cut (grid0.coords t) ((dats m 0 c).after 14 t) = _
  rw [after0_14]
  have e := idx_14 t
  funext (y : S1x8x512x128.Idx)
  rw [View.read_apply]
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = km m c ((win0_14.blk t).view.emb y)
  have e0 : ((win0_14.blk t).view.emb y) 0 = bat t :=
    Fin.ext (by show win0_14.index t 0 * 1 + 1 * (y 0).val = t.val % 32; have : (y 0).val < 1 := (y 0).isLt; rw [e.1]; omega)
  have e1 : ((win0_14.blk t).view.emb y) 1 = (y 1 : Fin 8) :=
    Fin.ext (by show win0_14.index t 1 * 8 + 1 * (y 1).val = (y 1).val; rw [e.2.1]; omega)
  have e2 : ((win0_14.blk t).view.emb y) 2 = row t (y 2) :=
    Fin.ext (by show win0_14.index t 2 * 512 + 1 * (y 2).val = 512 * (t.val / 32) + (y 2).val; rw [e.2.2.1]; omega)
  have e3 : ((win0_14.blk t).view.emb y) 3 = (y 3 : Fin 128) :=
    Fin.ext (by show win0_14.index t 3 * 128 + 1 * (y 3).val = (y 3).val; rw [e.2.2.2]; omega)
  refine (congrFun (Block.out14 _ _ _ _ _ _ _ _ _ _ _ _ _) y).trans ?_
  unfold km kmE
  simp only [e0, e1, e2, e3]
  rw [pp_eq m c t (y 2), iblk3, iblk6, funext (iblk7 m c t (y 2)), funext (iblk8 m c t (y 2)), funext (iblk9 m c t (y 2))]
  rfl

theorem mem_km (t : Fin cfg0.N) (i : S32x8x2048x128.Idx) :
    i ∈ ((cfg0.win 14).blk t).view.set ↔ (i 0).val = t.val % 32 ∧ 512 * (t.val / 32) ≤ (i 2).val ∧ (i 2).val < 512 * (t.val / 32) + 512 := by
  show i ∈ ((View.whole main_v0_1).slice (win0_14.rect t)).set ↔ _
  rw [View.set_slice_whole, Rect.mem_set_unit]
  have e := idx_14 t
  have h1 : (i 1).val < 8 := (i 1).isLt
  have h3 : (i 3).val < 128 := (i 3).isLt
  refine ⟨fun h => ?_, fun h a => ?_⟩
  · have g0 : win0_14.index t 0 * 1 ≤ (i 0).val ∧ (i 0).val < win0_14.index t 0 * 1 + 1 := h 0
    have g1 : win0_14.index t 2 * 512 ≤ (i 2).val ∧ (i 2).val < win0_14.index t 2 * 512 + 512 := h 2
    rw [e.1] at g0; rw [e.2.2.1] at g1; omega
  · match a with
    | ⟨0, _⟩ => show win0_14.index t 0 * 1 ≤ (i 0).val ∧ (i 0).val < win0_14.index t 0 * 1 + 1; rw [e.1]; omega
    | ⟨1, _⟩ => show win0_14.index t 1 * 8 ≤ (i 1).val ∧ (i 1).val < win0_14.index t 1 * 8 + 8; rw [e.2.1]; omega
    | ⟨2, _⟩ => show win0_14.index t 2 * 512 ≤ (i 2).val ∧ (i 2).val < win0_14.index t 2 * 512 + 512; rw [e.2.2.1]; omega
    | ⟨3, _⟩ => show win0_14.index t 3 * 128 ≤ (i 3).val ∧ (i 3).val < win0_14.index t 3 * 128 + 128; rw [e.2.2.2]; omega

theorem cover_km (i : S32x8x2048x128.Idx) : ∃ t : Fin cfg0.N, (cfg0.win 14).flush t = true ∧ i ∈ ((cfg0.win 14).blk t).view.set := by
  have h0 : (i 0).val < 32 := (i 0).isLt
  have h1 : (i 2).val < 2048 := (i 2).isLt
  have hN := N_eq
  refine ⟨⟨32 * ((i 2).val / 512) + (i 0).val, by omega⟩, flush0_14 _, ?_⟩
  rw [mem_km]
  dsimp only
  omega

theorem final_km (c : Dev nD) : (dats m 0 c).arrAt 14 cfg0.N = km m c :=
  (dats m 0 c).arrAt_eq_of_cover 14 (km m c) (fun t _ => flushed_km m c t) cover_km

/-- What point `t` writes back is its block of `vm`. -/
theorem flushed_vm (c : Dev nD) (t : Fin cfg0.N) :
    (dats m 0 c).flushed 15 t = (win0_15.blk t).view.read (Elt Ideal) (vm m c) := by
  show (cfg0.win 15).cut (grid0.coords t) ((dats m 0 c).after 15 t) = _
  rw [after0_15]
  have e := idx_15 t
  funext (y : S1x4x512x128.Idx)
  rw [View.read_apply]
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = vm m c ((win0_15.blk t).view.emb y)
  have e0 : ((win0_15.blk t).view.emb y) 0 = bat t :=
    Fin.ext (by show win0_15.index t 0 * 1 + 1 * (y 0).val = t.val % 32; have : (y 0).val < 1 := (y 0).isLt; rw [e.1]; omega)
  have e1 : ((win0_15.blk t).view.emb y) 1 = (y 1 : Fin 4) :=
    Fin.ext (by show win0_15.index t 1 * 4 + 1 * (y 1).val = (y 1).val; rw [e.2.1]; omega)
  have e2 : ((win0_15.blk t).view.emb y) 2 = row t (y 2) :=
    Fin.ext (by show win0_15.index t 2 * 512 + 1 * (y 2).val = 512 * (t.val / 32) + (y 2).val; rw [e.2.2.1]; omega)
  have e3 : ((win0_15.blk t).view.emb y) 3 = (y 3 : Fin 128) :=
    Fin.ext (by show win0_15.index t 3 * 128 + 1 * (y 3).val = (y 3).val; rw [e.2.2.2]; omega)
  refine (congrFun (Block.out15 _ _ _ _ _ _ _ _ _ _ _ _ _) y).trans ?_
  unfold vm vmE
  simp only [e0, e1, e2, e3]
  rw [pp_eq m c t (y 2), iblk3, iblk6]
  rfl

theorem mem_vm (t : Fin cfg0.N) (i : S32x4x2048x128.Idx) :
    i ∈ ((cfg0.win 15).blk t).view.set ↔ (i 0).val = t.val % 32 ∧ 512 * (t.val / 32) ≤ (i 2).val ∧ (i 2).val < 512 * (t.val / 32) + 512 := by
  show i ∈ ((View.whole main_v0_2).slice (win0_15.rect t)).set ↔ _
  rw [View.set_slice_whole, Rect.mem_set_unit]
  have e := idx_15 t
  have h1 : (i 1).val < 4 := (i 1).isLt
  have h3 : (i 3).val < 128 := (i 3).isLt
  refine ⟨fun h => ?_, fun h a => ?_⟩
  · have g0 : win0_15.index t 0 * 1 ≤ (i 0).val ∧ (i 0).val < win0_15.index t 0 * 1 + 1 := h 0
    have g1 : win0_15.index t 2 * 512 ≤ (i 2).val ∧ (i 2).val < win0_15.index t 2 * 512 + 512 := h 2
    rw [e.1] at g0; rw [e.2.2.1] at g1; omega
  · match a with
    | ⟨0, _⟩ => show win0_15.index t 0 * 1 ≤ (i 0).val ∧ (i 0).val < win0_15.index t 0 * 1 + 1; rw [e.1]; omega
    | ⟨1, _⟩ => show win0_15.index t 1 * 4 ≤ (i 1).val ∧ (i 1).val < win0_15.index t 1 * 4 + 4; rw [e.2.1]; omega
    | ⟨2, _⟩ => show win0_15.index t 2 * 512 ≤ (i 2).val ∧ (i 2).val < win0_15.index t 2 * 512 + 512; rw [e.2.2.1]; omega
    | ⟨3, _⟩ => show win0_15.index t 3 * 128 ≤ (i 3).val ∧ (i 3).val < win0_15.index t 3 * 128 + 128; rw [e.2.2.2]; omega

theorem cover_vm (i : S32x4x2048x128.Idx) : ∃ t : Fin cfg0.N, (cfg0.win 15).flush t = true ∧ i ∈ ((cfg0.win 15).blk t).view.set := by
  have h0 : (i 0).val < 32 := (i 0).isLt
  have h1 : (i 2).val < 2048 := (i 2).isLt
  have hN := N_eq
  refine ⟨⟨32 * ((i 2).val / 512) + (i 0).val, by omega⟩, flush0_15 _, ?_⟩
  rw [mem_vm]
  dsimp only
  omega

theorem final_vm (c : Dev nD) : (dats m 0 c).arrAt 15 cfg0.N = vm m c :=
  (dats m 0 c).arrAt_eq_of_cover 15 (vm m c) (fun t _ => flushed_vm m c t) cover_vm

/-- What point `t` writes back is its block of `qg`. -/
theorem flushed_qg (c : Dev nD) (t : Fin cfg0.N) :
    (dats m 0 c).flushed 16 t = (win0_16.blk t).view.read (Elt Ideal) (qg m c) := by
  show (cfg0.win 16).cut (grid0.coords t) ((dats m 0 c).after 16 t) = _
  rw [after0_16]
  have e := idx_16 t
  funext (y : S1x8x512x128.Idx)
  rw [View.read_apply]
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = qg m c ((win0_16.blk t).view.emb y)
  have e0 : ((win0_16.blk t).view.emb y) 0 = bat t :=
    Fin.ext (by show win0_16.index t 0 * 1 + 1 * (y 0).val = t.val % 32; have : (y 0).val < 1 := (y 0).isLt; rw [e.1]; omega)
  have e1 : ((win0_16.blk t).view.emb y) 1 = (y 1 : Fin 8) :=
    Fin.ext (by show win0_16.index t 1 * 8 + 1 * (y 1).val = (y 1).val; rw [e.2.1]; omega)
  have e2 : ((win0_16.blk t).view.emb y) 2 = row t (y 2) :=
    Fin.ext (by show win0_16.index t 2 * 512 + 1 * (y 2).val = 512 * (t.val / 32) + (y 2).val; rw [e.2.2.1]; omega)
  have e3 : ((win0_16.blk t).view.emb y) 3 = (y 3 : Fin 128) :=
    Fin.ext (by show win0_16.index t 3 * 128 + 1 * (y 3).val = (y 3).val; rw [e.2.2.2]; omega)
  refine (congrFun (Block.out16 _ _ _ _ _ _ _ _ _ _ _ _ _) y).trans ?_
  unfold qg qgE
  simp only [e0, e1, e2, e3]
  rw [pp_eq m c t (y 2), iblk3, funext (iblk10 m c t (y 2)), funext (iblk11 m c t (y 2)), funext (iblk12 m c t (y 2))]
  rfl

theorem mem_qg (t : Fin cfg0.N) (i : S32x8x2048x128.Idx) :
    i ∈ ((cfg0.win 16).blk t).view.set ↔ (i 0).val = t.val % 32 ∧ 512 * (t.val / 32) ≤ (i 2).val ∧ (i 2).val < 512 * (t.val / 32) + 512 := by
  show i ∈ ((View.whole main_v0_3).slice (win0_16.rect t)).set ↔ _
  rw [View.set_slice_whole, Rect.mem_set_unit]
  have e := idx_16 t
  have h1 : (i 1).val < 8 := (i 1).isLt
  have h3 : (i 3).val < 128 := (i 3).isLt
  refine ⟨fun h => ?_, fun h a => ?_⟩
  · have g0 : win0_16.index t 0 * 1 ≤ (i 0).val ∧ (i 0).val < win0_16.index t 0 * 1 + 1 := h 0
    have g1 : win0_16.index t 2 * 512 ≤ (i 2).val ∧ (i 2).val < win0_16.index t 2 * 512 + 512 := h 2
    rw [e.1] at g0; rw [e.2.2.1] at g1; omega
  · match a with
    | ⟨0, _⟩ => show win0_16.index t 0 * 1 ≤ (i 0).val ∧ (i 0).val < win0_16.index t 0 * 1 + 1; rw [e.1]; omega
    | ⟨1, _⟩ => show win0_16.index t 1 * 8 ≤ (i 1).val ∧ (i 1).val < win0_16.index t 1 * 8 + 8; rw [e.2.1]; omega
    | ⟨2, _⟩ => show win0_16.index t 2 * 512 ≤ (i 2).val ∧ (i 2).val < win0_16.index t 2 * 512 + 512; rw [e.2.2.1]; omega
    | ⟨3, _⟩ => show win0_16.index t 3 * 128 ≤ (i 3).val ∧ (i 3).val < win0_16.index t 3 * 128 + 128; rw [e.2.2.2]; omega

theorem cover_qg (i : S32x8x2048x128.Idx) : ∃ t : Fin cfg0.N, (cfg0.win 16).flush t = true ∧ i ∈ ((cfg0.win 16).blk t).view.set := by
  have h0 : (i 0).val < 32 := (i 0).isLt
  have h1 : (i 2).val < 2048 := (i 2).isLt
  have hN := N_eq
  refine ⟨⟨32 * ((i 2).val / 512) + (i 0).val, by omega⟩, flush0_16 _, ?_⟩
  rw [mem_qg]
  dsimp only
  omega

theorem final_qg (c : Dev nD) : (dats m 0 c).arrAt 16 cfg0.N = qg m c :=
  (dats m 0 c).arrAt_eq_of_cover 16 (qg m c) (fun t _ => flushed_qg m c t) cover_qg

/-- What point `t` writes back is its block of `kg`. -/
theorem flushed_kg (c : Dev nD) (t : Fin cfg0.N) :
    (dats m 0 c).flushed 17 t = (win0_17.blk t).view.read (Elt Ideal) (kg m c) := by
  show (cfg0.win 17).cut (grid0.coords t) ((dats m 0 c).after 17 t) = _
  rw [after0_17]
  have e := idx_17 t
  funext (y : S1x512x128.Idx)
  rw [View.read_apply]
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = kg m c ((win0_17.blk t).view.emb y)
  have hy : y = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  have e0 : ((win0_17.blk t).view.emb y) 0 = bat t :=
    Fin.ext (by show win0_17.index t 0 * 1 + 1 * (y 0).val = t.val % 32; have : (y 0).val < 1 := (y 0).isLt; rw [e.1]; omega)
  have e1 : ((win0_17.blk t).view.emb y) 1 = row t (y 1) :=
    Fin.ext (by show win0_17.index t 1 * 512 + 1 * (y 1).val = 512 * (t.val / 32) + (y 1).val; rw [e.2.1]; omega)
  have e2 : ((win0_17.blk t).view.emb y) 2 = (y 2 : Fin 128) :=
    Fin.ext (by show win0_17.index t 2 * 128 + 1 * (y 2).val = (y 2).val; rw [e.2.2]; omega)
  refine (congrArg _ hy).trans ((Block.out17 _ _ _ _ _ _ _ _ _ _ _ _ _ (y 1) (y 2)).trans ?_)
  unfold kg kgE
  simp only [e0, e1, e2]
  rw [pp_eq m c t (y 1), iblk3, funext (iblk10 m c t (y 1)), funext (iblk11 m c t (y 1)), funext (iblk12 m c t (y 1))]
  rfl

theorem mem_kg (t : Fin cfg0.N) (i : S32x2048x128.Idx) :
    i ∈ ((cfg0.win 17).blk t).view.set ↔ (i 0).val = t.val % 32 ∧ 512 * (t.val / 32) ≤ (i 1).val ∧ (i 1).val < 512 * (t.val / 32) + 512 := by
  show i ∈ ((View.whole main_v0_4).slice (win0_17.rect t)).set ↔ _
  rw [View.set_slice_whole, Rect.mem_set_unit]
  have e := idx_17 t
  have h2 : (i 2).val < 128 := (i 2).isLt
  refine ⟨fun h => ?_, fun h a => ?_⟩
  · have g0 : win0_17.index t 0 * 1 ≤ (i 0).val ∧ (i 0).val < win0_17.index t 0 * 1 + 1 := h 0
    have g1 : win0_17.index t 1 * 512 ≤ (i 1).val ∧ (i 1).val < win0_17.index t 1 * 512 + 512 := h 1
    rw [e.1] at g0; rw [e.2.1] at g1; omega
  · match a with
    | ⟨0, _⟩ => show win0_17.index t 0 * 1 ≤ (i 0).val ∧ (i 0).val < win0_17.index t 0 * 1 + 1; rw [e.1]; omega
    | ⟨1, _⟩ => show win0_17.index t 1 * 512 ≤ (i 1).val ∧ (i 1).val < win0_17.index t 1 * 512 + 512; rw [e.2.1]; omega
    | ⟨2, _⟩ => show win0_17.index t 2 * 128 ≤ (i 2).val ∧ (i 2).val < win0_17.index t 2 * 128 + 128; rw [e.2.2]; omega

theorem cover_kg (i : S32x2048x128.Idx) : ∃ t : Fin cfg0.N, (cfg0.win 17).flush t = true ∧ i ∈ ((cfg0.win 17).blk t).view.set := by
  have h0 : (i 0).val < 32 := (i 0).isLt
  have h1 : (i 1).val < 2048 := (i 1).isLt
  have hN := N_eq
  refine ⟨⟨32 * ((i 1).val / 512) + (i 0).val, by omega⟩, flush0_17 _, ?_⟩
  rw [mem_kg]
  dsimp only
  omega

theorem final_kg (c : Dev nD) : (dats m 0 c).arrAt 17 cfg0.N = kg m c :=
  (dats m 0 c).arrAt_eq_of_cover 17 (kg m c) (fun t _ => flushed_kg m c t) cover_kg

/-- What point `t` writes back is its block of `vg`. -/
theorem flushed_vg (c : Dev nD) (t : Fin cfg0.N) :
    (dats m 0 c).flushed 18 t = (win0_18.blk t).view.read (Elt Ideal) (vg m c) := by
  show (cfg0.win 18).cut (grid0.coords t) ((dats m 0 c).after 18 t) = _
  rw [after0_18]
  have e := idx_18 t
  funext (y : S1x512x128.Idx)
  rw [View.read_apply]
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = vg m c ((win0_18.blk t).view.emb y)
  have hy : y = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  have e0 : ((win0_18.blk t).view.emb y) 0 = bat t :=
    Fin.ext (by show win0_18.index t 0 * 1 + 1 * (y 0).val = t.val % 32; have : (y 0).val < 1 := (y 0).isLt; rw [e.1]; omega)
  have e1 : ((win0_18.blk t).view.emb y) 1 = row t (y 1) :=
    Fin.ext (by show win0_18.index t 1 * 512 + 1 * (y 1).val = 512 * (t.val / 32) + (y 1).val; rw [e.2.1]; omega)
  have e2 : ((win0_18.blk t).view.emb y) 2 = (y 2 : Fin 128) :=
    Fin.ext (by show win0_18.index t 2 * 128 + 1 * (y 2).val = (y 2).val; rw [e.2.2]; omega)
  refine (congrArg _ hy).trans ((Block.out18 _ _ _ _ _ _ _ _ _ _ _ _ _ (y 1) (y 2)).trans ?_)
  unfold vg vgE
  simp only [e0, e1, e2]
  rw [pp_eq m c t (y 1)]

theorem mem_vg (t : Fin cfg0.N) (i : S32x2048x128.Idx) :
    i ∈ ((cfg0.win 18).blk t).view.set ↔ (i 0).val = t.val % 32 ∧ 512 * (t.val / 32) ≤ (i 1).val ∧ (i 1).val < 512 * (t.val / 32) + 512 := by
  show i ∈ ((View.whole main_v0_5).slice (win0_18.rect t)).set ↔ _
  rw [View.set_slice_whole, Rect.mem_set_unit]
  have e := idx_18 t
  have h2 : (i 2).val < 128 := (i 2).isLt
  refine ⟨fun h => ?_, fun h a => ?_⟩
  · have g0 : win0_18.index t 0 * 1 ≤ (i 0).val ∧ (i 0).val < win0_18.index t 0 * 1 + 1 := h 0
    have g1 : win0_18.index t 1 * 512 ≤ (i 1).val ∧ (i 1).val < win0_18.index t 1 * 512 + 512 := h 1
    rw [e.1] at g0; rw [e.2.1] at g1; omega
  · match a with
    | ⟨0, _⟩ => show win0_18.index t 0 * 1 ≤ (i 0).val ∧ (i 0).val < win0_18.index t 0 * 1 + 1; rw [e.1]; omega
    | ⟨1, _⟩ => show win0_18.index t 1 * 512 ≤ (i 1).val ∧ (i 1).val < win0_18.index t 1 * 512 + 512; rw [e.2.1]; omega
    | ⟨2, _⟩ => show win0_18.index t 2 * 128 ≤ (i 2).val ∧ (i 2).val < win0_18.index t 2 * 128 + 128; rw [e.2.2]; omega

theorem cover_vg (i : S32x2048x128.Idx) : ∃ t : Fin cfg0.N, (cfg0.win 18).flush t = true ∧ i ∈ ((cfg0.win 18).blk t).view.set := by
  have h0 : (i 0).val < 32 := (i 0).isLt
  have h1 : (i 1).val < 2048 := (i 1).isLt
  have hN := N_eq
  refine ⟨⟨32 * ((i 1).val / 512) + (i 0).val, by omega⟩, flush0_18 _, ?_⟩
  rw [mem_vg]
  dsimp only
  omega

theorem final_vg (c : Dev nD) : (dats m 0 c).arrAt 18 cfg0.N = vg m c :=
  (dats m 0 c).arrAt_eq_of_cover 18 (vg m c) (fun t _ => flushed_vg m c t) cover_vg

/-- What point `t` writes back is its block of `cv`. -/
theorem flushed_cv (c : Dev nD) (t : Fin cfg0.N) :
    (dats m 0 c).flushed 19 t = (win0_19.blk t).view.read (Elt Ideal) (cv m c) := by
  show (cfg0.win 19).cut (grid0.coords t) ((dats m 0 c).after 19 t) = _
  rw [after0_19]
  have e := idx_19 t
  funext (y : S1x512x512.Idx)
  rw [View.read_apply]
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = cv m c ((win0_19.blk t).view.emb y)
  have hy : y = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  have e0 : ((win0_19.blk t).view.emb y) 0 = bat t :=
    Fin.ext (by show win0_19.index t 0 * 1 + 1 * (y 0).val = t.val % 32; have : (y 0).val < 1 := (y 0).isLt; rw [e.1]; omega)
  have e1 : ((win0_19.blk t).view.emb y) 1 = row t (y 1) :=
    Fin.ext (by show win0_19.index t 1 * 512 + 1 * (y 1).val = 512 * (t.val / 32) + (y 1).val; rw [e.2.1]; omega)
  have e2 : ((win0_19.blk t).view.emb y) 2 = (y 2 : Fin 512) :=
    Fin.ext (by show win0_19.index t 2 * 512 + 1 * (y 2).val = (y 2).val; rw [e.2.2]; omega)
  refine (congrArg _ hy).trans ((Block.out19 _ _ _ _ _ _ _ _ _ _ _ _ _ (y 1) (y 2)).trans ?_)
  unfold cv convE
  simp only [e0, e1, e2]
  rw [pp_eq m c t (y 1)]

theorem mem_cv (t : Fin cfg0.N) (i : S32x2048x512.Idx) :
    i ∈ ((cfg0.win 19).blk t).view.set ↔ (i 0).val = t.val % 32 ∧ 512 * (t.val / 32) ≤ (i 1).val ∧ (i 1).val < 512 * (t.val / 32) + 512 := by
  show i ∈ ((View.whole main_v0_6).slice (win0_19.rect t)).set ↔ _
  rw [View.set_slice_whole, Rect.mem_set_unit]
  have e := idx_19 t
  have h2 : (i 2).val < 512 := (i 2).isLt
  refine ⟨fun h => ?_, fun h a => ?_⟩
  · have g0 : win0_19.index t 0 * 1 ≤ (i 0).val ∧ (i 0).val < win0_19.index t 0 * 1 + 1 := h 0
    have g1 : win0_19.index t 1 * 512 ≤ (i 1).val ∧ (i 1).val < win0_19.index t 1 * 512 + 512 := h 1
    rw [e.1] at g0; rw [e.2.1] at g1; omega
  · match a with
    | ⟨0, _⟩ => show win0_19.index t 0 * 1 ≤ (i 0).val ∧ (i 0).val < win0_19.index t 0 * 1 + 1; rw [e.1]; omega
    | ⟨1, _⟩ => show win0_19.index t 1 * 512 ≤ (i 1).val ∧ (i 1).val < win0_19.index t 1 * 512 + 512; rw [e.2.1]; omega
    | ⟨2, _⟩ => show win0_19.index t 2 * 512 ≤ (i 2).val ∧ (i 2).val < win0_19.index t 2 * 512 + 512; rw [e.2.2]; omega

theorem cover_cv (i : S32x2048x512.Idx) : ∃ t : Fin cfg0.N, (cfg0.win 19).flush t = true ∧ i ∈ ((cfg0.win 19).blk t).view.set := by
  have h0 : (i 0).val < 32 := (i 0).isLt
  have h1 : (i 1).val < 2048 := (i 1).isLt
  have hN := N_eq
  refine ⟨⟨32 * ((i 1).val / 512) + (i 0).val, by omega⟩, flush0_19 _, ?_⟩
  rw [mem_cv]
  dsimp only
  omega

theorem final_cv (c : Dev nD) : (dats m 0 c).arrAt 19 cfg0.N = cv m c :=
  (dats m 0 c).arrAt_eq_of_cover 19 (cv m c) (fun t _ => flushed_cv m c t) cover_cv

/-- What point `t` writes back is its block of `gt`. -/
theorem flushed_gt (c : Dev nD) (t : Fin cfg0.N) :
    (dats m 0 c).flushed 20 t = (win0_20.blk t).view.read (Elt Ideal) (gt m c) := by
  show (cfg0.win 20).cut (grid0.coords t) ((dats m 0 c).after 20 t) = _
  rw [after0_20]
  have e := idx_20 t
  funext (y : S1x512x3072.Idx)
  rw [View.read_apply]
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = gt m c ((win0_20.blk t).view.emb y)
  have hy : y = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  have e0 : ((win0_20.blk t).view.emb y) 0 = bat t :=
    Fin.ext (by show win0_20.index t 0 * 1 + 1 * (y 0).val = t.val % 32; have : (y 0).val < 1 := (y 0).isLt; rw [e.1]; omega)
  have e1 : ((win0_20.blk t).view.emb y) 1 = row t (y 1) :=
    Fin.ext (by show win0_20.index t 1 * 512 + 1 * (y 1).val = 512 * (t.val / 32) + (y 1).val; rw [e.2.1]; omega)
  have e2 : ((win0_20.blk t).view.emb y) 2 = (y 2 : Fin 3072) :=
    Fin.ext (by show win0_20.index t 2 * 3072 + 1 * (y 2).val = (y 2).val; rw [e.2.2]; omega)
  refine (congrFun (Block.out20 _ _ _ _ _ _ _ _ _ _ _ _ _) y).trans ?_
  unfold gt gateE
  simp only [e0, e1, e2]
  rw [pp_eq m c t (y 1)]

theorem mem_gt (t : Fin cfg0.N) (i : S32x2048x3072.Idx) :
    i ∈ ((cfg0.win 20).blk t).view.set ↔ (i 0).val = t.val % 32 ∧ 512 * (t.val / 32) ≤ (i 1).val ∧ (i 1).val < 512 * (t.val / 32) + 512 := by
  show i ∈ ((View.whole main_v0_7).slice (win0_20.rect t)).set ↔ _
  rw [View.set_slice_whole, Rect.mem_set_unit]
  have e := idx_20 t
  have h2 : (i 2).val < 3072 := (i 2).isLt
  refine ⟨fun h => ?_, fun h a => ?_⟩
  · have g0 : win0_20.index t 0 * 1 ≤ (i 0).val ∧ (i 0).val < win0_20.index t 0 * 1 + 1 := h 0
    have g1 : win0_20.index t 1 * 512 ≤ (i 1).val ∧ (i 1).val < win0_20.index t 1 * 512 + 512 := h 1
    rw [e.1] at g0; rw [e.2.1] at g1; omega
  · match a with
    | ⟨0, _⟩ => show win0_20.index t 0 * 1 ≤ (i 0).val ∧ (i 0).val < win0_20.index t 0 * 1 + 1; rw [e.1]; omega
    | ⟨1, _⟩ => show win0_20.index t 1 * 512 ≤ (i 1).val ∧ (i 1).val < win0_20.index t 1 * 512 + 512; rw [e.2.1]; omega
    | ⟨2, _⟩ => show win0_20.index t 2 * 3072 ≤ (i 2).val ∧ (i 2).val < win0_20.index t 2 * 3072 + 3072; rw [e.2.2]; omega

theorem cover_gt (i : S32x2048x3072.Idx) : ∃ t : Fin cfg0.N, (cfg0.win 20).flush t = true ∧ i ∈ ((cfg0.win 20).blk t).view.set := by
  have h0 : (i 0).val < 32 := (i 0).isLt
  have h1 : (i 1).val < 2048 := (i 1).isLt
  have hN := N_eq
  refine ⟨⟨32 * ((i 1).val / 512) + (i 0).val, by omega⟩, flush0_20 _, ?_⟩
  rw [mem_gt]
  dsimp only
  omega

theorem final_gt (c : Dev nD) : (dats m 0 c).arrAt 20 cfg0.N = gt m c :=
  (dats m 0 c).arrAt_eq_of_cover 20 (gt m c) (fun t _ => flushed_gt m c t) cover_gt

/-- The run, read: the result arrays as above, the arguments unchanged. -/
theorem run : θ_run defs (onTc (τ := τ) (main (F := Ideal))) ⟨m, fun _ => 0, ρ⟩ fun r => ∀ c : Dev nD,
      r.2.mem ((c : Thread nD τ).loc main_v0_0) = qm m c
      ∧ r.2.mem ((c : Thread nD τ).loc main_v0_1) = km m c
      ∧ r.2.mem ((c : Thread nD τ).loc main_v0_2) = vm m c
      ∧ r.2.mem ((c : Thread nD τ).loc main_v0_3) = qg m c
      ∧ r.2.mem ((c : Thread nD τ).loc main_v0_4) = kg m c
      ∧ r.2.mem ((c : Thread nD τ).loc main_v0_5) = vg m c
      ∧ r.2.mem ((c : Thread nD τ).loc main_v0_6) = cv m c
      ∧ r.2.mem ((c : Thread nD τ).loc main_v0_7) = gt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨((h c).1 13).trans (final_qm m c),
      ((h c).1 14).trans (final_km m c),
      ((h c).1 15).trans (final_vm m c),
      ((h c).1 16).trans (final_qg m c),
      ((h c).1 17).trans (final_kg m c),
      ((h c).1 18).trans (final_vg m c),
      ((h c).1 19).trans (final_cv m c),
      ((h c).1 20).trans (final_gt m c),
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _),
      ((h c).1 7).trans ((dats m 0 c).arrAt_in 7 rfl _),
      ((h c).1 8).trans ((dats m 0 c).arrAt_in 8 rfl _),
      ((h c).1 9).trans ((dats m 0 c).arrAt_in 9 rfl _),
      ((h c).1 10).trans ((dats m 0 c).arrAt_in 10 rfl _),
      ((h c).1 11).trans ((dats m 0 c).arrAt_in 11 rfl _),
      ((h c).1 12).trans ((dats m 0 c).arrAt_in 12 rfl _)⟩)
    (run_main m ρ)

end Cert.PreIdeal.Result

end
-- ==== Proof.Pm.RefRead.lean ====
/- What the reference of the input transforms computes, entry by entry: the projected rows and the latent queries. -/
module

public import proofs.«01_k».proof.Proof.Gen.PreRefIdeal
public import proofs.«01_k».proof.Proof.Gen.PreRefIdeal.Read
public import proofs.«01_k».proof.Proof.Pm.Result
public import proofs.«01_k».proof.Proof.RefRead
public import Idealize.ShloMosaic.Lib.Pipeline.Value
public import Idealize.ShloMosaic.Lib.Pointwise
public import Idealize.ShloMosaic.Lib.ReduceAll

@[expose] public section

set_option maxRecDepth 8192

noncomputable section

namespace Cert.PreRefIdeal.RefRead

open Cert Cert.PreRefIdeal Cert.PreRefIdeal.Gen Cert.PreRefIdeal.Read Cert.PreRefIdeal.Facts
open Idealize.ShloMosaic
open Cert.ReferenceIdeal.RefRead (zero_bits)
open Cert.PreIdeal (Result.hid Result.proj Result.gains Result.qmE Result.kmE Result.vmE Result.qgE Result.kgE Result.vgE Result.convE Result.gateE)

variable (x0 : (⟨S32x2048x1024, .f32⟩ : BufTy).Contents (Elt Ideal)) (x1 x2 : (⟨S32x1x1024, .f32⟩ : BufTy).Contents (Elt Ideal)) (x3 : (⟨S2x1024, .f32⟩ : BufTy).Contents (Elt Ideal))
  (x4 : (⟨S1024x5888, .bf16⟩ : BufTy).Contents (Elt Ideal)) (x5 : (⟨S256x1024, .bf16⟩ : BufTy).Contents (Elt Ideal)) (x6 : (⟨S128x1536, .bf16⟩ : BufTy).Contents (Elt Ideal))
  (x7 x8 x9 x10 x11 x12 : (⟨S2048x128, .f32⟩ : BufTy).Contents (Elt Ideal))

/-- One over the root mean square of a row of the input. -/
theorem v15_eq (b : Fin 32) (R : Fin 2048) (j : Fin 1024) :
    val_main_v15 (F := Ideal) x0 (ix3 b R j) = PreSpec.inv (∑ k : Fin 1024, x0 (ix3 b R k) * x0 (ix3 b R k)) (PreSpec.lit 0x44800000#32) := by
  rw [val_main_v15_apply, val_main_v14_apply, val_main_v13_apply, val_main_v11_apply, val_main_v9_apply, val_main_v8_apply, val_main_v10_apply, val_main_v12_apply]
  have e : ∀ k : Fin 1024, idx_main_v8 (idx_main_v9 (idx_main_v15 (ix3 b R j))) k = ix3 b R k := fun k => (funext fun a => Fin.ext (by match a with | ⟨0, _⟩ => rfl | ⟨1, _⟩ => rfl | ⟨2, _⟩ => rfl))
  simp only [e, val_main_v7_apply]
  show Ideal.rsqrt (Ideal.div (Ideal.ofBits .f32 0x00000000#32 + _) _ + _) = _
  rw [zero_bits, zero_add]
  rfl

theorem v18_eq (b : Fin 32) (R : Fin 2048) (j : Fin 1024) : val_main_v18 (F := Ideal) x3 (ix3 b R j) = x3 (ix2 0 j) := by
  rw [val_main_v18_apply, val_main_v17_apply, val_main_v4_apply, val_main_v3_apply]
  exact congrArg x3 (funext fun a => Fin.ext (by match a with | ⟨0, _⟩ => rfl | ⟨1, _⟩ => exact Nat.mod_eq_of_lt j.isLt))

/-- The modulated row. -/
theorem h_eq (b : Fin 32) (R : Fin 2048) (j : Fin 1024) : val_main_v25 (F := Ideal) x0 x1 x2 x3 (ix3 b R j) = Result.hid x0 x1 x2 x3 b R j := by
  have e1 : idx_main_v22 (ix3 b R j) = ix3 b 0 j := (funext fun a => Fin.ext (by match a with | ⟨0, _⟩ => rfl | ⟨1, _⟩ => rfl | ⟨2, _⟩ => rfl))
  have e2 : idx_main_v24 (ix3 b R j) = ix3 b 0 j := (funext fun a => Fin.ext (by match a with | ⟨0, _⟩ => rfl | ⟨1, _⟩ => rfl | ⟨2, _⟩ => rfl))
  rw [val_main_v25_apply, val_main_v23_apply, val_main_v19_apply, val_main_v16_apply, val_main_v22_apply, val_main_v24_apply, v15_eq, v18_eq, e1, e2, val_main_v21_apply, val_main_v20_apply]
  show _ * (Ideal.ofBits .f32 0x3F800000#32 + _) + _ = _
  rw [Ideal.ofBits_one_f32]
  rfl

/-- The projected row. -/
theorem p_eq (b : Fin 32) (R : Fin 2048) (j : Fin 5888) : val_main_v26 (F := Ideal) x0 x1 x2 x3 x4 (ix3 b R j) = Result.proj x0 x1 x2 x3 x4 b R j := by
  rw [val_main_v26_apply]
  show _ = ∑ k : Fin 1024, Result.hid x0 x1 x2 x3 b R k * x4 (ix2 k j)
  refine Finset.sum_congr rfl fun k _ => ?_
  have e0 : lidx_main_v26 (ix3 b R j) k = ix3 b R k := (funext fun a => Fin.ext (by match a with | ⟨0, _⟩ => rfl | ⟨1, _⟩ => rfl | ⟨2, _⟩ => rfl))
  have e1 : ridx_main_v26 (ix3 b R j) k = ix2 k j := (funext fun a => Fin.ext (by match a with | ⟨0, _⟩ => rfl | ⟨1, _⟩ => rfl))
  rw [e0, e1, h_eq]
  rfl

/-- The latent queries' columns. -/
theorem v27_eq (b : Fin 32) (R : Fin 2048) (j : Fin 256) : val_main_v27 (F := Ideal) x0 x1 x2 x3 x4 (ix3 b R j) = PreSpec.sub 256 (Result.proj x0 x1 x2 x3 x4 b R) 0 (by omega) j := by
  rw [val_main_v27_apply]
  refine (congrArg (val_main_v26 (F := Ideal) x0 x1 x2 x3 x4) ?_).trans (p_eq x0 x1 x2 x3 x4 b R ⟨0 + j.val, by omega⟩)
  exact (funext fun a => Fin.ext (by match a with | ⟨0, _⟩ => rfl | ⟨1, _⟩ => rfl | ⟨2, _⟩ => exact (Nat.zero_add j.val).symm))

/-- The latent keys' columns. -/
theorem v28_eq (b : Fin 32) (R : Fin 2048) (j : Fin 128) : val_main_v28 (F := Ideal) x0 x1 x2 x3 x4 (ix3 b R j) = PreSpec.sub 128 (Result.proj x0 x1 x2 x3 x4 b R) 256 (by omega) j := by
  rw [val_main_v28_apply]
  refine (congrArg (val_main_v26 (F := Ideal) x0 x1 x2 x3 x4) ?_).trans (p_eq x0 x1 x2 x3 x4 b R ⟨256 + j.val, by omega⟩)
  exact (funext fun a => Fin.ext (by match a with | ⟨0, _⟩ => rfl | ⟨1, _⟩ => rfl | ⟨2, _⟩ => rfl))

/-- The shared key's columns. -/
theorem v29_eq (b : Fin 32) (R : Fin 2048) (j : Fin 128) : val_main_v29 (F := Ideal) x0 x1 x2 x3 x4 (ix3 b R j) = PreSpec.sub 128 (Result.proj x0 x1 x2 x3 x4 b R) 384 (by omega) j := by
  rw [val_main_v29_apply]
  refine (congrArg (val_main_v26 (F := Ideal) x0 x1 x2 x3 x4) ?_).trans (p_eq x0 x1 x2 x3 x4 b R ⟨384 + j.val, by omega⟩)
  exact (funext fun a => Fin.ext (by match a with | ⟨0, _⟩ => rfl | ⟨1, _⟩ => rfl | ⟨2, _⟩ => rfl))

/-- The grouped keys' columns. -/
theorem v30_eq (b : Fin 32) (R : Fin 2048) (j : Fin 128) : val_main_v30 (F := Ideal) x0 x1 x2 x3 x4 (ix3 b R j) = PreSpec.sub 128 (Result.proj x0 x1 x2 x3 x4 b R) 512 (by omega) j := by
  rw [val_main_v30_apply]
  refine (congrArg (val_main_v26 (F := Ideal) x0 x1 x2 x3 x4) ?_).trans (p_eq x0 x1 x2 x3 x4 b R ⟨512 + j.val, by omega⟩)
  exact (funext fun a => Fin.ext (by match a with | ⟨0, _⟩ => rfl | ⟨1, _⟩ => rfl | ⟨2, _⟩ => rfl))

/-- The grouped values' columns. -/
theorem v31_eq (b : Fin 32) (R : Fin 2048) (j : Fin 128) : val_main_v31 (F := Ideal) x0 x1 x2 x3 x4 (ix3 b R j) = PreSpec.sub 128 (Result.proj x0 x1 x2 x3 x4 b R) 640 (by omega) j := by
  rw [val_main_v31_apply]
  refine (congrArg (val_main_v26 (F := Ideal) x0 x1 x2 x3 x4) ?_).trans (p_eq x0 x1 x2 x3 x4 b R ⟨640 + j.val, by omega⟩)
  exact (funext fun a => Fin.ext (by match a with | ⟨0, _⟩ => rfl | ⟨1, _⟩ => rfl | ⟨2, _⟩ => rfl))

/-- The grouped queries' columns. -/
theorem v32_eq (b : Fin 32) (R : Fin 2048) (j : Fin 1024) : val_main_v32 (F := Ideal) x0 x1 x2 x3 x4 (ix3 b R j) = PreSpec.sub 1024 (Result.proj x0 x1 x2 x3 x4 b R) 768 (by omega) j := by
  rw [val_main_v32_apply]
  refine (congrArg (val_main_v26 (F := Ideal) x0 x1 x2 x3 x4) ?_).trans (p_eq x0 x1 x2 x3 x4 b R ⟨768 + j.val, by omega⟩)
  exact (funext fun a => Fin.ext (by match a with | ⟨0, _⟩ => rfl | ⟨1, _⟩ => rfl | ⟨2, _⟩ => rfl))

/-- The convolution's columns. -/
theorem v242_eq (b : Fin 32) (R : Fin 2048) (j : Fin 512) : val_main_v242 (F := Ideal) x0 x1 x2 x3 x4 (ix3 b R j) = PreSpec.sub 512 (Result.proj x0 x1 x2 x3 x4 b R) 1792 (by omega) j := by
  rw [val_main_v242_apply]
  refine (congrArg (val_main_v26 (F := Ideal) x0 x1 x2 x3 x4) ?_).trans (p_eq x0 x1 x2 x3 x4 b R ⟨1792 + j.val, by omega⟩)
  exact (funext fun a => Fin.ext (by match a with | ⟨0, _⟩ => rfl | ⟨1, _⟩ => rfl | ⟨2, _⟩ => rfl))

/-- Their gates' columns. -/
theorem v243_eq (b : Fin 32) (R : Fin 2048) (j : Fin 512) : val_main_v243 (F := Ideal) x0 x1 x2 x3 x4 (ix3 b R j) = PreSpec.sub 512 (Result.proj x0 x1 x2 x3 x4 b R) 2304 (by omega) j := by
  rw [val_main_v243_apply]
  refine (congrArg (val_main_v26 (F := Ideal) x0 x1 x2 x3 x4) ?_).trans (p_eq x0 x1 x2 x3 x4 b R ⟨2304 + j.val, by omega⟩)
  exact (funext fun a => Fin.ext (by match a with | ⟨0, _⟩ => rfl | ⟨1, _⟩ => rfl | ⟨2, _⟩ => rfl))

/-- The gate's columns. -/
theorem v251_eq (b : Fin 32) (R : Fin 2048) (j : Fin 3072) : val_main_v251 (F := Ideal) x0 x1 x2 x3 x4 (ix3 b R j) = PreSpec.sub 3072 (Result.proj x0 x1 x2 x3 x4 b R) 2816 (by omega) j := by
  rw [val_main_v251_apply]
  refine (congrArg (val_main_v26 (F := Ideal) x0 x1 x2 x3 x4) ?_).trans (p_eq x0 x1 x2 x3 x4 b R ⟨2816 + j.val, by omega⟩)
  exact (funext fun a => Fin.ext (by match a with | ⟨0, _⟩ => rfl | ⟨1, _⟩ => rfl | ⟨2, _⟩ => rfl))

/-- One over the root mean square of the latent queries' columns. -/
theorem v41_eq (b : Fin 32) (R : Fin 2048) (j : Fin 256) :
    val_main_v41 (F := Ideal) x0 x1 x2 x3 x4 (ix3 b R j) = PreSpec.inv (∑ k : Fin 256, val_main_v27 (F := Ideal) x0 x1 x2 x3 x4 (ix3 b R k) * val_main_v27 (F := Ideal) x0 x1 x2 x3 x4 (ix3 b R k)) (PreSpec.lit 0x43800000#32) := by
  rw [val_main_v41_apply, val_main_v40_apply, val_main_v39_apply, val_main_v37_apply, val_main_v35_apply, val_main_v34_apply, val_main_v36_apply, val_main_v38_apply]
  have e : ∀ k : Fin 256, idx_main_v34 (idx_main_v35 (idx_main_v41 (ix3 b R j))) k = (ix3 b R k) := fun k => (funext fun a => Fin.ext (by match a with | ⟨0, _⟩ => rfl | ⟨1, _⟩ => rfl | ⟨2, _⟩ => rfl))
  simp only [e, val_main_v33_apply]
  show Ideal.rsqrt (Ideal.div (Ideal.ofBits .f32 0x00000000#32 + _) _ + _) = _
  rw [zero_bits, zero_add]
  rfl

/-- A gain. -/
theorem v45_eq (b : Fin 32) (R : Fin 2048) (j : Fin 256) : val_main_v45 (F := Ideal) x3 (ix3 b R j) = PreSpec.sub 256 (Result.gains x3) 0 (by omega) j := by
  rw [val_main_v45_apply, val_main_v44_apply, val_main_v43_apply, val_main_v6_apply, val_main_v5_apply]
  have hj := j.isLt
  have e : (j.val) % 1024 = 0 + j.val := by omega
  exact congrArg x3 (funext fun a => Fin.ext (by match a with | ⟨0, _⟩ => rfl | ⟨1, _⟩ => exact e))

theorem v46_eq (b : Fin 32) (R : Fin 2048) (j : Fin 256) :
    val_main_v46 (F := Ideal) x0 x1 x2 x3 x4 (ix3 b R j) = PreSpec.norm (PreSpec.lit 0x43800000#32) (PreSpec.sub 256 (Result.proj x0 x1 x2 x3 x4 b R) 0 (by omega)) (PreSpec.sub 256 (Result.gains x3) 0 (by omega)) j := by
  rw [val_main_v46_apply, val_main_v42_apply, v41_eq, v45_eq]
  simp only [v27_eq]
  rfl

/-- The latent queries. -/
theorem v47_eq (b : Fin 32) (R : Fin 2048) (j : Fin 1024) : val_main_v47 (F := Ideal) x0 x1 x2 x3 x4 x5 (ix3 b R j) = PreSpec.qrow (Result.proj x0 x1 x2 x3 x4 b R) (Result.gains x3) (fun k C => x5 (ix2 k C)) j := by
  rw [val_main_v47_apply]
  show _ = ∑ k : Fin 256, PreSpec.norm (PreSpec.lit 0x43800000#32) (PreSpec.sub 256 (Result.proj x0 x1 x2 x3 x4 b R) 0 (by omega)) (PreSpec.sub 256 (Result.gains x3) 0 (by omega)) k * x5 (ix2 k j)
  refine Finset.sum_congr rfl fun k _ => ?_
  have e0 : lidx_main_v47 (ix3 b R j) k = ix3 b R k := (funext fun a => Fin.ext (by match a with | ⟨0, _⟩ => rfl | ⟨1, _⟩ => rfl | ⟨2, _⟩ => rfl))
  have e1 : ridx_main_v47 (ix3 b R j) k = ix2 k j := (funext fun a => Fin.ext (by match a with | ⟨0, _⟩ => rfl | ⟨1, _⟩ => rfl))
  rw [e0, e1, v46_eq]
  rfl

theorem v48_eq (b : Fin 32) (R : Fin 2048) (h : Fin 8) (j : Fin 128) : val_main_v48 (F := Ideal) x0 x1 x2 x3 x4 x5 (ix4 b R h j) = PreSpec.sub 128 (PreSpec.qrow (Result.proj x0 x1 x2 x3 x4 b R) (Result.gains x3) (fun k C => x5 (ix2 k C))) (128 * h.val) (by omega) j := by
  have hb := b.isLt
  have hR := R.isLt
  have hh := h.isLt
  have hj := j.isLt
  have d0 : (((b.val * 2048 + R.val) * 8 + h.val) * 128 + j.val) / 2097152 = b.val := by omega
  have d1 : (((b.val * 2048 + R.val) * 8 + h.val) * 128 + j.val) / 1024 % 2048 = R.val := by omega
  have d2 : (((b.val * 2048 + R.val) * 8 + h.val) * 128 + j.val) % 1024 = 128 * h.val + j.val := by omega
  rw [val_main_v48_apply]
  exact (congrArg (val_main_v47 (F := Ideal) x0 x1 x2 x3 x4 x5) (funext fun a => Fin.ext (by match a with | ⟨0, _⟩ => exact d0 | ⟨1, _⟩ => exact d1 | ⟨2, _⟩ => exact d2))).trans (v47_eq x0 x1 x2 x3 x4 x5 b R ⟨128 * h.val + j.val, by omega⟩)

theorem v49_eq (b : Fin 32) (R : Fin 2048) (h : Fin 8) (j : Fin 64) : val_main_v49 (F := Ideal) x0 x1 x2 x3 x4 x5 (ix4 b R h j) = PreSpec.sub 64 (PreSpec.sub 128 (PreSpec.qrow (Result.proj x0 x1 x2 x3 x4 b R) (Result.gains x3) (fun k C => x5 (ix2 k C))) (128 * h.val) (by omega)) 0 (by omega) j := by
  rw [val_main_v49_apply]
  refine (congrArg (val_main_v48 (F := Ideal) x0 x1 x2 x3 x4 x5) ?_).trans (v48_eq x0 x1 x2 x3 x4 x5 b R h ⟨0 + j.val, by omega⟩)
  exact (funext fun a => Fin.ext (by match a with | ⟨0, _⟩ => rfl | ⟨1, _⟩ => rfl | ⟨2, _⟩ => rfl | ⟨3, _⟩ => exact (Nat.zero_add j.val).symm))

theorem v60_eq (b : Fin 32) (R : Fin 2048) (h : Fin 8) (j : Fin 64) : val_main_v60 (F := Ideal) x0 x1 x2 x3 x4 x5 (ix4 b R h j) = PreSpec.sub 64 (PreSpec.sub 128 (PreSpec.qrow (Result.proj x0 x1 x2 x3 x4 b R) (Result.gains x3) (fun k C => x5 (ix2 k C))) (128 * h.val) (by omega)) 64 (by omega) j := by
  rw [val_main_v60_apply]
  refine (congrArg (val_main_v48 (F := Ideal) x0 x1 x2 x3 x4 x5) ?_).trans (v48_eq x0 x1 x2 x3 x4 x5 b R h ⟨64 + j.val, by omega⟩)
  exact (funext fun a => Fin.ext (by match a with | ⟨0, _⟩ => rfl | ⟨1, _⟩ => rfl | ⟨2, _⟩ => rfl | ⟨3, _⟩ => rfl))

/-- One over the root mean square of a head's first 64 columns. -/
theorem v58_eq (b : Fin 32) (R : Fin 2048) (h : Fin 8) (j : Fin 64) :
    val_main_v58 (F := Ideal) x0 x1 x2 x3 x4 x5 (ix4 b R h j) = PreSpec.inv (∑ k : Fin 64, val_main_v49 (F := Ideal) x0 x1 x2 x3 x4 x5 (ix4 b R h k) * val_main_v49 (F := Ideal) x0 x1 x2 x3 x4 x5 (ix4 b R h k)) (PreSpec.lit 0x42800000#32) := by
  rw [val_main_v58_apply, val_main_v57_apply, val_main_v56_apply, val_main_v54_apply, val_main_v52_apply, val_main_v51_apply, val_main_v53_apply, val_main_v55_apply]
  have e : ∀ k : Fin 64, idx_main_v51 (idx_main_v52 (idx_main_v58 (ix4 b R h j))) k = (ix4 b R h k) := fun k => (funext fun a => Fin.ext (by match a with | ⟨0, _⟩ => rfl | ⟨1, _⟩ => rfl | ⟨2, _⟩ => rfl | ⟨3, _⟩ => rfl))
  simp only [e, val_main_v50_apply]
  show Ideal.rsqrt (Ideal.div (Ideal.ofBits .f32 0x00000000#32 + _) _ + _) = _
  rw [zero_bits, zero_add]
  rfl

/-- One over the root mean square of a head's last 64 columns. -/
theorem v69_eq (b : Fin 32) (R : Fin 2048) (h : Fin 8) (j : Fin 64) :
    val_main_v69 (F := Ideal) x0 x1 x2 x3 x4 x5 (ix4 b R h j) = PreSpec.inv (∑ k : Fin 64, val_main_v60 (F := Ideal) x0 x1 x2 x3 x4 x5 (ix4 b R h k) * val_main_v60 (F := Ideal) x0 x1 x2 x3 x4 x5 (ix4 b R h k)) (PreSpec.lit 0x42000000#32) := by
  rw [val_main_v69_apply, val_main_v68_apply, val_main_v67_apply, val_main_v65_apply, val_main_v63_apply, val_main_v62_apply, val_main_v64_apply, val_main_v66_apply]
  have e : ∀ k : Fin 64, idx_main_v62 (idx_main_v63 (idx_main_v69 (ix4 b R h j))) k = (ix4 b R h k) := fun k => (funext fun a => Fin.ext (by match a with | ⟨0, _⟩ => rfl | ⟨1, _⟩ => rfl | ⟨2, _⟩ => rfl | ⟨3, _⟩ => rfl))
  simp only [e, val_main_v61_apply]
  show Ideal.rsqrt (Ideal.div (Ideal.ofBits .f32 0x00000000#32 + _) _ + _) = _
  rw [zero_bits, zero_add]
  rfl

/-- A gain. -/
theorem v74_eq (b : Fin 32) (R : Fin 2048) (h : Fin 8) (j : Fin 128) : val_main_v74 (F := Ideal) x3 (ix4 b R h j) = PreSpec.sub 128 (Result.gains x3) 384 (by omega) j := by
  rw [val_main_v74_apply, val_main_v73_apply, val_main_v72_apply, val_main_v6_apply, val_main_v5_apply]
  have hj := j.isLt
  have e : (384 + j.val) % 1024 = 384 + j.val := by omega
  exact congrArg x3 (funext fun a => Fin.ext (by match a with | ⟨0, _⟩ => rfl | ⟨1, _⟩ => exact e))

/-- The normed queries, the halves joined. -/
theorem v75_eq (b : Fin 32) (R : Fin 2048) (h : Fin 8) (j : Fin 128) :
    val_main_v75 (F := Ideal) x0 x1 x2 x3 x4 x5 (ix4 b R h j) = PreSpec.two (PreSpec.lit 0x42800000#32) (PreSpec.lit 0x42000000#32) (PreSpec.sub 128 (PreSpec.qrow (Result.proj x0 x1 x2 x3 x4 b R) (Result.gains x3) (fun k C => x5 (ix2 k C))) (128 * h.val) (by omega)) (PreSpec.sub 128 (Result.gains x3) 384 (by omega)) j := by
  have hj := j.isLt
  rw [val_main_v75_apply, v74_eq]
  refine congrArg (· * PreSpec.sub 128 (Result.gains x3) 384 (by omega) j) ?_
  unfold val_main_v71
  rcases Nat.lt_or_ge j.val 64 with h1 | h1
  · refine (concatenate_pair_apply_left (t := S32x2048x8x128) (s₁ := S32x2048x8x64) (s₂ := S32x2048x8x64) 3 _ _ _ _ rfl (ix4 b R h ⟨j.val, h1⟩)
      (fun a => by match a with | ⟨0, _⟩ => rfl | ⟨1, _⟩ => rfl | ⟨2, _⟩ => rfl | ⟨3, _⟩ => rfl)).trans ?_
    rw [if_pos h1, val_main_v59_apply, v58_eq]
    simp only [v49_eq]
    exact congrArg (· * _) (congrArg (PreSpec.sub 128 (PreSpec.qrow (Result.proj x0 x1 x2 x3 x4 b R) (Result.gains x3) (fun k C => x5 (ix2 k C))) (128 * h.val) (by omega)) (Fin.ext (Nat.zero_add j.val)))
  · refine (concatenate_pair_apply_right (t := S32x2048x8x128) (s₁ := S32x2048x8x64) (s₂ := S32x2048x8x64) 3 _ _ _ _ rfl rfl (ix4 b R h ⟨j.val - 64, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [if_neg (Nat.not_lt.mpr h1), val_main_v70_apply, v69_eq]
    simp only [v60_eq]
    exact congrArg (· * _) (congrArg (PreSpec.sub 128 (PreSpec.qrow (Result.proj x0 x1 x2 x3 x4 b R) (Result.gains x3) (fun k C => x5 (ix2 k C))) (128 * h.val) (by omega)) (Fin.ext (Nat.add_sub_cancel' h1)))

/-- The columns ahead. -/
theorem v81_eq (b : Fin 32) (R : Fin 2048) (h : Fin 8) (j : Fin 128) :
    val_main_v81 (F := Ideal) x0 x1 x2 x3 x4 x5 (ix4 b R h j) = val_main_v75 (F := Ideal) x0 x1 x2 x3 x4 x5 (ix4 b R h ⟨(j.val + 8) % 128, Nat.mod_lt _ (by omega)⟩) := by
  have hj := j.isLt
  unfold val_main_v81
  rcases Nat.lt_or_ge j.val 120 with h1 | h1
  · refine (concatenate_pair_apply_left (t := S32x2048x8x128) (s₁ := S32x2048x8x120) (s₂ := S32x2048x8x8) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v79_apply]
    have e : 8 + j.val = (j.val + 8) % 128 := by omega
    exact congrArg (val_main_v75 (F := Ideal) x0 x1 x2 x3 x4 x5) (funext fun a => Fin.ext (by match a with | ⟨0, _⟩ => rfl | ⟨1, _⟩ => rfl | ⟨2, _⟩ => rfl | ⟨3, _⟩ => exact e))
  · refine (concatenate_pair_apply_right (t := S32x2048x8x128) (s₁ := S32x2048x8x120) (s₂ := S32x2048x8x8) 3 _ _ _ _ rfl rfl (ix4 b R h ⟨j.val - 120, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v80_apply]
    have e : j.val - 120 = (j.val + 8) % 128 := by omega
    exact congrArg (val_main_v75 (F := Ideal) x0 x1 x2 x3 x4 x5) (funext fun a => Fin.ext (by match a with | ⟨0, _⟩ => rfl | ⟨1, _⟩ => rfl | ⟨2, _⟩ => rfl | ⟨3, _⟩ => exact e))

/-- The columns behind. -/
theorem v84_eq (b : Fin 32) (R : Fin 2048) (h : Fin 8) (j : Fin 128) :
    val_main_v84 (F := Ideal) x0 x1 x2 x3 x4 x5 (ix4 b R h j) = val_main_v75 (F := Ideal) x0 x1 x2 x3 x4 x5 (ix4 b R h ⟨(j.val + 120) % 128, Nat.mod_lt _ (by omega)⟩) := by
  have hj := j.isLt
  unfold val_main_v84
  rcases Nat.lt_or_ge j.val 8 with h1 | h1
  · refine (concatenate_pair_apply_left (t := S32x2048x8x128) (s₁ := S32x2048x8x8) (s₂ := S32x2048x8x120) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v82_apply]
    have e : 120 + j.val = (j.val + 120) % 128 := by omega
    exact congrArg (val_main_v75 (F := Ideal) x0 x1 x2 x3 x4 x5) (funext fun a => Fin.ext (by match a with | ⟨0, _⟩ => rfl | ⟨1, _⟩ => rfl | ⟨2, _⟩ => rfl | ⟨3, _⟩ => exact e))
  · refine (concatenate_pair_apply_right (t := S32x2048x8x128) (s₁ := S32x2048x8x8) (s₂ := S32x2048x8x120) 3 _ _ _ _ rfl rfl (ix4 b R h ⟨j.val - 8, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v83_apply]
    have e : j.val - 8 = (j.val + 120) % 128 := by omega
    exact congrArg (val_main_v75 (F := Ideal) x0 x1 x2 x3 x4 x5) (funext fun a => Fin.ext (by match a with | ⟨0, _⟩ => rfl | ⟨1, _⟩ => rfl | ⟨2, _⟩ => rfl | ⟨3, _⟩ => exact e))

theorem v86_eq (b : Fin 32) (R : Fin 2048) (h : Fin 8) (j : Fin 128) : val_main_v86 (F := Ideal) x7 (ix4 b R h j) = x7 (ix2 R j) := by
  rw [val_main_v86_apply, val_main_v85_apply, val_main_v76_apply]
  exact congrArg x7 (funext fun a => Fin.ext (by match a with | ⟨0, _⟩ => rfl | ⟨1, _⟩ => rfl))

theorem v89_eq (b : Fin 32) (R : Fin 2048) (h : Fin 8) (j : Fin 128) : val_main_v89 (F := Ideal) x8 (ix4 b R h j) = x8 (ix2 R j) := by
  rw [val_main_v89_apply, val_main_v88_apply, val_main_v77_apply]
  exact congrArg x8 (funext fun a => Fin.ext (by match a with | ⟨0, _⟩ => rfl | ⟨1, _⟩ => rfl))

theorem v93_eq (b : Fin 32) (R : Fin 2048) (h : Fin 8) (j : Fin 128) : val_main_v93 (F := Ideal) x9 (ix4 b R h j) = x9 (ix2 R j) := by
  rw [val_main_v93_apply, val_main_v92_apply, val_main_v78_apply]
  exact congrArg x9 (funext fun a => Fin.ext (by match a with | ⟨0, _⟩ => rfl | ⟨1, _⟩ => rfl))

/-- The rotated queries. -/
theorem v95_eq (b : Fin 32) (R : Fin 2048) (h : Fin 8) (j : Fin 128) :
    val_main_v95 (F := Ideal) x0 x1 x2 x3 x4 x5 x7 x8 x9 (ix4 b R h j) = PreSpec.rot 8 (PreSpec.two (PreSpec.lit 0x42800000#32) (PreSpec.lit 0x42000000#32) (PreSpec.sub 128 (PreSpec.qrow (Result.proj x0 x1 x2 x3 x4 b R) (Result.gains x3) (fun k C => x5 (ix2 k C))) (128 * h.val) (by omega)) (PreSpec.sub 128 (Result.gains x3) 384 (by omega))) (fun i => x7 (ix2 R i)) (fun i => x8 (ix2 R i)) (fun i => x9 (ix2 R i)) j := by
  rw [val_main_v95_apply, val_main_v91_apply, val_main_v87_apply, val_main_v90_apply, val_main_v94_apply, v81_eq, v84_eq, v86_eq, v89_eq, v93_eq]
  simp only [v75_eq]
  rfl

/-- The latent queries' result. -/
theorem q_eq (b : Fin 32) (R : Fin 2048) (h : Fin 8) (j : Fin 128) : val_main_v259 (F := Ideal) x0 x1 x2 x3 x4 x5 x7 x8 x9 (ix4 b h R j) = Result.qmE x0 x1 x2 x3 x4 x5 x7 x8 x9 b R h j := by
  have e : idx_main_v258 (ix4 b h R j) = ix4 b R h j := (funext fun a => Fin.ext (by match a with | ⟨0, _⟩ => rfl | ⟨1, _⟩ => rfl | ⟨2, _⟩ => rfl | ⟨3, _⟩ => rfl))
  rw [val_main_v259_apply, val_main_v258_apply, e, val_main_v97_apply, val_main_v96_apply, v95_eq]
  rfl

end Cert.PreRefIdeal.RefRead

end
-- ==== Proof.Pm.RefKeys.lean ====
/- The reference of the input transforms continued: the latent keys and values. -/
module

public import proofs.«01_k».proof.Proof.Pm.RefRead

@[expose] public section

set_option maxRecDepth 8192

noncomputable section

namespace Cert.PreRefIdeal.RefRead

open Cert Cert.PreRefIdeal Cert.PreRefIdeal.Gen Cert.PreRefIdeal.Read Cert.PreRefIdeal.Facts
open Idealize.ShloMosaic
open Cert.ReferenceIdeal.RefRead (zero_bits)
open Cert.PreIdeal (Result.hid Result.proj Result.gains Result.qmE Result.kmE Result.vmE Result.qgE Result.kgE Result.vgE Result.convE Result.gateE)

variable (x0 : (⟨S32x2048x1024, .f32⟩ : BufTy).Contents (Elt Ideal)) (x1 x2 : (⟨S32x1x1024, .f32⟩ : BufTy).Contents (Elt Ideal)) (x3 : (⟨S2x1024, .f32⟩ : BufTy).Contents (Elt Ideal))
  (x4 : (⟨S1024x5888, .bf16⟩ : BufTy).Contents (Elt Ideal)) (x5 : (⟨S256x1024, .bf16⟩ : BufTy).Contents (Elt Ideal)) (x6 : (⟨S128x1536, .bf16⟩ : BufTy).Contents (Elt Ideal))
  (x7 x8 x9 x10 x11 x12 : (⟨S2048x128, .f32⟩ : BufTy).Contents (Elt Ideal))

/-- One over the root mean square of the latent keys' columns. -/
theorem v106_eq (b : Fin 32) (R : Fin 2048) (j : Fin 128) :
    val_main_v106 (F := Ideal) x0 x1 x2 x3 x4 (ix3 b R j) = PreSpec.inv (∑ k : Fin 128, val_main_v28 (F := Ideal) x0 x1 x2 x3 x4 (ix3 b R k) * val_main_v28 (F := Ideal) x0 x1 x2 x3 x4 (ix3 b R k)) (PreSpec.lit 0x43000000#32) := by
  rw [val_main_v106_apply, val_main_v105_apply, val_main_v104_apply, val_main_v102_apply, val_main_v100_apply, val_main_v99_apply, val_main_v101_apply, val_main_v103_apply]
  have e : ∀ k : Fin 128, idx_main_v99 (idx_main_v100 (idx_main_v106 (ix3 b R j))) k = (ix3 b R k) := fun k => (funext fun a => Fin.ext (by match a with | ⟨0, _⟩ => rfl | ⟨1, _⟩ => rfl | ⟨2, _⟩ => rfl))
  simp only [e, val_main_v98_apply]
  show Ideal.rsqrt (Ideal.div (Ideal.ofBits .f32 0x00000000#32 + _) _ + _) = _
  rw [zero_bits, zero_add]
  rfl

/-- A gain. -/
theorem v110_eq (b : Fin 32) (R : Fin 2048) (j : Fin 128) : val_main_v110 (F := Ideal) x3 (ix3 b R j) = PreSpec.sub 128 (Result.gains x3) 256 (by omega) j := by
  rw [val_main_v110_apply, val_main_v109_apply, val_main_v108_apply, val_main_v6_apply, val_main_v5_apply]
  have hj := j.isLt
  have e : (256 + j.val) % 1024 = 256 + j.val := by omega
  exact congrArg x3 (funext fun a => Fin.ext (by match a with | ⟨0, _⟩ => rfl | ⟨1, _⟩ => exact e))

theorem v111_eq (b : Fin 32) (R : Fin 2048) (j : Fin 128) :
    val_main_v111 (F := Ideal) x0 x1 x2 x3 x4 (ix3 b R j) = PreSpec.norm (PreSpec.lit 0x43000000#32) (PreSpec.sub 128 (Result.proj x0 x1 x2 x3 x4 b R) 256 (by omega)) (PreSpec.sub 128 (Result.gains x3) 256 (by omega)) j := by
  rw [val_main_v111_apply, val_main_v107_apply, v106_eq, v110_eq]
  simp only [v28_eq]
  rfl

/-- The latent keys and values. -/
theorem v112_eq (b : Fin 32) (R : Fin 2048) (j : Fin 1536) : val_main_v112 (F := Ideal) x0 x1 x2 x3 x4 x6 (ix3 b R j) = PreSpec.kvrow (Result.proj x0 x1 x2 x3 x4 b R) (Result.gains x3) (fun k C => x6 (ix2 k C)) j := by
  rw [val_main_v112_apply]
  show _ = ∑ k : Fin 128, PreSpec.norm (PreSpec.lit 0x43000000#32) (PreSpec.sub 128 (Result.proj x0 x1 x2 x3 x4 b R) 256 (by omega)) (PreSpec.sub 128 (Result.gains x3) 256 (by omega)) k * x6 (ix2 k j)
  refine Finset.sum_congr rfl fun k _ => ?_
  have e0 : lidx_main_v112 (ix3 b R j) k = ix3 b R k := (funext fun a => Fin.ext (by match a with | ⟨0, _⟩ => rfl | ⟨1, _⟩ => rfl | ⟨2, _⟩ => rfl))
  have e1 : ridx_main_v112 (ix3 b R j) k = ix2 k j := (funext fun a => Fin.ext (by match a with | ⟨0, _⟩ => rfl | ⟨1, _⟩ => rfl))
  rw [e0, e1, v111_eq]
  rfl

theorem v114_eq (b : Fin 32) (R : Fin 2048) (h : Fin 8) (j : Fin 128) : val_main_v114 (F := Ideal) x0 x1 x2 x3 x4 x6 (ix4 b R h j) = PreSpec.sub 128 (PreSpec.kvrow (Result.proj x0 x1 x2 x3 x4 b R) (Result.gains x3) (fun k C => x6 (ix2 k C))) (128 * h.val) (by omega) j := by
  have hb := b.isLt
  have hR := R.isLt
  have hh := h.isLt
  have hj := j.isLt
  have d0 : (((b.val * 2048 + R.val) * 8 + h.val) * 128 + j.val) / 2097152 = b.val := by omega
  have d1 : (((b.val * 2048 + R.val) * 8 + h.val) * 128 + j.val) / 1024 % 2048 = R.val := by omega
  have d2 : (((b.val * 2048 + R.val) * 8 + h.val) * 128 + j.val) % 1024 = 128 * h.val + j.val := by omega
  rw [val_main_v114_apply, val_main_v113_apply]
  exact (congrArg (val_main_v112 (F := Ideal) x0 x1 x2 x3 x4 x6) (funext fun a => Fin.ext (by match a with | ⟨0, _⟩ => exact d0 | ⟨1, _⟩ => exact d1 | ⟨2, _⟩ => exact d2))).trans (v112_eq x0 x1 x2 x3 x4 x6 b R ⟨128 * h.val + j.val, by omega⟩)

/-- One over the root mean square of a head's keys. -/
theorem v123_eq (b : Fin 32) (R : Fin 2048) (h : Fin 8) (j : Fin 128) :
    val_main_v123 (F := Ideal) x0 x1 x2 x3 x4 x6 (ix4 b R h j) = PreSpec.inv (∑ k : Fin 128, val_main_v114 (F := Ideal) x0 x1 x2 x3 x4 x6 (ix4 b R h k) * val_main_v114 (F := Ideal) x0 x1 x2 x3 x4 x6 (ix4 b R h k)) (PreSpec.lit 0x42800000#32) := by
  rw [val_main_v123_apply, val_main_v122_apply, val_main_v121_apply, val_main_v119_apply, val_main_v117_apply, val_main_v116_apply, val_main_v118_apply, val_main_v120_apply]
  have e : ∀ k : Fin 128, idx_main_v116 (idx_main_v117 (idx_main_v123 (ix4 b R h j))) k = (ix4 b R h k) := fun k => (funext fun a => Fin.ext (by match a with | ⟨0, _⟩ => rfl | ⟨1, _⟩ => rfl | ⟨2, _⟩ => rfl | ⟨3, _⟩ => rfl))
  simp only [e, val_main_v115_apply]
  show Ideal.rsqrt (Ideal.div (Ideal.ofBits .f32 0x00000000#32 + _) _ + _) = _
  rw [zero_bits, zero_add]
  rfl

/-- A gain. -/
theorem v127_eq (b : Fin 32) (R : Fin 2048) (h : Fin 8) (j : Fin 128) : val_main_v127 (F := Ideal) x3 (ix4 b R h j) = PreSpec.sub 128 (Result.gains x3) 512 (by omega) j := by
  rw [val_main_v127_apply, val_main_v126_apply, val_main_v125_apply, val_main_v6_apply, val_main_v5_apply]
  have hj := j.isLt
  have e : (512 + j.val) % 1024 = 512 + j.val := by omega
  exact congrArg x3 (funext fun a => Fin.ext (by match a with | ⟨0, _⟩ => rfl | ⟨1, _⟩ => exact e))

theorem v128_eq (b : Fin 32) (R : Fin 2048) (h : Fin 8) (j : Fin 128) :
    val_main_v128 (F := Ideal) x0 x1 x2 x3 x4 x6 (ix4 b R h j) = PreSpec.norm (PreSpec.lit 0x42800000#32) (PreSpec.sub 128 (PreSpec.kvrow (Result.proj x0 x1 x2 x3 x4 b R) (Result.gains x3) (fun k C => x6 (ix2 k C))) (128 * h.val) (by omega)) (PreSpec.sub 128 (Result.gains x3) 512 (by omega)) j := by
  rw [val_main_v128_apply, val_main_v124_apply, v123_eq, v127_eq]
  simp only [v114_eq]
  rfl

theorem v129_eq (b : Fin 32) (R : Fin 2048) (h : Fin 1) (j : Fin 128) : val_main_v129 (F := Ideal) x0 x1 x2 x3 x4 (ix4 b R h j) = PreSpec.sub 128 (Result.proj x0 x1 x2 x3 x4 b R) 384 (by omega) j := by
  have hb := b.isLt
  have hR := R.isLt
  have hh := h.isLt
  have hj := j.isLt
  have d0 : (((b.val * 2048 + R.val) * 1 + h.val) * 128 + j.val) / 262144 = b.val := by omega
  have d1 : (((b.val * 2048 + R.val) * 1 + h.val) * 128 + j.val) / 128 % 2048 = R.val := by omega
  have d2 : (((b.val * 2048 + R.val) * 1 + h.val) * 128 + j.val) % 128 = j.val := by omega
  rw [val_main_v129_apply]
  exact (congrArg (val_main_v29 (F := Ideal) x0 x1 x2 x3 x4) (funext fun a => Fin.ext (by match a with | ⟨0, _⟩ => exact d0 | ⟨1, _⟩ => exact d1 | ⟨2, _⟩ => exact d2))).trans (v29_eq x0 x1 x2 x3 x4 b R j)

/-- One over the root mean square of the shared key. -/
theorem v138_eq (b : Fin 32) (R : Fin 2048) (h : Fin 1) (j : Fin 128) :
    val_main_v138 (F := Ideal) x0 x1 x2 x3 x4 (ix4 b R h j) = PreSpec.inv (∑ k : Fin 128, val_main_v129 (F := Ideal) x0 x1 x2 x3 x4 (ix4 b R h k) * val_main_v129 (F := Ideal) x0 x1 x2 x3 x4 (ix4 b R h k)) (PreSpec.lit 0x42000000#32) := by
  rw [val_main_v138_apply, val_main_v137_apply, val_main_v136_apply, val_main_v134_apply, val_main_v132_apply, val_main_v131_apply, val_main_v133_apply, val_main_v135_apply]
  have e : ∀ k : Fin 128, idx_main_v131 (idx_main_v132 (idx_main_v138 (ix4 b R h j))) k = (ix4 b R h k) := fun k => (funext fun a => Fin.ext (by match a with | ⟨0, _⟩ => rfl | ⟨1, _⟩ => rfl | ⟨2, _⟩ => exact (Nat.lt_one_iff.mp h.isLt).symm | ⟨3, _⟩ => rfl))
  simp only [e, val_main_v130_apply]
  show Ideal.rsqrt (Ideal.div (Ideal.ofBits .f32 0x00000000#32 + _) _ + _) = _
  rw [zero_bits, zero_add]
  rfl

/-- A gain. -/
theorem v142_eq (b : Fin 32) (R : Fin 2048) (h : Fin 1) (j : Fin 128) : val_main_v142 (F := Ideal) x3 (ix4 b R h j) = PreSpec.sub 128 (Result.gains x3) 512 (by omega) j := by
  rw [val_main_v142_apply, val_main_v141_apply, val_main_v140_apply, val_main_v6_apply, val_main_v5_apply]
  have hj := j.isLt
  have e : (512 + j.val) % 1024 = 512 + j.val := by omega
  exact congrArg x3 (funext fun a => Fin.ext (by match a with | ⟨0, _⟩ => rfl | ⟨1, _⟩ => exact e))

theorem v143_eq (b : Fin 32) (R : Fin 2048) (h : Fin 1) (j : Fin 128) : val_main_v143 (F := Ideal) x0 x1 x2 x3 x4 (ix4 b R h j) = PreSpec.norm (PreSpec.lit 0x42000000#32) (PreSpec.sub 128 (Result.proj x0 x1 x2 x3 x4 b R) 384 (by omega)) (PreSpec.sub 128 (Result.gains x3) 512 (by omega)) j := by
  rw [val_main_v143_apply, val_main_v139_apply, v138_eq, v142_eq]
  simp only [v129_eq]
  rfl

/-- The columns ahead. -/
theorem v149_eq (b : Fin 32) (R : Fin 2048) (h : Fin 1) (j : Fin 128) :
    val_main_v149 (F := Ideal) x0 x1 x2 x3 x4 (ix4 b R h j) = val_main_v143 (F := Ideal) x0 x1 x2 x3 x4 (ix4 b R h ⟨(j.val + 8) % 128, Nat.mod_lt _ (by omega)⟩) := by
  have hj := j.isLt
  unfold val_main_v149
  rcases Nat.lt_or_ge j.val 120 with h1 | h1
  · refine (concatenate_pair_apply_left (t := S32x2048x1x128) (s₁ := S32x2048x1x120) (s₂ := S32x2048x1x8) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v147_apply]
    have e : 8 + j.val = (j.val + 8) % 128 := by omega
    exact congrArg (val_main_v143 (F := Ideal) x0 x1 x2 x3 x4) (funext fun a => Fin.ext (by match a with | ⟨0, _⟩ => rfl | ⟨1, _⟩ => rfl | ⟨2, _⟩ => rfl | ⟨3, _⟩ => exact e))
  · refine (concatenate_pair_apply_right (t := S32x2048x1x128) (s₁ := S32x2048x1x120) (s₂ := S32x2048x1x8) 3 _ _ _ _ rfl rfl (ix4 b R h ⟨j.val - 120, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v148_apply]
    have e : j.val - 120 = (j.val + 8) % 128 := by omega
    exact congrArg (val_main_v143 (F := Ideal) x0 x1 x2 x3 x4) (funext fun a => Fin.ext (by match a with | ⟨0, _⟩ => rfl | ⟨1, _⟩ => rfl | ⟨2, _⟩ => rfl | ⟨3, _⟩ => exact e))

/-- The columns behind. -/
theorem v152_eq (b : Fin 32) (R : Fin 2048) (h : Fin 1) (j : Fin 128) :
    val_main_v152 (F := Ideal) x0 x1 x2 x3 x4 (ix4 b R h j) = val_main_v143 (F := Ideal) x0 x1 x2 x3 x4 (ix4 b R h ⟨(j.val + 120) % 128, Nat.mod_lt _ (by omega)⟩) := by
  have hj := j.isLt
  unfold val_main_v152
  rcases Nat.lt_or_ge j.val 8 with h1 | h1
  · refine (concatenate_pair_apply_left (t := S32x2048x1x128) (s₁ := S32x2048x1x8) (s₂ := S32x2048x1x120) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v150_apply]
    have e : 120 + j.val = (j.val + 120) % 128 := by omega
    exact congrArg (val_main_v143 (F := Ideal) x0 x1 x2 x3 x4) (funext fun a => Fin.ext (by match a with | ⟨0, _⟩ => rfl | ⟨1, _⟩ => rfl | ⟨2, _⟩ => rfl | ⟨3, _⟩ => exact e))
  · refine (concatenate_pair_apply_right (t := S32x2048x1x128) (s₁ := S32x2048x1x8) (s₂ := S32x2048x1x120) 3 _ _ _ _ rfl rfl (ix4 b R h ⟨j.val - 8, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v151_apply]
    have e : j.val - 8 = (j.val + 120) % 128 := by omega
    exact congrArg (val_main_v143 (F := Ideal) x0 x1 x2 x3 x4) (funext fun a => Fin.ext (by match a with | ⟨0, _⟩ => rfl | ⟨1, _⟩ => rfl | ⟨2, _⟩ => rfl | ⟨3, _⟩ => exact e))

theorem v154_eq (b : Fin 32) (R : Fin 2048) (h : Fin 1) (j : Fin 128) : val_main_v154 (F := Ideal) x7 (ix4 b R h j) = x7 (ix2 R j) := by
  rw [val_main_v154_apply, val_main_v153_apply, val_main_v144_apply]
  exact congrArg x7 (funext fun a => Fin.ext (by match a with | ⟨0, _⟩ => rfl | ⟨1, _⟩ => rfl))

theorem v157_eq (b : Fin 32) (R : Fin 2048) (h : Fin 1) (j : Fin 128) : val_main_v157 (F := Ideal) x8 (ix4 b R h j) = x8 (ix2 R j) := by
  rw [val_main_v157_apply, val_main_v156_apply, val_main_v145_apply]
  exact congrArg x8 (funext fun a => Fin.ext (by match a with | ⟨0, _⟩ => rfl | ⟨1, _⟩ => rfl))

theorem v161_eq (b : Fin 32) (R : Fin 2048) (h : Fin 1) (j : Fin 128) : val_main_v161 (F := Ideal) x9 (ix4 b R h j) = x9 (ix2 R j) := by
  rw [val_main_v161_apply, val_main_v160_apply, val_main_v146_apply]
  exact congrArg x9 (funext fun a => Fin.ext (by match a with | ⟨0, _⟩ => rfl | ⟨1, _⟩ => rfl))

/-- The rotated shared key. -/
theorem v163_eq (b : Fin 32) (R : Fin 2048) (h : Fin 1) (j : Fin 128) :
    val_main_v163 (F := Ideal) x0 x1 x2 x3 x4 x7 x8 x9 (ix4 b R h j) = PreSpec.rot 8 (PreSpec.norm (PreSpec.lit 0x42000000#32) (PreSpec.sub 128 (Result.proj x0 x1 x2 x3 x4 b R) 384 (by omega)) (PreSpec.sub 128 (Result.gains x3) 512 (by omega))) (fun i => x7 (ix2 R i)) (fun i => x8 (ix2 R i)) (fun i => x9 (ix2 R i)) j := by
  rw [val_main_v163_apply, val_main_v159_apply, val_main_v155_apply, val_main_v158_apply, val_main_v162_apply, v149_eq, v152_eq, v154_eq, v157_eq, v161_eq]
  simp only [v143_eq]
  rfl

/-- The latent keys' result. -/
theorem k_eq (b : Fin 32) (R : Fin 2048) (h : Fin 8) (j : Fin 128) : val_main_v261 (F := Ideal) x0 x1 x2 x3 x4 x6 x7 x8 x9 (ix4 b h R j) = Result.kmE x0 x1 x2 x3 x4 x6 x7 x8 x9 b R h j := by
  have e : idx_main_v260 (ix4 b h R j) = ix4 b R h j := (funext fun a => Fin.ext (by match a with | ⟨0, _⟩ => rfl | ⟨1, _⟩ => rfl | ⟨2, _⟩ => rfl | ⟨3, _⟩ => rfl))
  have e' : idx_main_v164 (ix4 b R h j) = ix4 b R 0 j := (funext fun a => Fin.ext (by match a with | ⟨0, _⟩ => rfl | ⟨1, _⟩ => rfl | ⟨2, _⟩ => rfl | ⟨3, _⟩ => rfl))
  rw [val_main_v261_apply, val_main_v260_apply, e, val_main_v165_apply, val_main_v164_apply, e', v128_eq, v163_eq]
  rfl

/-- The latent values' result. -/
theorem v_eq (b : Fin 32) (R : Fin 2048) (h : Fin 4) (j : Fin 128) : val_main_v263 (F := Ideal) x0 x1 x2 x3 x4 x6 (ix4 b h R j) = Result.vmE x0 x1 x2 x3 x4 x6 b R h j := by
  have hb := b.isLt
  have hR := R.isLt
  have hh := h.isLt
  have hj := j.isLt
  have d0 : (((b.val * 2048 + R.val) * 4 + h.val) * 128 + j.val) / 1048576 = b.val := by omega
  have d1 : (((b.val * 2048 + R.val) * 4 + h.val) * 128 + j.val) / 512 % 2048 = R.val := by omega
  have d2 : 1024 + (((b.val * 2048 + R.val) * 4 + h.val) * 128 + j.val) % 512 = 1024 + 128 * h.val + j.val := by omega
  have e : idx_main_v262 (ix4 b h R j) = ix4 b R h j := (funext fun a => Fin.ext (by match a with | ⟨0, _⟩ => rfl | ⟨1, _⟩ => rfl | ⟨2, _⟩ => rfl | ⟨3, _⟩ => rfl))
  rw [val_main_v263_apply, val_main_v262_apply, e, val_main_v167_apply, val_main_v166_apply]
  exact (congrArg (val_main_v112 (F := Ideal) x0 x1 x2 x3 x4 x6) (funext fun a => Fin.ext (by match a with | ⟨0, _⟩ => exact d0 | ⟨1, _⟩ => exact d1 | ⟨2, _⟩ => exact d2))).trans (v112_eq x0 x1 x2 x3 x4 x6 b R ⟨1024 + 128 * h.val + j.val, by omega⟩)

end Cert.PreRefIdeal.RefRead

end
-- ==== Proof.Pm.RefRest.lean ====
/- The reference of the input transforms continued: the grouped attention's rows, the convolution's rows and the gate. -/
module

public import proofs.«01_k».proof.Proof.Pm.RefRead

@[expose] public section

set_option maxRecDepth 8192

noncomputable section

namespace Cert.PreRefIdeal.RefRead

open Cert Cert.PreRefIdeal Cert.PreRefIdeal.Gen Cert.PreRefIdeal.Read Cert.PreRefIdeal.Facts
open Idealize.ShloMosaic
open Cert.ReferenceIdeal.RefRead (zero_bits)
open Cert.PreIdeal (Result.hid Result.proj Result.gains Result.qmE Result.kmE Result.vmE Result.qgE Result.kgE Result.vgE Result.convE Result.gateE)

variable (x0 : (⟨S32x2048x1024, .f32⟩ : BufTy).Contents (Elt Ideal)) (x1 x2 : (⟨S32x1x1024, .f32⟩ : BufTy).Contents (Elt Ideal)) (x3 : (⟨S2x1024, .f32⟩ : BufTy).Contents (Elt Ideal))
  (x4 : (⟨S1024x5888, .bf16⟩ : BufTy).Contents (Elt Ideal)) (x5 : (⟨S256x1024, .bf16⟩ : BufTy).Contents (Elt Ideal)) (x6 : (⟨S128x1536, .bf16⟩ : BufTy).Contents (Elt Ideal))
  (x7 x8 x9 x10 x11 x12 : (⟨S2048x128, .f32⟩ : BufTy).Contents (Elt Ideal))

theorem v168_eq (b : Fin 32) (R : Fin 2048) (h : Fin 8) (j : Fin 128) : val_main_v168 (F := Ideal) x0 x1 x2 x3 x4 (ix4 b R h j) = PreSpec.sub 128 (Result.proj x0 x1 x2 x3 x4 b R) (768 + 128 * h.val) (by omega) j := by
  have hb := b.isLt
  have hR := R.isLt
  have hh := h.isLt
  have hj := j.isLt
  have d0 : (((b.val * 2048 + R.val) * 8 + h.val) * 128 + j.val) / 2097152 = b.val := by omega
  have d1 : (((b.val * 2048 + R.val) * 8 + h.val) * 128 + j.val) / 1024 % 2048 = R.val := by omega
  have d2 : (((b.val * 2048 + R.val) * 8 + h.val) * 128 + j.val) % 1024 = 128 * h.val + j.val := by omega
  rw [val_main_v168_apply]
  refine (congrArg (val_main_v32 (F := Ideal) x0 x1 x2 x3 x4) (funext fun a => Fin.ext (by match a with | ⟨0, _⟩ => exact d0 | ⟨1, _⟩ => exact d1 | ⟨2, _⟩ => exact d2))).trans ((v32_eq x0 x1 x2 x3 x4 b R ⟨128 * h.val + j.val, by omega⟩).trans ?_)
  exact congrArg (Result.proj x0 x1 x2 x3 x4 b R) (Fin.ext (Nat.add_assoc 768 (128 * h.val) j.val).symm)

/-- One over the root mean square of a head's queries. -/
theorem v177_eq (b : Fin 32) (R : Fin 2048) (h : Fin 8) (j : Fin 128) :
    val_main_v177 (F := Ideal) x0 x1 x2 x3 x4 (ix4 b R h j) = PreSpec.inv (∑ k : Fin 128, val_main_v168 (F := Ideal) x0 x1 x2 x3 x4 (ix4 b R h k) * val_main_v168 (F := Ideal) x0 x1 x2 x3 x4 (ix4 b R h k)) (PreSpec.lit 0x42800000#32) := by
  rw [val_main_v177_apply, val_main_v176_apply, val_main_v175_apply, val_main_v173_apply, val_main_v171_apply, val_main_v170_apply, val_main_v172_apply, val_main_v174_apply]
  have e : ∀ k : Fin 128, idx_main_v170 (idx_main_v171 (idx_main_v177 (ix4 b R h j))) k = (ix4 b R h k) := fun k => (funext fun a => Fin.ext (by match a with | ⟨0, _⟩ => rfl | ⟨1, _⟩ => rfl | ⟨2, _⟩ => rfl | ⟨3, _⟩ => rfl))
  simp only [e, val_main_v169_apply]
  show Ideal.rsqrt (Ideal.div (Ideal.ofBits .f32 0x00000000#32 + _) _ + _) = _
  rw [zero_bits, zero_add]
  rfl

/-- A gain. -/
theorem v181_eq (b : Fin 32) (R : Fin 2048) (h : Fin 8) (j : Fin 128) : val_main_v181 (F := Ideal) x3 (ix4 b R h j) = PreSpec.sub 128 (Result.gains x3) 640 (by omega) j := by
  rw [val_main_v181_apply, val_main_v180_apply, val_main_v179_apply, val_main_v6_apply, val_main_v5_apply]
  have hj := j.isLt
  have e : (640 + j.val) % 1024 = 640 + j.val := by omega
  exact congrArg x3 (funext fun a => Fin.ext (by match a with | ⟨0, _⟩ => rfl | ⟨1, _⟩ => exact e))

theorem v182_eq (b : Fin 32) (R : Fin 2048) (h : Fin 8) (j : Fin 128) : val_main_v182 (F := Ideal) x0 x1 x2 x3 x4 (ix4 b R h j) = PreSpec.norm (PreSpec.lit 0x42800000#32) (PreSpec.sub 128 (Result.proj x0 x1 x2 x3 x4 b R) (768 + 128 * h.val) (by omega)) (PreSpec.sub 128 (Result.gains x3) 640 (by omega)) j := by
  rw [val_main_v182_apply, val_main_v178_apply, v177_eq, v181_eq]
  simp only [v168_eq]
  rfl

/-- The columns ahead. -/
theorem v188_eq (b : Fin 32) (R : Fin 2048) (h : Fin 8) (j : Fin 128) :
    val_main_v188 (F := Ideal) x0 x1 x2 x3 x4 (ix4 b R h j) = val_main_v182 (F := Ideal) x0 x1 x2 x3 x4 (ix4 b R h ⟨(j.val + 16) % 128, Nat.mod_lt _ (by omega)⟩) := by
  have hj := j.isLt
  unfold val_main_v188
  rcases Nat.lt_or_ge j.val 112 with h1 | h1
  · refine (concatenate_pair_apply_left (t := S32x2048x8x128) (s₁ := S32x2048x8x112) (s₂ := S32x2048x8x16) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v186_apply]
    have e : 16 + j.val = (j.val + 16) % 128 := by omega
    exact congrArg (val_main_v182 (F := Ideal) x0 x1 x2 x3 x4) (funext fun a => Fin.ext (by match a with | ⟨0, _⟩ => rfl | ⟨1, _⟩ => rfl | ⟨2, _⟩ => rfl | ⟨3, _⟩ => exact e))
  · refine (concatenate_pair_apply_right (t := S32x2048x8x128) (s₁ := S32x2048x8x112) (s₂ := S32x2048x8x16) 3 _ _ _ _ rfl rfl (ix4 b R h ⟨j.val - 112, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v187_apply]
    have e : j.val - 112 = (j.val + 16) % 128 := by omega
    exact congrArg (val_main_v182 (F := Ideal) x0 x1 x2 x3 x4) (funext fun a => Fin.ext (by match a with | ⟨0, _⟩ => rfl | ⟨1, _⟩ => rfl | ⟨2, _⟩ => rfl | ⟨3, _⟩ => exact e))

/-- The columns behind. -/
theorem v191_eq (b : Fin 32) (R : Fin 2048) (h : Fin 8) (j : Fin 128) :
    val_main_v191 (F := Ideal) x0 x1 x2 x3 x4 (ix4 b R h j) = val_main_v182 (F := Ideal) x0 x1 x2 x3 x4 (ix4 b R h ⟨(j.val + 112) % 128, Nat.mod_lt _ (by omega)⟩) := by
  have hj := j.isLt
  unfold val_main_v191
  rcases Nat.lt_or_ge j.val 16 with h1 | h1
  · refine (concatenate_pair_apply_left (t := S32x2048x8x128) (s₁ := S32x2048x8x16) (s₂ := S32x2048x8x112) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v189_apply]
    have e : 112 + j.val = (j.val + 112) % 128 := by omega
    exact congrArg (val_main_v182 (F := Ideal) x0 x1 x2 x3 x4) (funext fun a => Fin.ext (by match a with | ⟨0, _⟩ => rfl | ⟨1, _⟩ => rfl | ⟨2, _⟩ => rfl | ⟨3, _⟩ => exact e))
  · refine (concatenate_pair_apply_right (t := S32x2048x8x128) (s₁ := S32x2048x8x16) (s₂ := S32x2048x8x112) 3 _ _ _ _ rfl rfl (ix4 b R h ⟨j.val - 16, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v190_apply]
    have e : j.val - 16 = (j.val + 112) % 128 := by omega
    exact congrArg (val_main_v182 (F := Ideal) x0 x1 x2 x3 x4) (funext fun a => Fin.ext (by match a with | ⟨0, _⟩ => rfl | ⟨1, _⟩ => rfl | ⟨2, _⟩ => rfl | ⟨3, _⟩ => exact e))

theorem v193_eq (b : Fin 32) (R : Fin 2048) (h : Fin 8) (j : Fin 128) : val_main_v193 (F := Ideal) x10 (ix4 b R h j) = x10 (ix2 R j) := by
  rw [val_main_v193_apply, val_main_v192_apply, val_main_v183_apply]
  exact congrArg x10 (funext fun a => Fin.ext (by match a with | ⟨0, _⟩ => rfl | ⟨1, _⟩ => rfl))

theorem v196_eq (b : Fin 32) (R : Fin 2048) (h : Fin 8) (j : Fin 128) : val_main_v196 (F := Ideal) x11 (ix4 b R h j) = x11 (ix2 R j) := by
  rw [val_main_v196_apply, val_main_v195_apply, val_main_v184_apply]
  exact congrArg x11 (funext fun a => Fin.ext (by match a with | ⟨0, _⟩ => rfl | ⟨1, _⟩ => rfl))

theorem v200_eq (b : Fin 32) (R : Fin 2048) (h : Fin 8) (j : Fin 128) : val_main_v200 (F := Ideal) x12 (ix4 b R h j) = x12 (ix2 R j) := by
  rw [val_main_v200_apply, val_main_v199_apply, val_main_v185_apply]
  exact congrArg x12 (funext fun a => Fin.ext (by match a with | ⟨0, _⟩ => rfl | ⟨1, _⟩ => rfl))

/-- The rotated grouped queries. -/
theorem v202_eq (b : Fin 32) (R : Fin 2048) (h : Fin 8) (j : Fin 128) :
    val_main_v202 (F := Ideal) x0 x1 x2 x3 x4 x10 x11 x12 (ix4 b R h j) = PreSpec.rot 16 (PreSpec.norm (PreSpec.lit 0x42800000#32) (PreSpec.sub 128 (Result.proj x0 x1 x2 x3 x4 b R) (768 + 128 * h.val) (by omega)) (PreSpec.sub 128 (Result.gains x3) 640 (by omega))) (fun i => x10 (ix2 R i)) (fun i => x11 (ix2 R i)) (fun i => x12 (ix2 R i)) j := by
  rw [val_main_v202_apply, val_main_v198_apply, val_main_v194_apply, val_main_v197_apply, val_main_v201_apply, v188_eq, v191_eq, v193_eq, v196_eq, v200_eq]
  simp only [v182_eq]
  rfl

/-- The grouped queries' result. -/
theorem qg_eq (b : Fin 32) (R : Fin 2048) (h : Fin 8) (j : Fin 128) : val_main_v265 (F := Ideal) x0 x1 x2 x3 x4 x10 x11 x12 (ix4 b h R j) = Result.qgE x0 x1 x2 x3 x4 x10 x11 x12 b R h j := by
  have e : idx_main_v264 (ix4 b h R j) = ix4 b R h j := (funext fun a => Fin.ext (by match a with | ⟨0, _⟩ => rfl | ⟨1, _⟩ => rfl | ⟨2, _⟩ => rfl | ⟨3, _⟩ => rfl))
  rw [val_main_v265_apply, val_main_v264_apply, e, val_main_v204_apply, val_main_v203_apply, v202_eq]
  rfl

theorem v205_eq (b : Fin 32) (R : Fin 2048) (h : Fin 2) (j : Fin 64) : val_main_v205 (F := Ideal) x0 x1 x2 x3 x4 (ix4 b R h j) = PreSpec.sub 64 (PreSpec.sub 128 (Result.proj x0 x1 x2 x3 x4 b R) 512 (by omega)) (64 * h.val) (by omega) j := by
  have hb := b.isLt
  have hR := R.isLt
  have hh := h.isLt
  have hj := j.isLt
  have d0 : (((b.val * 2048 + R.val) * 2 + h.val) * 64 + j.val) / 262144 = b.val := by omega
  have d1 : (((b.val * 2048 + R.val) * 2 + h.val) * 64 + j.val) / 128 % 2048 = R.val := by omega
  have d2 : (((b.val * 2048 + R.val) * 2 + h.val) * 64 + j.val) % 128 = 64 * h.val + j.val := by omega
  rw [val_main_v205_apply]
  exact (congrArg (val_main_v30 (F := Ideal) x0 x1 x2 x3 x4) (funext fun a => Fin.ext (by match a with | ⟨0, _⟩ => exact d0 | ⟨1, _⟩ => exact d1 | ⟨2, _⟩ => exact d2))).trans (v30_eq x0 x1 x2 x3 x4 b R ⟨64 * h.val + j.val, by omega⟩)

/-- One over the root mean square of a grouped key's 64 columns. -/
theorem v214_eq (b : Fin 32) (R : Fin 2048) (h : Fin 2) (j : Fin 64) :
    val_main_v214 (F := Ideal) x0 x1 x2 x3 x4 (ix4 b R h j) = PreSpec.inv (∑ k : Fin 64, val_main_v205 (F := Ideal) x0 x1 x2 x3 x4 (ix4 b R h k) * val_main_v205 (F := Ideal) x0 x1 x2 x3 x4 (ix4 b R h k)) (PreSpec.lit 0x42800000#32) := by
  rw [val_main_v214_apply, val_main_v213_apply, val_main_v212_apply, val_main_v210_apply, val_main_v208_apply, val_main_v207_apply, val_main_v209_apply, val_main_v211_apply]
  have e : ∀ k : Fin 64, idx_main_v207 (idx_main_v208 (idx_main_v214 (ix4 b R h j))) k = (ix4 b R h k) := fun k => (funext fun a => Fin.ext (by match a with | ⟨0, _⟩ => rfl | ⟨1, _⟩ => rfl | ⟨2, _⟩ => rfl | ⟨3, _⟩ => rfl))
  simp only [e, val_main_v206_apply]
  show Ideal.rsqrt (Ideal.div (Ideal.ofBits .f32 0x00000000#32 + _) _ + _) = _
  rw [zero_bits, zero_add]
  rfl

/-- A gain. -/
theorem v219_eq (b : Fin 32) (R : Fin 2048) (h : Fin 1) (j : Fin 128) : val_main_v219 (F := Ideal) x3 (ix4 b R h j) = PreSpec.sub 128 (Result.gains x3) 768 (by omega) j := by
  rw [val_main_v219_apply, val_main_v218_apply, val_main_v217_apply, val_main_v6_apply, val_main_v5_apply]
  have hj := j.isLt
  have e : (768 + j.val) % 1024 = 768 + j.val := by omega
  exact congrArg x3 (funext fun a => Fin.ext (by match a with | ⟨0, _⟩ => rfl | ⟨1, _⟩ => exact e))

/-- The normed grouped keys. -/
theorem v220_eq (b : Fin 32) (R : Fin 2048) (h : Fin 1) (j : Fin 128) :
    val_main_v220 (F := Ideal) x0 x1 x2 x3 x4 (ix4 b R h j) = PreSpec.two (PreSpec.lit 0x42800000#32) (PreSpec.lit 0x42800000#32) (PreSpec.sub 128 (Result.proj x0 x1 x2 x3 x4 b R) 512 (by omega)) (PreSpec.sub 128 (Result.gains x3) 768 (by omega)) j := by
  have hb := b.isLt
  have hR := R.isLt
  have hh := h.isLt
  have hj := j.isLt
  have d0 : (((b.val * 2048 + R.val) * 1 + h.val) * 128 + j.val) / 262144 = b.val := by omega
  have d1 : (((b.val * 2048 + R.val) * 1 + h.val) * 128 + j.val) / 128 % 2048 = R.val := by omega
  rw [val_main_v220_apply, v219_eq]
  refine congrArg (· * PreSpec.sub 128 (Result.gains x3) 768 (by omega) j) ?_
  rw [val_main_v216_apply]
  rcases Nat.lt_or_ge j.val 64 with h1 | h1
  · rw [if_pos h1]
    have d2 : (((b.val * 2048 + R.val) * 1 + h.val) * 128 + j.val) / 64 % 2 = 0 := by omega
    have d3 : (((b.val * 2048 + R.val) * 1 + h.val) * 128 + j.val) % 64 = j.val := by omega
    refine (congrArg (val_main_v215 (F := Ideal) x0 x1 x2 x3 x4) (((funext fun a => Fin.ext (by match a with | ⟨0, _⟩ => exact d0 | ⟨1, _⟩ => exact d1 | ⟨2, _⟩ => exact d2 | ⟨3, _⟩ => exact d3)) : idx_main_v216 (ix4 b R h j) = ix4 b R 0 ⟨j.val, by omega⟩))).trans ?_
    rw [val_main_v215_apply, v214_eq]
    simp only [v205_eq]
    exact congrArg (· * _) (congrArg (PreSpec.sub 128 (Result.proj x0 x1 x2 x3 x4 b R) 512 (by omega)) (Fin.ext (Nat.zero_add j.val)))
  · rw [if_neg (Nat.not_lt.mpr h1)]
    have d2 : (((b.val * 2048 + R.val) * 1 + h.val) * 128 + j.val) / 64 % 2 = 1 := by omega
    have d3 : (((b.val * 2048 + R.val) * 1 + h.val) * 128 + j.val) % 64 = j.val - 64 := by omega
    refine (congrArg (val_main_v215 (F := Ideal) x0 x1 x2 x3 x4) (((funext fun a => Fin.ext (by match a with | ⟨0, _⟩ => exact d0 | ⟨1, _⟩ => exact d1 | ⟨2, _⟩ => exact d2 | ⟨3, _⟩ => exact d3)) : idx_main_v216 (ix4 b R h j) = ix4 b R 1 ⟨j.val - 64, by omega⟩))).trans ?_
    rw [val_main_v215_apply, v214_eq]
    simp only [v205_eq]
    exact congrArg (· * _) (congrArg (PreSpec.sub 128 (Result.proj x0 x1 x2 x3 x4 b R) 512 (by omega)) (Fin.ext (Nat.add_sub_cancel' h1)))

/-- The columns ahead. -/
theorem v226_eq (b : Fin 32) (R : Fin 2048) (h : Fin 1) (j : Fin 128) :
    val_main_v226 (F := Ideal) x0 x1 x2 x3 x4 (ix4 b R h j) = val_main_v220 (F := Ideal) x0 x1 x2 x3 x4 (ix4 b R h ⟨(j.val + 16) % 128, Nat.mod_lt _ (by omega)⟩) := by
  have hj := j.isLt
  unfold val_main_v226
  rcases Nat.lt_or_ge j.val 112 with h1 | h1
  · refine (concatenate_pair_apply_left (t := S32x2048x1x128) (s₁ := S32x2048x1x112) (s₂ := S32x2048x1x16) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v224_apply]
    have e : 16 + j.val = (j.val + 16) % 128 := by omega
    exact congrArg (val_main_v220 (F := Ideal) x0 x1 x2 x3 x4) (funext fun a => Fin.ext (by match a with | ⟨0, _⟩ => rfl | ⟨1, _⟩ => rfl | ⟨2, _⟩ => rfl | ⟨3, _⟩ => exact e))
  · refine (concatenate_pair_apply_right (t := S32x2048x1x128) (s₁ := S32x2048x1x112) (s₂ := S32x2048x1x16) 3 _ _ _ _ rfl rfl (ix4 b R h ⟨j.val - 112, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v225_apply]
    have e : j.val - 112 = (j.val + 16) % 128 := by omega
    exact congrArg (val_main_v220 (F := Ideal) x0 x1 x2 x3 x4) (funext fun a => Fin.ext (by match a with | ⟨0, _⟩ => rfl | ⟨1, _⟩ => rfl | ⟨2, _⟩ => rfl | ⟨3, _⟩ => exact e))

/-- The columns behind. -/
theorem v229_eq (b : Fin 32) (R : Fin 2048) (h : Fin 1) (j : Fin 128) :
    val_main_v229 (F := Ideal) x0 x1 x2 x3 x4 (ix4 b R h j) = val_main_v220 (F := Ideal) x0 x1 x2 x3 x4 (ix4 b R h ⟨(j.val + 112) % 128, Nat.mod_lt _ (by omega)⟩) := by
  have hj := j.isLt
  unfold val_main_v229
  rcases Nat.lt_or_ge j.val 16 with h1 | h1
  · refine (concatenate_pair_apply_left (t := S32x2048x1x128) (s₁ := S32x2048x1x16) (s₂ := S32x2048x1x112) 3 _ _ _ _ rfl (ix4 b R h ⟨j.val, h1⟩)
      (fun a => by match a with | ⟨0, _⟩ => rfl | ⟨1, _⟩ => rfl | ⟨2, _⟩ => rfl | ⟨3, _⟩ => rfl)).trans ?_
    rw [val_main_v227_apply]
    have e : 112 + j.val = (j.val + 112) % 128 := by omega
    exact congrArg (val_main_v220 (F := Ideal) x0 x1 x2 x3 x4) (funext fun a => Fin.ext (by match a with | ⟨0, _⟩ => rfl | ⟨1, _⟩ => rfl | ⟨2, _⟩ => rfl | ⟨3, _⟩ => exact e))
  · refine (concatenate_pair_apply_right (t := S32x2048x1x128) (s₁ := S32x2048x1x16) (s₂ := S32x2048x1x112) 3 _ _ _ _ rfl rfl (ix4 b R h ⟨j.val - 16, by omega⟩)
      (fun a ha => by match a with | ⟨0, _⟩ => rfl | ⟨1, _⟩ => rfl | ⟨2, _⟩ => rfl | ⟨3, _⟩ => exact absurd rfl ha) ?_).trans ?_
    · exact Nat.sub_add_cancel h1
    rw [val_main_v228_apply]
    have e : j.val - 16 = (j.val + 112) % 128 := by omega
    exact congrArg (val_main_v220 (F := Ideal) x0 x1 x2 x3 x4) (funext fun a => Fin.ext (by match a with | ⟨0, _⟩ => rfl | ⟨1, _⟩ => rfl | ⟨2, _⟩ => rfl | ⟨3, _⟩ => exact e))

theorem v231_eq (b : Fin 32) (R : Fin 2048) (h : Fin 1) (j : Fin 128) : val_main_v231 (F := Ideal) x10 (ix4 b R h j) = x10 (ix2 R j) := by
  rw [val_main_v231_apply, val_main_v230_apply, val_main_v221_apply]
  exact congrArg x10 (funext fun a => Fin.ext (by match a with | ⟨0, _⟩ => rfl | ⟨1, _⟩ => rfl))

theorem v234_eq (b : Fin 32) (R : Fin 2048) (h : Fin 1) (j : Fin 128) : val_main_v234 (F := Ideal) x11 (ix4 b R h j) = x11 (ix2 R j) := by
  rw [val_main_v234_apply, val_main_v233_apply, val_main_v222_apply]
  exact congrArg x11 (funext fun a => Fin.ext (by match a with | ⟨0, _⟩ => rfl | ⟨1, _⟩ => rfl))

theorem v238_eq (b : Fin 32) (R : Fin 2048) (h : Fin 1) (j : Fin 128) : val_main_v238 (F := Ideal) x12 (ix4 b R h j) = x12 (ix2 R j) := by
  rw [val_main_v238_apply, val_main_v237_apply, val_main_v223_apply]
  exact congrArg x12 (funext fun a => Fin.ext (by match a with | ⟨0, _⟩ => rfl | ⟨1, _⟩ => rfl))

/-- The rotated grouped keys. -/
theorem v240_eq (b : Fin 32) (R : Fin 2048) (h : Fin 1) (j : Fin 128) :
    val_main_v240 (F := Ideal) x0 x1 x2 x3 x4 x10 x11 x12 (ix4 b R h j) = PreSpec.rot 16 (PreSpec.two (PreSpec.lit 0x42800000#32) (PreSpec.lit 0x42800000#32) (PreSpec.sub 128 (Result.proj x0 x1 x2 x3 x4 b R) 512 (by omega)) (PreSpec.sub 128 (Result.gains x3) 768 (by omega))) (fun i => x10 (ix2 R i)) (fun i => x11 (ix2 R i)) (fun i => x12 (ix2 R i)) j := by
  rw [val_main_v240_apply, val_main_v236_apply, val_main_v232_apply, val_main_v235_apply, val_main_v239_apply, v226_eq, v229_eq, v231_eq, v234_eq, v238_eq]
  simp only [v220_eq]
  rfl

/-- The grouped keys' result. -/
theorem kg_eq (b : Fin 32) (R : Fin 2048) (j : Fin 128) : val_main_v266 (F := Ideal) x0 x1 x2 x3 x4 x10 x11 x12 (ix3 b R j) = Result.kgE x0 x1 x2 x3 x4 x10 x11 x12 b R j := by
  have hb := b.isLt
  have hR := R.isLt
  have hj := j.isLt
  have d0 : ((b.val * 2048 + R.val) * 128 + j.val) / 262144 = b.val := by omega
  have d1 : ((b.val * 2048 + R.val) * 128 + j.val) / 128 % 2048 = R.val := by omega
  have d3 : ((b.val * 2048 + R.val) * 128 + j.val) % 128 = j.val := by omega
  have e : idx_main_v241 (ix3 b R j) = ix4 b R 0 j := (funext fun a => Fin.ext (by match a with | ⟨0, _⟩ => exact d0 | ⟨1, _⟩ => exact d1 | ⟨2, _⟩ => rfl | ⟨3, _⟩ => exact d3))
  rw [val_main_v266_apply, val_main_v241_apply, e, v240_eq]
  rfl

/-- The grouped values' result. -/
theorem vg_eq (b : Fin 32) (R : Fin 2048) (j : Fin 128) : val_main_v267 (F := Ideal) x0 x1 x2 x3 x4 (ix3 b R j) = Result.vgE x0 x1 x2 x3 x4 b R j := by
  rw [val_main_v267_apply, v31_eq]
  rfl

/-- The convolution's result. -/
theorem cv_eq (b : Fin 32) (R : Fin 2048) (j : Fin 512) : val_main_v250 (F := Ideal) x0 x1 x2 x3 x4 (ix3 b R j) = Result.convE x0 x1 x2 x3 x4 b R j := by
  rw [val_main_v250_apply, val_main_v249_apply, val_main_v248_apply, val_main_v247_apply, val_main_v246_apply, val_main_v245_apply, val_main_v244_apply, v242_eq, v243_eq]
  show _ * Ideal.div (Ideal.ofBits .f32 0x3F800000#32) (Ideal.ofBits .f32 0x3F800000#32 + _) = _
  rw [Ideal.ofBits_one_f32]
  rfl

/-- The gate's result. -/
theorem gt_eq (b : Fin 32) (R : Fin 2048) (j : Fin 3072) : val_main_v268 (F := Ideal) x0 x1 x2 x3 x4 (ix3 b R j) = Result.gateE x0 x1 x2 x3 x4 b R j := by
  rw [val_main_v268_apply, val_main_v257_apply, val_main_v256_apply, val_main_v255_apply, val_main_v254_apply, val_main_v253_apply, val_main_v252_apply, v251_eq]
  show Ideal.div (Ideal.ofBits .f32 0x3F800000#32) (Ideal.ofBits .f32 0x3F800000#32 + _) = _
  rw [Ideal.ofBits_one_f32]
  rfl

end Cert.PreRefIdeal.RefRead

end
-- ==== Proof.Pm.Claims.lean ====
/- The input transforms and their reference agree: frames, and the equality of the eight results. -/
module

public import proofs.«01_k».proof.Defs
public import proofs.«01_k».proof.Proof.Pm.RefKeys
public import proofs.«01_k».proof.Proof.Pm.RefRest
public import proofs.«01_k».proof.Proof.Gen.Pre.Frame
public import proofs.«01_k».proof.Proof.Gen.PreRefIdeal.Run
public import Idealize.ShloMosaic.Adequacy
public import Idealize.ShloMosaic.Init

@[expose] public section

noncomputable section

namespace Cert.PreClaims

open Idealize.ShloMosaic Idealize.SL.Sem Idealize.ShloMosaic.TcCoe

theorem frame_n : Cert.quiescent_Pre := fun m ρ _ => Cert.Pre.Gen.frame m ρ
theorem frame_ni : Cert.quiescent_PreIdeal := fun m ρ _ => Cert.PreIdeal.Gen.frame m ρ
theorem frame_nr : Cert.quiescent_PreRefIdeal := fun m ρ _ =>
  (θ_run Cert.PreRefIdeal.defs _ _).mono (fun r h => ⟨fun c => (h c).2.2.2.2.2.2.2.2,
    Idealize.ShloMosaic.sem_eq_zero_of_no_sems (by decide) r.2⟩) (Cert.PreRefIdeal.Value.run (F := Ideal) m ρ)

theorem algebraic : Cert.algebraic_PreIdeal_PreRefIdeal := by
  intro m g m' g' hpre hagree
  refine ⟨fun c => Cert.PreIdeal.Result.qm m c, fun c => Cert.PreIdeal.Result.km m c, fun c => Cert.PreIdeal.Result.vm m c, fun c => Cert.PreIdeal.Result.qg m c, fun c => Cert.PreIdeal.Result.kg m c, fun c => Cert.PreIdeal.Result.vg m c, fun c => Cert.PreIdeal.Result.cv m c, fun c => Cert.PreIdeal.Result.gt m c, Cert.PreIdeal.Result.run m g, ?_⟩
  refine (θ_run Cert.PreRefIdeal.defs _ _).mono (fun r h c => ?_) (Cert.PreRefIdeal.Value.run (F := Ideal) m' g')
  obtain ⟨e0, e1, e2, e3, e4, e5, e6, e7, e8, e9, e10, e11, e12⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
  · refine (Cert.PreRefIdeal.Read.val_main_v259_eq (F := Ideal) _).trans ?_
    show Cert.PreRefIdeal.Read.val_main_v259 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) (m' ((c : Thread Cert.PreRefIdeal.nD Cert.PreRefIdeal.τ).loc Cert.PreRefIdeal.main_arg5)) (m' ((c : Thread Cert.PreRefIdeal.nD Cert.PreRefIdeal.τ).loc Cert.PreRefIdeal.main_arg7)) (m' ((c : Thread Cert.PreRefIdeal.nD Cert.PreRefIdeal.τ).loc Cert.PreRefIdeal.main_arg8)) (m' ((c : Thread Cert.PreRefIdeal.nD Cert.PreRefIdeal.τ).loc Cert.PreRefIdeal.main_arg9)) = _
    rw [e0, e1, e2, e3, e4, e5, e7, e8, e9]
    funext y
    have hy : y = ix4 (y 0) (y 1) (y 2) (y 3) := funext fun a => by match a with | ⟨0, _⟩ => rfl | ⟨1, _⟩ => rfl | ⟨2, _⟩ => rfl | ⟨3, _⟩ => rfl
    rw [hy]
    exact Cert.PreRefIdeal.RefRead.q_eq _ _ _ _ _ _ _ _ _ (y 0) (y 2) (y 1) (y 3)
  · refine (Cert.PreRefIdeal.Read.val_main_v261_eq (F := Ideal) _).trans ?_
    show Cert.PreRefIdeal.Read.val_main_v261 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) (m' ((c : Thread Cert.PreRefIdeal.nD Cert.PreRefIdeal.τ).loc Cert.PreRefIdeal.main_arg6)) (m' ((c : Thread Cert.PreRefIdeal.nD Cert.PreRefIdeal.τ).loc Cert.PreRefIdeal.main_arg7)) (m' ((c : Thread Cert.PreRefIdeal.nD Cert.PreRefIdeal.τ).loc Cert.PreRefIdeal.main_arg8)) (m' ((c : Thread Cert.PreRefIdeal.nD Cert.PreRefIdeal.τ).loc Cert.PreRefIdeal.main_arg9)) = _
    rw [e0, e1, e2, e3, e4, e6, e7, e8, e9]
    funext y
    have hy : y = ix4 (y 0) (y 1) (y 2) (y 3) := funext fun a => by match a with | ⟨0, _⟩ => rfl | ⟨1, _⟩ => rfl | ⟨2, _⟩ => rfl | ⟨3, _⟩ => rfl
    rw [hy]
    exact Cert.PreRefIdeal.RefRead.k_eq _ _ _ _ _ _ _ _ _ (y 0) (y 2) (y 1) (y 3)
  · refine (Cert.PreRefIdeal.Read.val_main_v263_eq (F := Ideal) _).trans ?_
    show Cert.PreRefIdeal.Read.val_main_v263 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) (m' ((c : Thread Cert.PreRefIdeal.nD Cert.PreRefIdeal.τ).loc Cert.PreRefIdeal.main_arg6)) = _
    rw [e0, e1, e2, e3, e4, e6]
    funext y
    have hy : y = ix4 (y 0) (y 1) (y 2) (y 3) := funext fun a => by match a with | ⟨0, _⟩ => rfl | ⟨1, _⟩ => rfl | ⟨2, _⟩ => rfl | ⟨3, _⟩ => rfl
    rw [hy]
    exact Cert.PreRefIdeal.RefRead.v_eq _ _ _ _ _ _ (y 0) (y 2) (y 1) (y 3)
  · refine (Cert.PreRefIdeal.Read.val_main_v265_eq (F := Ideal) _).trans ?_
    show Cert.PreRefIdeal.Read.val_main_v265 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) (m' ((c : Thread Cert.PreRefIdeal.nD Cert.PreRefIdeal.τ).loc Cert.PreRefIdeal.main_arg10)) (m' ((c : Thread Cert.PreRefIdeal.nD Cert.PreRefIdeal.τ).loc Cert.PreRefIdeal.main_arg11)) (m' ((c : Thread Cert.PreRefIdeal.nD Cert.PreRefIdeal.τ).loc Cert.PreRefIdeal.main_arg12)) = _
    rw [e0, e1, e2, e3, e4, e10, e11, e12]
    funext y
    have hy : y = ix4 (y 0) (y 1) (y 2) (y 3) := funext fun a => by match a with | ⟨0, _⟩ => rfl | ⟨1, _⟩ => rfl | ⟨2, _⟩ => rfl | ⟨3, _⟩ => rfl
    rw [hy]
    exact Cert.PreRefIdeal.RefRead.qg_eq _ _ _ _ _ _ _ _ (y 0) (y 2) (y 1) (y 3)
  · refine (Cert.PreRefIdeal.Read.val_main_v266_eq (F := Ideal) _).trans ?_
    show Cert.PreRefIdeal.Read.val_main_v266 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) (m' ((c : Thread Cert.PreRefIdeal.nD Cert.PreRefIdeal.τ).loc Cert.PreRefIdeal.main_arg10)) (m' ((c : Thread Cert.PreRefIdeal.nD Cert.PreRefIdeal.τ).loc Cert.PreRefIdeal.main_arg11)) (m' ((c : Thread Cert.PreRefIdeal.nD Cert.PreRefIdeal.τ).loc Cert.PreRefIdeal.main_arg12)) = _
    rw [e0, e1, e2, e3, e4, e10, e11, e12]
    funext y
    have hy : y = ix3 (y 0) (y 1) (y 2) := funext fun a => by match a with | ⟨0, _⟩ => rfl | ⟨1, _⟩ => rfl | ⟨2, _⟩ => rfl
    rw [hy]
    exact Cert.PreRefIdeal.RefRead.kg_eq _ _ _ _ _ _ _ _ (y 0) (y 1) (y 2)
  · refine (Cert.PreRefIdeal.Read.val_main_v267_eq (F := Ideal) _).trans ?_
    show Cert.PreRefIdeal.Read.val_main_v267 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) = _
    rw [e0, e1, e2, e3, e4]
    funext y
    have hy : y = ix3 (y 0) (y 1) (y 2) := funext fun a => by match a with | ⟨0, _⟩ => rfl | ⟨1, _⟩ => rfl | ⟨2, _⟩ => rfl
    rw [hy]
    exact Cert.PreRefIdeal.RefRead.vg_eq _ _ _ _ _ (y 0) (y 1) (y 2)
  · refine (Cert.PreRefIdeal.Read.val_main_v250_eq (F := Ideal) _).trans ?_
    show Cert.PreRefIdeal.Read.val_main_v250 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) = _
    rw [e0, e1, e2, e3, e4]
    funext y
    have hy : y = ix3 (y 0) (y 1) (y 2) := funext fun a => by match a with | ⟨0, _⟩ => rfl | ⟨1, _⟩ => rfl | ⟨2, _⟩ => rfl
    rw [hy]
    exact Cert.PreRefIdeal.RefRead.cv_eq _ _ _ _ _ (y 0) (y 1) (y 2)
  · refine (Cert.PreRefIdeal.Read.val_main_v268_eq (F := Ideal) _).trans ?_
    show Cert.PreRefIdeal.Read.val_main_v268 (F := Ideal) (m' ((c : Thread Cert.PreRefIdeal.nD Cert.PreRefIdeal.τ).loc Cert.PreRefIdeal.main_arg0)) (m' ((c : Thread Cert.PreRefIdeal.nD Cert.PreRefIdeal.τ).loc Cert.PreRefIdeal.main_arg1)) (m' ((c : Thread Cert.PreRefIdeal.nD Cert.PreRefIdeal.τ).loc Cert.PreRefIdeal.main_arg2)) (m' ((c : Thread Cert.PreRefIdeal.nD Cert.PreRefIdeal.τ).loc Cert.PreRefIdeal.main_arg3)) (m' ((c : Thread Cert.PreRefIdeal.nD Cert.PreRefIdeal.τ).loc Cert.PreRefIdeal.main_arg4)) = _
    rw [e0, e1, e2, e3, e4]
    funext y
    have hy : y = ix3 (y 0) (y 1) (y 2) := funext fun a => by match a with | ⟨0, _⟩ => rfl | ⟨1, _⟩ => rfl | ⟨2, _⟩ => rfl
    rw [hy]
    exact Cert.PreRefIdeal.RefRead.gt_eq _ _ _ _ _ (y 0) (y 1) (y 2)

end Cert.PreClaims

end
-- ==== Proof.lean ====
module

public import proofs.«01_k».proof.Defs
public import proofs.«01_k».proof.Proof.Mla
public import proofs.«01_k».proof.Proof.Moe
public import proofs.«01_k».proof.Proof.MoeLast
public import proofs.«01_k».proof.Proof.Gq.Claims
public import proofs.«01_k».proof.Proof.Mg.Claims
public import proofs.«01_k».proof.Proof.Pm.Claims
public import proofs.«01_k».proof.Proof.Gen.ExpertsLast.Skeleton
public import proofs.«01_k».proof.Proof.Gen.ExpertsLast.Launch
public import proofs.«01_k».proof.Proof.Gen.ExpertsLastIdeal.Skeleton
public import proofs.«01_k».proof.Proof.Gen.ExpertsLastIdeal.Launch
public import proofs.«01_k».proof.Proof.Gen.DenseLastIdeal.Run
public import proofs.«01_k».proof.Proof.Gen.DenseLastIdeal.Read
public import proofs.«01_k».proof.Proof.Gen.Pre_plan_tables_last
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gen.GqaRefIdeal.Read
public import proofs.«01_k».proof.Proof.Gen.Pre_finite_gqa
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Pre.Frame
public import proofs.«01_k».proof.Proof.Gen.PreIdeal.Frame
public import proofs.«01_k».proof.Proof.Gen.PreRefIdeal.Run
public import proofs.«01_k».proof.Proof.Gen.PreRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.DenseIdeal
public import proofs.«01_k».proof.Proof.Gen.DenseIdeal.Run
public import proofs.«01_k».proof.Proof.Gen.DenseIdeal.Read
public import proofs.«01_k».proof.Proof.Gen.Pre_plan_tables
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Experts.Gen.facts, Cert.ExpertsIdeal.Gen.facts,
  Cert.DenseIdeal.Gen.facts, Cert.ExpertsLast.Gen.facts, Cert.ExpertsLastIdeal.Gen.facts, Cert.DenseLastIdeal.Gen.facts,
  Cert.Gqa.Gen.facts, Cert.GqaIdeal.Gen.facts, Cert.GqaRefIdeal.Gen.facts, Cert.Merge.Gen.facts, Cert.MergeIdeal.Gen.facts, Cert.MergeRefIdeal.Gen.facts,
  Cert.Pre.Gen.facts, Cert.PreIdeal.Gen.facts, Cert.PreRefIdeal.Gen.facts,
  Cert.Finite.facts_finite_qk, Cert.Pre_plan_tables.Gen.facts, Cert.Pre_plan_tables_last.Gen.facts, Cert.Pre_finite_gqa.Gen.facts,
  Cert.Mla.frame_p, Cert.Mla.frame_pi, Cert.Mla.frame_pi_pre, Cert.Mla.frame_ri, Cert.Mla.frame_ri_pre,
  Cert.Moe.frame_e, Cert.Moe.frame_ei, Cert.Moe.frame_di, Cert.Moe.frame_di_pre,
  Cert.MoeLast.frame_e, Cert.MoeLast.frame_ei, Cert.MoeLast.frame_di, Cert.MoeLast.frame_di_pre,
  Cert.GqaClaims.frame_p, Cert.GqaClaims.frame_pi, Cert.GqaClaims.frame_pi_pre, Cert.GqaClaims.frame_ri, Cert.GqaClaims.frame_ri_pre,
  Cert.MergeClaims.frame_m, Cert.MergeClaims.frame_mi, Cert.MergeClaims.frame_mr,
  Cert.PreClaims.frame_n, Cert.PreClaims.frame_ni, Cert.PreClaims.frame_nr,
  trivial, Cert.Mla.algebraic, trivial, Cert.Moe.algebraic, trivial, Cert.MoeLast.algebraic,
  trivial, Cert.GqaClaims.algebraic, trivial, Cert.MergeClaims.algebraic, trivial, Cert.PreClaims.algebraic⟩

end Cert.Proof

end
